-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_fit [hPre_inputs_fit : Cert.Pre_inputs_fit.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_fit [hPre_inputs_fit : Cert.Pre_inputs_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_fit [hKernelIdeal : Cert.KernelIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_fit [hReferenceIdeal : Cert.ReferenceIdeal.Facts] [hPre_inputs_fit : Cert.Pre_inputs_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.Statement Cert.KernelIdeal.S128x128 Cert.KernelIdeal.S64x128
  ∧ IdealRules.bf16_pack.Statement Cert.KernelIdeal.S64x128
  ∧ IdealRules.bf16_pair.Statement Cert.KernelIdeal.S128x256 Cert.KernelIdeal.S64x256
  ∧ IdealRules.bf16_pack.Statement Cert.KernelIdeal.S64x256

def algebraic_KernelIdeal_ReferenceIdeal_pre_inputs_fit [hKernelIdeal : Cert.KernelIdeal.Facts] [hReferenceIdeal : Cert.ReferenceIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_inputs_fit : Cert.Pre_inputs_fit.Facts),
    quiescent_Kernel (hKernel := hKernel)
    ∧ quiescent_KernelIdeal (hKernelIdeal := hKernelIdeal)
    ∧ quiescent_KernelIdeal_pre_inputs_fit (hKernelIdeal := hKernelIdeal) (hPre_inputs_fit := hPre_inputs_fit)
    ∧ quiescent_ReferenceIdeal (hReferenceIdeal := hReferenceIdeal)
    ∧ quiescent_ReferenceIdeal_pre_inputs_fit (hReferenceIdeal := hReferenceIdeal) (hPre_inputs_fit := hPre_inputs_fit)
    ∧ preserves_Kernel_KernelIdeal
    ∧ algebraic_KernelIdeal_ReferenceIdeal_pre_inputs_fit (hKernelIdeal := hKernelIdeal) (hReferenceIdeal := hReferenceIdeal) (hPre_inputs_fit := hPre_inputs_fit)
-- ==== Pre_inputs_fit.lean ====
abbrev S4x1x48x128 : Shape := ⟨4, ![4, 1, 48, 128]⟩
abbrev S4x1x8x128 : Shape := ⟨4, ![4, 1, 8, 128]⟩
abbrev S4x8x32768x64 : Shape := ⟨4, ![4, 8, 32768, 64]⟩
abbrev S4x8x1024x128 : Shape := ⟨4, ![4, 8, 1024, 128]⟩
abbrev S4x8x32768 : Shape := ⟨3, ![4, 8, 32768]⟩
abbrev S4 : Shape := ⟨1, ![4]⟩
abbrev S_ : Shape := ⟨0, ![]⟩

class Facts : Prop where
  bcast_S_S4 : S_.BroadcastsInDim S4 (![] : Fin 0 → Fin S4.rank)
  bcast_S_S4x1x48x128 : S_.BroadcastsInDim S4x1x48x128 (![] : Fin 0 → Fin S4x1x48x128.rank)
  reducesTo_S4x1x48x128_S_d0_1_2_3 : S4x1x48x128.ReducesTo [0, 1, 2, 3] S_
  h_S_ : 0 < S_.numel
  bcast_S_S4x1x8x128 : S_.BroadcastsInDim S4x1x8x128 (![] : Fin 0 → Fin S4x1x8x128.rank)
  reducesTo_S4x1x8x128_S_d0_1_2_3 : S4x1x8x128.ReducesTo [0, 1, 2, 3] S_
  bcast_S_S4x8x1024x128 : S_.BroadcastsInDim S4x8x1024x128 (![] : Fin 0 → Fin S4x8x1024x128.rank)
  reducesTo_S4x8x1024x128_S_d0_1_2_3 : S4x8x1024x128.ReducesTo [0, 1, 2, 3] S_

variable [Facts]

def fn_part1 {F : FTy → Type} [FloatOps F] (main_v1 : IVec S4 1) (main_v16 : IVec S4 1) : IVec S4 1 :=
  let main_v17 : IVec S4 1 := andi main_v1 main_v16
  main_v17

def fn {F : FTy → Type} [FloatOps F] (main_arg0 : FVec F S4x1x48x128 .bf16) (main_arg1 : FVec F S4x1x8x128 .bf16) (main_arg2 : FVec F S4x1x8x128 .bf16) (main_arg3 : IVec S4x8x32768x64 8) (main_arg4 : IVec S4x8x32768x64 8) (main_arg5 : FVec F S4x8x1024x128 .f32) (main_arg6 : FVec F S4x8x32768 .f32) (main_arg7 : IVec S4 32) (main_arg8 : IVec S4 32) : IVec S4 1 :=
  let main_c : IVec S_ 32 := constantI S_ 32 2147450880#32
  let main_v0 : IVec S4 32 := broadcastInDim S4 ![] bcast_S_S4 main_c
  let main_v1 : IVec S4 1 := cmpi .sle main_arg8 main_v0
  let main_v2 : FVec F S4x1x48x128 .bf16 := Host.absf main_arg0
  let main_cst : FVec F S_ .bf16 := constant S_ .bf16 0x7F80#16
  let main_v3 : FVec F S4x1x48x128 .bf16 := broadcastInDim S4x1x48x128 ![] bcast_S_S4x1x48x128 main_cst
  let main_v4 : IVec S4x1x48x128 1 := cmpf .olt main_v2 main_v3
  let main_c_0 : IVec S_ 1 := constantI S_ 1 1#1
  let main_v5 : IVec S_ 1 := (fun x v => Host.reduce IntOp.andi x v reducesTo_S4x1x48x128_S_d0_1_2_3 h_S_) main_v4 main_c_0
  let main_v6 : FVec F S4x1x8x128 .bf16 := Host.absf main_arg1
  let main_cst_1 : FVec F S_ .bf16 := constant S_ .bf16 0x7F80#16
  let main_v7 : FVec F S4x1x8x128 .bf16 := broadcastInDim S4x1x8x128 ![] bcast_S_S4x1x8x128 main_cst_1
  let main_v8 : IVec S4x1x8x128 1 := cmpf .olt main_v6 main_v7
  let main_c_2 : IVec S_ 1 := constantI S_ 1 1#1
  let main_v9 : IVec S_ 1 := (fun x v => Host.reduce IntOp.andi x v reducesTo_S4x1x8x128_S_d0_1_2_3 h_S_) main_v8 main_c_2
  let main_v10 : IVec S_ 1 := andi main_v5 main_v9
  let main_v11 : FVec F S4x8x1024x128 .f32 := Host.absf main_arg5
  let main_cst_3 : FVec F S_ .f32 := constant S_ .f32 0x7F800000#32
  let main_v12 : FVec F S4x8x1024x128 .f32 := broadcastInDim S4x8x1024x128 ![] bcast_S_S4x8x1024x128 main_cst_3
  let main_v13 : IVec S4x8x1024x128 1 := cmpf .olt main_v11 main_v12
  let main_c_4 : IVec S_ 1 := constantI S_ 1 1#1
  let main_v14 : IVec S_ 1 := (fun x v => Host.reduce IntOp.andi x v reducesTo_S4x8x1024x128_S_d0_1_2_3 h_S_) main_v13 main_c_4
  let main_v15 : IVec S_ 1 := andi main_v10 main_v14
  let main_v16 : IVec S4 1 := broadcastInDim S4 ![] bcast_S_S4 main_v15
  fn_part1 (F := F) main_v1 main_v16
-- ==== Kernel.lean ====
abbrev S4x1x48x128 : Shape := ⟨4, ![4, 1, 48, 128]⟩
abbrev S4x1x8x128 : Shape := ⟨4, ![4, 1, 8, 128]⟩
abbrev S4x8x32768x64 : Shape := ⟨4, ![4, 8, 32768, 64]⟩
abbrev S4x8x1024x128 : Shape := ⟨4, ![4, 8, 1024, 128]⟩
abbrev S4x8x32768 : Shape := ⟨3, ![4, 8, 32768]⟩
abbrev S4 : Shape := ⟨1, ![4]⟩
abbrev S4x8x64x32768 : Shape := ⟨4, ![4, 8, 64, 32768]⟩
abbrev S64 : Shape := ⟨1, ![64]⟩
abbrev S_ : Shape := ⟨0, ![]⟩
abbrev S64x1 : Shape := ⟨2, ![64, 1]⟩
abbrev S64x128 : Shape := ⟨2, ![64, 128]⟩
abbrev S64x2 : Shape := ⟨2, ![64, 2]⟩
abbrev S128 : Shape := ⟨1, ![128]⟩
abbrev S1x128 : Shape := ⟨2, ![1, 128]⟩
abbrev S8x128 : Shape := ⟨2, ![8, 128]⟩
abbrev S4x1x48x32768 : Shape := ⟨4, ![4, 1, 48, 32768]⟩
abbrev S1x1x48x128 : Shape := ⟨4, ![1, 1, 48, 128]⟩
abbrev S1x1x8x128 : Shape := ⟨4, ![1, 1, 8, 128]⟩
abbrev S1x8x64x2048 : Shape := ⟨4, ![1, 8, 64, 2048]⟩
abbrev S1 : Shape := ⟨1, ![1]⟩
abbrev S1x8x64x128 : Shape := ⟨4, ![1, 8, 64, 128]⟩
abbrev S1x8x2048 : Shape := ⟨3, ![1, 8, 2048]⟩
abbrev S1x1x48x2048 : Shape := ⟨4, ![1, 1, 48, 2048]⟩
abbrev S64x256 : Shape := ⟨2, ![64, 256]⟩
abbrev S48x1024 : Shape := ⟨2, ![48, 1024]⟩
abbrev S8x128x128 : Shape := ⟨3, ![8, 128, 128]⟩
abbrev S48x128 : Shape := ⟨2, ![48, 128]⟩
abbrev S48x8 : Shape := ⟨2, ![48, 8]⟩
abbrev S48x128x1 : Shape := ⟨3, ![48, 128, 1]⟩
abbrev S48 : Shape := ⟨1, ![48]⟩
abbrev S48x1 : Shape := ⟨2, ![48, 1]⟩
abbrev S1x1x64x128 : Shape := ⟨4, ![1, 1, 64, 128]⟩
abbrev S128x64 : Shape := ⟨2, ![128, 64]⟩
abbrev S128x128 : Shape := ⟨2, ![128, 128]⟩
abbrev S1x128x128 : Shape := ⟨3, ![1, 128, 128]⟩
abbrev S64x128x1 : Shape := ⟨3, ![64, 128, 1]⟩
abbrev S128x128x1 : Shape := ⟨3, ![128, 128, 1]⟩
abbrev S256x256 : Shape := ⟨2, ![256, 256]⟩
abbrev S48x256 : Shape := ⟨2, ![48, 256]⟩
abbrev S1x1x48x256 : Shape := ⟨4, ![1, 1, 48, 256]⟩
abbrev S1x8x256 : Shape := ⟨3, ![1, 8, 256]⟩
abbrev S8x256 : Shape := ⟨2, ![8, 256]⟩
abbrev S1x256 : Shape := ⟨2, ![1, 256]⟩
abbrev S6x256 : Shape := ⟨2, ![6, 256]⟩
abbrev S1x1x64x256 : Shape := ⟨4, ![1, 1, 64, 256]⟩
abbrev S128x256 : Shape := ⟨2, ![128, 256]⟩

abbrev nBuf : Space → Nat
  | .hbm => 31
  | .vmem => 32
  | .smem => 2
  | _ => 0

abbrev bufTy : (tb : Table) → Fin (tcTables nBuf tb) → BufTy
  | .hbm, ⟨0, _⟩ => ⟨S4x1x48x128, .bf16⟩
  | .hbm, ⟨1, _⟩ => ⟨S4x1x8x128, .bf16⟩
  | .hbm, ⟨2, _⟩ => ⟨S4x1x8x128, .bf16⟩
  | .hbm, ⟨3, _⟩ => ⟨S4x8x32768x64, .i8⟩
  | .hbm, ⟨4, _⟩ => ⟨S4x8x32768x64, .i8⟩
  | .hbm, ⟨5, _⟩ => ⟨S4x8x1024x128, .f32⟩
  | .hbm, ⟨6, _⟩ => ⟨S4x8x32768, .f32⟩
  | .hbm, ⟨7, _⟩ => ⟨S4x8x64x32768, .i8⟩
  | .hbm, ⟨8, _⟩ => ⟨S4x8x64x32768, .i8⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64x1, .f32⟩
  | .hbm, ⟨23, _⟩ => ⟨S64x128, .f32⟩
  | .hbm, ⟨24, _⟩ => ⟨S64x2, .f32⟩
  | .hbm, ⟨25, _⟩ => ⟨S128, .f32⟩
  | .hbm, ⟨26, _⟩ => ⟨S1x128, .f32⟩
  | .hbm, ⟨27, _⟩ => ⟨S8x128, .f32⟩
  | .hbm, ⟨28, _⟩ => ⟨S4x1x48x128, .bf16⟩
  | .hbm, ⟨29, _⟩ => ⟨S4x1x48x128, .bf16⟩
  | .hbm, ⟨30, _⟩ => ⟨S4x1x48x32768, .f32⟩
  | .local _ .vmem, ⟨0, _⟩ => ⟨S1x1x48x128, .bf16⟩
  | .local _ .vmem, ⟨1, _⟩ => ⟨S1x1x48x128, .bf16⟩
  | .local _ .vmem, ⟨2, _⟩ => ⟨S1x1x8x128, .bf16⟩
  | .local _ .vmem, ⟨3, _⟩ => ⟨S1x1x8x128, .bf16⟩
  | .local _ .vmem, ⟨4, _⟩ => ⟨S1x1x8x128, .bf16⟩
  | .local _ .vmem, ⟨5, _⟩ => ⟨S1x1x8x128, .bf16⟩
  | .local _ .vmem, ⟨6, _⟩ => ⟨S1x8x64x2048, .i8⟩
  | .local _ .vmem, ⟨7, _⟩ => ⟨S1x8x64x2048, .i8⟩
  | .local _ .vmem, ⟨8, _⟩ => ⟨S1x8x64x2048, .i8⟩
  | .local _ .vmem, ⟨9, _⟩ => ⟨S1x8x64x2048, .i8⟩
  | .local _ .vmem, ⟨10, _⟩ => ⟨S1x8x64x128, .f32⟩
  | .local _ .vmem, ⟨11, _⟩ => ⟨S1x8x64x128, .f32⟩
  | .local _ .vmem, ⟨12, _⟩ => ⟨S1x8x2048, .f32⟩
  | .local _ .vmem, ⟨13, _⟩ => ⟨S1x8x2048, .f32⟩
  | .local _ .vmem, ⟨14, _⟩ => ⟨S64x128, .f32⟩
  | .local _ .vmem, ⟨15, _⟩ => ⟨S8x128, .f32⟩
  | .local _ .vmem, ⟨16, _⟩ => ⟨S1x1x48x128, .bf16⟩
  | .local _ .vmem, ⟨17, _⟩ => ⟨S1x1x48x128, .bf16⟩
  | .local _ .vmem, ⟨18, _⟩ => ⟨S1x1x48x128, .bf16⟩
  | .local _ .vmem, ⟨19, _⟩ => ⟨S1x1x48x128, .bf16⟩
  | .local _ .vmem, ⟨20, _⟩ => ⟨S1x1x48x2048, .f32⟩
  | .local _ .vmem, ⟨21, _⟩ => ⟨S1x1x48x2048, .f32⟩
  | .local _ .vmem, ⟨22, _⟩ => ⟨S64x256, .f32⟩
  | .local _ .vmem, ⟨23, _⟩ => ⟨S64x256, .f32⟩
  | .local _ .vmem, ⟨24, _⟩ => ⟨S64x128, .f32⟩
  | .local _ .vmem, ⟨25, _⟩ => ⟨S64x128, .f32⟩
  | .local _ .vmem, ⟨26, _⟩ => ⟨S48x1024, .bf16⟩
  | .local _ .vmem, ⟨27, _⟩ => ⟨S8x128x128, .bf16⟩
  | .local _ .vmem, ⟨28, _⟩ => ⟨S48x128, .f32⟩
  | .local _ .vmem, ⟨29, _⟩ => ⟨S48x128, .f32⟩
  | .local _ .vmem, ⟨30, _⟩ => ⟨S48x1024, .f32⟩
  | .local _ .vmem, ⟨31, _⟩ => ⟨S48x128, .f32⟩
  | .local _ .smem, ⟨0, _⟩ => ⟨S4, .i32⟩
  | .local _ .smem, ⟨1, _⟩ => ⟨S4, .i32⟩
  | _, _ => ⟨S4x1x48x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_arg7 : Ref sig .tc := ⟨.smem, 0, rfl⟩
abbrev main_arg8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [BitOps F]

abbrev grid0 : Pipeline.Grid := ⟨2, ![4, 16], ![false, false]⟩

abbrev pre0 : Pipeline.Prefetch sig := ⟨2, ![main_arg7.idx, main_arg8.idx], fun | 0 => main_arg7.names | 1 => main_arg8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (i : grid0.Coords) (v1 : BitVec 32) : Scf.Loop 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_76 : BitVec 32 := 1#32
  ⟨c0_i32_74, v141, c1_i32_76⟩
def k0_cond4 (i : grid0.Coords) (v1 : BitVec 32) : BitVec 1 :=
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c0_i32_21 : BitVec 32 := 0#32
  let v65 : BitVec 1 := Scalar.cmpi .sgt v42 c0_i32_21
  let v66 : BitVec 32 := Scalar.extui v65
  let c0_i32_22 : BitVec 32 := 0#32
  let v67 : BitVec 1 := Scalar.cmpi .ne v66 c0_i32_22
  v67

def k0_mult1 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_138 : BitVec 32 := 256#32
  let v254 : BitVec 32 := Scalar.muli arg26 c256_i32_138
  let c0_i32_139 : BitVec 32 := 0#32
  let v255 : BitVec 32 := Scalar.addi v254 c0_i32_139
  v255
def k0_off2 (i : grid0.Coords) (v1 : BitVec 32) (k0_t1 : Fin (k0_t1_loop i v1).trips) (c0_i32_139 : BitVec 32) : Fin 4 → Nat :=
  let c0_140 : Index := 0#32
  let c0_141 : Index := 0#32
  let c0_142 : Index := 0#32
  let c0_i32_74 : BitVec 32 := 0#32
  let c1_i32_76 : BitVec 32 := 1#32
  let arg26 : BitVec 32 := Scf.iv c0_i32_74 c1_i32_76 k0_t1
  let c256_i32_138 : BitVec 32 := 256#32
  let v254 : BitVec 32 := Scalar.muli arg26 c256_i32_138
  let v255 : BitVec 32 := Scalar.addi v254 c0_i32_139
  let v256 : BitVec 32 := v255
  let v257 : Index := Scalar.indexCast v256
  ![0, 0, 0, v257.toNat]
def k0_mult2 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_168 : BitVec 32 := 256#32
  let v353 : BitVec 32 := Scalar.muli arg26 c256_i32_168
  let c128_i32 : BitVec 32 := 128#32
  let v354 : BitVec 32 := Scalar.addi v353 c128_i32
  v354
def k0_mult3 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_202 : BitVec 32 := 256#32
  let v454 : BitVec 32 := Scalar.muli arg26 c256_i32_202
  let c0_i32_203 : BitVec 32 := 0#32
  let v455 : BitVec 32 := Scalar.addi v454 c0_i32_203
  v455
def k0_off3 (i : grid0.Coords) (v1 : BitVec 32) (k0_t1 : Fin (k0_t1_loop i v1).trips) (c0_i32_203 : BitVec 32) : Fin 4 → Nat :=
  let c0_204 : Index := 0#32
  let c1_205 : Index := 1#32
  let c0_206 : Index := 0#32
  let c0_i32_74 : BitVec 32 := 0#32
  let c1_i32_76 : BitVec 32 := 1#32
  let arg26 : BitVec 32 := Scf.iv c0_i32_74 c1_i32_76 k0_t1
  let c256_i32_202 : BitVec 32 := 256#32
  let v454 : BitVec 32 := Scalar.muli arg26 c256_i32_202
  let v455 : BitVec 32 := Scalar.addi v454 c0_i32_203
  let v456 : BitVec 32 := v455
  let v457 : Index := Scalar.indexCast v456
  ![0, 1, 0, v457.toNat]
def k0_mult4 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_237 : BitVec 32 := 256#32
  let v553 : BitVec 32 := Scalar.muli arg26 c256_i32_237
  let c128_i32_238 : BitVec 32 := 128#32
  let v554 : BitVec 32 := Scalar.addi v553 c128_i32_238
  v554
def k0_mult5 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_275 : BitVec 32 := 256#32
  let v657 : BitVec 32 := Scalar.muli arg26 c256_i32_275
  let c0_i32_276 : BitVec 32 := 0#32
  let v658 : BitVec 32 := Scalar.addi v657 c0_i32_276
  v658
def k0_off4 (i : grid0.Coords) (v1 : BitVec 32) (k0_t1 : Fin (k0_t1_loop i v1).trips) (c0_i32_276 : BitVec 32) : Fin 4 → Nat :=
  let c0_277 : Index := 0#32
  let c2_278 : Index := 2#32
  let c0_279 : Index := 0#32
  let c0_i32_74 : BitVec 32 := 0#32
  let c1_i32_76 : BitVec 32 := 1#32
  let arg26 : BitVec 32 := Scf.iv c0_i32_74 c1_i32_76 k0_t1
  let c256_i32_275 : BitVec 32 := 256#32
  let v657 : BitVec 32 := Scalar.muli arg26 c256_i32_275
  let v658 : BitVec 32 := Scalar.addi v657 c0_i32_276
  let v659 : BitVec 32 := v658
  let v660 : Index := Scalar.indexCast v659
  ![0, 2, 0, v660.toNat]
def k0_mult6 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_310 : BitVec 32 := 256#32
  let v756 : BitVec 32 := Scalar.muli arg26 c256_i32_310
  let c128_i32_311 : BitVec 32 := 128#32
  let v757 : BitVec 32 := Scalar.addi v756 c128_i32_311
  v757
def k0_mult7 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_345 : BitVec 32 := 256#32
  let v857 : BitVec 32 := Scalar.muli arg26 c256_i32_345
  let c0_i32_346 : BitVec 32 := 0#32
  let v858 : BitVec 32 := Scalar.addi v857 c0_i32_346
  v858
def k0_off5 (i : grid0.Coords) (v1 : BitVec 32) (k0_t1 : Fin (k0_t1_loop i v1).trips) (c0_i32_346 : BitVec 32) : Fin 4 → Nat :=
  let c0_347 : Index := 0#32
  let c3_348 : Index := 3#32
  let c0_349 : Index := 0#32
  let c0_i32_74 : BitVec 32 := 0#32
  let c1_i32_76 : BitVec 32 := 1#32
  let arg26 : BitVec 32 := Scf.iv c0_i32_74 c1_i32_76 k0_t1
  let c256_i32_345 : BitVec 32 := 256#32
  let v857 : BitVec 32 := Scalar.muli arg26 c256_i32_345
  let v858 : BitVec 32 := Scalar.addi v857 c0_i32_346
  let v859 : BitVec 32 := v858
  let v860 : Index := Scalar.indexCast v859
  ![0, 3, 0, v860.toNat]
def k0_mult8 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_380 : BitVec 32 := 256#32
  let v956 : BitVec 32 := Scalar.muli arg26 c256_i32_380
  let c128_i32_381 : BitVec 32 := 128#32
  let v957 : BitVec 32 := Scalar.addi v956 c128_i32_381
  v957
def k0_mult9 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_418 : BitVec 32 := 256#32
  let v1061 : BitVec 32 := Scalar.muli arg26 c256_i32_418
  let c0_i32_419 : BitVec 32 := 0#32
  let v1062 : BitVec 32 := Scalar.addi v1061 c0_i32_419
  v1062
def k0_off6 (i : grid0.Coords) (v1 : BitVec 32) (k0_t1 : Fin (k0_t1_loop i v1).trips) (c0_i32_419 : BitVec 32) : Fin 4 → Nat :=
  let c0_420 : Index := 0#32
  let c4_421 : Index := 4#32
  let c0_422 : Index := 0#32
  let c0_i32_74 : BitVec 32 := 0#32
  let c1_i32_76 : BitVec 32 := 1#32
  let arg26 : BitVec 32 := Scf.iv c0_i32_74 c1_i32_76 k0_t1
  let c256_i32_418 : BitVec 32 := 256#32
  let v1061 : BitVec 32 := Scalar.muli arg26 c256_i32_418
  let v1062 : BitVec 32 := Scalar.addi v1061 c0_i32_419
  let v1063 : BitVec 32 := v1062
  let v1064 : Index := Scalar.indexCast v1063
  ![0, 4, 0, v1064.toNat]
def k0_mult10 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_453 : BitVec 32 := 256#32
  let v1160 : BitVec 32 := Scalar.muli arg26 c256_i32_453
  let c128_i32_454 : BitVec 32 := 128#32
  let v1161 : BitVec 32 := Scalar.addi v1160 c128_i32_454
  v1161
def k0_mult11 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_488 : BitVec 32 := 256#32
  let v1261 : BitVec 32 := Scalar.muli arg26 c256_i32_488
  let c0_i32_489 : BitVec 32 := 0#32
  let v1262 : BitVec 32 := Scalar.addi v1261 c0_i32_489
  v1262
def k0_off7 (i : grid0.Coords) (v1 : BitVec 32) (k0_t1 : Fin (k0_t1_loop i v1).trips) (c0_i32_489 : BitVec 32) : Fin 4 → Nat :=
  let c0_490 : Index := 0#32
  let c5_491 : Index := 5#32
  let c0_492 : Index := 0#32
  let c0_i32_74 : BitVec 32 := 0#32
  let c1_i32_76 : BitVec 32 := 1#32
  let arg26 : BitVec 32 := Scf.iv c0_i32_74 c1_i32_76 k0_t1
  let c256_i32_488 : BitVec 32 := 256#32
  let v1261 : BitVec 32 := Scalar.muli arg26 c256_i32_488
  let v1262 : BitVec 32 := Scalar.addi v1261 c0_i32_489
  let v1263 : BitVec 32 := v1262
  let v1264 : Index := Scalar.indexCast v1263
  ![0, 5, 0, v1264.toNat]
def k0_mult12 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_523 : BitVec 32 := 256#32
  let v1360 : BitVec 32 := Scalar.muli arg26 c256_i32_523
  let c128_i32_524 : BitVec 32 := 128#32
  let v1361 : BitVec 32 := Scalar.addi v1360 c128_i32_524
  v1361
def k0_mult13 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_561 : BitVec 32 := 256#32
  let v1465 : BitVec 32 := Scalar.muli arg26 c256_i32_561
  let c0_i32_562 : BitVec 32 := 0#32
  let v1466 : BitVec 32 := Scalar.addi v1465 c0_i32_562
  v1466
def k0_off8 (i : grid0.Coords) (v1 : BitVec 32) (k0_t1 : Fin (k0_t1_loop i v1).trips) (c0_i32_562 : BitVec 32) : Fin 4 → Nat :=
  let c0_563 : Index := 0#32
  let c6_564 : Index := 6#32
  let c0_565 : Index := 0#32
  let c0_i32_74 : BitVec 32 := 0#32
  let c1_i32_76 : BitVec 32 := 1#32
  let arg26 : BitVec 32 := Scf.iv c0_i32_74 c1_i32_76 k0_t1
  let c256_i32_561 : BitVec 32 := 256#32
  let v1465 : BitVec 32 := Scalar.muli arg26 c256_i32_561
  let v1466 : BitVec 32 := Scalar.addi v1465 c0_i32_562
  let v1467 : BitVec 32 := v1466
  let v1468 : Index := Scalar.indexCast v1467
  ![0, 6, 0, v1468.toNat]
def k0_mult14 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_596 : BitVec 32 := 256#32
  let v1564 : BitVec 32 := Scalar.muli arg26 c256_i32_596
  let c128_i32_597 : BitVec 32 := 128#32
  let v1565 : BitVec 32 := Scalar.addi v1564 c128_i32_597
  v1565
def k0_mult15 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_631 : BitVec 32 := 256#32
  let v1665 : BitVec 32 := Scalar.muli arg26 c256_i32_631
  let c0_i32_632 : BitVec 32 := 0#32
  let v1666 : BitVec 32 := Scalar.addi v1665 c0_i32_632
  v1666
def k0_off9 (i : grid0.Coords) (v1 : BitVec 32) (k0_t1 : Fin (k0_t1_loop i v1).trips) (c0_i32_632 : BitVec 32) : Fin 4 → Nat :=
  let c0_633 : Index := 0#32
  let c7_634 : Index := 7#32
  let c0_635 : Index := 0#32
  let c0_i32_74 : BitVec 32 := 0#32
  let c1_i32_76 : BitVec 32 := 1#32
  let arg26 : BitVec 32 := Scf.iv c0_i32_74 c1_i32_76 k0_t1
  let c256_i32_631 : BitVec 32 := 256#32
  let v1665 : BitVec 32 := Scalar.muli arg26 c256_i32_631
  let v1666 : BitVec 32 := Scalar.addi v1665 c0_i32_632
  let v1667 : BitVec 32 := v1666
  let v1668 : Index := Scalar.indexCast v1667
  ![0, 7, 0, v1668.toNat]
def k0_mult16 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_666 : BitVec 32 := 256#32
  let v1764 : BitVec 32 := Scalar.muli arg26 c256_i32_666
  let c128_i32_667 : BitVec 32 := 128#32
  let v1765 : BitVec 32 := Scalar.addi v1764 c128_i32_667
  v1765
def k0_mult17 (i : grid0.Coords) (v1 : BitVec 32) (k0_t1 : Fin (k0_t1_loop i v1).trips) : BitVec 32 :=
  let c0_i32_74 : BitVec 32 := 0#32
  let c1_i32_76 : BitVec 32 := 1#32
  let arg26 : BitVec 32 := Scf.iv c0_i32_74 c1_i32_76 k0_t1
  let c256_i32_707 : BitVec 32 := 256#32
  let v1880 : BitVec 32 := Scalar.muli arg26 c256_i32_707
  v1880
def k0_off10 (i : grid0.Coords) (v1 : BitVec 32) (k0_t1 : Fin (k0_t1_loop i v1).trips) : Fin 4 → Nat :=
  let c0_708 : Index := 0#32
  let c0_709 : Index := 0#32
  let c0_710 : Index := 0#32
  let c0_i32_74 : BitVec 32 := 0#32
  let c1_i32_76 : BitVec 32 := 1#32
  let arg26 : BitVec 32 := Scf.iv c0_i32_74 c1_i32_76 k0_t1
  let c256_i32_707 : BitVec 32 := 256#32
  let v1880 : BitVec 32 := Scalar.muli arg26 c256_i32_707
  let v1881 : BitVec 32 := v1880
  let v1882 : Index := Scalar.indexCast v1881
  ![0, 0, 0, v1882.toNat]
@[reducible] def k0_t2_loop (i : grid0.Coords) (v1 : BitVec 32) : Scf.Loop 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let v138 : BitVec 32 := Scalar.addi c0_i32_74 v137
  let c1_i32_77 : BitVec 32 := 1#32
  ⟨v141, v138, c1_i32_77⟩
def k0_mult18 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_138 : BitVec 32 := 256#32
  let v254 : BitVec 32 := Scalar.muli arg26 c256_i32_138
  let c0_i32_139 : BitVec 32 := 0#32
  let v255 : BitVec 32 := Scalar.addi v254 c0_i32_139
  v255
def k0_off11 (i : grid0.Coords) (v1 : BitVec 32) (k0_t2 : Fin (k0_t2_loop i v1).trips) (c0_i32_139 : BitVec 32) : Fin 4 → Nat :=
  let c0_140 : Index := 0#32
  let c0_141 : Index := 0#32
  let c0_142 : Index := 0#32
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_138 : BitVec 32 := 256#32
  let v254 : BitVec 32 := Scalar.muli arg26 c256_i32_138
  let v255 : BitVec 32 := Scalar.addi v254 c0_i32_139
  let v256 : BitVec 32 := v255
  let v257 : Index := Scalar.indexCast v256
  ![0, 0, 0, v257.toNat]
def k0_mult19 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_168 : BitVec 32 := 256#32
  let v353 : BitVec 32 := Scalar.muli arg26 c256_i32_168
  let c128_i32 : BitVec 32 := 128#32
  let v354 : BitVec 32 := Scalar.addi v353 c128_i32
  v354
def k0_mult20 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_202 : BitVec 32 := 256#32
  let v454 : BitVec 32 := Scalar.muli arg26 c256_i32_202
  let c0_i32_203 : BitVec 32 := 0#32
  let v455 : BitVec 32 := Scalar.addi v454 c0_i32_203
  v455
def k0_off12 (i : grid0.Coords) (v1 : BitVec 32) (k0_t2 : Fin (k0_t2_loop i v1).trips) (c0_i32_203 : BitVec 32) : Fin 4 → Nat :=
  let c0_204 : Index := 0#32
  let c1_205 : Index := 1#32
  let c0_206 : Index := 0#32
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_202 : BitVec 32 := 256#32
  let v454 : BitVec 32 := Scalar.muli arg26 c256_i32_202
  let v455 : BitVec 32 := Scalar.addi v454 c0_i32_203
  let v456 : BitVec 32 := v455
  let v457 : Index := Scalar.indexCast v456
  ![0, 1, 0, v457.toNat]
def k0_mult21 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_237 : BitVec 32 := 256#32
  let v553 : BitVec 32 := Scalar.muli arg26 c256_i32_237
  let c128_i32_238 : BitVec 32 := 128#32
  let v554 : BitVec 32 := Scalar.addi v553 c128_i32_238
  v554
def k0_mult22 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_275 : BitVec 32 := 256#32
  let v657 : BitVec 32 := Scalar.muli arg26 c256_i32_275
  let c0_i32_276 : BitVec 32 := 0#32
  let v658 : BitVec 32 := Scalar.addi v657 c0_i32_276
  v658
def k0_off13 (i : grid0.Coords) (v1 : BitVec 32) (k0_t2 : Fin (k0_t2_loop i v1).trips) (c0_i32_276 : BitVec 32) : Fin 4 → Nat :=
  let c0_277 : Index := 0#32
  let c2_278 : Index := 2#32
  let c0_279 : Index := 0#32
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_275 : BitVec 32 := 256#32
  let v657 : BitVec 32 := Scalar.muli arg26 c256_i32_275
  let v658 : BitVec 32 := Scalar.addi v657 c0_i32_276
  let v659 : BitVec 32 := v658
  let v660 : Index := Scalar.indexCast v659
  ![0, 2, 0, v660.toNat]
def k0_mult23 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_310 : BitVec 32 := 256#32
  let v756 : BitVec 32 := Scalar.muli arg26 c256_i32_310
  let c128_i32_311 : BitVec 32 := 128#32
  let v757 : BitVec 32 := Scalar.addi v756 c128_i32_311
  v757
def k0_mult24 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_345 : BitVec 32 := 256#32
  let v857 : BitVec 32 := Scalar.muli arg26 c256_i32_345
  let c0_i32_346 : BitVec 32 := 0#32
  let v858 : BitVec 32 := Scalar.addi v857 c0_i32_346
  v858
def k0_off14 (i : grid0.Coords) (v1 : BitVec 32) (k0_t2 : Fin (k0_t2_loop i v1).trips) (c0_i32_346 : BitVec 32) : Fin 4 → Nat :=
  let c0_347 : Index := 0#32
  let c3_348 : Index := 3#32
  let c0_349 : Index := 0#32
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_345 : BitVec 32 := 256#32
  let v857 : BitVec 32 := Scalar.muli arg26 c256_i32_345
  let v858 : BitVec 32 := Scalar.addi v857 c0_i32_346
  let v859 : BitVec 32 := v858
  let v860 : Index := Scalar.indexCast v859
  ![0, 3, 0, v860.toNat]
def k0_mult25 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_380 : BitVec 32 := 256#32
  let v956 : BitVec 32 := Scalar.muli arg26 c256_i32_380
  let c128_i32_381 : BitVec 32 := 128#32
  let v957 : BitVec 32 := Scalar.addi v956 c128_i32_381
  v957
def k0_mult26 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_418 : BitVec 32 := 256#32
  let v1061 : BitVec 32 := Scalar.muli arg26 c256_i32_418
  let c0_i32_419 : BitVec 32 := 0#32
  let v1062 : BitVec 32 := Scalar.addi v1061 c0_i32_419
  v1062
def k0_off15 (i : grid0.Coords) (v1 : BitVec 32) (k0_t2 : Fin (k0_t2_loop i v1).trips) (c0_i32_419 : BitVec 32) : Fin 4 → Nat :=
  let c0_420 : Index := 0#32
  let c4_421 : Index := 4#32
  let c0_422 : Index := 0#32
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_418 : BitVec 32 := 256#32
  let v1061 : BitVec 32 := Scalar.muli arg26 c256_i32_418
  let v1062 : BitVec 32 := Scalar.addi v1061 c0_i32_419
  let v1063 : BitVec 32 := v1062
  let v1064 : Index := Scalar.indexCast v1063
  ![0, 4, 0, v1064.toNat]
def k0_mult27 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_453 : BitVec 32 := 256#32
  let v1160 : BitVec 32 := Scalar.muli arg26 c256_i32_453
  let c128_i32_454 : BitVec 32 := 128#32
  let v1161 : BitVec 32 := Scalar.addi v1160 c128_i32_454
  v1161
def k0_mult28 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_488 : BitVec 32 := 256#32
  let v1261 : BitVec 32 := Scalar.muli arg26 c256_i32_488
  let c0_i32_489 : BitVec 32 := 0#32
  let v1262 : BitVec 32 := Scalar.addi v1261 c0_i32_489
  v1262
def k0_off16 (i : grid0.Coords) (v1 : BitVec 32) (k0_t2 : Fin (k0_t2_loop i v1).trips) (c0_i32_489 : BitVec 32) : Fin 4 → Nat :=
  let c0_490 : Index := 0#32
  let c5_491 : Index := 5#32
  let c0_492 : Index := 0#32
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_488 : BitVec 32 := 256#32
  let v1261 : BitVec 32 := Scalar.muli arg26 c256_i32_488
  let v1262 : BitVec 32 := Scalar.addi v1261 c0_i32_489
  let v1263 : BitVec 32 := v1262
  let v1264 : Index := Scalar.indexCast v1263
  ![0, 5, 0, v1264.toNat]
def k0_mult29 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_523 : BitVec 32 := 256#32
  let v1360 : BitVec 32 := Scalar.muli arg26 c256_i32_523
  let c128_i32_524 : BitVec 32 := 128#32
  let v1361 : BitVec 32 := Scalar.addi v1360 c128_i32_524
  v1361
def k0_mult30 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_561 : BitVec 32 := 256#32
  let v1465 : BitVec 32 := Scalar.muli arg26 c256_i32_561
  let c0_i32_562 : BitVec 32 := 0#32
  let v1466 : BitVec 32 := Scalar.addi v1465 c0_i32_562
  v1466
def k0_off17 (i : grid0.Coords) (v1 : BitVec 32) (k0_t2 : Fin (k0_t2_loop i v1).trips) (c0_i32_562 : BitVec 32) : Fin 4 → Nat :=
  let c0_563 : Index := 0#32
  let c6_564 : Index := 6#32
  let c0_565 : Index := 0#32
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_561 : BitVec 32 := 256#32
  let v1465 : BitVec 32 := Scalar.muli arg26 c256_i32_561
  let v1466 : BitVec 32 := Scalar.addi v1465 c0_i32_562
  let v1467 : BitVec 32 := v1466
  let v1468 : Index := Scalar.indexCast v1467
  ![0, 6, 0, v1468.toNat]
def k0_mult31 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_596 : BitVec 32 := 256#32
  let v1564 : BitVec 32 := Scalar.muli arg26 c256_i32_596
  let c128_i32_597 : BitVec 32 := 128#32
  let v1565 : BitVec 32 := Scalar.addi v1564 c128_i32_597
  v1565
def k0_mult32 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_631 : BitVec 32 := 256#32
  let v1665 : BitVec 32 := Scalar.muli arg26 c256_i32_631
  let c0_i32_632 : BitVec 32 := 0#32
  let v1666 : BitVec 32 := Scalar.addi v1665 c0_i32_632
  v1666
def k0_off18 (i : grid0.Coords) (v1 : BitVec 32) (k0_t2 : Fin (k0_t2_loop i v1).trips) (c0_i32_632 : BitVec 32) : Fin 4 → Nat :=
  let c0_633 : Index := 0#32
  let c7_634 : Index := 7#32
  let c0_635 : Index := 0#32
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_631 : BitVec 32 := 256#32
  let v1665 : BitVec 32 := Scalar.muli arg26 c256_i32_631
  let v1666 : BitVec 32 := Scalar.addi v1665 c0_i32_632
  let v1667 : BitVec 32 := v1666
  let v1668 : Index := Scalar.indexCast v1667
  ![0, 7, 0, v1668.toNat]
def k0_mult33 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_666 : BitVec 32 := 256#32
  let v1764 : BitVec 32 := Scalar.muli arg26 c256_i32_666
  let c128_i32_667 : BitVec 32 := 128#32
  let v1765 : BitVec 32 := Scalar.addi v1764 c128_i32_667
  v1765
def k0_mult34 (i : grid0.Coords) (v1 : BitVec 32) (k0_t2 : Fin (k0_t2_loop i v1).trips) : BitVec 32 :=
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_707 : BitVec 32 := 256#32
  let v1880 : BitVec 32 := Scalar.muli arg26 c256_i32_707
  v1880
def k0_off19 (i : grid0.Coords) (v1 : BitVec 32) (k0_t2 : Fin (k0_t2_loop i v1).trips) : Fin 4 → Nat :=
  let c0_708 : Index := 0#32
  let c0_709 : Index := 0#32
  let c0_710 : Index := 0#32
  let c0_i32_74 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v137 : BitVec 32 := Scalar.subi v61 c0_i32_74
  let c1_i32_75 : BitVec 32 := 1#32
  let v139 : BitVec 32 := Scalar.divsi v137 c1_i32_75
  let v140 : BitVec 32 := Scalar.muli v139 c1_i32_75
  let v141 : BitVec 32 := Scalar.addi c0_i32_74 v140
  let c1_i32_77 : BitVec 32 := 1#32
  let arg26 : BitVec 32 := Scf.iv v141 c1_i32_77 k0_t2
  let c256_i32_707 : BitVec 32 := 256#32
  let v1880 : BitVec 32 := Scalar.muli arg26 c256_i32_707
  let v1881 : BitVec 32 := v1880
  let v1882 : Index := Scalar.indexCast v1881
  ![0, 0, 0, v1882.toNat]
@[reducible] def k0_t3_loop (i : grid0.Coords) (v1 : BitVec 32) : Scf.Loop 32 :=
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_115 : BitVec 32 := 1#32
  ⟨c0_i32_113, v204, c1_i32_115⟩
def k0_mult35 (i : grid0.Coords) (v1 : BitVec 32) (k0_t3 : Fin (k0_t3_loop i v1).trips) : BitVec 32 :=
  let c0_i32_113 : BitVec 32 := 0#32
  let c1_i32_115 : BitVec 32 := 1#32
  let arg26 : BitVec 32 := Scf.iv c0_i32_113 c1_i32_115 k0_t3
  let c256_i32_119 : BitVec 32 := 256#32
  let v210 : BitVec 32 := Scalar.muli arg26 c256_i32_119
  v210
def k0_off20 (i : grid0.Coords) (v1 : BitVec 32) (k0_t3 : Fin (k0_t3_loop i v1).trips) : Fin 4 → Nat :=
  let c0_120 : Index := 0#32
  let c0_121 : Index := 0#32
  let c0_122 : Index := 0#32
  let c0_i32_113 : BitVec 32 := 0#32
  let c1_i32_115 : BitVec 32 := 1#32
  let arg26 : BitVec 32 := Scf.iv c0_i32_113 c1_i32_115 k0_t3
  let c256_i32_119 : BitVec 32 := 256#32
  let v210 : BitVec 32 := Scalar.muli arg26 c256_i32_119
  let v211 : BitVec 32 := v210
  let v212 : Index := Scalar.indexCast v211
  ![0, 0, 0, v212.toNat]
def k0_off21 (i : grid0.Coords) (v1 : BitVec 32) (k0_t3 : Fin (k0_t3_loop i v1).trips) : Fin 3 → Nat :=
  let c0_127 : Index := 0#32
  let c0_128 : Index := 0#32
  let c0_i32_113 : BitVec 32 := 0#32
  let c1_i32_115 : BitVec 32 := 1#32
  let arg26 : BitVec 32 := Scf.iv c0_i32_113 c1_i32_115 k0_t3
  let c256_i32_119 : BitVec 32 := 256#32
  let v210 : BitVec 32 := Scalar.muli arg26 c256_i32_119
  let v211 : BitVec 32 := v210
  let v232 : Index := Scalar.indexCast v211
  ![0, 0, v232.toNat]
def k0_off22 (i : grid0.Coords) (v1 : BitVec 32) (k0_t3 : Fin (k0_t3_loop i v1).trips) : Fin 4 → Nat :=
  let c0_129 : Index := 0#32
  let c0_130 : Index := 0#32
  let c0_131 : Index := 0#32
  let c0_i32_113 : BitVec 32 := 0#32
  let c1_i32_115 : BitVec 32 := 1#32
  let arg26 : BitVec 32 := Scf.iv c0_i32_113 c1_i32_115 k0_t3
  let c256_i32_119 : BitVec 32 := 256#32
  let v210 : BitVec 32 := Scalar.muli arg26 c256_i32_119
  let v211 : BitVec 32 := v210
  let v262 : Index := Scalar.indexCast v211
  ![0, 0, 0, v262.toNat]
def k0_off23 (i : grid0.Coords) (v1 : BitVec 32) (k0_t3 : Fin (k0_t3_loop i v1).trips) : Fin 4 → Nat :=
  let c0_137 : Index := 0#32
  let c1_138 : Index := 1#32
  let c0_139 : Index := 0#32
  let c0_i32_113 : BitVec 32 := 0#32
  let c1_i32_115 : BitVec 32 := 1#32
  let arg26 : BitVec 32 := Scf.iv c0_i32_113 c1_i32_115 k0_t3
  let c256_i32_119 : BitVec 32 := 256#32
  let v210 : BitVec 32 := Scalar.muli arg26 c256_i32_119
  let v211 : BitVec 32 := v210
  let v290 : Index := Scalar.indexCast v211
  ![0, 1, 0, v290.toNat]
def k0_off24 (i : grid0.Coords) (v1 : BitVec 32) (k0_t3 : Fin (k0_t3_loop i v1).trips) : Fin 4 → Nat :=
  let c0_154 : Index := 0#32
  let c2_155 : Index := 2#32
  let c0_156 : Index := 0#32
  let c0_i32_113 : BitVec 32 := 0#32
  let c1_i32_115 : BitVec 32 := 1#32
  let arg26 : BitVec 32 := Scf.iv c0_i32_113 c1_i32_115 k0_t3
  let c256_i32_119 : BitVec 32 := 256#32
  let v210 : BitVec 32 := Scalar.muli arg26 c256_i32_119
  let v211 : BitVec 32 := v210
  let v325 : Index := Scalar.indexCast v211
  ![0, 2, 0, v325.toNat]
def k0_off25 (i : grid0.Coords) (v1 : BitVec 32) (k0_t3 : Fin (k0_t3_loop i v1).trips) : Fin 4 → Nat :=
  let c0_166 : Index := 0#32
  let c3_167 : Index := 3#32
  let c0_168 : Index := 0#32
  let c0_i32_113 : BitVec 32 := 0#32
  let c1_i32_115 : BitVec 32 := 1#32
  let arg26 : BitVec 32 := Scf.iv c0_i32_113 c1_i32_115 k0_t3
  let c256_i32_119 : BitVec 32 := 256#32
  let v210 : BitVec 32 := Scalar.muli arg26 c256_i32_119
  let v211 : BitVec 32 := v210
  let v353 : Index := Scalar.indexCast v211
  ![0, 3, 0, v353.toNat]
def k0_off26 (i : grid0.Coords) (v1 : BitVec 32) (k0_t3 : Fin (k0_t3_loop i v1).trips) : Fin 4 → Nat :=
  let c0_183 : Index := 0#32
  let c4_184 : Index := 4#32
  let c0_185 : Index := 0#32
  let c0_i32_113 : BitVec 32 := 0#32
  let c1_i32_115 : BitVec 32 := 1#32
  let arg26 : BitVec 32 := Scf.iv c0_i32_113 c1_i32_115 k0_t3
  let c256_i32_119 : BitVec 32 := 256#32
  let v210 : BitVec 32 := Scalar.muli arg26 c256_i32_119
  let v211 : BitVec 32 := v210
  let v388 : Index := Scalar.indexCast v211
  ![0, 4, 0, v388.toNat]
def k0_off27 (i : grid0.Coords) (v1 : BitVec 32) (k0_t3 : Fin (k0_t3_loop i v1).trips) : Fin 4 → Nat :=
  let c0_195 : Index := 0#32
  let c5_196 : Index := 5#32
  let c0_197 : Index := 0#32
  let c0_i32_113 : BitVec 32 := 0#32
  let c1_i32_115 : BitVec 32 := 1#32
  let arg26 : BitVec 32 := Scf.iv c0_i32_113 c1_i32_115 k0_t3
  let c256_i32_119 : BitVec 32 := 256#32
  let v210 : BitVec 32 := Scalar.muli arg26 c256_i32_119
  let v211 : BitVec 32 := v210
  let v416 : Index := Scalar.indexCast v211
  ![0, 5, 0, v416.toNat]
def k0_off28 (i : grid0.Coords) (v1 : BitVec 32) (k0_t3 : Fin (k0_t3_loop i v1).trips) : Fin 4 → Nat :=
  let c0_212 : Index := 0#32
  let c6_213 : Index := 6#32
  let c0_214 : Index := 0#32
  let c0_i32_113 : BitVec 32 := 0#32
  let c1_i32_115 : BitVec 32 := 1#32
  let arg26 : BitVec 32 := Scf.iv c0_i32_113 c1_i32_115 k0_t3
  let c256_i32_119 : BitVec 32 := 256#32
  let v210 : BitVec 32 := Scalar.muli arg26 c256_i32_119
  let v211 : BitVec 32 := v210
  let v451 : Index := Scalar.indexCast v211
  ![0, 6, 0, v451.toNat]
def k0_off29 (i : grid0.Coords) (v1 : BitVec 32) (k0_t3 : Fin (k0_t3_loop i v1).trips) : Fin 4 → Nat :=
  let c0_224 : Index := 0#32
  let c7_225 : Index := 7#32
  let c0_226 : Index := 0#32
  let c0_i32_113 : BitVec 32 := 0#32
  let c1_i32_115 : BitVec 32 := 1#32
  let arg26 : BitVec 32 := Scf.iv c0_i32_113 c1_i32_115 k0_t3
  let c256_i32_119 : BitVec 32 := 256#32
  let v210 : BitVec 32 := Scalar.muli arg26 c256_i32_119
  let v211 : BitVec 32 := v210
  let v479 : Index := Scalar.indexCast v211
  ![0, 7, 0, v479.toNat]
@[reducible] def k0_t4_loop (i : grid0.Coords) (v1 : BitVec 32) : Scf.Loop 32 :=
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let v201 : BitVec 32 := Scalar.addi c0_i32_113 v200
  let c1_i32_116 : BitVec 32 := 1#32
  ⟨v204, v201, c1_i32_116⟩
def k0_mult36 (i : grid0.Coords) (v1 : BitVec 32) (k0_t4 : Fin (k0_t4_loop i v1).trips) : BitVec 32 :=
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_116 : BitVec 32 := 1#32
  let arg26 : BitVec 32 := Scf.iv v204 c1_i32_116 k0_t4
  let c256_i32_119 : BitVec 32 := 256#32
  let v210 : BitVec 32 := Scalar.muli arg26 c256_i32_119
  v210
def k0_off30 (i : grid0.Coords) (v1 : BitVec 32) (k0_t4 : Fin (k0_t4_loop i v1).trips) : Fin 4 → Nat :=
  let c0_120 : Index := 0#32
  let c0_121 : Index := 0#32
  let c0_122 : Index := 0#32
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_116 : BitVec 32 := 1#32
  let arg26 : BitVec 32 := Scf.iv v204 c1_i32_116 k0_t4
  let c256_i32_119 : BitVec 32 := 256#32
  let v210 : BitVec 32 := Scalar.muli arg26 c256_i32_119
  let v211 : BitVec 32 := v210
  let v212 : Index := Scalar.indexCast v211
  ![0, 0, 0, v212.toNat]
def k0_off31 (i : grid0.Coords) (v1 : BitVec 32) (k0_t4 : Fin (k0_t4_loop i v1).trips) : Fin 3 → Nat :=
  let c0_127 : Index := 0#32
  let c0_128 : Index := 0#32
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_116 : BitVec 32 := 1#32
  let arg26 : BitVec 32 := Scf.iv v204 c1_i32_116 k0_t4
  let c256_i32_119 : BitVec 32 := 256#32
  let v210 : BitVec 32 := Scalar.muli arg26 c256_i32_119
  let v211 : BitVec 32 := v210
  let v232 : Index := Scalar.indexCast v211
  ![0, 0, v232.toNat]
def k0_off32 (i : grid0.Coords) (v1 : BitVec 32) (k0_t4 : Fin (k0_t4_loop i v1).trips) : Fin 4 → Nat :=
  let c0_129 : Index := 0#32
  let c0_130 : Index := 0#32
  let c0_131 : Index := 0#32
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_116 : BitVec 32 := 1#32
  let arg26 : BitVec 32 := Scf.iv v204 c1_i32_116 k0_t4
  let c256_i32_119 : BitVec 32 := 256#32
  let v210 : BitVec 32 := Scalar.muli arg26 c256_i32_119
  let v211 : BitVec 32 := v210
  let v262 : Index := Scalar.indexCast v211
  ![0, 0, 0, v262.toNat]
def k0_off33 (i : grid0.Coords) (v1 : BitVec 32) (k0_t4 : Fin (k0_t4_loop i v1).trips) : Fin 4 → Nat :=
  let c0_137 : Index := 0#32
  let c1_138 : Index := 1#32
  let c0_139 : Index := 0#32
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_116 : BitVec 32 := 1#32
  let arg26 : BitVec 32 := Scf.iv v204 c1_i32_116 k0_t4
  let c256_i32_119 : BitVec 32 := 256#32
  let v210 : BitVec 32 := Scalar.muli arg26 c256_i32_119
  let v211 : BitVec 32 := v210
  let v290 : Index := Scalar.indexCast v211
  ![0, 1, 0, v290.toNat]
def k0_off34 (i : grid0.Coords) (v1 : BitVec 32) (k0_t4 : Fin (k0_t4_loop i v1).trips) : Fin 4 → Nat :=
  let c0_154 : Index := 0#32
  let c2_155 : Index := 2#32
  let c0_156 : Index := 0#32
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_116 : BitVec 32 := 1#32
  let arg26 : BitVec 32 := Scf.iv v204 c1_i32_116 k0_t4
  let c256_i32_119 : BitVec 32 := 256#32
  let v210 : BitVec 32 := Scalar.muli arg26 c256_i32_119
  let v211 : BitVec 32 := v210
  let v325 : Index := Scalar.indexCast v211
  ![0, 2, 0, v325.toNat]
def k0_off35 (i : grid0.Coords) (v1 : BitVec 32) (k0_t4 : Fin (k0_t4_loop i v1).trips) : Fin 4 → Nat :=
  let c0_166 : Index := 0#32
  let c3_167 : Index := 3#32
  let c0_168 : Index := 0#32
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_116 : BitVec 32 := 1#32
  let arg26 : BitVec 32 := Scf.iv v204 c1_i32_116 k0_t4
  let c256_i32_119 : BitVec 32 := 256#32
  let v210 : BitVec 32 := Scalar.muli arg26 c256_i32_119
  let v211 : BitVec 32 := v210
  let v353 : Index := Scalar.indexCast v211
  ![0, 3, 0, v353.toNat]
def k0_off36 (i : grid0.Coords) (v1 : BitVec 32) (k0_t4 : Fin (k0_t4_loop i v1).trips) : Fin 4 → Nat :=
  let c0_183 : Index := 0#32
  let c4_184 : Index := 4#32
  let c0_185 : Index := 0#32
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_116 : BitVec 32 := 1#32
  let arg26 : BitVec 32 := Scf.iv v204 c1_i32_116 k0_t4
  let c256_i32_119 : BitVec 32 := 256#32
  let v210 : BitVec 32 := Scalar.muli arg26 c256_i32_119
  let v211 : BitVec 32 := v210
  let v388 : Index := Scalar.indexCast v211
  ![0, 4, 0, v388.toNat]
def k0_off37 (i : grid0.Coords) (v1 : BitVec 32) (k0_t4 : Fin (k0_t4_loop i v1).trips) : Fin 4 → Nat :=
  let c0_195 : Index := 0#32
  let c5_196 : Index := 5#32
  let c0_197 : Index := 0#32
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_116 : BitVec 32 := 1#32
  let arg26 : BitVec 32 := Scf.iv v204 c1_i32_116 k0_t4
  let c256_i32_119 : BitVec 32 := 256#32
  let v210 : BitVec 32 := Scalar.muli arg26 c256_i32_119
  let v211 : BitVec 32 := v210
  let v416 : Index := Scalar.indexCast v211
  ![0, 5, 0, v416.toNat]
def k0_off38 (i : grid0.Coords) (v1 : BitVec 32) (k0_t4 : Fin (k0_t4_loop i v1).trips) : Fin 4 → Nat :=
  let c0_212 : Index := 0#32
  let c6_213 : Index := 6#32
  let c0_214 : Index := 0#32
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_116 : BitVec 32 := 1#32
  let arg26 : BitVec 32 := Scf.iv v204 c1_i32_116 k0_t4
  let c256_i32_119 : BitVec 32 := 256#32
  let v210 : BitVec 32 := Scalar.muli arg26 c256_i32_119
  let v211 : BitVec 32 := v210
  let v451 : Index := Scalar.indexCast v211
  ![0, 6, 0, v451.toNat]
def k0_off39 (i : grid0.Coords) (v1 : BitVec 32) (k0_t4 : Fin (k0_t4_loop i v1).trips) : Fin 4 → Nat :=
  let c0_224 : Index := 0#32
  let c7_225 : Index := 7#32
  let c0_226 : Index := 0#32
  let c0_i32_113 : BitVec 32 := 0#32
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  let v200 : BitVec 32 := Scalar.subi v61 c0_i32_113
  let c1_i32_114 : BitVec 32 := 1#32
  let v202 : BitVec 32 := Scalar.divsi v200 c1_i32_114
  let v203 : BitVec 32 := Scalar.muli v202 c1_i32_114
  let v204 : BitVec 32 := Scalar.addi c0_i32_113 v203
  let c1_i32_116 : BitVec 32 := 1#32
  let arg26 : BitVec 32 := Scf.iv v204 c1_i32_116 k0_t4
  let c256_i32_119 : BitVec 32 := 256#32
  let v210 : BitVec 32 := Scalar.muli arg26 c256_i32_119
  let v211 : BitVec 32 := v210
  let v479 : Index := Scalar.indexCast v211
  ![0, 7, 0, v479.toNat]

def k0_chk1_0 (i : grid0.Coords) (v1 : BitVec 32) : Prop :=
  (∀ (k0_h4 : k0_cond4 i v1 = 1#1), (k0_t1_loop i v1).OK) ∧
  (∀ k0_t1 : Fin (k0_t1_loop i v1).trips, ∀ (k0_h4 : k0_cond4 i v1 = 1#1), 128 ∣ (k0_mult1 i v1 k0_t1).toNat) ∧
  (∀ k0_t1 : Fin (k0_t1_loop i v1).trips, ∀ (k0_h4 : k0_cond4 i v1 = 1#1), ∀ (r : Fin 2), ∀ a, (k0_off2 i v1 k0_t1 (BitVec.ofNat 32 (128 * r.val))) a + S1x1x64x128.size a ≤ S1x8x64x2048.size a) ∧
  (∀ k0_t1 : Fin (k0_t1_loop i v1).trips, ∀ (k0_h4 : k0_cond4 i v1 = 1#1), 128 ∣ (k0_mult2 i v1 k0_t1).toNat) ∧
  (∀ k0_t1 : Fin (k0_t1_loop i v1).trips, ∀ (k0_h4 : k0_cond4 i v1 = 1#1), 128 ∣ (k0_mult3 i v1 k0_t1).toNat) ∧
  (∀ k0_t1 : Fin (k0_t1_loop i v1).trips, ∀ (k0_h4 : k0_cond4 i v1 = 1#1), ∀ (r : Fin 2), ∀ a, (k0_off3 i v1 k0_t1 (BitVec.ofNat 32 (128 * r.val))) a + S1x1x64x128.size a ≤ S1x8x64x2048.size a) ∧
  (∀ k0_t1 : Fin (k0_t1_loop i v1).trips, ∀ (k0_h4 : k0_cond4 i v1 = 1#1), 128 ∣ (k0_mult4 i v1 k0_t1).toNat) ∧
  (∀ k0_t1 : Fin (k0_t1_loop i v1).trips, ∀ (k0_h4 : k0_cond4 i v1 = 1#1), 128 ∣ (k0_mult5 i v1 k0_t1).toNat) ∧
  (∀ k0_t1 : Fin (k0_t1_loop i v1).trips, ∀ (k0_h4 : k0_cond4 i v1 = 1#1), ∀ (r : Fin 2), ∀ a, (k0_off4 i v1 k0_t1 (BitVec.ofNat 32 (128 * r.val))) a + S1x1x64x128.size a ≤ S1x8x64x2048.size a) ∧
  (∀ k0_t1 : Fin (k0_t1_loop i v1).trips, ∀ (k0_h4 : k0_cond4 i v1 = 1#1), 128 ∣ (k0_mult6 i v1 k0_t1).toNat) ∧
  (∀ k0_t1 : Fin (k0_t1_loop i v1).trips, ∀ (k0_h4 : k0_cond4 i v1 = 1#1), 128 ∣ (k0_mult7 i v1 k0_t1).toNat) ∧
  (∀ k0_t1 : Fin (k0_t1_loop i v1).trips, ∀ (k0_h4 : k0_cond4 i v1 = 1#1), ∀ (r : Fin 2), ∀ a, (k0_off5 i v1 k0_t1 (BitVec.ofNat 32 (128 * r.val))) a + S1x1x64x128.size a ≤ S1x8x64x2048.size a) ∧
  (∀ k0_t1 : Fin (k0_t1_loop i v1).trips, ∀ (k0_h4 : k0_cond4 i v1 = 1#1), 128 ∣ (k0_mult8 i v1 k0_t1).toNat) ∧
  (∀ k0_t1 : Fin (k0_t1_loop i v1).trips, ∀ (k0_h4 : k0_cond4 i v1 = 1#1), 128 ∣ (k0_mult9 i v1 k0_t1).toNat) ∧
  (∀ k0_t1 : Fin (k0_t1_loop i v1).trips, ∀ (k0_h4 : k0_cond4 i v1 = 1#1), ∀ (r : Fin 2), ∀ a, (k0_off6 i v1 k0_t1 (BitVec.ofNat 32 (128 * r.val))) a + S1x1x64x128.size a ≤ S1x8x64x2048.size a) ∧
  (∀ k0_t1 : Fin (k0_t1_loop i v1).trips, ∀ (k0_h4 : k0_cond4 i v1 = 1#1), 128 ∣ (k0_mult10 i v1 k0_t1).toNat) ∧
  (∀ k0_t1 : Fin (k0_t1_loop i v1).trips, ∀ (k0_h4 : k0_cond4 i v1 = 1#1), 128 ∣ (k0_mult11 i v1 k0_t1).toNat) ∧
  (∀ k0_t1 : Fin (k0_t1_loop i v1).trips, ∀ (k0_h4 : k0_cond4 i v1 = 1#1), ∀ (r : Fin 2), ∀ a, (k0_off7 i v1 k0_t1 (BitVec.ofNat 32 (128 * r.val))) a + S1x1x64x128.size a ≤ S1x8x64x2048.size a) ∧
  (∀ k0_t1 : Fin (k0_t1_loop i v1).trips, ∀ (k0_h4 : k0_cond4 i v1 = 1#1), 128 ∣ (k0_mult12 i v1 k0_t1).toNat) ∧
  (∀ k0_t1 : Fin (k0_t1_loop i v1).trips, ∀ (k0_h4 : k0_cond4 i v1 = 1#1), 128 ∣ (k0_mult13 i v1 k0_t1).toNat) ∧
  (∀ k0_t1 : Fin (k0_t1_loop i v1).trips, ∀ (k0_h4 : k0_cond4 i v1 = 1#1), ∀ (r : Fin 2), ∀ a, (k0_off8 i v1 k0_t1 (BitVec.ofNat 32 (128 * r.val))) a + S1x1x64x128.size a ≤ S1x8x64x2048.size a) ∧
  (∀ k0_t1 : Fin (k0_t1_loop i v1).trips, ∀ (k0_h4 : k0_cond4 i v1 = 1#1), 128 ∣ (k0_mult14 i v1 k0_t1).toNat) ∧
  (∀ k0_t1 : Fin (k0_t1_loop i v1).trips, ∀ (k0_h4 : k0_cond4 i v1 = 1#1), 128 ∣ (k0_mult15 i v1 k0_t1).toNat) ∧
  (∀ k0_t1 : Fin (k0_t1_loop i v1).trips, ∀ (k0_h4 : k0_cond4 i v1 = 1#1), ∀ (r : Fin 2), ∀ a, (k0_off9 i v1 k0_t1 (BitVec.ofNat 32 (128 * r.val))) a + S1x1x64x128.size a ≤ S1x8x64x2048.size a) ∧
  (∀ k0_t1 : Fin (k0_t1_loop i v1).trips, ∀ (k0_h4 : k0_cond4 i v1 = 1#1), 128 ∣ (k0_mult16 i v1 k0_t1).toNat) ∧
  (∀ k0_t1 : Fin (k0_t1_loop i v1).trips, ∀ (k0_h4 : k0_cond4 i v1 = 1#1), 256 ∣ (k0_mult17 i v1 k0_t1).toNat) ∧
  (∀ k0_t1 : Fin (k0_t1_loop i v1).trips, ∀ (k0_h4 : k0_cond4 i v1 = 1#1), ∀ a, (k0_off10 i v1 k0_t1) a + S1x1x48x256.size a ≤ S1x1x48x2048.size a) ∧
  (∀ (k0_h4 : k0_cond4 i v1 = 1#1), (k0_t2_loop i v1).OK) ∧
  (∀ k0_t2 : Fin (k0_t2_loop i v1).trips, ∀ (k0_h4 : k0_cond4 i v1 = 1#1), 128 ∣ (k0_mult18 i v1 k0_t2).toNat) ∧
  (∀ k0_t2 : Fin (k0_t2_loop i v1).trips, ∀ (k0_h4 : k0_cond4 i v1 = 1#1), ∀ (r : Fin 2), ∀ a, (k0_off11 i v1 k0_t2 (BitVec.ofNat 32 (128 * r.val))) a + S1x1x64x128.size a ≤ S1x8x64x2048.size a) ∧
  (∀ k0_t2 : Fin (k0_t2_loop i v1).trips, ∀ (k0_h4 : k0_cond4 i v1 = 1#1), 128 ∣ (k0_mult19 i v1 k0_t2).toNat) ∧
  (∀ k0_t2 : Fin (k0_t2_loop i v1).trips, ∀ (k0_h4 : k0_cond4 i v1 = 1#1), 128 ∣ (k0_mult20 i v1 k0_t2).toNat)
def k0_chk1_1 (i : grid0.Coords) (v1 : BitVec 32) : Prop :=
  (∀ k0_t2 : Fin (k0_t2_loop i v1).trips, ∀ (k0_h4 : k0_cond4 i v1 = 1#1), ∀ (r : Fin 2), ∀ a, (k0_off12 i v1 k0_t2 (BitVec.ofNat 32 (128 * r.val))) a + S1x1x64x128.size a ≤ S1x8x64x2048.size a) ∧
  (∀ k0_t2 : Fin (k0_t2_loop i v1).trips, ∀ (k0_h4 : k0_cond4 i v1 = 1#1), 128 ∣ (k0_mult21 i v1 k0_t2).toNat) ∧
  (∀ k0_t2 : Fin (k0_t2_loop i v1).trips, ∀ (k0_h4 : k0_cond4 i v1 = 1#1), 128 ∣ (k0_mult22 i v1 k0_t2).toNat) ∧
  (∀ k0_t2 : Fin (k0_t2_loop i v1).trips, ∀ (k0_h4 : k0_cond4 i v1 = 1#1), ∀ (r : Fin 2), ∀ a, (k0_off13 i v1 k0_t2 (BitVec.ofNat 32 (128 * r.val))) a + S1x1x64x128.size a ≤ S1x8x64x2048.size a) ∧
  (∀ k0_t2 : Fin (k0_t2_loop i v1).trips, ∀ (k0_h4 : k0_cond4 i v1 = 1#1), 128 ∣ (k0_mult23 i v1 k0_t2).toNat) ∧
  (∀ k0_t2 : Fin (k0_t2_loop i v1).trips, ∀ (k0_h4 : k0_cond4 i v1 = 1#1), 128 ∣ (k0_mult24 i v1 k0_t2).toNat) ∧
  (∀ k0_t2 : Fin (k0_t2_loop i v1).trips, ∀ (k0_h4 : k0_cond4 i v1 = 1#1), ∀ (r : Fin 2), ∀ a, (k0_off14 i v1 k0_t2 (BitVec.ofNat 32 (128 * r.val))) a + S1x1x64x128.size a ≤ S1x8x64x2048.size a) ∧
  (∀ k0_t2 : Fin (k0_t2_loop i v1).trips, ∀ (k0_h4 : k0_cond4 i v1 = 1#1), 128 ∣ (k0_mult25 i v1 k0_t2).toNat) ∧
  (∀ k0_t2 : Fin (k0_t2_loop i v1).trips, ∀ (k0_h4 : k0_cond4 i v1 = 1#1), 128 ∣ (k0_mult26 i v1 k0_t2).toNat) ∧
  (∀ k0_t2 : Fin (k0_t2_loop i v1).trips, ∀ (k0_h4 : k0_cond4 i v1 = 1#1), ∀ (r : Fin 2), ∀ a, (k0_off15 i v1 k0_t2 (BitVec.ofNat 32 (128 * r.val))) a + S1x1x64x128.size a ≤ S1x8x64x2048.size a) ∧
  (∀ k0_t2 : Fin (k0_t2_loop i v1).trips, ∀ (k0_h4 : k0_cond4 i v1 = 1#1), 128 ∣ (k0_mult27 i v1 k0_t2).toNat) ∧
  (∀ k0_t2 : Fin (k0_t2_loop i v1).trips, ∀ (k0_h4 : k0_cond4 i v1 = 1#1), 128 ∣ (k0_mult28 i v1 k0_t2).toNat) ∧
  (∀ k0_t2 : Fin (k0_t2_loop i v1).trips, ∀ (k0_h4 : k0_cond4 i v1 = 1#1), ∀ (r : Fin 2), ∀ a, (k0_off16 i v1 k0_t2 (BitVec.ofNat 32 (128 * r.val))) a + S1x1x64x128.size a ≤ S1x8x64x2048.size a) ∧
  (∀ k0_t2 : Fin (k0_t2_loop i v1).trips, ∀ (k0_h4 : k0_cond4 i v1 = 1#1), 128 ∣ (k0_mult29 i v1 k0_t2).toNat) ∧
  (∀ k0_t2 : Fin (k0_t2_loop i v1).trips, ∀ (k0_h4 : k0_cond4 i v1 = 1#1), 128 ∣ (k0_mult30 i v1 k0_t2).toNat) ∧
  (∀ k0_t2 : Fin (k0_t2_loop i v1).trips, ∀ (k0_h4 : k0_cond4 i v1 = 1#1), ∀ (r : Fin 2), ∀ a, (k0_off17 i v1 k0_t2 (BitVec.ofNat 32 (128 * r.val))) a + S1x1x64x128.size a ≤ S1x8x64x2048.size a) ∧
  (∀ k0_t2 : Fin (k0_t2_loop i v1).trips, ∀ (k0_h4 : k0_cond4 i v1 = 1#1), 128 ∣ (k0_mult31 i v1 k0_t2).toNat) ∧
  (∀ k0_t2 : Fin (k0_t2_loop i v1).trips, ∀ (k0_h4 : k0_cond4 i v1 = 1#1), 128 ∣ (k0_mult32 i v1 k0_t2).toNat) ∧
  (∀ k0_t2 : Fin (k0_t2_loop i v1).trips, ∀ (k0_h4 : k0_cond4 i v1 = 1#1), ∀ (r : Fin 2), ∀ a, (k0_off18 i v1 k0_t2 (BitVec.ofNat 32 (128 * r.val))) a + S1x1x64x128.size a ≤ S1x8x64x2048.size a) ∧
  (∀ k0_t2 : Fin (k0_t2_loop i v1).trips, ∀ (k0_h4 : k0_cond4 i v1 = 1#1), 128 ∣ (k0_mult33 i v1 k0_t2).toNat) ∧
  (∀ k0_t2 : Fin (k0_t2_loop i v1).trips, ∀ (k0_h4 : k0_cond4 i v1 = 1#1), 256 ∣ (k0_mult34 i v1 k0_t2).toNat) ∧
  (∀ k0_t2 : Fin (k0_t2_loop i v1).trips, ∀ (k0_h4 : k0_cond4 i v1 = 1#1), ∀ a, (k0_off19 i v1 k0_t2) a + S1x1x48x256.size a ≤ S1x1x48x2048.size a) ∧
  (∀ (k0_h4 : k0_cond4 i v1 = 1#1), (k0_t3_loop i v1).OK) ∧
  (∀ k0_t3 : Fin (k0_t3_loop i v1).trips, ∀ (k0_h4 : k0_cond4 i v1 = 1#1), 256 ∣ (k0_mult35 i v1 k0_t3).toNat) ∧
  (∀ k0_t3 : Fin (k0_t3_loop i v1).trips, ∀ (k0_h4 : k0_cond4 i v1 = 1#1), ∀ a, (k0_off20 i v1 k0_t3) a + S1x1x48x256.size a ≤ S1x1x48x2048.size a) ∧
  (∀ k0_t3 : Fin (k0_t3_loop i v1).trips, ∀ (k0_h4 : k0_cond4 i v1 = 1#1), ∀ a, (k0_off21 i v1 k0_t3) a + S1x8x256.size a ≤ S1x8x2048.size a) ∧
  (∀ k0_t3 : Fin (k0_t3_loop i v1).trips, ∀ (k0_h4 : k0_cond4 i v1 = 1#1), ∀ a, (k0_off22 i v1 k0_t3) a + S1x1x64x256.size a ≤ S1x8x64x2048.size a) ∧
  (∀ k0_t3 : Fin (k0_t3_loop i v1).trips, ∀ (k0_h4 : k0_cond4 i v1 = 1#1), ∀ a, (k0_off23 i v1 k0_t3) a + S1x1x64x256.size a ≤ S1x8x64x2048.size a) ∧
  (∀ k0_t3 : Fin (k0_t3_loop i v1).trips, ∀ (k0_h4 : k0_cond4 i v1 = 1#1), ∀ a, (k0_off24 i v1 k0_t3) a + S1x1x64x256.size a ≤ S1x8x64x2048.size a) ∧
  (∀ k0_t3 : Fin (k0_t3_loop i v1).trips, ∀ (k0_h4 : k0_cond4 i v1 = 1#1), ∀ a, (k0_off25 i v1 k0_t3) a + S1x1x64x256.size a ≤ S1x8x64x2048.size a) ∧
  (∀ k0_t3 : Fin (k0_t3_loop i v1).trips, ∀ (k0_h4 : k0_cond4 i v1 = 1#1), ∀ a, (k0_off26 i v1 k0_t3) a + S1x1x64x256.size a ≤ S1x8x64x2048.size a) ∧
  (∀ k0_t3 : Fin (k0_t3_loop i v1).trips, ∀ (k0_h4 : k0_cond4 i v1 = 1#1), ∀ a, (k0_off27 i v1 k0_t3) a + S1x1x64x256.size a ≤ S1x8x64x2048.size a)
def k0_chk1_2 (i : grid0.Coords) (v1 : BitVec 32) : Prop :=
  (∀ k0_t3 : Fin (k0_t3_loop i v1).trips, ∀ (k0_h4 : k0_cond4 i v1 = 1#1), ∀ a, (k0_off28 i v1 k0_t3) a + S1x1x64x256.size a ≤ S1x8x64x2048.size a) ∧
  (∀ k0_t3 : Fin (k0_t3_loop i v1).trips, ∀ (k0_h4 : k0_cond4 i v1 = 1#1), ∀ a, (k0_off29 i v1 k0_t3) a + S1x1x64x256.size a ≤ S1x8x64x2048.size a) ∧
  (∀ (k0_h4 : k0_cond4 i v1 = 1#1), (k0_t4_loop i v1).OK) ∧
  (∀ k0_t4 : Fin (k0_t4_loop i v1).trips, ∀ (k0_h4 : k0_cond4 i v1 = 1#1), 256 ∣ (k0_mult36 i v1 k0_t4).toNat) ∧
  (∀ k0_t4 : Fin (k0_t4_loop i v1).trips, ∀ (k0_h4 : k0_cond4 i v1 = 1#1), ∀ a, (k0_off30 i v1 k0_t4) a + S1x1x48x256.size a ≤ S1x1x48x2048.size a) ∧
  (∀ k0_t4 : Fin (k0_t4_loop i v1).trips, ∀ (k0_h4 : k0_cond4 i v1 = 1#1), ∀ a, (k0_off31 i v1 k0_t4) a + S1x8x256.size a ≤ S1x8x2048.size a) ∧
  (∀ k0_t4 : Fin (k0_t4_loop i v1).trips, ∀ (k0_h4 : k0_cond4 i v1 = 1#1), ∀ a, (k0_off32 i v1 k0_t4) a + S1x1x64x256.size a ≤ S1x8x64x2048.size a) ∧
  (∀ k0_t4 : Fin (k0_t4_loop i v1).trips, ∀ (k0_h4 : k0_cond4 i v1 = 1#1), ∀ a, (k0_off33 i v1 k0_t4) a + S1x1x64x256.size a ≤ S1x8x64x2048.size a) ∧
  (∀ k0_t4 : Fin (k0_t4_loop i v1).trips, ∀ (k0_h4 : k0_cond4 i v1 = 1#1), ∀ a, (k0_off34 i v1 k0_t4) a + S1x1x64x256.size a ≤ S1x8x64x2048.size a) ∧
  (∀ k0_t4 : Fin (k0_t4_loop i v1).trips, ∀ (k0_h4 : k0_cond4 i v1 = 1#1), ∀ a, (k0_off35 i v1 k0_t4) a + S1x1x64x256.size a ≤ S1x8x64x2048.size a) ∧
  (∀ k0_t4 : Fin (k0_t4_loop i v1).trips, ∀ (k0_h4 : k0_cond4 i v1 = 1#1), ∀ a, (k0_off36 i v1 k0_t4) a + S1x1x64x256.size a ≤ S1x8x64x2048.size a) ∧
  (∀ k0_t4 : Fin (k0_t4_loop i v1).trips, ∀ (k0_h4 : k0_cond4 i v1 = 1#1), ∀ a, (k0_off37 i v1 k0_t4) a + S1x1x64x256.size a ≤ S1x8x64x2048.size a) ∧
  (∀ k0_t4 : Fin (k0_t4_loop i v1).trips, ∀ (k0_h4 : k0_cond4 i v1 = 1#1), ∀ a, (k0_off38 i v1 k0_t4) a + S1x1x64x256.size a ≤ S1x8x64x2048.size a) ∧
  (∀ k0_t4 : Fin (k0_t4_loop i v1).trips, ∀ (k0_h4 : k0_cond4 i v1 = 1#1), ∀ a, (k0_off39 i v1 k0_t4) a + S1x1x64x256.size a ≤ S1x8x64x2048.size a)
def k0_chk1 (i : grid0.Coords) (v1 : BitVec 32) : Prop :=
  k0_chk1_0 i v1 ∧
  k0_chk1_1 i v1 ∧
  k0_chk1_2 i v1
theorem k0_t1_ok : ∀ (i : grid0.Coords) (v1 : BitVec 32) (k0_hw1 : k0_chk1 i v1), ∀ (k0_h4 : k0_cond4 i v1 = 1#1), (k0_t1_loop i v1).OK := fun i v1 k0_hw1 k0_h4 => k0_hw1.1.1 k0_h4
theorem k0_mult1_dvd : ∀ (i : grid0.Coords) (v1 : BitVec 32) (k0_hw1 : k0_chk1 i v1) (k0_t1 : Fin (k0_t1_loop i v1).trips), ∀ (k0_h4 : k0_cond4 i v1 = 1#1), 128 ∣ (k0_mult1 i v1 k0_t1).toNat := fun i v1 k0_hw1 k0_t1 k0_h4 => k0_hw1.1.2.1 k0_t1 k0_h4
theorem k0_off2_inb : ∀ (i : grid0.Coords) (v1 : BitVec 32) (k0_hw1 : k0_chk1 i v1) (k0_t1 : Fin (k0_t1_loop i v1).trips), ∀ (k0_h4 : k0_cond4 i v1 = 1#1), ∀ (r : Fin 2), ∀ a, (k0_off2 i v1 k0_t1 (BitVec.ofNat 32 (128 * r.val))) a + S1x1x64x128.size a ≤ S1x8x64x2048.size a := fun i v1 k0_hw1 k0_t1 k0_h4 r => k0_hw1.1.2.2.1 k0_t1 k0_h4 r
theorem k0_mult2_dvd : ∀ (i : grid0.Coords) (v1 : BitVec 32) (k0_hw1 : k0_chk1 i v1) (k0_t1 : Fin (k0_t1_loop i v1).trips), ∀ (k0_h4 : k0_cond4 i v1 = 1#1), 128 ∣ (k0_mult2 i v1 k0_t1).toNat := fun i v1 k0_hw1 k0_t1 k0_h4 => k0_hw1.1.2.2.2.1 k0_t1 k0_h4
theorem k0_mult3_dvd : ∀ (i : grid0.Coords) (v1 : BitVec 32) (k0_hw1 : k0_chk1 i v1) (k0_t1 : Fin (k0_t1_loop i v1).trips), ∀ (k0_h4 : k0_cond4 i v1 = 1#1), 128 ∣ (k0_mult3 i v1 k0_t1).toNat := fun i v1 k0_hw1 k0_t1 k0_h4 => k0_hw1.1.2.2.2.2.1 k0_t1 k0_h4
theorem k0_off3_inb : ∀ (i : grid0.Coords) (v1 : BitVec 32) (k0_hw1 : k0_chk1 i v1) (k0_t1 : Fin (k0_t1_loop i v1).trips), ∀ (k0_h4 : k0_cond4 i v1 = 1#1), ∀ (r : Fin 2), ∀ a, (k0_off3 i v1 k0_t1 (BitVec.ofNat 32 (128 * r.val))) a + S1x1x64x128.size a ≤ S1x8x64x2048.size a := fun i v1 k0_hw1 k0_t1 k0_h4 r => k0_hw1.1.2.2.2.2.2.1 k0_t1 k0_h4 r
theorem k0_mult4_dvd : ∀ (i : grid0.Coords) (v1 : BitVec 32) (k0_hw1 : k0_chk1 i v1) (k0_t1 : Fin (k0_t1_loop i v1).trips), ∀ (k0_h4 : k0_cond4 i v1 = 1#1), 128 ∣ (k0_mult4 i v1 k0_t1).toNat := fun i v1 k0_hw1 k0_t1 k0_h4 => k0_hw1.1.2.2.2.2.2.2.1 k0_t1 k0_h4
theorem k0_mult5_dvd : ∀ (i : grid0.Coords) (v1 : BitVec 32) (k0_hw1 : k0_chk1 i v1) (k0_t1 : Fin (k0_t1_loop i v1).trips), ∀ (k0_h4 : k0_cond4 i v1 = 1#1), 128 ∣ (k0_mult5 i v1 k0_t1).toNat := fun i v1 k0_hw1 k0_t1 k0_h4 => k0_hw1.1.2.2.2.2.2.2.2.1 k0_t1 k0_h4
theorem k0_off4_inb : ∀ (i : grid0.Coords) (v1 : BitVec 32) (k0_hw1 : k0_chk1 i v1) (k0_t1 : Fin (k0_t1_loop i v1).trips), ∀ (k0_h4 : k0_cond4 i v1 = 1#1), ∀ (r : Fin 2), ∀ a, (k0_off4 i v1 k0_t1 (BitVec.ofNat 32 (128 * r.val))) a + S1x1x64x128.size a ≤ S1x8x64x2048.size a := fun i v1 k0_hw1 k0_t1 k0_h4 r => k0_hw1.1.2.2.2.2.2.2.2.2.1 k0_t1 k0_h4 r
theorem k0_mult6_dvd : ∀ (i : grid0.Coords) (v1 : BitVec 32) (k0_hw1 : k0_chk1 i v1) (k0_t1 : Fin (k0_t1_loop i v1).trips), ∀ (k0_h4 : k0_cond4 i v1 = 1#1), 128 ∣ (k0_mult6 i v1 k0_t1).toNat := fun i v1 k0_hw1 k0_t1 k0_h4 => k0_hw1.1.2.2.2.2.2.2.2.2.2.1 k0_t1 k0_h4
theorem k0_mult7_dvd : ∀ (i : grid0.Coords) (v1 : BitVec 32) (k0_hw1 : k0_chk1 i v1) (k0_t1 : Fin (k0_t1_loop i v1).trips), ∀ (k0_h4 : k0_cond4 i v1 = 1#1), 128 ∣ (k0_mult7 i v1 k0_t1).toNat := fun i v1 k0_hw1 k0_t1 k0_h4 => k0_hw1.1.2.2.2.2.2.2.2.2.2.2.1 k0_t1 k0_h4
theorem k0_off5_inb : ∀ (i : grid0.Coords) (v1 : BitVec 32) (k0_hw1 : k0_chk1 i v1) (k0_t1 : Fin (k0_t1_loop i v1).trips), ∀ (k0_h4 : k0_cond4 i v1 = 1#1), ∀ (r : Fin 2), ∀ a, (k0_off5 i v1 k0_t1 (BitVec.ofNat 32 (128 * r.val))) a + S1x1x64x128.size a ≤ S1x8x64x2048.size a := fun i v1 k0_hw1 k0_t1 k0_h4 r => k0_hw1.1.2.2.2.2.2.2.2.2.2.2.2.1 k0_t1 k0_h4 r
theorem k0_mult8_dvd : ∀ (i : grid0.Coords) (v1 : BitVec 32) (k0_hw1 : k0_chk1 i v1) (k0_t1 : Fin (k0_t1_loop i v1).trips), ∀ (k0_h4 : k0_cond4 i v1 = 1#1), 128 ∣ (k0_mult8 i v1 k0_t1).toNat := fun i v1 k0_hw1 k0_t1 k0_h4 => k0_hw1.1.2.2.2.2.2.2.2.2.2.2.2.2.1 k0_t1 k0_h4
theorem k0_mult9_dvd : ∀ (i : grid0.Coords) (v1 : BitVec 32) (k0_hw1 : k0_chk1 i v1) (k0_t1 : Fin (k0_t1_loop i v1).trips), ∀ (k0_h4 : k0_cond4 i v1 = 1#1), 128 ∣ (k0_mult9 i v1 k0_t1).toNat := fun i v1 k0_hw1 k0_t1 k0_h4 => k0_hw1.1.2.2.2.2.2.2.2.2.2.2.2.2.2.1 k0_t1 k0_h4
theorem k0_off6_inb : ∀ (i : grid0.Coords) (v1 : BitVec 32) (k0_hw1 : k0_chk1 i v1) (k0_t1 : Fin (k0_t1_loop i v1).trips), ∀ (k0_h4 : k0_cond4 i v1 = 1#1), ∀ (r : Fin 2), ∀ a, (k0_off6 i v1 k0_t1 (BitVec.ofNat 32 (128 * r.val))) a + S1x1x64x128.size a ≤ S1x8x64x2048.size a := fun i v1 k0_hw1 k0_t1 k0_h4 r => k0_hw1.1.2.2.2.2.2.2.2.2.2.2.2.2.2.2.1 k0_t1 k0_h4 r
theorem k0_mult10_dvd : ∀ (i : grid0.Coords) (v1 : BitVec 32) (k0_hw1 : k0_chk1 i v1) (k0_t1 : Fin (k0_t1_loop i v1).trips), ∀ (k0_h4 : k0_cond4 i v1 = 1#1), 128 ∣ (k0_mult10 i v1 k0_t1).toNat := fun i v1 k0_hw1 k0_t1 k0_h4 => k0_hw1.1.2.2.2.2.2.2.2.2.2.2.2.2.2.2.2.1 k0_t1 k0_h4
theorem k0_mult11_dvd : ∀ (i : grid0.Coords) (v1 : BitVec 32) (k0_hw1 : k0_chk1 i v1) (k0_t1 : Fin (k0_t1_loop i v1).trips), ∀ (k0_h4 : k0_cond4 i v1 = 1#1), 128 ∣ (k0_mult11 i v1 k0_t1).toNat := fun i v1 k0_hw1 k0_t1 k0_h4 => k0_hw1.1.2.2.2.2.2.2.2.2.2.2.2.2.2.2.2.2.1 k0_t1 k0_h4
theorem k0_off7_inb : ∀ (i : grid0.Coords) (v1 : BitVec 32) (k0_hw1 : k0_chk1 i v1) (k0_t1 : Fin (k0_t1_loop i v1).trips), ∀ (k0_h4 : k0_cond4 i v1 = 1#1), ∀ (r : Fin 2), ∀ a, (k0_off7 i v1 k0_t1 (BitVec.ofNat 32 (128 * r.val))) a + S1x1x64x128.size a ≤ S1x8x64x2048.size a := fun i v1 k0_hw1 k0_t1 k0_h4 r => k0_hw1.1.2.2.2.2.2.2.2.2.2.2.2.2.2.2.2.2.2.1 k0_t1 k0_h4 r
theorem k0_mult12_dvd : ∀ (i : grid0.Coords) (v1 : BitVec 32) (k0_hw1 : k0_chk1 i v1) (k0_t1 : Fin (k0_t1_loop i v1).trips), ∀ (k0_h4 : k0_cond4 i v1 = 1#1), 128 ∣ (k0_mult12 i v1 k0_t1).toNat := fun i v1 k0_hw1 k0_t1 k0_h4 => k0_hw1.1.2.2.2.2.2.2.2.2.2.2.2.2.2.2.2.2.2.2.1 k0_t1 k0_h4
theorem k0_mult13_dvd : ∀ (i : grid0.Coords) (v1 : BitVec 32) (k0_hw1 : k0_chk1 i v1) (k0_t1 : Fin (k0_t1_loop i v1).trips), ∀ (k0_h4 : k0_cond4 i v1 = 1#1), 128 ∣ (k0_mult13 i v1 k0_t1).toNat := fun i v1 k0_hw1 k0_t1 k0_h4 => k0_hw1.1.2.2.2.2.2.2.2.2.2.2.2.2.2.2.2.2.2.2.2.1 k0_t1 k0_h4
theorem k0_off8_inb : ∀ (i : grid0.Coords) (v1 : BitVec 32) (k0_hw1 : k0_chk1 i v1) (k0_t1 : Fin (k0_t1_loop i v1).trips), ∀ (k0_h4 : k0_cond4 i v1 = 1#1), ∀ (r : Fin 2), ∀ a, (k0_off8 i v1 k0_t1 (BitVec.ofNat 32 (128 * r.val))) a + S1x1x64x128.size a ≤ S1x8x64x2048.size a := fun i v1 k0_hw1 k0_t1 k0_h4 r => k0_hw1.1.2.2.2.2.2.2.2.2.2.2.2.2.2.2.2.2.2.2.2.2.1 k0_t1 k0_h4 r
theorem k0_mult14_dvd : ∀ (i : grid0.Coords) (v1 : BitVec 32) (k0_hw1 : k0_chk1 i v1) (k0_t1 : Fin (k0_t1_loop i v1).trips), ∀ (k0_h4 : k0_cond4 i v1 = 1#1), 128 ∣ (k0_mult14 i v1 k0_t1).toNat := fun i v1 k0_hw1 k0_t1 k0_h4 => k0_hw1.1.2.2.2.2.2.2.2.2.2.2.2.2.2.2.2.2.2.2.2.2.2.1 k0_t1 k0_h4
theorem k0_mult15_dvd : ∀ (i : grid0.Coords) (v1 : BitVec 32) (k0_hw1 : k0_chk1 i v1) (k0_t1 : Fin (k0_t1_loop i v1).trips), ∀ (k0_h4 : k0_cond4 i v1 = 1#1), 128 ∣ (k0_mult15 i v1 k0_t1).toNat := fun i v1 k0_hw1 k0_t1 k0_h4 => k0_hw1.1.2.2.2.2.2.2.2.2.2.2.2.2.2.2.2.2.2.2.2.2.2.2.1 k0_t1 k0_h4
theorem k0_off9_inb : ∀ (i : grid0.Coords) (v1 : BitVec 32) (k0_hw1 : k0_chk1 i v1) (k0_t1 : Fin (k0_t1_loop i v1).trips), ∀ (k0_h4 : k0_cond4 i v1 = 1#1), ∀ (r : Fin 2), ∀ a, (k0_off9 i v1 k0_t1 (BitVec.ofNat 32 (128 * r.val))) a + S1x1x64x128.size a ≤ S1x8x64x2048.size a := fun i v1 k0_hw1 k0_t1 k0_h4 r => k0_hw1.1.2.2.2.2.2.2.2.2.2.2.2.2.2.2.2.2.2.2.2.2.2.2.2.1 k0_t1 k0_h4 r
theorem k0_mult16_dvd : ∀ (i : grid0.Coords) (v1 : BitVec 32) (k0_hw1 : k0_chk1 i v1) (k0_t1 : Fin (k0_t1_loop i v1).trips), ∀ (k0_h4 : k0_cond4 i v1 = 1#1), 128 ∣ (k0_mult16 i v1 k0_t1).toNat := fun i v1 k0_hw1 k0_t1 k0_h4 => k0_hw1.1.2.2.2.2.2.2.2.2.2.2.2.2.2.2.2.2.2.2.2.2.2.2.2.2.1 k0_t1 k0_h4
theorem k0_mult17_dvd : ∀ (i : grid0.Coords) (v1 : BitVec 32) (k0_hw1 : k0_chk1 i v1) (k0_t1 : Fin (k0_t1_loop i v1).trips), ∀ (k0_h4 : k0_cond4 i v1 = 1#1), 256 ∣ (k0_mult17 i v1 k0_t1).toNat := fun i v1 k0_hw1 k0_t1 k0_h4 => k0_hw1.1.2.2.2.2.2.2.2.2.2.2.2.2.2.2.2.2.2.2.2.2.2.2.2.2.2.1 k0_t1 k0_h4
theorem k0_off10_inb : ∀ (i : grid0.Coords) (v1 : BitVec 32) (k0_hw1 : k0_chk1 i v1) (k0_t1 : Fin (k0_t1_loop i v1).trips), ∀ (k0_h4 : k0_cond4 i v1 = 1#1), ∀ a, (k0_off10 i v1 k0_t1) a + S1x1x48x256.size a ≤ S1x1x48x2048.size a := fun i v1 k0_hw1 k0_t1 k0_h4 => k0_hw1.1.2.2.2.2.2.2.2.2.2.2.2.2.2.2.2.2.2.2.2.2.2.2.2.2.2.2.1 k0_t1 k0_h4
theorem k0_t2_ok : ∀ (i : grid0.Coords) (v1 : BitVec 32) (k0_hw1 : k0_chk1 i v1), ∀ (k0_h4 : k0_cond4 i v1 = 1#1), (k0_t2_loop i v1).OK := fun i v1 k0_hw1 k0_h4 => k0_hw1.1.2.2.2.2.2.2.2.2.2.2.2.2.2.2.2.2.2.2.2.2.2.2.2.2.2.2.2.1 k0_h4
theorem k0_mult18_dvd : ∀ (i : grid0.Coords) (v1 : BitVec 32) (k0_hw1 : k0_chk1 i v1) (k0_t2 : Fin (k0_t2_loop i v1).trips), ∀ (k0_h4 : k0_cond4 i v1 = 1#1), 128 ∣ (k0_mult18 i v1 k0_t2).toNat := fun i v1 k0_hw1 k0_t2 k0_h4 => k0_hw1.1.2.2.2.2.2.2.2.2.2.2.2.2.2.2.2.2.2.2.2.2.2.2.2.2.2.2.2.2.1 k0_t2 k0_h4
theorem k0_off11_inb : ∀ (i : grid0.Coords) (v1 : BitVec 32) (k0_hw1 : k0_chk1 i v1) (k0_t2 : Fin (k0_t2_loop i v1).trips), ∀ (k0_h4 : k0_cond4 i v1 = 1#1), ∀ (r : Fin 2), ∀ a, (k0_off11 i v1 k0_t2 (BitVec.ofNat 32 (128 * r.val))) a + S1x1x64x128.size a ≤ S1x8x64x2048.size a := fun i v1 k0_hw1 k0_t2 k0_h4 r => k0_hw1.1.2.2.2.2.2.2.2.2.2.2.2.2.2.2.2.2.2.2.2.2.2.2.2.2.2.2.2.2.2.1 k0_t2 k0_h4 r
theorem k0_mult19_dvd : ∀ (i : grid0.Coords) (v1 : BitVec 32) (k0_hw1 : k0_chk1 i v1) (k0_t2 : Fin (k0_t2_loop i v1).trips), ∀ (k0_h4 : k0_cond4 i v1 = 1#1), 128 ∣ (k0_mult19 i v1 k0_t2).toNat := fun i v1 k0_hw1 k0_t2 k0_h4 => k0_hw1.1.2.2.2.2.2.2.2.2.2.2.2.2.2.2.2.2.2.2.2.2.2.2.2.2.2.2.2.2.2.2.1 k0_t2 k0_h4
theorem k0_mult20_dvd : ∀ (i : grid0.Coords) (v1 : BitVec 32) (k0_hw1 : k0_chk1 i v1) (k0_t2 : Fin (k0_t2_loop i v1).trips), ∀ (k0_h4 : k0_cond4 i v1 = 1#1), 128 ∣ (k0_mult20 i v1 k0_t2).toNat := fun i v1 k0_hw1 k0_t2 k0_h4 => k0_hw1.1.2.2.2.2.2.2.2.2.2.2.2.2.2.2.2.2.2.2.2.2.2.2.2.2.2.2.2.2.2.2.2 k0_t2 k0_h4
theorem k0_off12_inb : ∀ (i : grid0.Coords) (v1 : BitVec 32) (k0_hw1 : k0_chk1 i v1) (k0_t2 : Fin (k0_t2_loop i v1).trips), ∀ (k0_h4 : k0_cond4 i v1 = 1#1), ∀ (r : Fin 2), ∀ a, (k0_off12 i v1 k0_t2 (BitVec.ofNat 32 (128 * r.val))) a + S1x1x64x128.size a ≤ S1x8x64x2048.size a := fun i v1 k0_hw1 k0_t2 k0_h4 r => k0_hw1.2.1.1 k0_t2 k0_h4 r
theorem k0_mult21_dvd : ∀ (i : grid0.Coords) (v1 : BitVec 32) (k0_hw1 : k0_chk1 i v1) (k0_t2 : Fin (k0_t2_loop i v1).trips), ∀ (k0_h4 : k0_cond4 i v1 = 1#1), 128 ∣ (k0_mult21 i v1 k0_t2).toNat := fun i v1 k0_hw1 k0_t2 k0_h4 => k0_hw1.2.1.2.1 k0_t2 k0_h4
theorem k0_mult22_dvd : ∀ (i : grid0.Coords) (v1 : BitVec 32) (k0_hw1 : k0_chk1 i v1) (k0_t2 : Fin (k0_t2_loop i v1).trips), ∀ (k0_h4 : k0_cond4 i v1 = 1#1), 128 ∣ (k0_mult22 i v1 k0_t2).toNat := fun i v1 k0_hw1 k0_t2 k0_h4 => k0_hw1.2.1.2.2.1 k0_t2 k0_h4
theorem k0_off13_inb : ∀ (i : grid0.Coords) (v1 : BitVec 32) (k0_hw1 : k0_chk1 i v1) (k0_t2 : Fin (k0_t2_loop i v1).trips), ∀ (k0_h4 : k0_cond4 i v1 = 1#1), ∀ (r : Fin 2), ∀ a, (k0_off13 i v1 k0_t2 (BitVec.ofNat 32 (128 * r.val))) a + S1x1x64x128.size a ≤ S1x8x64x2048.size a := fun i v1 k0_hw1 k0_t2 k0_h4 r => k0_hw1.2.1.2.2.2.1 k0_t2 k0_h4 r
theorem k0_mult23_dvd : ∀ (i : grid0.Coords) (v1 : BitVec 32) (k0_hw1 : k0_chk1 i v1) (k0_t2 : Fin (k0_t2_loop i v1).trips), ∀ (k0_h4 : k0_cond4 i v1 = 1#1), 128 ∣ (k0_mult23 i v1 k0_t2).toNat := fun i v1 k0_hw1 k0_t2 k0_h4 => k0_hw1.2.1.2.2.2.2.1 k0_t2 k0_h4
theorem k0_mult24_dvd : ∀ (i : grid0.Coords) (v1 : BitVec 32) (k0_hw1 : k0_chk1 i v1) (k0_t2 : Fin (k0_t2_loop i v1).trips), ∀ (k0_h4 : k0_cond4 i v1 = 1#1), 128 ∣ (k0_mult24 i v1 k0_t2).toNat := fun i v1 k0_hw1 k0_t2 k0_h4 => k0_hw1.2.1.2.2.2.2.2.1 k0_t2 k0_h4
theorem k0_off14_inb : ∀ (i : grid0.Coords) (v1 : BitVec 32) (k0_hw1 : k0_chk1 i v1) (k0_t2 : Fin (k0_t2_loop i v1).trips), ∀ (k0_h4 : k0_cond4 i v1 = 1#1), ∀ (r : Fin 2), ∀ a, (k0_off14 i v1 k0_t2 (BitVec.ofNat 32 (128 * r.val))) a + S1x1x64x128.size a ≤ S1x8x64x2048.size a := fun i v1 k0_hw1 k0_t2 k0_h4 r => k0_hw1.2.1.2.2.2.2.2.2.1 k0_t2 k0_h4 r
theorem k0_mult25_dvd : ∀ (i : grid0.Coords) (v1 : BitVec 32) (k0_hw1 : k0_chk1 i v1) (k0_t2 : Fin (k0_t2_loop i v1).trips), ∀ (k0_h4 : k0_cond4 i v1 = 1#1), 128 ∣ (k0_mult25 i v1 k0_t2).toNat := fun i v1 k0_hw1 k0_t2 k0_h4 => k0_hw1.2.1.2.2.2.2.2.2.2.1 k0_t2 k0_h4
theorem k0_mult26_dvd : ∀ (i : grid0.Coords) (v1 : BitVec 32) (k0_hw1 : k0_chk1 i v1) (k0_t2 : Fin (k0_t2_loop i v1).trips), ∀ (k0_h4 : k0_cond4 i v1 = 1#1), 128 ∣ (k0_mult26 i v1 k0_t2).toNat := fun i v1 k0_hw1 k0_t2 k0_h4 => k0_hw1.2.1.2.2.2.2.2.2.2.2.1 k0_t2 k0_h4
theorem k0_off15_inb : ∀ (i : grid0.Coords) (v1 : BitVec 32) (k0_hw1 : k0_chk1 i v1) (k0_t2 : Fin (k0_t2_loop i v1).trips), ∀ (k0_h4 : k0_cond4 i v1 = 1#1), ∀ (r : Fin 2), ∀ a, (k0_off15 i v1 k0_t2 (BitVec.ofNat 32 (128 * r.val))) a + S1x1x64x128.size a ≤ S1x8x64x2048.size a := fun i v1 k0_hw1 k0_t2 k0_h4 r => k0_hw1.2.1.2.2.2.2.2.2.2.2.2.1 k0_t2 k0_h4 r
theorem k0_mult27_dvd : ∀ (i : grid0.Coords) (v1 : BitVec 32) (k0_hw1 : k0_chk1 i v1) (k0_t2 : Fin (k0_t2_loop i v1).trips), ∀ (k0_h4 : k0_cond4 i v1 = 1#1), 128 ∣ (k0_mult27 i v1 k0_t2).toNat := fun i v1 k0_hw1 k0_t2 k0_h4 => k0_hw1.2.1.2.2.2.2.2.2.2.2.2.2.1 k0_t2 k0_h4
theorem k0_mult28_dvd : ∀ (i : grid0.Coords) (v1 : BitVec 32) (k0_hw1 : k0_chk1 i v1) (k0_t2 : Fin (k0_t2_loop i v1).trips), ∀ (k0_h4 : k0_cond4 i v1 = 1#1), 128 ∣ (k0_mult28 i v1 k0_t2).toNat := fun i v1 k0_hw1 k0_t2 k0_h4 => k0_hw1.2.1.2.2.2.2.2.2.2.2.2.2.2.1 k0_t2 k0_h4
theorem k0_off16_inb : ∀ (i : grid0.Coords) (v1 : BitVec 32) (k0_hw1 : k0_chk1 i v1) (k0_t2 : Fin (k0_t2_loop i v1).trips), ∀ (k0_h4 : k0_cond4 i v1 = 1#1), ∀ (r : Fin 2), ∀ a, (k0_off16 i v1 k0_t2 (BitVec.ofNat 32 (128 * r.val))) a + S1x1x64x128.size a ≤ S1x8x64x2048.size a := fun i v1 k0_hw1 k0_t2 k0_h4 r => k0_hw1.2.1.2.2.2.2.2.2.2.2.2.2.2.2.1 k0_t2 k0_h4 r
theorem k0_mult29_dvd : ∀ (i : grid0.Coords) (v1 : BitVec 32) (k0_hw1 : k0_chk1 i v1) (k0_t2 : Fin (k0_t2_loop i v1).trips), ∀ (k0_h4 : k0_cond4 i v1 = 1#1), 128 ∣ (k0_mult29 i v1 k0_t2).toNat := fun i v1 k0_hw1 k0_t2 k0_h4 => k0_hw1.2.1.2.2.2.2.2.2.2.2.2.2.2.2.2.1 k0_t2 k0_h4
theorem k0_mult30_dvd : ∀ (i : grid0.Coords) (v1 : BitVec 32) (k0_hw1 : k0_chk1 i v1) (k0_t2 : Fin (k0_t2_loop i v1).trips), ∀ (k0_h4 : k0_cond4 i v1 = 1#1), 128 ∣ (k0_mult30 i v1 k0_t2).toNat := fun i v1 k0_hw1 k0_t2 k0_h4 => k0_hw1.2.1.2.2.2.2.2.2.2.2.2.2.2.2.2.2.1 k0_t2 k0_h4
theorem k0_off17_inb : ∀ (i : grid0.Coords) (v1 : BitVec 32) (k0_hw1 : k0_chk1 i v1) (k0_t2 : Fin (k0_t2_loop i v1).trips), ∀ (k0_h4 : k0_cond4 i v1 = 1#1), ∀ (r : Fin 2), ∀ a, (k0_off17 i v1 k0_t2 (BitVec.ofNat 32 (128 * r.val))) a + S1x1x64x128.size a ≤ S1x8x64x2048.size a := fun i v1 k0_hw1 k0_t2 k0_h4 r => k0_hw1.2.1.2.2.2.2.2.2.2.2.2.2.2.2.2.2.2.1 k0_t2 k0_h4 r
theorem k0_mult31_dvd : ∀ (i : grid0.Coords) (v1 : BitVec 32) (k0_hw1 : k0_chk1 i v1) (k0_t2 : Fin (k0_t2_loop i v1).trips), ∀ (k0_h4 : k0_cond4 i v1 = 1#1), 128 ∣ (k0_mult31 i v1 k0_t2).toNat := fun i v1 k0_hw1 k0_t2 k0_h4 => k0_hw1.2.1.2.2.2.2.2.2.2.2.2.2.2.2.2.2.2.2.1 k0_t2 k0_h4
theorem k0_mult32_dvd : ∀ (i : grid0.Coords) (v1 : BitVec 32) (k0_hw1 : k0_chk1 i v1) (k0_t2 : Fin (k0_t2_loop i v1).trips), ∀ (k0_h4 : k0_cond4 i v1 = 1#1), 128 ∣ (k0_mult32 i v1 k0_t2).toNat := fun i v1 k0_hw1 k0_t2 k0_h4 => k0_hw1.2.1.2.2.2.2.2.2.2.2.2.2.2.2.2.2.2.2.2.1 k0_t2 k0_h4
theorem k0_off18_inb : ∀ (i : grid0.Coords) (v1 : BitVec 32) (k0_hw1 : k0_chk1 i v1) (k0_t2 : Fin (k0_t2_loop i v1).trips), ∀ (k0_h4 : k0_cond4 i v1 = 1#1), ∀ (r : Fin 2), ∀ a, (k0_off18 i v1 k0_t2 (BitVec.ofNat 32 (128 * r.val))) a + S1x1x64x128.size a ≤ S1x8x64x2048.size a := fun i v1 k0_hw1 k0_t2 k0_h4 r => k0_hw1.2.1.2.2.2.2.2.2.2.2.2.2.2.2.2.2.2.2.2.2.1 k0_t2 k0_h4 r
theorem k0_mult33_dvd : ∀ (i : grid0.Coords) (v1 : BitVec 32) (k0_hw1 : k0_chk1 i v1) (k0_t2 : Fin (k0_t2_loop i v1).trips), ∀ (k0_h4 : k0_cond4 i v1 = 1#1), 128 ∣ (k0_mult33 i v1 k0_t2).toNat := fun i v1 k0_hw1 k0_t2 k0_h4 => k0_hw1.2.1.2.2.2.2.2.2.2.2.2.2.2.2.2.2.2.2.2.2.2.1 k0_t2 k0_h4
theorem k0_mult34_dvd : ∀ (i : grid0.Coords) (v1 : BitVec 32) (k0_hw1 : k0_chk1 i v1) (k0_t2 : Fin (k0_t2_loop i v1).trips), ∀ (k0_h4 : k0_cond4 i v1 = 1#1), 256 ∣ (k0_mult34 i v1 k0_t2).toNat := fun i v1 k0_hw1 k0_t2 k0_h4 => k0_hw1.2.1.2.2.2.2.2.2.2.2.2.2.2.2.2.2.2.2.2.2.2.2.1 k0_t2 k0_h4
theorem k0_off19_inb : ∀ (i : grid0.Coords) (v1 : BitVec 32) (k0_hw1 : k0_chk1 i v1) (k0_t2 : Fin (k0_t2_loop i v1).trips), ∀ (k0_h4 : k0_cond4 i v1 = 1#1), ∀ a, (k0_off19 i v1 k0_t2) a + S1x1x48x256.size a ≤ S1x1x48x2048.size a := fun i v1 k0_hw1 k0_t2 k0_h4 => k0_hw1.2.1.2.2.2.2.2.2.2.2.2.2.2.2.2.2.2.2.2.2.2.2.2.1 k0_t2 k0_h4
theorem k0_t3_ok : ∀ (i : grid0.Coords) (v1 : BitVec 32) (k0_hw1 : k0_chk1 i v1), ∀ (k0_h4 : k0_cond4 i v1 = 1#1), (k0_t3_loop i v1).OK := fun i v1 k0_hw1 k0_h4 => k0_hw1.2.1.2.2.2.2.2.2.2.2.2.2.2.2.2.2.2.2.2.2.2.2.2.2.1 k0_h4
theorem k0_mult35_dvd : ∀ (i : grid0.Coords) (v1 : BitVec 32) (k0_hw1 : k0_chk1 i v1) (k0_t3 : Fin (k0_t3_loop i v1).trips), ∀ (k0_h4 : k0_cond4 i v1 = 1#1), 256 ∣ (k0_mult35 i v1 k0_t3).toNat := fun i v1 k0_hw1 k0_t3 k0_h4 => k0_hw1.2.1.2.2.2.2.2.2.2.2.2.2.2.2.2.2.2.2.2.2.2.2.2.2.2.1 k0_t3 k0_h4
theorem k0_off20_inb : ∀ (i : grid0.Coords) (v1 : BitVec 32) (k0_hw1 : k0_chk1 i v1) (k0_t3 : Fin (k0_t3_loop i v1).trips), ∀ (k0_h4 : k0_cond4 i v1 = 1#1), ∀ a, (k0_off20 i v1 k0_t3) a + S1x1x48x256.size a ≤ S1x1x48x2048.size a := fun i v1 k0_hw1 k0_t3 k0_h4 => k0_hw1.2.1.2.2.2.2.2.2.2.2.2.2.2.2.2.2.2.2.2.2.2.2.2.2.2.2.1 k0_t3 k0_h4
theorem k0_off21_inb : ∀ (i : grid0.Coords) (v1 : BitVec 32) (k0_hw1 : k0_chk1 i v1) (k0_t3 : Fin (k0_t3_loop i v1).trips), ∀ (k0_h4 : k0_cond4 i v1 = 1#1), ∀ a, (k0_off21 i v1 k0_t3) a + S1x8x256.size a ≤ S1x8x2048.size a := fun i v1 k0_hw1 k0_t3 k0_h4 => k0_hw1.2.1.2.2.2.2.2.2.2.2.2.2.2.2.2.2.2.2.2.2.2.2.2.2.2.2.2.1 k0_t3 k0_h4
theorem k0_off22_inb : ∀ (i : grid0.Coords) (v1 : BitVec 32) (k0_hw1 : k0_chk1 i v1) (k0_t3 : Fin (k0_t3_loop i v1).trips), ∀ (k0_h4 : k0_cond4 i v1 = 1#1), ∀ a, (k0_off22 i v1 k0_t3) a + S1x1x64x256.size a ≤ S1x8x64x2048.size a := fun i v1 k0_hw1 k0_t3 k0_h4 => k0_hw1.2.1.2.2.2.2.2.2.2.2.2.2.2.2.2.2.2.2.2.2.2.2.2.2.2.2.2.2.1 k0_t3 k0_h4
theorem k0_off23_inb : ∀ (i : grid0.Coords) (v1 : BitVec 32) (k0_hw1 : k0_chk1 i v1) (k0_t3 : Fin (k0_t3_loop i v1).trips), ∀ (k0_h4 : k0_cond4 i v1 = 1#1), ∀ a, (k0_off23 i v1 k0_t3) a + S1x1x64x256.size a ≤ S1x8x64x2048.size a := fun i v1 k0_hw1 k0_t3 k0_h4 => k0_hw1.2.1.2.2.2.2.2.2.2.2.2.2.2.2.2.2.2.2.2.2.2.2.2.2.2.2.2.2.2.1 k0_t3 k0_h4
theorem k0_off24_inb : ∀ (i : grid0.Coords) (v1 : BitVec 32) (k0_hw1 : k0_chk1 i v1) (k0_t3 : Fin (k0_t3_loop i v1).trips), ∀ (k0_h4 : k0_cond4 i v1 = 1#1), ∀ a, (k0_off24 i v1 k0_t3) a + S1x1x64x256.size a ≤ S1x8x64x2048.size a := fun i v1 k0_hw1 k0_t3 k0_h4 => k0_hw1.2.1.2.2.2.2.2.2.2.2.2.2.2.2.2.2.2.2.2.2.2.2.2.2.2.2.2.2.2.2.1 k0_t3 k0_h4
theorem k0_off25_inb : ∀ (i : grid0.Coords) (v1 : BitVec 32) (k0_hw1 : k0_chk1 i v1) (k0_t3 : Fin (k0_t3_loop i v1).trips), ∀ (k0_h4 : k0_cond4 i v1 = 1#1), ∀ a, (k0_off25 i v1 k0_t3) a + S1x1x64x256.size a ≤ S1x8x64x2048.size a := fun i v1 k0_hw1 k0_t3 k0_h4 => k0_hw1.2.1.2.2.2.2.2.2.2.2.2.2.2.2.2.2.2.2.2.2.2.2.2.2.2.2.2.2.2.2.2.1 k0_t3 k0_h4
theorem k0_off26_inb : ∀ (i : grid0.Coords) (v1 : BitVec 32) (k0_hw1 : k0_chk1 i v1) (k0_t3 : Fin (k0_t3_loop i v1).trips), ∀ (k0_h4 : k0_cond4 i v1 = 1#1), ∀ a, (k0_off26 i v1 k0_t3) a + S1x1x64x256.size a ≤ S1x8x64x2048.size a := fun i v1 k0_hw1 k0_t3 k0_h4 => k0_hw1.2.1.2.2.2.2.2.2.2.2.2.2.2.2.2.2.2.2.2.2.2.2.2.2.2.2.2.2.2.2.2.2.1 k0_t3 k0_h4
theorem k0_off27_inb : ∀ (i : grid0.Coords) (v1 : BitVec 32) (k0_hw1 : k0_chk1 i v1) (k0_t3 : Fin (k0_t3_loop i v1).trips), ∀ (k0_h4 : k0_cond4 i v1 = 1#1), ∀ a, (k0_off27 i v1 k0_t3) a + S1x1x64x256.size a ≤ S1x8x64x2048.size a := fun i v1 k0_hw1 k0_t3 k0_h4 => k0_hw1.2.1.2.2.2.2.2.2.2.2.2.2.2.2.2.2.2.2.2.2.2.2.2.2.2.2.2.2.2.2.2.2.2 k0_t3 k0_h4
theorem k0_off28_inb : ∀ (i : grid0.Coords) (v1 : BitVec 32) (k0_hw1 : k0_chk1 i v1) (k0_t3 : Fin (k0_t3_loop i v1).trips), ∀ (k0_h4 : k0_cond4 i v1 = 1#1), ∀ a, (k0_off28 i v1 k0_t3) a + S1x1x64x256.size a ≤ S1x8x64x2048.size a := fun i v1 k0_hw1 k0_t3 k0_h4 => k0_hw1.2.2.1 k0_t3 k0_h4
theorem k0_off29_inb : ∀ (i : grid0.Coords) (v1 : BitVec 32) (k0_hw1 : k0_chk1 i v1) (k0_t3 : Fin (k0_t3_loop i v1).trips), ∀ (k0_h4 : k0_cond4 i v1 = 1#1), ∀ a, (k0_off29 i v1 k0_t3) a + S1x1x64x256.size a ≤ S1x8x64x2048.size a := fun i v1 k0_hw1 k0_t3 k0_h4 => k0_hw1.2.2.2.1 k0_t3 k0_h4
theorem k0_t4_ok : ∀ (i : grid0.Coords) (v1 : BitVec 32) (k0_hw1 : k0_chk1 i v1), ∀ (k0_h4 : k0_cond4 i v1 = 1#1), (k0_t4_loop i v1).OK := fun i v1 k0_hw1 k0_h4 => k0_hw1.2.2.2.2.1 k0_h4
theorem k0_mult36_dvd : ∀ (i : grid0.Coords) (v1 : BitVec 32) (k0_hw1 : k0_chk1 i v1) (k0_t4 : Fin (k0_t4_loop i v1).trips), ∀ (k0_h4 : k0_cond4 i v1 = 1#1), 256 ∣ (k0_mult36 i v1 k0_t4).toNat := fun i v1 k0_hw1 k0_t4 k0_h4 => k0_hw1.2.2.2.2.2.1 k0_t4 k0_h4
theorem k0_off30_inb : ∀ (i : grid0.Coords) (v1 : BitVec 32) (k0_hw1 : k0_chk1 i v1) (k0_t4 : Fin (k0_t4_loop i v1).trips), ∀ (k0_h4 : k0_cond4 i v1 = 1#1), ∀ a, (k0_off30 i v1 k0_t4) a + S1x1x48x256.size a ≤ S1x1x48x2048.size a := fun i v1 k0_hw1 k0_t4 k0_h4 => k0_hw1.2.2.2.2.2.2.1 k0_t4 k0_h4
theorem k0_off31_inb : ∀ (i : grid0.Coords) (v1 : BitVec 32) (k0_hw1 : k0_chk1 i v1) (k0_t4 : Fin (k0_t4_loop i v1).trips), ∀ (k0_h4 : k0_cond4 i v1 = 1#1), ∀ a, (k0_off31 i v1 k0_t4) a + S1x8x256.size a ≤ S1x8x2048.size a := fun i v1 k0_hw1 k0_t4 k0_h4 => k0_hw1.2.2.2.2.2.2.2.1 k0_t4 k0_h4
theorem k0_off32_inb : ∀ (i : grid0.Coords) (v1 : BitVec 32) (k0_hw1 : k0_chk1 i v1) (k0_t4 : Fin (k0_t4_loop i v1).trips), ∀ (k0_h4 : k0_cond4 i v1 = 1#1), ∀ a, (k0_off32 i v1 k0_t4) a + S1x1x64x256.size a ≤ S1x8x64x2048.size a := fun i v1 k0_hw1 k0_t4 k0_h4 => k0_hw1.2.2.2.2.2.2.2.2.1 k0_t4 k0_h4
theorem k0_off33_inb : ∀ (i : grid0.Coords) (v1 : BitVec 32) (k0_hw1 : k0_chk1 i v1) (k0_t4 : Fin (k0_t4_loop i v1).trips), ∀ (k0_h4 : k0_cond4 i v1 = 1#1), ∀ a, (k0_off33 i v1 k0_t4) a + S1x1x64x256.size a ≤ S1x8x64x2048.size a := fun i v1 k0_hw1 k0_t4 k0_h4 => k0_hw1.2.2.2.2.2.2.2.2.2.1 k0_t4 k0_h4
theorem k0_off34_inb : ∀ (i : grid0.Coords) (v1 : BitVec 32) (k0_hw1 : k0_chk1 i v1) (k0_t4 : Fin (k0_t4_loop i v1).trips), ∀ (k0_h4 : k0_cond4 i v1 = 1#1), ∀ a, (k0_off34 i v1 k0_t4) a + S1x1x64x256.size a ≤ S1x8x64x2048.size a := fun i v1 k0_hw1 k0_t4 k0_h4 => k0_hw1.2.2.2.2.2.2.2.2.2.2.1 k0_t4 k0_h4
theorem k0_off35_inb : ∀ (i : grid0.Coords) (v1 : BitVec 32) (k0_hw1 : k0_chk1 i v1) (k0_t4 : Fin (k0_t4_loop i v1).trips), ∀ (k0_h4 : k0_cond4 i v1 = 1#1), ∀ a, (k0_off35 i v1 k0_t4) a + S1x1x64x256.size a ≤ S1x8x64x2048.size a := fun i v1 k0_hw1 k0_t4 k0_h4 => k0_hw1.2.2.2.2.2.2.2.2.2.2.2.1 k0_t4 k0_h4
theorem k0_off36_inb : ∀ (i : grid0.Coords) (v1 : BitVec 32) (k0_hw1 : k0_chk1 i v1) (k0_t4 : Fin (k0_t4_loop i v1).trips), ∀ (k0_h4 : k0_cond4 i v1 = 1#1), ∀ a, (k0_off36 i v1 k0_t4) a + S1x1x64x256.size a ≤ S1x8x64x2048.size a := fun i v1 k0_hw1 k0_t4 k0_h4 => k0_hw1.2.2.2.2.2.2.2.2.2.2.2.2.1 k0_t4 k0_h4
theorem k0_off37_inb : ∀ (i : grid0.Coords) (v1 : BitVec 32) (k0_hw1 : k0_chk1 i v1) (k0_t4 : Fin (k0_t4_loop i v1).trips), ∀ (k0_h4 : k0_cond4 i v1 = 1#1), ∀ a, (k0_off37 i v1 k0_t4) a + S1x1x64x256.size a ≤ S1x8x64x2048.size a := fun i v1 k0_hw1 k0_t4 k0_h4 => k0_hw1.2.2.2.2.2.2.2.2.2.2.2.2.2.1 k0_t4 k0_h4
theorem k0_off38_inb : ∀ (i : grid0.Coords) (v1 : BitVec 32) (k0_hw1 : k0_chk1 i v1) (k0_t4 : Fin (k0_t4_loop i v1).trips), ∀ (k0_h4 : k0_cond4 i v1 = 1#1), ∀ a, (k0_off38 i v1 k0_t4) a + S1x1x64x256.size a ≤ S1x8x64x2048.size a := fun i v1 k0_hw1 k0_t4 k0_h4 => k0_hw1.2.2.2.2.2.2.2.2.2.2.2.2.2.2.1 k0_t4 k0_h4
theorem k0_off39_inb : ∀ (i : grid0.Coords) (v1 : BitVec 32) (k0_hw1 : k0_chk1 i v1) (k0_t4 : Fin (k0_t4_loop i v1).trips), ∀ (k0_h4 : k0_cond4 i v1 = 1#1), ∀ a, (k0_off39 i v1 k0_t4) a + S1x1x64x256.size a ≤ S1x8x64x2048.size a := fun i v1 k0_hw1 k0_t4 k0_h4 => k0_hw1.2.2.2.2.2.2.2.2.2.2.2.2.2.2.2 k0_t4 k0_h4

def k0_cond5 (i : grid0.Coords) : BitVec 1 :=
  let arg1 : BitVec 32 := BitVec.ofNat 32 (i 1).val
  let c15_i32 : BitVec 32 := 15#32
  let v68 : BitVec 1 := Scalar.cmpi .eq arg1 c15_i32
  let v69 : BitVec 32 := Scalar.extui v68
  let c0_i32_23 : BitVec 32 := 0#32
  let v70 : BitVec 1 := Scalar.cmpi .ne v69 c0_i32_23
  v70

def k0_cond2 (i : grid0.Coords) : BitVec 1 :=
  let arg1 : BitVec 32 := BitVec.ofNat 32 (i 1).val
  let c0_i32_7 : BitVec 32 := 0#32
  let v37 : BitVec 1 := Scalar.cmpi .eq arg1 c0_i32_7
  let v38 : BitVec 32 := Scalar.extui v37
  let c0_i32_8 : BitVec 32 := 0#32
  let v39 : BitVec 1 := Scalar.cmpi .ne v38 c0_i32_8
  v39

def k0_cond3 (i : grid0.Coords) (v1 : BitVec 32) : BitVec 1 :=
  let c2048_i32_10 : BitVec 32 := 2048#32
  let c0_i32_9 : BitVec 32 := 0#32
  let arg1 : BitVec 32 := BitVec.ofNat 32 (i 1).val
  let c2048_i32 : BitVec 32 := 2048#32
  let v4 : BitVec 32 := Scalar.muli arg1 c2048_i32
  let v40 : BitVec 32 := Scalar.subi v1 v4
  let v41 : BitVec 32 := Scalar.maxsi c0_i32_9 v40
  let v42 : BitVec 32 := Scalar.minsi c2048_i32_10 v41
  let c2048_i32_19 : BitVec 32 := 2048#32
  let v62 : BitVec 1 := Scalar.cmpi .slt v42 c2048_i32_19
  let v63 : BitVec 32 := Scalar.extui v62
  let c0_i32_20 : BitVec 32 := 0#32
  let v64 : BitVec 1 := Scalar.cmpi .ne v63 c0_i32_20
  v64

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_4 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_5 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, v21.toNat, c0_i32_7.toNat]

def cc0_transform_6 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1x48x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x64x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x48x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x48x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x48x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F]
-- ==== ReferenceIdeal.lean ====
abbrev S4x1x48x128 : Shape := ⟨4, ![4, 1, 48, 128]⟩
abbrev S4x1x8x128 : Shape := ⟨4, ![4, 1, 8, 128]⟩
abbrev S4x8x32768x64 : Shape := ⟨4, ![4, 8, 32768, 64]⟩
abbrev S4x8x1024x128 : Shape := ⟨4, ![4, 8, 1024, 128]⟩
abbrev S4x8x32768 : Shape := ⟨3, ![4, 8, 32768]⟩
abbrev S4 : Shape := ⟨1, ![4]⟩
abbrev S64 : Shape := ⟨1, ![64]⟩
abbrev S_ : Shape := ⟨0, ![]⟩
abbrev S4x1 : Shape := ⟨2, ![4, 1]⟩
abbrev S1x64 : Shape := ⟨2, ![1, 64]⟩
abbrev S4x64 : Shape := ⟨2, ![4, 64]⟩
abbrev S4x1x1x64 : Shape := ⟨4, ![4, 1, 1, 64]⟩
abbrev S4x1x48x64x2 : Shape := ⟨5, ![4, 1, 48, 64, 2]⟩
abbrev S4x1x48x64x1 : Shape := ⟨5, ![4, 1, 48, 64, 1]⟩
abbrev S4x1x48x64 : Shape := ⟨4, ![4, 1, 48, 64]⟩
abbrev S32768 : Shape := ⟨1, ![32768]⟩
abbrev S1x32768 : Shape := ⟨2, ![1, 32768]⟩
abbrev S4x32768 : Shape := ⟨2, ![4, 32768]⟩
abbrev S4x32768x1 : Shape := ⟨3, ![4, 32768, 1]⟩
abbrev S1x1x64 : Shape := ⟨3, ![1, 1, 64]⟩
abbrev S4x32768x64 : Shape := ⟨3, ![4, 32768, 64]⟩
abbrev S4x1x32768x64 : Shape := ⟨4, ![4, 1, 32768, 64]⟩
abbrev S4x8x1024x32x128 : Shape := ⟨5, ![4, 8, 1024, 32, 128]⟩
abbrev S4x8x32768x128 : Shape := ⟨4, ![4, 8, 32768, 128]⟩
abbrev S4x8x32768x64x1 : Shape := ⟨5, ![4, 8, 32768, 64, 1]⟩
abbrev S4x8x32768x64x2 : Shape := ⟨5, ![4, 8, 32768, 64, 2]⟩
abbrev S4x8x6x128 : Shape := ⟨4, ![4, 8, 6, 128]⟩
abbrev S4x8x6x32768 : Shape := ⟨4, ![4, 8, 6, 32768]⟩
abbrev S4x1x1x32768 : Shape := ⟨4, ![4, 1, 1, 32768]⟩
abbrev S4x1x48x32768 : Shape := ⟨4, ![4, 1, 48, 32768]⟩
abbrev S4x1x8x64x2 : Shape := ⟨5, ![4, 1, 8, 64, 2]⟩
abbrev S4x1x8x64x1 : Shape := ⟨5, ![4, 1, 8, 64, 1]⟩
abbrev S4x1x8x64 : Shape := ⟨4, ![4, 1, 8, 64]⟩
abbrev S4x8x128 : Shape := ⟨3, ![4, 8, 128]⟩
abbrev S4x8x6 : Shape := ⟨3, ![4, 8, 6]⟩
abbrev S4x8x6x1 : Shape := ⟨4, ![4, 8, 6, 1]⟩
abbrev S4x8x1x32768 : Shape := ⟨4, ![4, 8, 1, 32768]⟩
abbrev S4x8x6x64 : Shape := ⟨4, ![4, 8, 6, 64]⟩
abbrev S4x8x6x64x1 : Shape := ⟨5, ![4, 8, 6, 64, 1]⟩
abbrev S4x8x6x64x2 : Shape := ⟨5, ![4, 8, 6, 64, 2]⟩
abbrev S4x8x1x128 : Shape := ⟨4, ![4, 8, 1, 128]⟩

abbrev nBuf : Space → Nat
  | .hbm => 249
  | .vmem => 0
  | .smem => 0
  | _ => 0

abbrev hbmTy0_0 (i : Nat) : BufTy := match i % 128 with
  | 0 => ⟨S4x1x48x128, .bf16⟩
  | 1 => ⟨S4x1x8x128, .bf16⟩
  | 2 => ⟨S4x1x8x128, .bf16⟩
  | 3 => ⟨S4x8x32768x64, .i8⟩
  | 4 => ⟨S4x8x32768x64, .i8⟩
  | 5 => ⟨S4x8x1024x128, .f32⟩
  | 6 => ⟨S4x8x32768, .f32⟩
  | 7 => ⟨S4, .i32⟩
  | 8 => ⟨S4, .i32⟩
  | 9 => ⟨S4, .i32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S4, .f32⟩
  | 24 => ⟨S4x1, .f32⟩
  | 25 => ⟨S1x64, .f32⟩
  | 26 => ⟨S4x64, .f32⟩
  | 27 => ⟨S4x64, .f32⟩
  | 28 => ⟨S4x64, .f32⟩
  | 29 => ⟨S4x64, .f32⟩
  | 30 => ⟨S4x64, .f32⟩
  | 31 => ⟨S4x1x1x64, .f32⟩
  | 32 => ⟨S4x1x1x64, .f32⟩
  | 33 => ⟨S4x1x48x128, .f32⟩
  | 34 => ⟨S4x1x48x64x2, .f32⟩
  | 35 => ⟨S4x1x48x64x1, .f32⟩
  | 36 => ⟨S4x1x48x64, .f32⟩
  | 37 => ⟨S4x1x48x64x1, .f32⟩
  | 38 => ⟨S4x1x48x64, .f32⟩
  | 39 => ⟨S4x1x48x64, .f32⟩
  | 40 => ⟨S4x1x48x64, .f32⟩
  | 41 => ⟨S4x1x48x64, .f32⟩
  | 42 => ⟨S4x1x48x64, .f32⟩
  | 43 => ⟨S4x1x48x64, .f32⟩
  | 44 => ⟨S4x1x48x64, .f32⟩
  | 45 => ⟨S4x1x48x64, .f32⟩
  | 46 => ⟨S4x1x48x64, .f32⟩
  | 47 => ⟨S4x1x48x64, .f32⟩
  | 48 => ⟨S4x1x48x64, .f32⟩
  | 49 => ⟨S4x1x48x64x1, .f32⟩
  | 50 => ⟨S4x1x48x64x1, .f32⟩
  | 51 => ⟨S4x1x48x64x2, .f32⟩
  | 52 => ⟨S4x1x48x128, .f32⟩
  | 53 => ⟨S4x1x48x128, .bf16⟩
  | 54 => ⟨S32768, .i32⟩
  | 55 => ⟨S4x1, .i32⟩
  | 56 => ⟨S1x32768, .i32⟩
  | 57 => ⟨S4x32768, .i32⟩
  | 58 => ⟨S4x32768, .i32⟩
  | 59 => ⟨S4x32768, .i32⟩
  | 60 => ⟨S64, .f32⟩
  | 61 => ⟨S_, .f32⟩
  | 62 => ⟨S64, .f32⟩
  | 63 => ⟨S64, .f32⟩
  | 64 => ⟨S_, .f32⟩
  | 65 => ⟨S64, .f32⟩
  | 66 => ⟨S64, .f32⟩
  | 67 => ⟨S_, .f32⟩
  | 68 => ⟨S64, .f32⟩
  | 69 => ⟨S64, .f32⟩
  | 70 => ⟨S_, .f32⟩
  | 71 => ⟨S64, .f32⟩
  | 72 => ⟨S64, .f32⟩
  | 73 => ⟨S4x32768, .f32⟩
  | 74 => ⟨S4x32768x1, .f32⟩
  | 75 => ⟨S1x1x64, .f32⟩
  | 76 => ⟨S4x32768x64, .f32⟩
  | 77 => ⟨S4x32768x64, .f32⟩
  | 78 => ⟨S4x32768x64, .f32⟩
  | 79 => ⟨S4x32768x64, .f32⟩
  | 80 => ⟨S4x32768x64, .f32⟩
  | 81 => ⟨S4x1x32768x64, .f32⟩
  | 82 => ⟨S4x1x32768x64, .f32⟩
  | 83 => ⟨S4x8x32768x64, .i32⟩
  | 84 => ⟨S4x8x1024x128, .bf16⟩
  | 85 => ⟨S4x8x1024x32x128, .bf16⟩
  | 86 => ⟨S4x8x32768x128, .bf16⟩
  | 87 => ⟨S_, .i32⟩
  | 88 => ⟨S4x8x32768x64, .i32⟩
  | 89 => ⟨S4x8x32768x64, .i32⟩
  | 90 => ⟨S_, .i32⟩
  | 91 => ⟨S4x8x32768x64, .i32⟩
  | 92 => ⟨S4x8x32768x64, .i1⟩
  | 93 => ⟨S4x8x32768x64, .i32⟩
  | 94 => ⟨S_, .i32⟩
  | 95 => ⟨S4x8x32768x64, .i32⟩
  | 96 => ⟨S4x8x32768x64, .i32⟩
  | 97 => ⟨S4x8x32768x64, .i32⟩
  | 98 => ⟨S4x8x32768x64, .bf16⟩
  | 99 => ⟨S4x8x32768x64, .bf16⟩
  | 100 => ⟨S4x8x32768x64, .bf16⟩
  | 101 => ⟨S4x8x32768x64, .f32⟩
  | 102 => ⟨S_, .i32⟩
  | 103 => ⟨S4x8x32768x64, .i32⟩
  | 104 => ⟨S4x8x32768x64, .i32⟩
  | 105 => ⟨S_, .i32⟩
  | 106 => ⟨S4x8x32768x64, .i32⟩
  | 107 => ⟨S4x8x32768x64, .i32⟩
  | 108 => ⟨S_, .i32⟩
  | 109 => ⟨S4x8x32768x64, .i32⟩
  | 110 => ⟨S4x8x32768x64, .i1⟩
  | 111 => ⟨S4x8x32768x64, .i32⟩
  | 112 => ⟨S_, .i32⟩
  | 113 => ⟨S4x8x32768x64, .i32⟩
  | 114 => ⟨S4x8x32768x64, .i32⟩
  | 115 => ⟨S4x8x32768x64, .i32⟩
  | 116 => ⟨S4x8x32768x64, .bf16⟩
  | 117 => ⟨S4x8x32768x64, .bf16⟩
  | 118 => ⟨S4x8x32768x64, .bf16⟩
  | 119 => ⟨S4x8x32768x64, .f32⟩
  | 120 => ⟨S4x8x32768x64, .f32⟩
  | 121 => ⟨S4x8x32768x64, .f32⟩
  | 122 => ⟨S4x8x32768x64, .f32⟩
  | 123 => ⟨S4x8x32768x64, .f32⟩
  | 124 => ⟨S4x8x32768x64, .f32⟩
  | 125 => ⟨S4x8x32768x64, .bf16⟩
  | 126 => ⟨S4x8x32768x64, .f32⟩
  | 127 => ⟨S4x8x32768x64, .f32⟩
  | _ => ⟨S4x1x48x128, .bf16⟩

abbrev hbmTy0_1 (i : Nat) : BufTy := match i % 128 with
  | 0 => ⟨S4x8x32768x64, .f32⟩
  | 1 => ⟨S4x8x32768x64, .f32⟩
  | 2 => ⟨S4x8x32768x64, .f32⟩
  | 3 => ⟨S4x8x32768x64, .bf16⟩
  | 4 => ⟨S4x8x32768x64x1, .bf16⟩
  | 5 => ⟨S4x8x32768x64x1, .bf16⟩
  | 6 => ⟨S4x8x32768x64x2, .bf16⟩
  | 7 => ⟨S4x8x32768x128, .bf16⟩
  | 8 => ⟨S4x8x6x128, .bf16⟩
  | 9 => ⟨S4x8x6x32768, .f32⟩
  | 10 => ⟨S_, .f32⟩
  | 11 => ⟨S4x8x6x32768, .f32⟩
  | 12 => ⟨S4x8x6x32768, .f32⟩
  | 13 => ⟨S1x32768, .i32⟩
  | 14 => ⟨S4x1, .i32⟩
  | 15 => ⟨S4x32768, .i32⟩
  | 16 => ⟨S4x32768, .i32⟩
  | 17 => ⟨S4x32768, .i1⟩
  | 18 => ⟨S4x1x1x32768, .i1⟩
  | 19 => ⟨S_, .f32⟩
  | 20 => ⟨S_, .f32⟩
  | 21 => ⟨S4x8x6x32768, .i1⟩
  | 22 => ⟨S4x8x6x32768, .f32⟩
  | 23 => ⟨S4x8x6x32768, .f32⟩
  | 24 => ⟨S4x1x48x32768, .f32⟩
  | 25 => ⟨S4x1x8x128, .f32⟩
  | 26 => ⟨S4x1x8x64x2, .f32⟩
  | 27 => ⟨S4x1x8x64x1, .f32⟩
  | 28 => ⟨S4x1x8x64, .f32⟩
  | 29 => ⟨S4x1x8x64x1, .f32⟩
  | 30 => ⟨S4x1x8x64, .f32⟩
  | 31 => ⟨S4x1x8x64, .f32⟩
  | 32 => ⟨S4x1x8x64, .f32⟩
  | 33 => ⟨S4x1x8x64, .f32⟩
  | 34 => ⟨S4x1x8x64, .f32⟩
  | 35 => ⟨S4x1x8x64, .f32⟩
  | 36 => ⟨S4x1x8x64, .f32⟩
  | 37 => ⟨S4x1x8x64, .f32⟩
  | 38 => ⟨S4x1x8x64, .f32⟩
  | 39 => ⟨S4x1x8x64, .f32⟩
  | 40 => ⟨S4x1x8x64, .f32⟩
  | 41 => ⟨S4x1x8x64x1, .f32⟩
  | 42 => ⟨S4x1x8x64x1, .f32⟩
  | 43 => ⟨S4x1x8x64x2, .f32⟩
  | 44 => ⟨S4x8x128, .f32⟩
  | 45 => ⟨S4x8x128, .bf16⟩
  | 46 => ⟨S4x8x6x128, .bf16⟩
  | 47 => ⟨S4x8x6, .f32⟩
  | 48 => ⟨S_, .f32⟩
  | 49 => ⟨S4x8x6, .f32⟩
  | 50 => ⟨S4x8x6, .f32⟩
  | 51 => ⟨S_, .f32⟩
  | 52 => ⟨S_, .f32⟩
  | 53 => ⟨S4x8x6x32768, .i1⟩
  | 54 => ⟨S4x8x6x32768, .f32⟩
  | 55 => ⟨S4x8x6x32768, .f32⟩
  | 56 => ⟨S_, .f32⟩
  | 57 => ⟨S4x8x6, .f32⟩
  | 58 => ⟨S4x8x6, .f32⟩
  | 59 => ⟨S4x8x6x1, .f32⟩
  | 60 => ⟨S4x8x6x32768, .f32⟩
  | 61 => ⟨S4x8x6x32768, .f32⟩
  | 62 => ⟨S4x8x6x32768, .f32⟩
  | 63 => ⟨S4x8x6, .f32⟩
  | 64 => ⟨S4x8x6, .f32⟩
  | 65 => ⟨S_, .f32⟩
  | 66 => ⟨S4x8x6, .f32⟩
  | 67 => ⟨S4x8x6, .f32⟩
  | 68 => ⟨S4x8x6x1, .f32⟩
  | 69 => ⟨S4x8x6x32768, .f32⟩
  | 70 => ⟨S4x8x6x32768, .f32⟩
  | 71 => ⟨S4x8x6, .f32⟩
  | 72 => ⟨S4x8x1x32768, .f32⟩
  | 73 => ⟨S4x8x6x32768, .f32⟩
  | 74 => ⟨S4x8x6x32768, .f32⟩
  | 75 => ⟨S4x8x6x32768, .bf16⟩
  | 76 => ⟨S4x8x32768x64, .i32⟩
  | 77 => ⟨S_, .i32⟩
  | 78 => ⟨S4x8x32768x64, .i32⟩
  | 79 => ⟨S4x8x32768x64, .i32⟩
  | 80 => ⟨S_, .i32⟩
  | 81 => ⟨S4x8x32768x64, .i32⟩
  | 82 => ⟨S4x8x32768x64, .i1⟩
  | 83 => ⟨S4x8x32768x64, .i32⟩
  | 84 => ⟨S_, .i32⟩
  | 85 => ⟨S4x8x32768x64, .i32⟩
  | 86 => ⟨S4x8x32768x64, .i32⟩
  | 87 => ⟨S4x8x32768x64, .i32⟩
  | 88 => ⟨S4x8x32768x64, .bf16⟩
  | 89 => ⟨S4x8x6x64, .f32⟩
  | 90 => ⟨S_, .i32⟩
  | 91 => ⟨S4x8x32768x64, .i32⟩
  | 92 => ⟨S4x8x32768x64, .i32⟩
  | 93 => ⟨S_, .i32⟩
  | 94 => ⟨S4x8x32768x64, .i32⟩
  | 95 => ⟨S4x8x32768x64, .i32⟩
  | 96 => ⟨S_, .i32⟩
  | 97 => ⟨S4x8x32768x64, .i32⟩
  | 98 => ⟨S4x8x32768x64, .i1⟩
  | 99 => ⟨S4x8x32768x64, .i32⟩
  | 100 => ⟨S_, .i32⟩
  | 101 => ⟨S4x8x32768x64, .i32⟩
  | 102 => ⟨S4x8x32768x64, .i32⟩
  | 103 => ⟨S4x8x32768x64, .i32⟩
  | 104 => ⟨S4x8x32768x64, .bf16⟩
  | 105 => ⟨S4x8x6x64, .f32⟩
  | 106 => ⟨S4x8x6x64x1, .f32⟩
  | 107 => ⟨S4x8x6x64x1, .f32⟩
  | 108 => ⟨S4x8x6x64x2, .f32⟩
  | 109 => ⟨S4x8x6x128, .f32⟩
  | 110 => ⟨S4x8x6, .bf16⟩
  | 111 => ⟨S4x8x6, .f32⟩
  | 112 => ⟨S4x8x6x1, .f32⟩
  | 113 => ⟨S4x1x8x128, .f32⟩
  | 114 => ⟨S4x8x1x128, .f32⟩
  | 115 => ⟨S4x8x6x128, .f32⟩
  | 116 => ⟨S4x8x6x128, .f32⟩
  | 117 => ⟨S4x8x6x128, .f32⟩
  | 118 => ⟨S4x8x6x128, .f32⟩
  | 119 => ⟨S4x1x48x128, .f32⟩
  | 120 => ⟨S4x1x48x128, .bf16⟩
  | _ => ⟨S4x1x48x128, .bf16⟩

abbrev hbmTy (i : Nat) : BufTy := match i / 128 with
  | 0 => hbmTy0_0 i
  | 1 => hbmTy0_1 i
  | _ => ⟨S4x1x48x128, .bf16⟩

abbrev bufTy : (tb : Table) → Fin (tcTables nBuf tb) → BufTy
  | .hbm, ⟨i, _⟩ => hbmTy i
  | _, _ => ⟨S4x1x48x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c : Ref sig .tc := ⟨.hbm, 87, rfl⟩
abbrev main_v70 : Ref sig .tc := ⟨.hbm, 88, rfl⟩
abbrev main_v71 : Ref sig .tc := ⟨.hbm, 89, rfl⟩
abbrev main_c_7 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_c_8 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_c_9 : Ref sig .tc := ⟨.hbm, 102, rfl⟩
abbrev main_v82 : Ref sig .tc := ⟨.hbm, 103, rfl⟩
abbrev main_v83 : Ref sig .tc := ⟨.hbm, 104, rfl⟩
abbrev main_c_10 : Ref sig .tc := ⟨.hbm, 105, rfl⟩
abbrev main_v84 : Ref sig .tc := ⟨.hbm, 106, rfl⟩
abbrev main_v85 : Ref sig .tc := ⟨.hbm, 107, rfl⟩
abbrev main_c_11 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_c_12 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_13 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_14 : Ref sig .tc := ⟨.hbm, 147, rfl⟩
abbrev main_call0_v0 : Ref sig .tc := ⟨.hbm, 148, rfl⟩
abbrev main_call0_v1 : Ref sig .tc := ⟨.hbm, 149, rfl⟩
abbrev main_call0_v2 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_cst_15 : Ref sig .tc := ⟨.hbm, 176, rfl⟩
abbrev main_v147 : Ref sig .tc := ⟨.hbm, 177, rfl⟩
abbrev main_v148 : Ref sig .tc := ⟨.hbm, 178, rfl⟩
abbrev main_cst_16 : Ref sig .tc := ⟨.hbm, 179, rfl⟩
abbrev main_call1_v0 : Ref sig .tc := ⟨.hbm, 180, rfl⟩
abbrev main_call1_v1 : Ref sig .tc := ⟨.hbm, 181, rfl⟩
abbrev main_call1_v2 : Ref sig .tc := ⟨.hbm, 182, rfl⟩
abbrev main_v149 : Ref sig .tc := ⟨.hbm, 183, rfl⟩
abbrev main_cst_17 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_18 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_c_19 : Ref sig .tc := ⟨.hbm, 205, rfl⟩
abbrev main_v169 : Ref sig .tc := ⟨.hbm, 206, rfl⟩
abbrev main_v170 : Ref sig .tc := ⟨.hbm, 207, rfl⟩
abbrev main_c_20 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_c_21 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_c_22 : Ref sig .tc := ⟨.hbm, 218, rfl⟩
abbrev main_v179 : Ref sig .tc := ⟨.hbm, 219, rfl⟩
abbrev main_v180 : Ref sig .tc := ⟨.hbm, 220, rfl⟩
abbrev main_c_23 : Ref sig .tc := ⟨.hbm, 221, rfl⟩
abbrev main_v181 : Ref sig .tc := ⟨.hbm, 222, rfl⟩
abbrev main_v182 : Ref sig .tc := ⟨.hbm, 223, rfl⟩
abbrev main_c_24 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_c_25 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩

abbrev nD : Nat := 1
abbrev τ : Topo := Topo.v7x

variable {F : FTy → Type} [FloatOps F]
-- ==== Proof.Part99.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 40000000 in
/-- The first part of the body — the length word read, the tables and the start of a batch — from its operands held: its results named, the inputs unchanged, what it writes at some contents. -/
theorem part99_run (c : Dev nD) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole)
    (hchk : ∀ v1 : Elt F .i32, k0_chk1 i v1)
    (X2 : BufTy.Contents (Elt F) arg2.view.ty) (X3 : BufTy.Contents (Elt F) arg3.view.ty) (X4 : BufTy.Contents (Elt F) arg4.view.ty) (X5 : BufTy.Contents (Elt F) arg5.view.ty) (X11 : BufTy.Contents (Elt F) arg11.view.ty) (X12 : BufTy.Contents (Elt F) arg12.view.ty) (v1 : Elt F .i32) (hv1 : v1 = View.read (Elt F) (arg2.access (Rect.unit (s := S4) (k0_off1 i) S1.size (k0_off1_inb i))) X2 (Shape.Idx.first (numel1_S1.symm ▸ Nat.one_pos))) :
    (iprop((arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f))) : sProp 𝕄)
      ⊢ wp frame (wpE (defs₀ (F := F)) Variants.none c none) Set.univ
          (k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun r => iprop(⌜r = (⟨BitVec.ofNat 32 (i 1).val, v1, hchk v1, Scalar.muli (BitVec.ofNat 32 (i 1).val) 2048#32, k0_pay434, Scalar.subi v1 (Scalar.muli (BitVec.ofNat 32 (i 1).val) 2048#32), 0#32⟩ : Σ' (arg1 : BitVec 32) (v1 : Elt F .i32) (k0_hw1 : k0_chk1 i v1) (v4 : BitVec 32) (v36 : IVec S48x8 1) (v40 : BitVec 32), BitVec 32)⌝ ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)))) := by
  subst hv1
  simp only [k0_part99_eq_skeleton]; unfold k0_part99_skel
  iintro ⟨H2, H3, H4, H5, H11, H12, ⟨%f14, H14⟩, ⟨%f16, H16⟩, ⟨%f17, H17⟩, ⟨%f18, H18⟩, ⟨%f19, H19⟩, ⟨%f20, H20⟩, ⟨%f22, H22⟩, ⟨%f23, H23⟩, ⟨%f24, H24⟩, ⟨%f25, H25⟩⟩
  sl_exec
  sl_step
  isplitr; · ipureintro; rfl
  isplitl [H2]; · iexact H2
  isplitl [H3]; · iexact H3
  isplitl [H4]; · iexact H4
  isplitl [H5]; · iexact H5
  isplitl [H11]; · iexact H11
  isplitl [H12]; · iexact H12
  isplitl [H14]; · iexists _; iexact H14
  isplitl [H16]; · iexists _; iexact H16
  isplitl [H17]; · iexists _; iexact H17
  isplitl [H18]; · iexists _; iexact H18
  isplitl [H19]; · iexists _; iexact H19
  isplitl [H20]; · iexists _; iexact H20
  isplitl [H22]; · iexists _; iexact H22
  isplitl [H23]; · iexists _; iexact H23
  isplitl [H24]; · iexists _; iexact H24
  iexists _; iexact H25

end Cert.KernelIdeal.Hand

end
-- ==== Proof.Body.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec
public import proofs.«01_k».proof.Proof.Part99

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 40000000 in
/-- One grid point: from every operand held, the body runs to its return, the tables and the inputs as they were, the outputs and the scratch at some contents. -/
theorem kernelRun (c : Dev nD) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole)
    (hchk : ∀ v1 : Elt F .i32, k0_chk1 i v1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) :
    (iprop((arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f))) : sProp 𝕄)
      ⊢ wp frame (wpE (defs₀ (F := F)) Variants.none c none) Set.univ
          (cc0_int4_rope_gqa_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun _ => iprop((arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)))) := by
  have hcut := part99_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hchk X2 X3 X4 X5 X11 X12 _ rfl
  generalize hv1 : View.read (Elt F) (arg2.access (Rect.unit (s := S4) (k0_off1 i) S1.size (k0_off1_inb i))) X2 (Shape.Idx.first (numel1_S1.symm ▸ Nat.one_pos)) = v1 at hcut
  simp only [cc0_int4_rope_gqa_decode_eq_skeleton]; unfold cc0_int4_rope_gqa_decode_skel
  iintro ⟨H2, H3, H4, H5, H6, H7, H8, H9, H10, H11, H12, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩
  set_option sl_exec.stopBefore "k0_cond3" in sl_exec
  clear hcut
  cases hk0_part99_0
  by_cases h4 : k0_cond4 i v1 = 1#1
  · sl_exec
    sl_step
    sl_close
  · sl_exec
    sl_step
    sl_close

end Cert.KernelIdeal.Hand

end
-- ==== Proof.Words.lean ====
module

public import Idealize.ShloMosaic.Lib.WordArith
public import Idealize.ShloMosaic.Lib.Scf

/-! The integer words of the kernel: how many positions of a block of 2048 are valid, how many chunks of 256 these
take, and which block of the cache a grid step reads. -/

@[expose] public section

set_option maxRecDepth 100000

namespace Cert.Hand

open Idealize.ShloMosaic

/-- The number of valid positions in block `a` of a cache of length `w`, between 0 and 2048. -/
def nvalid (a w : BitVec 32) : BitVec 32 := Scalar.minsi 2048#32 (Scalar.maxsi 0#32 (Scalar.subi w (Scalar.muli a 2048#32)))

theorem nvalid_le (a w : BitVec 32) : (nvalid a w).toNat ≤ 2048 := by
  unfold nvalid
  generalize Scalar.subi w (Scalar.muli a 2048#32) = z
  have h := WordArith.two_mul_toNat_maxsi_zero_lt z
  have hc : (2048#32 : BitVec 32).toNat = 2048 := by decide
  have := WordArith.toNat_minsi_of_lt 2048#32 (Scalar.maxsi 0#32 z) (by decide) (by omega)
  change (IntOp.minsi _ _).toNat ≤ 2048
  omega

/-- The number of chunks of 256 that `v42` positions take, as the kernel computes it (a floor division). -/
def nsub (v42 : BitVec 32) : BitVec 32 :=
  let c256_i32 : BitVec 32 := 256#32
  let v43 : BitVec 32 := Scalar.addi v42 c256_i32
  let c1_i32_11 : BitVec 32 := 1#32
  let v44 : BitVec 32 := Scalar.subi v43 c1_i32_11
  let c0_i32_13 : BitVec 32 := 0#32
  let v46 : BitVec 1 := Scalar.cmpi .sgt v44 c0_i32_13
  let v47 : BitVec 32 := Scalar.extui v46
  let c0_i32_14 : BitVec 32 := 0#32
  let v48 : BitVec 1 := Scalar.cmpi .slt v44 c0_i32_14
  let v49 : BitVec 32 := Scalar.extui v48
  let v50 : BitVec 32 := Scalar.subi v47 v49
  let c256_i32_12 : BitVec 32 := 256#32
  let c0_i32_15 : BitVec 32 := 0#32
  let v51 : BitVec 1 := Scalar.cmpi .sgt c256_i32_12 c0_i32_15
  let v52 : BitVec 32 := Scalar.extui v51
  let c0_i32_16 : BitVec 32 := 0#32
  let v53 : BitVec 1 := Scalar.cmpi .slt c256_i32_12 c0_i32_16
  let v54 : BitVec 32 := Scalar.extui v53
  let v55 : BitVec 32 := Scalar.subi v52 v54
  let v56 : BitVec 1 := Scalar.cmpi .ne v50 v55
  let v57 : BitVec 32 := Scalar.remsi v44 c256_i32_12
  let c0_i32_17 : BitVec 32 := 0#32
  let v58 : BitVec 1 := Scalar.cmpi .ne v57 c0_i32_17
  let v59 : BitVec 1 := Scalar.andi v56 v58
  let v45 : BitVec 32 := Scalar.divsi v44 c256_i32_12
  let c1_i32_18 : BitVec 32 := 1#32
  let v60 : BitVec 32 := Scalar.subi v45 c1_i32_18
  let v61 : BitVec 32 := Scalar.select v59 v60 v45
  v61

/-- It is the quotient by 256, rounded up. -/
theorem nsub_eq : ∀ k : Fin 2049, nsub (BitVec.ofNat 32 k.val) = BitVec.ofNat 32 ((k.val + 255) / 256) := by decide +kernel

theorem nsub_nvalid (a w : BitVec 32) : nsub (nvalid a w) = BitVec.ofNat 32 (((nvalid a w).toNat + 255) / 256) := by
  have h := nsub_eq ⟨(nvalid a w).toNat, Nat.lt_succ_of_le (nvalid_le a w)⟩
  rwa [BitVec.ofNat_toNat, BitVec.setWidth_eq] at h

/-- The upper bound of the loop over whole chunks, and that of the loop over the rest (which is empty). -/
def ubMain (x : BitVec 32) : BitVec 32 := Scalar.addi 0#32 (Scalar.muli (Scalar.divsi (Scalar.subi x 0#32) 1#32) 1#32)
def ubRest (x : BitVec 32) : BitVec 32 := Scalar.addi 0#32 (Scalar.subi x 0#32)

theorem ub_eq : ∀ k : Fin 9, ubMain (BitVec.ofNat 32 k.val) = BitVec.ofNat 32 k.val ∧ ubRest (BitVec.ofNat 32 k.val) = BitVec.ofNat 32 k.val := by
  decide +kernel

theorem loop_facts : ∀ k : Fin 9, Scf.OK 0#32 (BitVec.ofNat 32 k.val) 1#32 ∧ Scf.OK (BitVec.ofNat 32 k.val) (BitVec.ofNat 32 k.val) 1#32 ∧
    Scf.trips 0#32 (BitVec.ofNat 32 k.val) 1#32 = k.val ∧ Scf.trips (BitVec.ofNat 32 k.val) (BitVec.ofNat 32 k.val) 1#32 = 0 := by
  decide +kernel

/-- The number of chunks of block `a`. -/
def nch (a w : BitVec 32) : ℕ := ((nvalid a w).toNat + 255) / 256

theorem nch_le (a w : BitVec 32) : nch a w ≤ 8 := by have := nvalid_le a w; unfold nch; omega

theorem ubMain_nsub (a w : BitVec 32) : ubMain (nsub (nvalid a w)) = BitVec.ofNat 32 (nch a w) := by
  rw [nsub_nvalid]; exact (ub_eq ⟨nch a w, Nat.lt_succ_of_le (nch_le a w)⟩).1
theorem ubRest_nsub (a w : BitVec 32) : ubRest (nsub (nvalid a w)) = BitVec.ofNat 32 (nch a w) := by
  rw [nsub_nvalid]; exact (ub_eq ⟨nch a w, Nat.lt_succ_of_le (nch_le a w)⟩).2

theorem main_ok (a w : BitVec 32) : Scf.OK 0#32 (ubMain (nsub (nvalid a w))) 1#32 := by
  rw [ubMain_nsub]; exact (loop_facts ⟨nch a w, Nat.lt_succ_of_le (nch_le a w)⟩).1
theorem main_trips (a w : BitVec 32) : Scf.trips 0#32 (ubMain (nsub (nvalid a w))) 1#32 = nch a w := by
  rw [ubMain_nsub]; exact (loop_facts ⟨nch a w, Nat.lt_succ_of_le (nch_le a w)⟩).2.2.1
theorem rest_ok (a w : BitVec 32) : Scf.OK (ubMain (nsub (nvalid a w))) (ubRest (nsub (nvalid a w))) 1#32 := by
  rw [ubMain_nsub, ubRest_nsub]; exact (loop_facts ⟨nch a w, Nat.lt_succ_of_le (nch_le a w)⟩).2.1
theorem rest_trips (a w : BitVec 32) : Scf.trips (ubMain (nsub (nvalid a w))) (ubRest (nsub (nvalid a w))) 1#32 = 0 := by
  rw [ubMain_nsub, ubRest_nsub]; exact (loop_facts ⟨nch a w, Nat.lt_succ_of_le (nch_le a w)⟩).2.2.2

/-- The first position of chunk `k` in its block. -/
def pos (k : ℕ) : BitVec 32 := Scalar.muli (Scf.iv 0#32 1#32 k) 256#32

theorem pos_eq : ∀ k : Fin 8, (pos k.val).toNat = 256 * k.val := by decide +kernel
theorem pos_dvd256 (k : ℕ) (hk : k < 8) : 256 ∣ (pos k).toNat := ⟨k, pos_eq ⟨k, hk⟩⟩
theorem pos_half_eq : ∀ k : Fin 8, ∀ r : Fin 2, (Scalar.addi (pos k.val) (BitVec.ofNat 32 (128 * r.val))).toNat = 256 * k.val + 128 * r.val := by
  decide +kernel
theorem pos_half_dvd : ∀ k : Fin 8, ∀ r : Fin 2, 128 ∣ (Scalar.addi (pos k.val) (BitVec.ofNat 32 (128 * r.val))).toNat := by
  decide +kernel

/-- The quotient of a word by 2048, rounded down, as the index maps compute it. -/
def quot (v3 : BitVec 32) : BitVec 32 :=
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  v20

theorem quot_eq (x : BitVec 32) (hx : x.toNat < 2 ^ 31) : (quot x).toNat = x.toNat / 2048 := by
  have hd : Scalar.divsi x 2048#32 = x / 2048#32 := by
    have hm : x.msb = false := by rw [BitVec.msb_eq_false_iff_two_mul_lt]; omega
    show (if IntOp.SDivCorner x 2048#32 then _ else x.sdiv 2048#32) = _
    rw [if_neg (by simp [IntOp.SDivCorner]), BitVec.sdiv_eq, hm, show (2048#32 : BitVec 32).msb = false by decide]
    rfl
  have hv : (x / 2048#32).toNat = x.toNat / 2048 := by
    rw [BitVec.toNat_udiv]; rfl
  by_cases h0 : x = 0#32
  · subst h0; decide
  · have hs : Scalar.cmpi .sgt x 0#32 = 1#1 := by
      show BitVec.ofBool (BitVec.slt 0#32 x) = 1#1
      rw [BitVec.slt_eq_decide]
      have : x.toInt = x.toNat := by rw [BitVec.toInt_eq_toNat_cond, if_pos (by omega)]
      have h1 : x.toNat ≠ 0 := fun h => h0 (by apply BitVec.eq_of_toNat_eq; simpa using h)
      have h2 : (0#32 : BitVec 32).toInt = 0 := by decide
      rw [decide_eq_true (by omega)]; rfl
    have hl : Scalar.cmpi .slt x 0#32 = 0#1 := by
      show BitVec.ofBool (BitVec.slt x 0#32) = 0#1
      rw [BitVec.slt_eq_decide]
      have : x.toInt = x.toNat := by rw [BitVec.toInt_eq_toNat_cond, if_pos (by omega)]
      have h2 : (0#32 : BitVec 32).toInt = 0 := by decide
      rw [decide_eq_false (by omega)]; rfl
    unfold quot; dsimp only
    rw [hd, hs, hl]
    generalize Scalar.cmpi CmpIPredicate.ne (Scalar.remsi x 2048#32) 0#32 = c
    have hc : Scalar.select (Scalar.andi (Scalar.cmpi .ne (Scalar.subi (Scalar.extui (1#1)) (Scalar.extui (0#1))) (Scalar.subi (Scalar.extui (Scalar.cmpi .sgt 2048#32 0#32)) (Scalar.extui (Scalar.cmpi .slt 2048#32 0#32)))) c) (Scalar.subi (x / 2048#32) 1#32) (x / 2048#32) = x / 2048#32 := by
      have : ∀ c : BitVec 1, Scalar.andi (Scalar.cmpi .ne (Scalar.subi (Scalar.extui (1#1) : BitVec 32) (Scalar.extui (0#1))) (Scalar.subi (Scalar.extui (Scalar.cmpi .sgt (2048#32 : BitVec 32) 0#32)) (Scalar.extui (Scalar.cmpi .slt (2048#32 : BitVec 32) 0#32)))) c = 0#1 := by decide
      rw [this]; rfl
    exact (congrArg BitVec.toNat hc).trans hv

/-- The block of the cache that grid step `a` reads: the last that holds a valid position, at most `a`. -/
def blk (a w : BitVec 32) : BitVec 32 := Scalar.minsi a (quot (Scalar.maxsi (Scalar.subi w 1#32) 0#32))

theorem maxsi_zero_lt (x : BitVec 32) : (Scalar.maxsi x 0#32).toNat < 2 ^ 31 := by
  show (if (0#32 : BitVec 32).slt x then x else 0#32).toNat < 2 ^ 31
  split
  · next h =>
    rw [BitVec.slt_eq_decide, decide_eq_true_eq] at h
    have := BitVec.toInt_eq_toNat_cond x
    have h2 : (0#32 : BitVec 32).toInt = 0 := by decide
    have := x.isLt
    split at * <;> omega
  · decide

theorem blk_eq (a w : BitVec 32) (ha : a.toNat < 2 ^ 31) : (blk a w).toNat = min a.toNat ((Scalar.maxsi (Scalar.subi w 1#32) 0#32).toNat / 2048) := by
  have h1 := maxsi_zero_lt (Scalar.subi w 1#32)
  have h2 := quot_eq _ h1
  have := WordArith.toNat_minsi_of_lt a (quot (Scalar.maxsi (Scalar.subi w 1#32) 0#32)) ha (by omega)
  rw [← h2]; exact this

end Cert.Hand
-- ==== Proof.Checks.lean ====
module

public import proofs.«01_k».proof.Proof.Gen.KernelIdeal.Launch
public import proofs.«01_k».proof.Proof.Words

@[expose] public section

set_option maxRecDepth 16384

noncomputable section

namespace Cert.KernelIdeal.Hand

open Cert.KernelIdeal Cert.KernelIdeal.Gen Cert.Hand
open Idealize.ShloMosaic

variable {F : FTy → Type} [FloatOps F] [∀ e, Nonempty (Elt F e)]

/-! ### The kernel's index facts hold at every word read from the table of lengths -/

/-- The grid step's block number as a word. -/
abbrev stepW (i : grid0.Coords) : BitVec 32 := BitVec.ofNat 32 (i 1).val

theorem loop1_eq (i : grid0.Coords) (v1 : BitVec 32) : k0_t1_loop i v1 = ⟨0#32, ubMain (nsub (nvalid (stepW i) v1)), 1#32⟩ := rfl
theorem loop2_eq (i : grid0.Coords) (v1 : BitVec 32) : k0_t2_loop i v1 = ⟨ubMain (nsub (nvalid (stepW i) v1)), ubRest (nsub (nvalid (stepW i) v1)), 1#32⟩ := rfl
theorem loop3_eq (i : grid0.Coords) (v1 : BitVec 32) : k0_t3_loop i v1 = ⟨0#32, ubMain (nsub (nvalid (stepW i) v1)), 1#32⟩ := rfl
theorem loop4_eq (i : grid0.Coords) (v1 : BitVec 32) : k0_t4_loop i v1 = ⟨ubMain (nsub (nvalid (stepW i) v1)), ubRest (nsub (nvalid (stepW i) v1)), 1#32⟩ := rfl

theorem trips1 (i : grid0.Coords) (v1 : BitVec 32) : (k0_t1_loop i v1).trips = nch (stepW i) v1 := main_trips _ _
theorem trips3 (i : grid0.Coords) (v1 : BitVec 32) : (k0_t3_loop i v1).trips = nch (stepW i) v1 := main_trips _ _
theorem lt1 {i : grid0.Coords} {v1 : BitVec 32} (k : Fin (k0_t1_loop i v1).trips) : k.val < 8 :=
  lt_of_lt_of_le k.isLt ((trips1 i v1).le.trans (nch_le _ _))
theorem lt3 {i : grid0.Coords} {v1 : BitVec 32} (k : Fin (k0_t3_loop i v1).trips) : k.val < 8 :=
  lt_of_lt_of_le k.isLt ((trips3 i v1).le.trans (nch_le _ _))
theorem no2 {i : grid0.Coords} {v1 : BitVec 32} (k : Fin (k0_t2_loop i v1).trips) : False :=
  Nat.not_lt_zero k.val (lt_of_lt_of_eq k.isLt (rest_trips (stepW i) v1))
theorem no4 {i : grid0.Coords} {v1 : BitVec 32} (k : Fin (k0_t4_loop i v1).trips) : False :=
  Nat.not_lt_zero k.val (lt_of_lt_of_eq k.isLt (rest_trips (stepW i) v1))

theorem half_dvd (k : ℕ) (hk : k < 8) (r : BitVec 32) (hr : r = 0#32 ∨ r = 128#32) : 128 ∣ (Scalar.addi (pos k) r).toNat := by
  rcases hr with rfl | rfl
  · exact pos_half_dvd ⟨k, hk⟩ 0
  · exact pos_half_dvd ⟨k, hk⟩ 1

/-- The two kinds of multiples: of 256 at a chunk's start, of 128 at a half's start. -/
theorem mult_dvd (d : ℕ) (x : BitVec 32) (k : ℕ) (hk : k < 8)
    (h : (d = 256 ∧ x = pos k) ∨ (d = 128 ∧ ∃ r, x = Scalar.addi (pos k) r ∧ (r = 0#32 ∨ r = 128#32))) : d ∣ x.toNat := by
  rcases h with ⟨rfl, rfl⟩ | ⟨rfl, r, rfl, hr⟩
  · exact pos_dvd256 k hk
  · exact half_dvd k hk r hr

theorem inb_codes (h : ℕ) (hh : h < 8) (k : ℕ) (hk : k < 8) (r : Fin 2) (a : Fin 4) :
    (![0, h, 0, (Scalar.addi (pos k) (BitVec.ofNat 32 (128 * r.val))).toNat] : Fin 4 → ℕ) a + S1x1x64x128.size a ≤ S1x8x64x2048.size a := by
  have e := pos_half_eq ⟨k, hk⟩ r
  have hr := r.isLt
  simp only at e
  rw [e]
  fin_cases a <;> simp [S1x1x64x128, S1x8x64x2048] <;> omega

theorem inb_values (h : ℕ) (hh : h < 8) (k : ℕ) (hk : k < 8) (a : Fin 4) :
    (![0, h, 0, (pos k).toNat] : Fin 4 → ℕ) a + S1x1x64x256.size a ≤ S1x8x64x2048.size a := by
  have e := pos_eq ⟨k, hk⟩
  simp only at e
  rw [e]
  fin_cases a <;> simp [S1x1x64x256, S1x8x64x2048] <;> omega

theorem inb_scores (k : ℕ) (hk : k < 8) (a : Fin 4) :
    (![0, 0, 0, (pos k).toNat] : Fin 4 → ℕ) a + S1x1x48x256.size a ≤ S1x1x48x2048.size a := by
  have e := pos_eq ⟨k, hk⟩
  simp only at e
  rw [e]
  fin_cases a <;> simp [S1x1x48x256, S1x1x48x2048] <;> omega

theorem inb_scales (k : ℕ) (hk : k < 8) (a : Fin 3) :
    (![0, 0, (pos k).toNat] : Fin 3 → ℕ) a + S1x8x256.size a ≤ S1x8x2048.size a := by
  have e := pos_eq ⟨k, hk⟩
  simp only at e
  rw [e]
  fin_cases a <;> simp [S1x8x256, S1x8x2048] <;> omega

/-- Every offset and every multiple that the kernel's loops compute is as its accesses need it. -/
theorem chk1_all (i : grid0.Coords) (v1 : BitVec 32) : k0_chk1 i v1 := by
  refine ⟨?_, ?_, ?_⟩
  · unfold k0_chk1_0; and_intros
    · exact fun _ => main_ok _ _
    iterate 26 (first
      | exact fun k _ => mult_dvd _ _ _ (lt1 k) (.inl ⟨by decide, rfl⟩)
      | exact fun k _ => mult_dvd _ _ _ (lt1 k) (.inr ⟨by decide, _, rfl, by decide⟩)
      | exact fun k _ r a => inb_codes _ (by decide) _ (lt1 k) r a
      | exact fun k _ a => inb_scores _ (lt1 k) a)
    · exact fun _ => rest_ok _ _
    iterate 4 (exact fun k => (no2 k).elim)
  · unfold k0_chk1_1; and_intros
    iterate 22 (exact fun k => (no2 k).elim)
    · exact fun _ => main_ok _ _
    iterate 9 (first
      | exact fun k _ => mult_dvd _ _ _ (lt3 k) (.inl ⟨by decide, rfl⟩)
      | exact fun k _ a => inb_scores _ (lt3 k) a
      | exact fun k _ a => inb_scales _ (lt3 k) a
      | exact fun k _ a => inb_values _ (by decide) _ (lt3 k) a)
  · unfold k0_chk1_2; and_intros
    iterate 2 (exact fun k _ a => inb_values _ (by decide) _ (lt3 k) a)
    · exact fun _ => rest_ok _ _
    iterate 11 (exact fun k => (no4 k).elim)

/-! ### The blocks of the cache lie inside the arrays whatever the lengths are -/

theorem blk_lt (i : grid0.Coords) (w : BitVec 32) : (blk (stepW i) w).toNat < 16 := by
  have h := (i 1).isLt
  have h16 : grid0.bound 1 = 16 := rfl
  have e : (stepW i).toNat = (i 1).val := WordArith.toNat_ofNat_of_lt _ (by omega)
  rw [blk_eq _ _ (by omega)]
  omega

theorem batch_lt (i : grid0.Coords) : (BitVec.ofNat 32 (i 0).val).toNat < 4 := by
  have h := (i 0).isLt
  have h16 : grid0.bound 0 = 4 := rfl
  rw [WordArith.toNat_ofNat_of_lt _ (by omega)]; omega

theorem blk_codes (i : grid0.Coords) (w : BitVec 32) (a : Fin 4) :
    ((![(BitVec.ofNat 32 (i 0).val).toNat, (0#32 : BitVec 32).toNat, (0#32 : BitVec 32).toNat, (blk (stepW i) w).toNat] : Fin 4 → ℕ) a + 1) * S1x8x64x2048.size a ≤ S4x8x64x32768.size a := by
  have h1 := blk_lt i w
  have h2 := batch_lt i
  generalize (blk (stepW i) w).toNat = x at h1 ⊢
  generalize (BitVec.ofNat 32 (i 0).val).toNat = y at h2 ⊢
  fin_cases a <;> simp [S1x8x64x2048, S4x8x64x32768] <;> omega

theorem blk_kscale (i : grid0.Coords) (w : BitVec 32) (a : Fin 4) :
    ((![(BitVec.ofNat 32 (i 0).val).toNat, (0#32 : BitVec 32).toNat, (blk (stepW i) w).toNat, (0#32 : BitVec 32).toNat] : Fin 4 → ℕ) a + 1) * S1x8x64x128.size a ≤ S4x8x1024x128.size a := by
  have h1 := blk_lt i w
  have h2 := batch_lt i
  generalize (blk (stepW i) w).toNat = x at h1 ⊢
  generalize (BitVec.ofNat 32 (i 0).val).toNat = y at h2 ⊢
  fin_cases a <;> simp [S1x8x64x128, S4x8x1024x128] <;> omega

theorem blk_vscale (i : grid0.Coords) (w : BitVec 32) (a : Fin 3) :
    ((![(BitVec.ofNat 32 (i 0).val).toNat, (0#32 : BitVec 32).toNat, (blk (stepW i) w).toNat] : Fin 3 → ℕ) a + 1) * S1x8x2048.size a ≤ S4x8x32768.size a := by
  have h1 := blk_lt i w
  have h2 := batch_lt i
  generalize (blk (stepW i) w).toNat = x at h1 ⊢
  generalize (BitVec.ofNat 32 (i 0).val).toNat = y at h2 ⊢
  fin_cases a <;> simp [S1x8x2048, S4x8x32768] <;> omega

/-- Every block that the pipeline fetches lies inside its array, whatever the tables hold. -/
theorem ok0_all (pf : pre0.Contents (Elt F)) : ok0 pf :=
  ⟨fun i => ⟨blk_codes i _, .inr (.inr ⟨by decide, rfl, rfl, rfl⟩)⟩,
   fun i => ⟨blk_codes i _, .inr (.inr ⟨by decide, rfl, rfl, rfl⟩)⟩,
   fun i => ⟨blk_kscale i _, .inl rfl⟩,
   fun i => ⟨blk_vscale i _, .inl rfl⟩⟩

end Cert.KernelIdeal.Hand
-- ==== Proof.Run.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec
public import Idealize.ShloMosaic.Lib.StableHlo.RunRead
public import proofs.«01_k».proof.Proof.Body
public import proofs.«01_k».proof.Proof.Checks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

/-! ## What the host operations leave -/

/-- The buffers' contents when the kernel is launched: after the host operations that come before it. -/
abbrev V (c : Dev nD) (b : Ref sig .tc) : Buf (Elt F) ((c : Thread nD τ).loc b) := StableHlo.after hostOps0 (fun b => m (c, b)) (Proc.devRef .tc b)

/-- The buffers that the host operations write. -/
abbrev hostW : List (Ref sig .tc) := [main_v0, main_v1, main_v2, main_cst, main_v3, main_v4, main_cst_0, main_v5, main_v6, main_cst_1, main_v7, main_v8, main_cst_2,
  main_v9, main_v10, main_v11, main_v12, main_v13, main_v14, main_v15, main_v16]

/-- A buffer that they do not write is as it was. -/
theorem V_unwritten (c : Dev nD) (b : Ref sig .tc) (hb : b ∉ hostW) : V m c b = m ((c : Thread nD τ).loc b) :=
  StableHlo.after_unwritten hostW rfl hb _

/-- The tables of lengths and offsets, which the host operations leave alone. -/
def tbl : pre0.Contents (Elt F) := fun k => V m 0 (pre0.ref k)
/-- As admissible contents: every content is. -/
def tables : (pcfg0 (F := F)).Adm := ⟨tbl m, ok0_all _⟩

theorem V_pre (c : Dev nD) (k : Fin pre0.K) : V m c (pre0.ref k) = tbl m k := by
  obtain rfl : c = 0 := Subsingleton.elim _ _
  rfl

/-! ## The proof data: the inputs' staging buffers are left as they were found, the outputs' at anything -/

/-- The invariant between two points: the scratch at some contents, the tables as they are. -/
def inv (c : Dev nD) : sProp 𝕄 := iprop(Pipeline.ΦA spec0 c ∗ Pipeline.ΦT pre0 (tbl m) c)

def rdat (c : Dev nD) : RDat τ (Elt F) Unit ℕ (UR sig nD τ) ℕ (cfg0 (tables m)) c where
  A w := V m c (Pipeline.arrRef spec0 w)
  after w _ Y X := (spec0 w).isOut = false → X = Y
  Φ _ := inv m c
  q _ := fullShare
  owed _ := 0

theorem A_eq (c : Dev nD) (w : Fin (cfg0 (tables m)).W) : (rdat m c).A w = V m c (Pipeline.arrRef spec0 w) := by dsimp only [rdat]

theorem inv_eq (c : Dev nD) : (inv m c : sProp 𝕄)
    = iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r))
        ∗ owns (c : Thread nD τ) (Memref.whole main_arg7) fullShare.right (tbl m 0) ∗ owns (c : Thread nD τ) (Memref.whole main_arg8) fullShare.right (tbl m 1)) := by
  unfold inv Pipeline.ΦA Pipeline.ΦT Pipeline.prefHeld
  rw [scopedRest0_eq, bigSep_univ_eq_bigSepL [(0 : Fin pre0.K), (1 : Fin pre0.K)] (by decide) (by decide)]
  simp only [owns_whole]
  refine congrArg₂ _ rfl ?_
  exact congrArg₂ _ (owns_whole (c : Thread nD τ) main_arg7 fullShare.right (tbl m 0)).symm (owns_whole (c : Thread nD τ) main_arg8 fullShare.right (tbl m 1)).symm

/-- From a run to any later goal that its result gives. -/
theorem wp_to {α : Type} {c : Dev nD} {p : Prog (TpuEff nD τ sig (Elt F) Λ₀ .tc) α} {R Q K : sProp 𝕄}
    (h : R ⊢ wp frame (wpE (defs₀ (F := F)) Variants.none c none) Set.univ p (fun _ => Q)) :
    iprop(R ∗ (Q -∗ K)) ⊢ wp frame (wpE (defs₀ (F := F)) Variants.none c none) Set.univ p (fun _ => K) := by
  iintro ⟨HR, HK⟩
  iapply (wp_wand_r frame (wpE (defs₀ (F := F)) Variants.none c none) Set.univ (Q := fun _ => Q))
  isplitl [HR]
  · iapply h; iexact HR
  iintro %_ HQ
  iapply HK; iexact HQ

/-- The body at a grid point, on the staging buffers that the pipeline hands it. -/
abbrev bodyAt (t : Fin (cfg0 (tables m)).N) := (fun s : (w : Fin 12) → Fin (spec0 w).nbuf =>
    cc0_int4_rope_gqa_decode (F := F) (grid0.coords t) (Memref.whole main_arg7) (Memref.isWhole_whole _) (Memref.whole main_arg8) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (spec0_8.stage (s 8)) (hstage0_8 ((s 8).cast nbuf0_8)) (spec0_9.stage (s 9)) (hstage0_9 ((s 9).cast nbuf0_9)) (spec0_10.stage (s 10)) (hstage0_10 ((s 10).cast nbuf0_10)) (spec0_11.stage (s 11)) (hstage0_11 ((s 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) ((cfg0 (tables m)).slots t)

theorem defs₀_row (t : Fin (cfg0 (tables m)).N) :
    defs₀ (F := F) .tc (cfg0 (tables m)).body ((cfg0 (tables m)).bodyArgs t ((cfg0 (tables m)).slots t)) = bodyAt m t := by
  unfold defs₀; rw [Defs.onTc_tc]

set_option maxHeartbeats 4000000 in
/-- The body at every point: the kernel run from what the pipeline hands it. -/
theorem body_obligation (c : Dev nD) : (rdat m c).BodyObligation (defs₀ (F := F)) Variants.none () Set.univ := fun t Y _ => by
  rw [bigSep_W0, bigSep_W0, defs₀_row]
  rw [show (rdat m c).Φ t.succ = inv m c from rfl, show (rdat m c).Φ t.castSucc = inv m c from rfl,
    show (rdat m c).owesAt () t.succ = (rdat m c).owesAt () t.castSucc from rfl, inv_eq]
  unfold owns
  iintro ⟨⟨⟨⟨⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩⟩, Hg⟩, ⟨%f2, %e2, H2⟩, ⟨%f3, %e3, H3⟩⟩, HO, ⟨⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩⟩
  iapply (wp_to (kernelRun c (grid0.coords t) (Memref.whole main_arg7) (Memref.isWhole_whole _) (Memref.whole main_arg8) (Memref.isWhole_whole _) (spec0_0.stage ((cfg0 (tables m)).slots t 0)) (hstage0_0 (((cfg0 (tables m)).slots t 0).cast nbuf0_0)) (spec0_1.stage ((cfg0 (tables m)).slots t 1)) (hstage0_1 (((cfg0 (tables m)).slots t 1).cast nbuf0_1)) (spec0_2.stage ((cfg0 (tables m)).slots t 2)) (hstage0_2 (((cfg0 (tables m)).slots t 2).cast nbuf0_2)) (spec0_3.stage ((cfg0 (tables m)).slots t 3)) (hstage0_3 (((cfg0 (tables m)).slots t 3).cast nbuf0_3)) (spec0_4.stage ((cfg0 (tables m)).slots t 4)) (hstage0_4 (((cfg0 (tables m)).slots t 4).cast nbuf0_4)) (spec0_5.stage ((cfg0 (tables m)).slots t 5)) (hstage0_5 (((cfg0 (tables m)).slots t 5).cast nbuf0_5)) (spec0_6.stage ((cfg0 (tables m)).slots t 6)) (hstage0_6 (((cfg0 (tables m)).slots t 6).cast nbuf0_6)) (spec0_7.stage ((cfg0 (tables m)).slots t 7)) (hstage0_7 (((cfg0 (tables m)).slots t 7).cast nbuf0_7)) (spec0_8.stage ((cfg0 (tables m)).slots t 8)) (hstage0_8 (((cfg0 (tables m)).slots t 8).cast nbuf0_8)) (spec0_9.stage ((cfg0 (tables m)).slots t 9)) (hstage0_9 (((cfg0 (tables m)).slots t 9).cast nbuf0_9)) (spec0_10.stage ((cfg0 (tables m)).slots t 10)) (hstage0_10 (((cfg0 (tables m)).slots t 10).cast nbuf0_10)) (spec0_11.stage ((cfg0 (tables m)).slots t 11)) (hstage0_11 (((cfg0 (tables m)).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (fun v => chk1_all _ v) f2 f3 f4 f5 f6 f7 f8 f9 f10 f11 f12))
  isplitl [H2 H3 H4 H5 H6 H7 H8 H9 H10 H11 H12 H13 H14 H15 H16 H17 H18 H19 H20 H21 H22 H23 H24 H25]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25
  iintro ⟨H2, H3, H4, H5, H6, H7, H8, H9, H10, H11, H12, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩⟩
  isplitl [H16 H17 H18 H19 H20 H21 H22 H23 H24 H25 Hg H2 H3]
  · isplitr [H2 H3]
    · isplitr [Hg]
      · sl_close
      · iexact Hg
    · isplitl [H2]
      · iexists f2; isplitr; · ipureintro; exact e2
        iexact H2
      · iexists f3; isplitr; · ipureintro; exact e3
        iexact H3
  isplitl [HO]; · iexact HO
  isplitl [H4]
  · iexists (Y 0); isplitr; · ipureintro; exact fun _ => rfl
    iexists f4; isplitr; · ipureintro; exact e4
    iexact H4
  isplitl [H5]
  · iexists (Y 1); isplitr; · ipureintro; exact fun _ => rfl
    iexists f5; isplitr; · ipureintro; exact e5
    iexact H5
  isplitl [H6]
  · iexists (Y 2); isplitr; · ipureintro; exact fun _ => rfl
    iexists f6; isplitr; · ipureintro; exact e6
    iexact H6
  isplitl [H7]
  · iexists (Y 3); isplitr; · ipureintro; exact fun _ => rfl
    iexists f7; isplitr; · ipureintro; exact e7
    iexact H7
  isplitl [H8]
  · iexists (Y 4); isplitr; · ipureintro; exact fun _ => rfl
    iexists f8; isplitr; · ipureintro; exact e8
    iexact H8
  isplitl [H9]
  · iexists (Y 5); isplitr; · ipureintro; exact fun _ => rfl
    iexists f9; isplitr; · ipureintro; exact e9
    iexact H9
  isplitl [H10]
  · iexists (Y 6); isplitr; · ipureintro; exact fun _ => rfl
    iexists f10; isplitr; · ipureintro; exact e10
    iexact H10
  isplitl [H11]
  · iexists (Y 7); isplitr; · ipureintro; exact fun _ => rfl
    iexists f11; isplitr; · ipureintro; exact e11
    iexact H11
  isplitl [H12]
  · iexists (Y 8); isplitr; · ipureintro; exact fun _ => rfl
    iexists f12; isplitr; · ipureintro; exact e12
    iexact H12
  isplitl [H13]
  · iexists _; isplitr; rotate_left
    · iexists g13; isplitr; · ipureintro; rfl
      iexact H13
    · ipureintro; exact fun h => absurd h (by decide)
  isplitl [H14]
  · iexists _; isplitr; rotate_left
    · iexists g14; isplitr; · ipureintro; rfl
      iexact H14
    · ipureintro; exact fun h => absurd h (by decide)
  iexists _; isplitr; rotate_left
  · iexists g15; isplitr; · ipureintro; rfl
    iexact H15
  · ipureintro; exact fun h => absurd h (by decide)

/-! ## The launch -/

set_option maxHeartbeats 4000000 in
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub
    (by simp only [List.Forall]; exact ⟨rfl, rfl, rfl, rfl, rfl, rfl, rfl, rfl, rfl, rfl, rfl, rfl, rfl, rfl, rfl, rfl, rfl, rfl, rfl, rfl, rfl⟩) main_chain

set_option backward.isDefEq.respectTransparency.types false in
/-- From any memory with zero counters every execution terminates, with every array as the relation says and every other buffer as it was. -/
theorem run_main :
    θ_run defs (onTc (τ := τ) (main (F := F))) (s₀ m ρ)
      (fun r => RDat.FramePost (cfg0 (tables m)) (rdat m) (V m) r ∧ r.2.sem = fun _ => 0) :=
  RDat.θ_run_frameP_track (Q' := _) pcfgs (fun _ => tables m) (0 : Fin 1) launch0 defs₀ Variants.none (rdat m) m ρ main
    (hbody := body_obligation m) (hshare := fun c => (rdat m c).share_full fun _ => rfl)
    (howed := fun _ _ => rfl) (V := V m) (hmain := hmain m) (hA := A_eq m) (hpf := V_pre m)
    (hin := fun _ => .rfl) (hout := fun c => by change inv m c ⊢ _; unfold inv; iintro ⟨H, -⟩; iexact H)

/-- The arguments end as they began. -/
theorem args_kept {r : PUnit × MemSt nD τ sig (Elt F)} (h : RDat.FramePost (cfg0 (tables m)) (rdat m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  ⟨(RDat.FramePost.arr_in h c 0 rfl).trans (V_unwritten m c main_arg0 (by decide)),
   (RDat.FramePost.arr_in h c 1 rfl).trans (V_unwritten m c main_arg1 (by decide)),
   (RDat.FramePost.arr_in h c 2 rfl).trans (V_unwritten m c main_arg2 (by decide)),
   ((h c).2 main_arg3 (Pipeline.mem_restRefs_of main_arg3 (by decide) (show ∀ w : Fin 12, (spec0 w).arr.view.ref ≠ main_arg3 from by decide))).trans (V_unwritten m c main_arg3 (by decide)),
   ((h c).2 main_arg4 (Pipeline.mem_restRefs_of main_arg4 (by decide) (show ∀ w : Fin 12, (spec0 w).arr.view.ref ≠ main_arg4 from by decide))).trans (V_unwritten m c main_arg4 (by decide)),
   (RDat.FramePost.arr_in h c 5 rfl).trans (V_unwritten m c main_arg5 (by decide)),
   (RDat.FramePost.arr_in h c 6 rfl).trans (V_unwritten m c main_arg6 (by decide)),
   ((h c).2 main_arg7 (Pipeline.mem_restRefs_of main_arg7 (by decide) (show ∀ w : Fin 12, (spec0 w).arr.view.ref ≠ main_arg7 from by decide))).trans (V_unwritten m c main_arg7 (by decide)),
   ((h c).2 main_arg8 (Pipeline.mem_restRefs_of main_arg8 (by decide) (show ∀ w : Fin 12, (spec0 w).arr.view.ref ≠ main_arg8 from by decide))).trans (V_unwritten m c main_arg8 (by decide))⟩

end Cert.KernelIdeal.Hand

end
-- ==== Proof.KPart99.lean ====
module

public import proofs.«01_k».proof.Proof.Gen.Kernel.Launch
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.Exec

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

set_option maxHeartbeats 40000000 in
/-- The first part of the body — the length word read, the tables and the start of a batch — from its operands held: its results named, the inputs unchanged, what it writes at some contents. -/
theorem part99_run (c : Dev nD) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole)
    (hchk : ∀ v1 : Elt F .i32, k0_chk1 i v1)
    (X2 : BufTy.Contents (Elt F) arg2.view.ty) (X3 : BufTy.Contents (Elt F) arg3.view.ty) (X4 : BufTy.Contents (Elt F) arg4.view.ty) (X5 : BufTy.Contents (Elt F) arg5.view.ty) (X11 : BufTy.Contents (Elt F) arg11.view.ty) (X12 : BufTy.Contents (Elt F) arg12.view.ty) (v1 : Elt F .i32) (hv1 : v1 = View.read (Elt F) (arg2.access (Rect.unit (s := S4) (k0_off1 i) S1.size (k0_off1_inb i))) X2 (Shape.Idx.first (numel1_S1.symm ▸ Nat.one_pos))) :
    (iprop((arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f))) : sProp 𝕄)
      ⊢ wp frame (wpE (defs₀ (F := F)) Variants.none c none) Set.univ
          (k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun r => iprop(⌜r = (⟨BitVec.ofNat 32 (i 1).val, v1, hchk v1, Scalar.muli (BitVec.ofNat 32 (i 1).val) 2048#32, k0_pay440, Scalar.subi v1 (Scalar.muli (BitVec.ofNat 32 (i 1).val) 2048#32), 0#32⟩ : Σ' (arg1 : BitVec 32) (v1 : Elt F .i32) (k0_hw1 : k0_chk1 i v1) (v4 : BitVec 32) (v36 : IVec S48x8 1) (v40 : BitVec 32), BitVec 32)⌝ ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)))) := by
  subst hv1
  simp only [k0_part103_eq_skeleton]; unfold k0_part103_skel
  iintro ⟨H2, H3, H4, H5, H11, H12, ⟨%f14, H14⟩, ⟨%f16, H16⟩, ⟨%f17, H17⟩, ⟨%f18, H18⟩, ⟨%f19, H19⟩, ⟨%f20, H20⟩, ⟨%f22, H22⟩, ⟨%f23, H23⟩, ⟨%f24, H24⟩, ⟨%f25, H25⟩⟩
  sl_exec
  sl_step
  isplitr; · ipureintro; rfl
  isplitl [H2]; · iexact H2
  isplitl [H3]; · iexact H3
  isplitl [H4]; · iexact H4
  isplitl [H5]; · iexact H5
  isplitl [H11]; · iexact H11
  isplitl [H12]; · iexact H12
  isplitl [H14]; · iexists _; iexact H14
  isplitl [H16]; · iexists _; iexact H16
  isplitl [H17]; · iexists _; iexact H17
  isplitl [H18]; · iexists _; iexact H18
  isplitl [H19]; · iexists _; iexact H19
  isplitl [H20]; · iexists _; iexact H20
  isplitl [H22]; · iexists _; iexact H22
  isplitl [H23]; · iexists _; iexact H23
  isplitl [H24]; · iexists _; iexact H24
  iexists _; iexact H25

end Cert.Kernel.Hand

end
-- ==== Proof.KBody.lean ====
module

public import proofs.«01_k».proof.Proof.Gen.Kernel.Launch
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.Exec
public import proofs.«01_k».proof.Proof.KPart99

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

set_option maxHeartbeats 40000000 in
/-- One grid point: from every operand held, the body runs to its return, the tables and the inputs as they were, the outputs and the scratch at some contents. -/
theorem kernelRun (c : Dev nD) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole)
    (hchk : ∀ v1 : Elt F .i32, k0_chk1 i v1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) :
    (iprop((arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f))) : sProp 𝕄)
      ⊢ wp frame (wpE (defs₀ (F := F)) Variants.none c none) Set.univ
          (cc0_int4_rope_gqa_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun _ => iprop((arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)))) := by
  have hcut := part99_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hchk X2 X3 X4 X5 X11 X12 _ rfl
  generalize hv1 : View.read (Elt F) (arg2.access (Rect.unit (s := S4) (k0_off1 i) S1.size (k0_off1_inb i))) X2 (Shape.Idx.first (numel1_S1.symm ▸ Nat.one_pos)) = v1 at hcut
  simp only [cc0_int4_rope_gqa_decode_eq_skeleton]; unfold cc0_int4_rope_gqa_decode_skel
  iintro ⟨H2, H3, H4, H5, H6, H7, H8, H9, H10, H11, H12, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩
  set_option sl_exec.stopBefore "k0_cond3" in sl_exec
  clear hcut
  cases hk0_part103_0
  by_cases h4 : k0_cond4 i v1 = 1#1
  · sl_exec
    sl_step
    sl_close
  · sl_exec
    sl_step
    sl_close

end Cert.Kernel.Hand

end
-- ==== Proof.KChecks.lean ====
module

public import proofs.«01_k».proof.Proof.Gen.Kernel.Launch
public import proofs.«01_k».proof.Proof.Words

@[expose] public section

set_option maxRecDepth 16384

noncomputable section

namespace Cert.Kernel.Hand

open Cert.Kernel Cert.Kernel.Gen Cert.Hand
open Idealize.ShloMosaic

variable {F : FTy → Type} [BitOps F] [∀ e, Nonempty (Elt F e)]

/-! ### The kernel's index facts hold at every word read from the table of lengths -/

/-- The grid step's block number as a word. -/
abbrev stepW (i : grid0.Coords) : BitVec 32 := BitVec.ofNat 32 (i 1).val

theorem loop1_eq (i : grid0.Coords) (v1 : BitVec 32) : k0_t1_loop i v1 = ⟨0#32, ubMain (nsub (nvalid (stepW i) v1)), 1#32⟩ := rfl
theorem loop2_eq (i : grid0.Coords) (v1 : BitVec 32) : k0_t2_loop i v1 = ⟨ubMain (nsub (nvalid (stepW i) v1)), ubRest (nsub (nvalid (stepW i) v1)), 1#32⟩ := rfl
theorem loop3_eq (i : grid0.Coords) (v1 : BitVec 32) : k0_t3_loop i v1 = ⟨0#32, ubMain (nsub (nvalid (stepW i) v1)), 1#32⟩ := rfl
theorem loop4_eq (i : grid0.Coords) (v1 : BitVec 32) : k0_t4_loop i v1 = ⟨ubMain (nsub (nvalid (stepW i) v1)), ubRest (nsub (nvalid (stepW i) v1)), 1#32⟩ := rfl

theorem trips1 (i : grid0.Coords) (v1 : BitVec 32) : (k0_t1_loop i v1).trips = nch (stepW i) v1 := main_trips _ _
theorem trips3 (i : grid0.Coords) (v1 : BitVec 32) : (k0_t3_loop i v1).trips = nch (stepW i) v1 := main_trips _ _
theorem lt1 {i : grid0.Coords} {v1 : BitVec 32} (k : Fin (k0_t1_loop i v1).trips) : k.val < 8 :=
  lt_of_lt_of_le k.isLt ((trips1 i v1).le.trans (nch_le _ _))
theorem lt3 {i : grid0.Coords} {v1 : BitVec 32} (k : Fin (k0_t3_loop i v1).trips) : k.val < 8 :=
  lt_of_lt_of_le k.isLt ((trips3 i v1).le.trans (nch_le _ _))
theorem no2 {i : grid0.Coords} {v1 : BitVec 32} (k : Fin (k0_t2_loop i v1).trips) : False :=
  Nat.not_lt_zero k.val (lt_of_lt_of_eq k.isLt (rest_trips (stepW i) v1))
theorem no4 {i : grid0.Coords} {v1 : BitVec 32} (k : Fin (k0_t4_loop i v1).trips) : False :=
  Nat.not_lt_zero k.val (lt_of_lt_of_eq k.isLt (rest_trips (stepW i) v1))

theorem half_dvd (k : ℕ) (hk : k < 8) (r : BitVec 32) (hr : r = 0#32 ∨ r = 128#32) : 128 ∣ (Scalar.addi (pos k) r).toNat := by
  rcases hr with rfl | rfl
  · exact pos_half_dvd ⟨k, hk⟩ 0
  · exact pos_half_dvd ⟨k, hk⟩ 1

/-- The two kinds of multiples: of 256 at a chunk's start, of 128 at a half's start. -/
theorem mult_dvd (d : ℕ) (x : BitVec 32) (k : ℕ) (hk : k < 8)
    (h : (d = 256 ∧ x = pos k) ∨ (d = 128 ∧ ∃ r, x = Scalar.addi (pos k) r ∧ (r = 0#32 ∨ r = 128#32))) : d ∣ x.toNat := by
  rcases h with ⟨rfl, rfl⟩ | ⟨rfl, r, rfl, hr⟩
  · exact pos_dvd256 k hk
  · exact half_dvd k hk r hr

theorem inb_codes (h : ℕ) (hh : h < 8) (k : ℕ) (hk : k < 8) (r : Fin 2) (a : Fin 4) :
    (![0, h, 0, (Scalar.addi (pos k) (BitVec.ofNat 32 (128 * r.val))).toNat] : Fin 4 → ℕ) a + S1x1x64x128.size a ≤ S1x8x64x2048.size a := by
  have e := pos_half_eq ⟨k, hk⟩ r
  have hr := r.isLt
  simp only at e
  rw [e]
  fin_cases a <;> simp [S1x1x64x128, S1x8x64x2048] <;> omega

theorem inb_values (h : ℕ) (hh : h < 8) (k : ℕ) (hk : k < 8) (a : Fin 4) :
    (![0, h, 0, (pos k).toNat] : Fin 4 → ℕ) a + S1x1x64x256.size a ≤ S1x8x64x2048.size a := by
  have e := pos_eq ⟨k, hk⟩
  simp only at e
  rw [e]
  fin_cases a <;> simp [S1x1x64x256, S1x8x64x2048] <;> omega

theorem inb_scores (k : ℕ) (hk : k < 8) (a : Fin 4) :
    (![0, 0, 0, (pos k).toNat] : Fin 4 → ℕ) a + S1x1x48x256.size a ≤ S1x1x48x2048.size a := by
  have e := pos_eq ⟨k, hk⟩
  simp only at e
  rw [e]
  fin_cases a <;> simp [S1x1x48x256, S1x1x48x2048] <;> omega

theorem inb_scales (k : ℕ) (hk : k < 8) (a : Fin 3) :
    (![0, 0, (pos k).toNat] : Fin 3 → ℕ) a + S1x8x256.size a ≤ S1x8x2048.size a := by
  have e := pos_eq ⟨k, hk⟩
  simp only at e
  rw [e]
  fin_cases a <;> simp [S1x8x256, S1x8x2048] <;> omega

/-- Every offset and every multiple that the kernel's loops compute is as its accesses need it. -/
theorem chk1_all (i : grid0.Coords) (v1 : BitVec 32) : k0_chk1 i v1 := by
  refine ⟨?_, ?_, ?_⟩
  · unfold k0_chk1_0; and_intros
    · exact fun _ => main_ok _ _
    iterate 26 (first
      | exact fun k _ => mult_dvd _ _ _ (lt1 k) (.inl ⟨by decide, rfl⟩)
      | exact fun k _ => mult_dvd _ _ _ (lt1 k) (.inr ⟨by decide, _, rfl, by decide⟩)
      | exact fun k _ r a => inb_codes _ (by decide) _ (lt1 k) r a
      | exact fun k _ a => inb_scores _ (lt1 k) a)
    · exact fun _ => rest_ok _ _
    iterate 4 (exact fun k => (no2 k).elim)
  · unfold k0_chk1_1; and_intros
    iterate 22 (exact fun k => (no2 k).elim)
    · exact fun _ => main_ok _ _
    iterate 9 (first
      | exact fun k _ => mult_dvd _ _ _ (lt3 k) (.inl ⟨by decide, rfl⟩)
      | exact fun k _ a => inb_scores _ (lt3 k) a
      | exact fun k _ a => inb_scales _ (lt3 k) a
      | exact fun k _ a => inb_values _ (by decide) _ (lt3 k) a)
  · unfold k0_chk1_2; and_intros
    iterate 2 (exact fun k _ a => inb_values _ (by decide) _ (lt3 k) a)
    · exact fun _ => rest_ok _ _
    iterate 11 (exact fun k => (no4 k).elim)

/-! ### The blocks of the cache lie inside the arrays whatever the lengths are -/

theorem blk_lt (i : grid0.Coords) (w : BitVec 32) : (blk (stepW i) w).toNat < 16 := by
  have h := (i 1).isLt
  have h16 : grid0.bound 1 = 16 := rfl
  have e : (stepW i).toNat = (i 1).val := WordArith.toNat_ofNat_of_lt _ (by omega)
  rw [blk_eq _ _ (by omega)]
  omega

theorem batch_lt (i : grid0.Coords) : (BitVec.ofNat 32 (i 0).val).toNat < 4 := by
  have h := (i 0).isLt
  have h16 : grid0.bound 0 = 4 := rfl
  rw [WordArith.toNat_ofNat_of_lt _ (by omega)]; omega

theorem blk_codes (i : grid0.Coords) (w : BitVec 32) (a : Fin 4) :
    ((![(BitVec.ofNat 32 (i 0).val).toNat, (0#32 : BitVec 32).toNat, (0#32 : BitVec 32).toNat, (blk (stepW i) w).toNat] : Fin 4 → ℕ) a + 1) * S1x8x64x2048.size a ≤ S4x8x64x32768.size a := by
  have h1 := blk_lt i w
  have h2 := batch_lt i
  generalize (blk (stepW i) w).toNat = x at h1 ⊢
  generalize (BitVec.ofNat 32 (i 0).val).toNat = y at h2 ⊢
  fin_cases a <;> simp [S1x8x64x2048, S4x8x64x32768] <;> omega

theorem blk_kscale (i : grid0.Coords) (w : BitVec 32) (a : Fin 4) :
    ((![(BitVec.ofNat 32 (i 0).val).toNat, (0#32 : BitVec 32).toNat, (blk (stepW i) w).toNat, (0#32 : BitVec 32).toNat] : Fin 4 → ℕ) a + 1) * S1x8x64x128.size a ≤ S4x8x1024x128.size a := by
  have h1 := blk_lt i w
  have h2 := batch_lt i
  generalize (blk (stepW i) w).toNat = x at h1 ⊢
  generalize (BitVec.ofNat 32 (i 0).val).toNat = y at h2 ⊢
  fin_cases a <;> simp [S1x8x64x128, S4x8x1024x128] <;> omega

theorem blk_vscale (i : grid0.Coords) (w : BitVec 32) (a : Fin 3) :
    ((![(BitVec.ofNat 32 (i 0).val).toNat, (0#32 : BitVec 32).toNat, (blk (stepW i) w).toNat] : Fin 3 → ℕ) a + 1) * S1x8x2048.size a ≤ S4x8x32768.size a := by
  have h1 := blk_lt i w
  have h2 := batch_lt i
  generalize (blk (stepW i) w).toNat = x at h1 ⊢
  generalize (BitVec.ofNat 32 (i 0).val).toNat = y at h2 ⊢
  fin_cases a <;> simp [S1x8x2048, S4x8x32768] <;> omega

/-- Every block that the pipeline fetches lies inside its array, whatever the tables hold. -/
theorem ok0_all (pf : pre0.Contents (Elt F)) : ok0 pf :=
  ⟨fun i => ⟨blk_codes i _, .inr (.inr ⟨by decide, rfl, rfl, rfl⟩)⟩,
   fun i => ⟨blk_codes i _, .inr (.inr ⟨by decide, rfl, rfl, rfl⟩)⟩,
   fun i => ⟨blk_kscale i _, .inl rfl⟩,
   fun i => ⟨blk_vscale i _, .inl rfl⟩⟩

end Cert.Kernel.Hand
-- ==== Proof.KRun.lean ====
module

public import proofs.«01_k».proof.Proof.Gen.Kernel.Launch
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.Exec
public import Idealize.ShloMosaic.Lib.StableHlo.RunRead
public import proofs.«01_k».proof.Proof.KBody
public import proofs.«01_k».proof.Proof.KChecks

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

/-! ## What the host operations leave -/

/-- The buffers' contents when the kernel is launched: after the host operations that come before it. -/
abbrev V (c : Dev nD) (b : Ref sig .tc) : Buf (Elt F) ((c : Thread nD τ).loc b) := StableHlo.after hostOps0 (fun b => m (c, b)) (Proc.devRef .tc b)

/-- The buffers that the host operations write. -/
abbrev hostW : List (Ref sig .tc) := [main_v0, main_v1, main_v2, main_cst, main_v3, main_v4, main_cst_0, main_v5, main_v6, main_cst_1, main_v7, main_v8, main_cst_2,
  main_v9, main_v10, main_v11, main_v12, main_v13, main_v14, main_v15, main_v16]

/-- A buffer that they do not write is as it was. -/
theorem V_unwritten (c : Dev nD) (b : Ref sig .tc) (hb : b ∉ hostW) : V m c b = m ((c : Thread nD τ).loc b) :=
  StableHlo.after_unwritten hostW rfl hb _

/-- The tables of lengths and offsets, which the host operations leave alone. -/
def tbl : pre0.Contents (Elt F) := fun k => V m 0 (pre0.ref k)
/-- As admissible contents: every content is. -/
def tables : (pcfg0 (F := F)).Adm := ⟨tbl m, ok0_all _⟩

theorem V_pre (c : Dev nD) (k : Fin pre0.K) : V m c (pre0.ref k) = tbl m k := by
  obtain rfl : c = 0 := Subsingleton.elim _ _
  rfl

/-! ## The proof data: the inputs' staging buffers are left as they were found, the outputs' at anything -/

/-- The invariant between two points: the scratch at some contents, the tables as they are. -/
def inv (c : Dev nD) : sProp 𝕄 := iprop(Pipeline.ΦA spec0 c ∗ Pipeline.ΦT pre0 (tbl m) c)

def rdat (c : Dev nD) : RDat τ (Elt F) Unit ℕ (UR sig nD τ) ℕ (cfg0 (tables m)) c where
  A w := V m c (Pipeline.arrRef spec0 w)
  after w _ Y X := (spec0 w).isOut = false → X = Y
  Φ _ := inv m c
  q _ := fullShare
  owed _ := 0

theorem A_eq (c : Dev nD) (w : Fin (cfg0 (tables m)).W) : (rdat m c).A w = V m c (Pipeline.arrRef spec0 w) := by dsimp only [rdat]

theorem inv_eq (c : Dev nD) : (inv m c : sProp 𝕄)
    = iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r))
        ∗ owns (c : Thread nD τ) (Memref.whole main_arg7) fullShare.right (tbl m 0) ∗ owns (c : Thread nD τ) (Memref.whole main_arg8) fullShare.right (tbl m 1)) := by
  unfold inv Pipeline.ΦA Pipeline.ΦT Pipeline.prefHeld
  rw [scopedRest0_eq, bigSep_univ_eq_bigSepL [(0 : Fin pre0.K), (1 : Fin pre0.K)] (by decide) (by decide)]
  simp only [owns_whole]
  refine congrArg₂ _ rfl ?_
  exact congrArg₂ _ (owns_whole (c : Thread nD τ) main_arg7 fullShare.right (tbl m 0)).symm (owns_whole (c : Thread nD τ) main_arg8 fullShare.right (tbl m 1)).symm

/-- From a run to any later goal that its result gives. -/
theorem wp_to {α : Type} {c : Dev nD} {p : Prog (TpuEff nD τ sig (Elt F) Λ₀ .tc) α} {R Q K : sProp 𝕄}
    (h : R ⊢ wp frame (wpE (defs₀ (F := F)) Variants.none c none) Set.univ p (fun _ => Q)) :
    iprop(R ∗ (Q -∗ K)) ⊢ wp frame (wpE (defs₀ (F := F)) Variants.none c none) Set.univ p (fun _ => K) := by
  iintro ⟨HR, HK⟩
  iapply (wp_wand_r frame (wpE (defs₀ (F := F)) Variants.none c none) Set.univ (Q := fun _ => Q))
  isplitl [HR]
  · iapply h; iexact HR
  iintro %_ HQ
  iapply HK; iexact HQ

/-- The body at a grid point, on the staging buffers that the pipeline hands it. -/
abbrev bodyAt (t : Fin (cfg0 (tables m)).N) := (fun s : (w : Fin 12) → Fin (spec0 w).nbuf =>
    cc0_int4_rope_gqa_decode (F := F) (grid0.coords t) (Memref.whole main_arg7) (Memref.isWhole_whole _) (Memref.whole main_arg8) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (spec0_8.stage (s 8)) (hstage0_8 ((s 8).cast nbuf0_8)) (spec0_9.stage (s 9)) (hstage0_9 ((s 9).cast nbuf0_9)) (spec0_10.stage (s 10)) (hstage0_10 ((s 10).cast nbuf0_10)) (spec0_11.stage (s 11)) (hstage0_11 ((s 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) ((cfg0 (tables m)).slots t)

theorem defs₀_row (t : Fin (cfg0 (tables m)).N) :
    defs₀ (F := F) .tc (cfg0 (tables m)).body ((cfg0 (tables m)).bodyArgs t ((cfg0 (tables m)).slots t)) = bodyAt m t := by
  unfold defs₀; rw [Defs.onTc_tc]

set_option maxHeartbeats 4000000 in
/-- The body at every point: the kernel run from what the pipeline hands it. -/
theorem body_obligation (c : Dev nD) : (rdat m c).BodyObligation (defs₀ (F := F)) Variants.none () Set.univ := fun t Y _ => by
  rw [bigSep_W0, bigSep_W0, defs₀_row]
  rw [show (rdat m c).Φ t.succ = inv m c from rfl, show (rdat m c).Φ t.castSucc = inv m c from rfl,
    show (rdat m c).owesAt () t.succ = (rdat m c).owesAt () t.castSucc from rfl, inv_eq]
  unfold owns
  iintro ⟨⟨⟨⟨⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩⟩, Hg⟩, ⟨%f2, %e2, H2⟩, ⟨%f3, %e3, H3⟩⟩, HO, ⟨⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩⟩
  iapply (wp_to (kernelRun c (grid0.coords t) (Memref.whole main_arg7) (Memref.isWhole_whole _) (Memref.whole main_arg8) (Memref.isWhole_whole _) (spec0_0.stage ((cfg0 (tables m)).slots t 0)) (hstage0_0 (((cfg0 (tables m)).slots t 0).cast nbuf0_0)) (spec0_1.stage ((cfg0 (tables m)).slots t 1)) (hstage0_1 (((cfg0 (tables m)).slots t 1).cast nbuf0_1)) (spec0_2.stage ((cfg0 (tables m)).slots t 2)) (hstage0_2 (((cfg0 (tables m)).slots t 2).cast nbuf0_2)) (spec0_3.stage ((cfg0 (tables m)).slots t 3)) (hstage0_3 (((cfg0 (tables m)).slots t 3).cast nbuf0_3)) (spec0_4.stage ((cfg0 (tables m)).slots t 4)) (hstage0_4 (((cfg0 (tables m)).slots t 4).cast nbuf0_4)) (spec0_5.stage ((cfg0 (tables m)).slots t 5)) (hstage0_5 (((cfg0 (tables m)).slots t 5).cast nbuf0_5)) (spec0_6.stage ((cfg0 (tables m)).slots t 6)) (hstage0_6 (((cfg0 (tables m)).slots t 6).cast nbuf0_6)) (spec0_7.stage ((cfg0 (tables m)).slots t 7)) (hstage0_7 (((cfg0 (tables m)).slots t 7).cast nbuf0_7)) (spec0_8.stage ((cfg0 (tables m)).slots t 8)) (hstage0_8 (((cfg0 (tables m)).slots t 8).cast nbuf0_8)) (spec0_9.stage ((cfg0 (tables m)).slots t 9)) (hstage0_9 (((cfg0 (tables m)).slots t 9).cast nbuf0_9)) (spec0_10.stage ((cfg0 (tables m)).slots t 10)) (hstage0_10 (((cfg0 (tables m)).slots t 10).cast nbuf0_10)) (spec0_11.stage ((cfg0 (tables m)).slots t 11)) (hstage0_11 (((cfg0 (tables m)).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (fun v => chk1_all _ v) f2 f3 f4 f5 f6 f7 f8 f9 f10 f11 f12))
  isplitl [H2 H3 H4 H5 H6 H7 H8 H9 H10 H11 H12 H13 H14 H15 H16 H17 H18 H19 H20 H21 H22 H23 H24 H25]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25
  iintro ⟨H2, H3, H4, H5, H6, H7, H8, H9, H10, H11, H12, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩⟩
  isplitl [H16 H17 H18 H19 H20 H21 H22 H23 H24 H25 Hg H2 H3]
  · isplitr [H2 H3]
    · isplitr [Hg]
      · sl_close
      · iexact Hg
    · isplitl [H2]
      · iexists f2; isplitr; · ipureintro; exact e2
        iexact H2
      · iexists f3; isplitr; · ipureintro; exact e3
        iexact H3
  isplitl [HO]; · iexact HO
  isplitl [H4]
  · iexists (Y 0); isplitr; · ipureintro; exact fun _ => rfl
    iexists f4; isplitr; · ipureintro; exact e4
    iexact H4
  isplitl [H5]
  · iexists (Y 1); isplitr; · ipureintro; exact fun _ => rfl
    iexists f5; isplitr; · ipureintro; exact e5
    iexact H5
  isplitl [H6]
  · iexists (Y 2); isplitr; · ipureintro; exact fun _ => rfl
    iexists f6; isplitr; · ipureintro; exact e6
    iexact H6
  isplitl [H7]
  · iexists (Y 3); isplitr; · ipureintro; exact fun _ => rfl
    iexists f7; isplitr; · ipureintro; exact e7
    iexact H7
  isplitl [H8]
  · iexists (Y 4); isplitr; · ipureintro; exact fun _ => rfl
    iexists f8; isplitr; · ipureintro; exact e8
    iexact H8
  isplitl [H9]
  · iexists (Y 5); isplitr; · ipureintro; exact fun _ => rfl
    iexists f9; isplitr; · ipureintro; exact e9
    iexact H9
  isplitl [H10]
  · iexists (Y 6); isplitr; · ipureintro; exact fun _ => rfl
    iexists f10; isplitr; · ipureintro; exact e10
    iexact H10
  isplitl [H11]
  · iexists (Y 7); isplitr; · ipureintro; exact fun _ => rfl
    iexists f11; isplitr; · ipureintro; exact e11
    iexact H11
  isplitl [H12]
  · iexists (Y 8); isplitr; · ipureintro; exact fun _ => rfl
    iexists f12; isplitr; · ipureintro; exact e12
    iexact H12
  isplitl [H13]
  · iexists _; isplitr; rotate_left
    · iexists g13; isplitr; · ipureintro; rfl
      iexact H13
    · ipureintro; exact fun h => absurd h (by decide)
  isplitl [H14]
  · iexists _; isplitr; rotate_left
    · iexists g14; isplitr; · ipureintro; rfl
      iexact H14
    · ipureintro; exact fun h => absurd h (by decide)
  iexists _; isplitr; rotate_left
  · iexists g15; isplitr; · ipureintro; rfl
    iexact H15
  · ipureintro; exact fun h => absurd h (by decide)

/-! ## The launch -/

set_option maxHeartbeats 4000000 in
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub
    (by simp only [List.Forall]; exact ⟨rfl, rfl, rfl, rfl, rfl, rfl, rfl, rfl, rfl, rfl, rfl, rfl, rfl, rfl, rfl, rfl, rfl, rfl, rfl, rfl, rfl⟩) main_chain

set_option backward.isDefEq.respectTransparency.types false in
/-- From any memory with zero counters every execution terminates, with every array as the relation says and every other buffer as it was. -/
theorem run_main :
    θ_run defs (onTc (τ := τ) (main (F := F))) (s₀ m ρ)
      (fun r => RDat.FramePost (cfg0 (tables m)) (rdat m) (V m) r ∧ r.2.sem = fun _ => 0) :=
  RDat.θ_run_frameP_track (Q' := _) pcfgs (fun _ => tables m) (0 : Fin 1) launch0 defs₀ Variants.none (rdat m) m ρ main
    (hbody := body_obligation m) (hshare := fun c => (rdat m c).share_full fun _ => rfl)
    (howed := fun _ _ => rfl) (V := V m) (hmain := hmain m) (hA := A_eq m) (hpf := V_pre m)
    (hin := fun _ => .rfl) (hout := fun c => by change inv m c ⊢ _; unfold inv; iintro ⟨H, -⟩; iexact H)

/-- The arguments end as they began. -/
theorem args_kept {r : PUnit × MemSt nD τ sig (Elt F)} (h : RDat.FramePost (cfg0 (tables m)) (rdat m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  ⟨(RDat.FramePost.arr_in h c 0 rfl).trans (V_unwritten m c main_arg0 (by decide)),
   (RDat.FramePost.arr_in h c 1 rfl).trans (V_unwritten m c main_arg1 (by decide)),
   (RDat.FramePost.arr_in h c 2 rfl).trans (V_unwritten m c main_arg2 (by decide)),
   ((h c).2 main_arg3 (Pipeline.mem_restRefs_of main_arg3 (by decide) (show ∀ w : Fin 12, (spec0 w).arr.view.ref ≠ main_arg3 from by decide))).trans (V_unwritten m c main_arg3 (by decide)),
   ((h c).2 main_arg4 (Pipeline.mem_restRefs_of main_arg4 (by decide) (show ∀ w : Fin 12, (spec0 w).arr.view.ref ≠ main_arg4 from by decide))).trans (V_unwritten m c main_arg4 (by decide)),
   (RDat.FramePost.arr_in h c 5 rfl).trans (V_unwritten m c main_arg5 (by decide)),
   (RDat.FramePost.arr_in h c 6 rfl).trans (V_unwritten m c main_arg6 (by decide)),
   ((h c).2 main_arg7 (Pipeline.mem_restRefs_of main_arg7 (by decide) (show ∀ w : Fin 12, (spec0 w).arr.view.ref ≠ main_arg7 from by decide))).trans (V_unwritten m c main_arg7 (by decide)),
   ((h c).2 main_arg8 (Pipeline.mem_restRefs_of main_arg8 (by decide) (show ∀ w : Fin 12, (spec0 w).arr.view.ref ≠ main_arg8 from by decide))).trans (V_unwritten m c main_arg8 (by decide))⟩

end Cert.Kernel.Hand

end
-- ==== Proof.Part99V.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec
public import Idealize.ShloMosaic.Lib.VecWindow
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The condition of the first grid point. -/
def firstPt (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32

theorem firstPt_cond2 : ∀ i : grid0.Coords, firstPt i = 1#1 → k0_cond2 i = 1#1 := by
  decide +kernel

/-- The rotated query of a batch, from the length `n`, the offset `o`, the frequencies lane by lane and the query. -/
def qV (n o : Elt F .i32) (fl : Vec F S8x128 .f32) (q : Vec F S1x1x48x128 .bf16) : FVec F S48x128 .bf16 :=
  k0_pay17 (k0_pay11 n o fl) (k0_pay12 n o fl) (k0_pay13 q) 2#32 k0_pay14 k0_pay15 k0_pay16 0#32

/-- The eight column blocks of the spread query: block `h` holds the rows of head `h`, their even entries before their odd ones, and zeros. -/
def qbdV (q : FVec F S48x128 .bf16) : Fin 8 → FVec F S48x128 .bf16 :=
  ![k0_pay26 k0_pay22 (k0_pay23 q) k0_pay24, k0_pay27 k0_pay22 (k0_pay23 q) k0_pay24, k0_pay28 k0_pay22 (k0_pay23 q) k0_pay24,
    k0_pay29 k0_pay22 (k0_pay23 q) k0_pay24, k0_pay31 (k0_pay30 k0_pay22 (k0_pay23 q) k0_pay24),
    k0_pay32 k0_pay22 (k0_pay25 (k0_pay23 q) k0_pay24), k0_pay33 k0_pay22 (k0_pay25 (k0_pay23 q) k0_pay24),
    k0_pay34 k0_pay22 (k0_pay25 (k0_pay23 q) k0_pay24)]

/-- The score of the new token for each query row, repeated across the lanes, from the rotated query and the rotated new key. -/
def newV (n o : Elt F .i32) (fl : Vec F S8x128 .f32) (q : Vec F S1x1x48x128 .bf16) (kn : Vec F S1x1x8x128 .bf16) : FVec F S48x128 .f32 :=
  k0_pay35 k0_pay434 (qV n o fl q) (k0_pay20 (k0_pay11 n o fl) (k0_pay12 n o fl) (k0_pay18 kn) k0_pay19 0#32)

/-- What the first part of the body makes of the running maximum, the running sum, the running products and the score of the new token: they
    start with the new token at the first point of a batch; elsewhere they are kept. -/
def BegunS (i : grid0.Coords) (fl : Vec F S8x128 .f32) (q : Vec F S1x1x48x128 .bf16) (kn : Vec F S1x1x8x128 .bf16) (n o : Elt F .i32)
    (x22 x23 : Vec F S48x128 .f32) (x24 : Vec F S48x1024 .f32) (x25 : Vec F S48x128 .f32)
    (y22 y23 : Vec F S48x128 .f32) (y24 : Vec F S48x1024 .f32) (y25 : Vec F S48x128 .f32) : Prop :=
  (k0_cond2 i = 1#1 → y22 = k0_pay436 (newV n o fl q kn) ∧ y23 = k0_pay437 ∧ y24 = k0_pay438 ∧ y25 = k0_pay435 (newV n o fl q kn))
  ∧ (¬ k0_cond2 i = 1#1 → y22 = x22 ∧ y23 = x23 ∧ y24 = x24 ∧ y25 = x25)

/-- The scratch array `y` holds the spread query of `q`. -/
def IsQbd (q : FVec F S48x128 .bf16) (y : Vec F S48x1024 .bf16) : Prop :=
  ∀ (h : Fin 8) (r : Fin 48) (l : Fin 128), y (ix2 r ⟨128 * h.val + l.val, by omega⟩) = qbdV q h (ix2 r l)

/-- What the first part of the body makes of the rotated query, of the tables, of the base tables and of the spread query: the tables are
    computed at the first grid point, the others at the first point of a batch; elsewhere they are kept. -/
def Begun (i : grid0.Coords) (fs : Vec F S64x128 .f32) (fl : Vec F S8x128 .f32) (q : Vec F S1x1x48x128 .bf16) (n o : Elt F .i32)
    (x14 : Vec F S1x1x48x128 .bf16) (x16 x17 : Vec F S64x256 .f32) (x18 x19 : Vec F S64x128 .f32) (x20 : Vec F S48x1024 .bf16)
    (y14 : Vec F S1x1x48x128 .bf16) (y16 y17 : Vec F S64x256 .f32) (y18 y19 : Vec F S64x128 .f32) (y20 : Vec F S48x1024 .bf16) : Prop :=
  (firstPt i = 1#1 → y16 = k0_pay432 fs ∧ y17 = k0_pay433 fs) ∧ (¬ firstPt i = 1#1 → y16 = x16 ∧ y17 = x17)
  ∧ (k0_cond2 i = 1#1 → y14 = k0_pay21 (qV n o fl q) ∧ y18 = k0_pay8 o fs ∧ y19 = k0_pay9 o fs ∧ IsQbd (qV n o fl q) y20)
  ∧ (¬ k0_cond2 i = 1#1 → y14 = x14 ∧ y18 = x18 ∧ y19 = x19 ∧ y20 = x20)

/-- Eight blocks of 128 columns written in turn hold the spread query. -/
theorem isQbd_writes {sig : RefSig} {κ : Kind} {sp : Space} (v : View sig κ sp S48x1024 .bf16) (f : v.ty.Contents (Elt F)) (q : FVec F S48x128 .bf16) :
    IsQbd q (View.read (Elt F) v (v.writes (Elt F) f
      [⟨Rect.unit (s := S48x1024) ![0, 896] S48x128.size inb_S48x1024_S48x128_0_896, qbdV q 7⟩,
       ⟨Rect.unit (s := S48x1024) ![0, 768] S48x128.size inb_S48x1024_S48x128_0_768, qbdV q 6⟩,
       ⟨Rect.unit (s := S48x1024) ![0, 640] S48x128.size inb_S48x1024_S48x128_0_640, qbdV q 5⟩,
       ⟨Rect.unit (s := S48x1024) ![0, 512] S48x128.size inb_S48x1024_S48x128_0_512, qbdV q 4⟩,
       ⟨Rect.unit (s := S48x1024) ![0, 384] S48x128.size inb_S48x1024_S48x128_0_384, qbdV q 3⟩,
       ⟨Rect.unit (s := S48x1024) ![0, 256] S48x128.size inb_S48x1024_S48x128_0_256, qbdV q 2⟩,
       ⟨Rect.unit (s := S48x1024) ![0, 128] S48x128.size inb_S48x1024_S48x128_0_128, qbdV q 1⟩,
       ⟨Rect.unit (s := S48x1024) ![0, 0] S48x128.size inb_S48x1024_S48x128_0_0, qbdV q 0⟩])) := by
  intro h r l
  have hit (h : Fin 8) (o : ℕ) (inb) (w : FVec F S48x128 .bf16) (L) (e : o = 128 * h.val) :
      View.read (Elt F) v (v.writes (Elt F) f (⟨Rect.unit (s := S48x1024) ![0, o] S48x128.size inb, w⟩ :: L)) (ix2 r ⟨128 * h.val + l.val, by omega⟩) = w (ix2 r l) := by
    subst e
    refine View.read_writes_cons_unit_of_mem v f inb w L _ (ix2 r l) rfl fun a => ?_
    match a with
    | 0 => exact (Nat.zero_add _).symm
    | 1 => rfl
  have miss (h : Fin 8) (o : ℕ) (inb) (w : FVec F S48x128 .bf16) (L) (e : o + 128 ≤ 128 * h.val ∨ 128 * h.val + 128 ≤ o) :
      View.read (Elt F) v (v.writes (Elt F) f (⟨Rect.unit (s := S48x1024) ![0, o] S48x128.size inb, w⟩ :: L)) (ix2 r ⟨128 * h.val + l.val, by omega⟩)
        = View.read (Elt F) v (v.writes (Elt F) f L) (ix2 r ⟨128 * h.val + l.val, by omega⟩) := by
    refine View.read_writes_cons_unit_of_not_mem v f inb w L _ rfl 1 ?_
    show 128 * h.val + l.val < o ∨ o + 128 ≤ 128 * h.val + l.val
    omega
  match h with
  | 7 => exact hit 7 896 _ _ _ rfl
  | 6 => exact (miss 6 896 _ _ _ (by decide)).trans (hit 6 768 _ _ _ rfl)
  | 5 => exact (miss 5 896 _ _ _ (by decide)).trans ((miss 5 768 _ _ _ (by decide)).trans (hit 5 640 _ _ _ rfl))
  | 4 => exact (miss 4 896 _ _ _ (by decide)).trans ((miss 4 768 _ _ _ (by decide)).trans ((miss 4 640 _ _ _ (by decide)).trans (hit 4 512 _ _ _ rfl)))
  | 3 => exact (miss 3 896 _ _ _ (by decide)).trans ((miss 3 768 _ _ _ (by decide)).trans ((miss 3 640 _ _ _ (by decide)).trans ((miss 3 512 _ _ _ (by decide)).trans (hit 3 384 _ _ _ rfl))))
  | 2 => exact (miss 2 896 _ _ _ (by decide)).trans ((miss 2 768 _ _ _ (by decide)).trans ((miss 2 640 _ _ _ (by decide)).trans ((miss 2 512 _ _ _ (by decide)).trans ((miss 2 384 _ _ _ (by decide)).trans (hit 2 256 _ _ _ rfl)))))
  | 1 => exact (miss 1 896 _ _ _ (by decide)).trans ((miss 1 768 _ _ _ (by decide)).trans ((miss 1 640 _ _ _ (by decide)).trans ((miss 1 512 _ _ _ (by decide)).trans ((miss 1 384 _ _ _ (by decide)).trans ((miss 1 256 _ _ _ (by decide)).trans (hit 1 128 _ _ _ rfl))))))
  | 0 => exact (miss 0 896 _ _ _ (by decide)).trans ((miss 0 768 _ _ _ (by decide)).trans ((miss 0 640 _ _ _ (by decide)).trans ((miss 0 512 _ _ _ (by decide)).trans ((miss 0 384 _ _ _ (by decide)).trans ((miss 0 256 _ _ _ (by decide)).trans ((miss 0 128 _ _ _ (by decide)).trans (hit 0 0 _ _ _ rfl)))))))

set_option maxHeartbeats 40000000 in
/-- The first part of the body — the length word read, the tables and the start of a batch — from its operands held: its results named, the inputs unchanged, and what it writes as `Begun` says. -/
theorem part99_val (c : Dev nD) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole)
    (hchk : ∀ v1 : Elt F .i32, k0_chk1 i v1)
    (X2 : BufTy.Contents (Elt F) arg2.view.ty) (X3 : BufTy.Contents (Elt F) arg3.view.ty) (X4 : BufTy.Contents (Elt F) arg4.view.ty) (X5 : BufTy.Contents (Elt F) arg5.view.ty) (X11 : BufTy.Contents (Elt F) arg11.view.ty) (X12 : BufTy.Contents (Elt F) arg12.view.ty) (f14 : BufTy.Contents (Elt F) arg14.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f22 : BufTy.Contents (Elt F) arg22.view.ty) (f23 : BufTy.Contents (Elt F) arg23.view.ty) (f24 : BufTy.Contents (Elt F) arg24.view.ty) (f25 : BufTy.Contents (Elt F) arg25.view.ty) (v1 : Elt F .i32) (v3 : Elt F .i32) (hv3 : v3 = View.read (Elt F) (arg3.access (Rect.unit (s := S4) (k0_off1 i) S1.size (k0_off1_inb i))) X3 (Shape.Idx.first (numel1_S1.symm ▸ Nat.one_pos))) (hv1 : v1 = View.read (Elt F) (arg2.access (Rect.unit (s := S4) (k0_off1 i) S1.size (k0_off1_inb i))) X2 (Shape.Idx.first (numel1_S1.symm ▸ Nat.one_pos))) :
    (iprop((arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg14.view.loc (c : Thread nD τ) ↦[arg14.view.set]{fullShare} f14) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)) : sProp 𝕄)
      ⊢ wp frame (wpE (defs₀ (F := F)) Variants.none c none) Set.univ
          (k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun r => iprop(∃ g14 g16 g17 g18 g19 g20 g22 g23 g24 g25, ⌜r = (⟨BitVec.ofNat 32 (i 1).val, v1, hchk v1, Scalar.muli (BitVec.ofNat 32 (i 1).val) 2048#32, k0_pay434, Scalar.subi v1 (Scalar.muli (BitVec.ofNat 32 (i 1).val) 2048#32), 0#32⟩ : Σ' (arg1 : BitVec 32) (v1 : Elt F .i32) (k0_hw1 : k0_chk1 i v1) (v4 : BitVec 32) (v36 : IVec S48x8 1) (v40 : BitVec 32), BitVec 32)⌝ ∗ ⌜Begun i (View.read (Elt F) arg11.view X11) (View.read (Elt F) arg12.view X12) (View.read (Elt F) arg4.view X4) v1 v3 (View.read (Elt F) arg14.view f14) (View.read (Elt F) arg16.view f16) (View.read (Elt F) arg17.view f17) (View.read (Elt F) arg18.view f18) (View.read (Elt F) arg19.view f19) (View.read (Elt F) arg20.view f20) (View.read (Elt F) arg14.view g14) (View.read (Elt F) arg16.view g16) (View.read (Elt F) arg17.view g17) (View.read (Elt F) arg18.view g18) (View.read (Elt F) arg19.view g19) (View.read (Elt F) arg20.view g20) ∧ BegunS i (View.read (Elt F) arg12.view X12) (View.read (Elt F) arg4.view X4) (View.read (Elt F) arg5.view X5) v1 v3 (View.read (Elt F) arg22.view f22) (View.read (Elt F) arg23.view f23) (View.read (Elt F) arg24.view f24) (View.read (Elt F) arg25.view f25) (View.read (Elt F) arg22.view g22) (View.read (Elt F) arg23.view g23) (View.read (Elt F) arg24.view g24) (View.read (Elt F) arg25.view g25)⌝ ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg14.view.loc (c : Thread nD τ) ↦[arg14.view.set]{fullShare} g14) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg22.view.loc (c : Thread nD τ) ↦[arg22.view.set]{fullShare} g22) ∗ (arg23.view.loc (c : Thread nD τ) ↦[arg23.view.set]{fullShare} g23) ∗ (arg24.view.loc (c : Thread nD τ) ↦[arg24.view.set]{fullShare} g24) ∗ (arg25.view.loc (c : Thread nD τ) ↦[arg25.view.set]{fullShare} g25))) := by
  subst hv1 hv3
  simp only [k0_part99_eq_skeleton]; unfold k0_part99_skel
  iintro ⟨H2, H3, H4, H5, H11, H12, H14, H16, H17, H18, H19, H20, H22, H23, H24, H25⟩
  by_cases h2 : k0_cond2 i = 1#1
  · by_cases h1 : firstPt i = 1#1
    · have h1' := h1
      unfold firstPt at h1'
      sl_exec
      sl_unfold_run_names
      sl_step
      iexists _, _, _, _, _, _, _, _, _, _
      isplitr; · ipureintro; rfl
      isplitr; rotate_left
      isplitl [H2]; · iexact H2
      isplitl [H3]; · iexact H3
      isplitl [H4]; · iexact H4
      isplitl [H5]; · iexact H5
      isplitl [H11]; · iexact H11
      isplitl [H12]; · iexact H12
      isplitl [H14]; · iexact H14
      isplitl [H16]; · iexact H16
      isplitl [H17]; · iexact H17
      isplitl [H18]; · iexact H18
      isplitl [H19]; · iexact H19
      isplitl [H20]; · iexact H20
      isplitl [H22]; · iexact H22
      isplitl [H23]; · iexact H23
      isplitl [H24]; · iexact H24
      · iexact H25
      · ipureintro
        refine ⟨⟨fun _ => ⟨?_, ?_⟩, fun h => absurd h1 h, fun _ => ⟨?_, ?_, ?_, ?_⟩, fun h => absurd h2 h⟩, fun _ => ⟨?_, ?_, ?_, ?_⟩, fun h => absurd h2 h⟩
        · rw [View.read_writes_full, View.readAt_full]
        · rw [View.read_writes_full, View.readAt_full]
        · rw [View.read_writes_full, View.readAt_full, View.readAt_full]; rfl
        · rw [View.read_writes_full, View.readAt_full]; rfl
        · rw [View.read_writes_full, View.readAt_full]; rfl
        · rw [View.readAt_full, View.readAt_full]; exact isQbd_writes _ _ _
        · rw [View.read_writes_full, View.readAt_full, View.readAt_full, View.readAt_full]; rfl
        · rw [View.read_writes_full]
        · rw [View.read_writes_full]
        · rw [View.read_writes_full, View.readAt_full, View.readAt_full, View.readAt_full]; rfl
    · have h1' := h1
      unfold firstPt at h1'
      sl_exec
      sl_unfold_run_names
      sl_step
      iexists _, _, _, _, _, _, _, _, _, _
      isplitr; · ipureintro; rfl
      isplitr; rotate_left
      isplitl [H2]; · iexact H2
      isplitl [H3]; · iexact H3
      isplitl [H4]; · iexact H4
      isplitl [H5]; · iexact H5
      isplitl [H11]; · iexact H11
      isplitl [H12]; · iexact H12
      isplitl [H14]; · iexact H14
      isplitl [H16]; · iexact H16
      isplitl [H17]; · iexact H17
      isplitl [H18]; · iexact H18
      isplitl [H19]; · iexact H19
      isplitl [H20]; · iexact H20
      isplitl [H22]; · iexact H22
      isplitl [H23]; · iexact H23
      isplitl [H24]; · iexact H24
      · iexact H25
      · ipureintro
        refine ⟨⟨fun h => absurd h h1, fun _ => ⟨rfl, rfl⟩, fun _ => ⟨?_, ?_, ?_, ?_⟩, fun h => absurd h2 h⟩, fun _ => ⟨?_, ?_, ?_, ?_⟩, fun h => absurd h2 h⟩
        · rw [View.read_writes_full, View.readAt_full, View.readAt_full]; rfl
        · rw [View.read_writes_full, View.readAt_full]; rfl
        · rw [View.read_writes_full, View.readAt_full]; rfl
        · rw [View.readAt_full, View.readAt_full]; exact isQbd_writes _ _ _
        · rw [View.read_writes_full, View.readAt_full, View.readAt_full, View.readAt_full]; rfl
        · rw [View.read_writes_full]
        · rw [View.read_writes_full]
        · rw [View.read_writes_full, View.readAt_full, View.readAt_full, View.readAt_full]; rfl
  · have h1 : ¬ firstPt i = 1#1 := fun h => h2 (firstPt_cond2 i h)
    have h1' := h1
    unfold firstPt at h1'
    sl_exec
    sl_step
    iexists _, _, _, _, _, _, _, _, _, _
    isplitr; · ipureintro; rfl
    isplitr; rotate_left
    isplitl [H2]; · iexact H2
    isplitl [H3]; · iexact H3
    isplitl [H4]; · iexact H4
    isplitl [H5]; · iexact H5
    isplitl [H11]; · iexact H11
    isplitl [H12]; · iexact H12
    isplitl [H14]; · iexact H14
    isplitl [H16]; · iexact H16
    isplitl [H17]; · iexact H17
    isplitl [H18]; · iexact H18
    isplitl [H19]; · iexact H19
    isplitl [H20]; · iexact H20
    isplitl [H22]; · iexact H22
    isplitl [H23]; · iexact H23
    isplitl [H24]; · iexact H24
    · iexact H25
    · ipureintro
      refine ⟨⟨fun h => absurd h h1, fun _ => ⟨rfl, rfl⟩, fun h => absurd h h2, fun _ => ⟨rfl, rfl, rfl, rfl⟩⟩, fun h => absurd h h2, fun _ => ⟨rfl, rfl, rfl, rfl⟩⟩

end Cert.KernelIdeal.Hand

end
-- ==== Proof.Trip.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-- The quotient of two words rounded towards minus infinity, as the body computes it. -/
def fdivS (x y : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt y 0#32)) (Scalar.extui (Scalar.cmpi .slt y 0#32))))
      (Scalar.cmpi .ne (Scalar.remsi x y) 0#32))
    (Scalar.subi (Scalar.divsi x y) 1#32) (Scalar.divsi x y)

/-- The same quotient on vectors, by one word. -/
def fdivV (x : IVec S128x128 32) (y : BitVec 32) : IVec S128x128 32 :=
  select
    (andi
      (cmpi .ne (subi (extui 32 (cmpi .sgt x (broadcast S128x128 0#32)) natLt_1_32) (extui 32 (cmpi .slt x (broadcast S128x128 0#32)) natLt_1_32))
        (broadcast S128x128 (Scalar.subi (Scalar.extui (Scalar.cmpi .sgt y 0#32)) (Scalar.extui (Scalar.cmpi .slt y 0#32)))))
      (cmpi .ne (remsi x (broadcast S128x128 y)) (broadcast S128x128 0#32)))
    (subi (divsi x (broadcast S128x128 y)) (broadcast S128x128 1#32)) (divsi x (broadcast S128x128 y))

/-- The lane of a base table that holds chunk `a` of the block that begins at token `v4`, read at every lane. -/
def baseAt (x : FVec F S64x128 .f32) (v4 a : BitVec 32) : FVec F S64x128 .f32 :=
  dynamicGather 1 x (shapeCast S64x128 (shapeCast S64x128x1 (broadcast S64x128 (Scalar.addi (fdivS v4 256#32) a)) shapeCasts_S64x128_S64x128x1)
    shapeCasts_S64x128x1_S64x128)

/-- The four-bit two's complement digit in the low bits of each word, as a float. -/
def digit (x : IVec S64x128 32) : FVec F S64x128 .f32 :=
  sitofp .f32 (subi (xori (andi x (broadcast S64x128 15#32)) (broadcast S64x128 8#32)) (broadcast S64x128 8#32))

/-- The decoded codes of one head: row `2 d` holds the low digits of code row `d`, row `2 d + 1` the high digits. -/
def codeV (x : Vec F S1x1x64x128 .i8) : FVec F S128x128 .bf16 :=
  have w : IVec S64x128 32 := extui 32 (shapeCast S64x128 x shapeCasts_S1x1x64x128_S64x128) natLt_8_32
  interleaveRows S128x128 (truncf .bf16 (digit w)) (truncf .bf16 (digit (shrsi w (broadcast S64x128 4#32)))) bitcasts_S128x128_w16_S64x128_w32

/-- The group of tokens that each lane belongs to, for 128 lanes that begin at the block's token `256 a + o`. -/
def groupV (lane : IVec S128x128 32) (a o : BitVec 32) : IVec S128x128 32 :=
  addi (broadcast S128x128 (fdivS (Scalar.addi (Scalar.muli a 256#32) o) 32#32)) (fdivV lane 32#32)

/-- The scaled codes of one head. -/
def keyV (x : Vec F S1x1x64x128 .i8) (s : Vec F S1x128x128 .bf16) (g : IVec S128x128 32) : FVec F S128x128 .bf16 :=
  mulf (codeV x) (truncf .bf16 (dynamicGather 1 (extf .f32 (shapeCast S128x128 s shapeCasts_S1x128x128_S128x128) bitsLt_bf16_f32)
    (shapeCast S128x128 (shapeCast S128x128x1 g shapeCasts_S128x128_S128x128x1) shapeCasts_S128x128x1_S128x128)) bitsLt_bf16_f32)

/-- The rotated even entries of the keys of one head. -/
def evenV (k : FVec F S128x128 .bf16) (co si : FVec F S64x128 .f32) : FVec F S64x128 .bf16 :=
  truncf .bf16 (subf (mulf (extf .f32 (rowsOfParity 0 S64x128 k bitcasts_S128x128_w16_S64x128_w32)) co)
    (mulf (extf .f32 (rowsOfParity 1 S64x128 k bitcasts_S128x128_w16_S64x128_w32)) si)) bitsLt_bf16_f32

/-- The rotated odd entries of the keys of one head. -/
def oddV (k : FVec F S128x128 .bf16) (co si : FVec F S64x128 .f32) : FVec F S64x128 .bf16 :=
  truncf .bf16 (addf (mulf (extf .f32 (rowsOfParity 1 S64x128 k bitcasts_S128x128_w16_S64x128_w32)) co)
    (mulf (extf .f32 (rowsOfParity 0 S64x128 k bitcasts_S128x128_w16_S64x128_w32)) si)) bitsLt_bf16_f32

/-- Two chunks of 128 tokens side by side. -/
def sideV (x y : FVec F S64x128 .bf16) : FVec F S64x256 .bf16 :=
  concatenate S64x256 1 [⟨S64x128, x⟩, ⟨S64x128, y⟩] concatenates_S64x128_S64x128_S64x256_d1

/-- The products of the queries with the keys of two heads. -/
def pairV (q : FVec F S48x256 .bf16) (a b c d : FVec F S64x256 .bf16) : FVec F S48x256 .f32 :=
  matmul dot_S48x256_S256x256_S48x256_1_0_0_1_n_n none q
    (concatenate S256x256 0 [⟨S64x256, a⟩, ⟨S64x256, b⟩, ⟨S64x256, c⟩, ⟨S64x256, d⟩] concatenates_S64x256_S64x256_S64x256_S64x256_S256x256_d0)
    (constant S48x256 .f32 0x00000000#32)

/-- The cosines and the sines of 256 tokens by the addition theorems: of the chunk's first token from the base tables `c`, `s`, of the
    offset within the chunk from the tables `tc`, `ts`. -/
def cosV (c s tc ts : FVec F S64x128 .f32) : FVec F S64x128 .f32 := subf (mulf c tc) (mulf s ts)
@[inherit_doc cosV] def sinV (c s tc ts : FVec F S64x128 .f32) : FVec F S64x128 .f32 := addf (mulf s tc) (mulf c ts)

/-- The scaled products of all the heads for one chunk of 256 tokens. -/
def dotsV (lane : IVec S128x128 32) (a : BitVec 32) (co si : Fin 2 → FVec F S64x128 .f32) (x : Fin 8 → Fin 2 → Vec F S1x1x64x128 .i8)
    (s : Fin 8 → Vec F S1x128x128 .bf16) (q : Fin 4 → Vec F S48x256 .bf16) : FVec F S48x256 .f32 :=
  have e (h : Fin 8) : FVec F S64x256 .bf16 := sideV (evenV (keyV (x h 0) (s h) (groupV lane a 0#32)) (co 0) (si 0))
    (evenV (keyV (x h 1) (s h) (groupV lane a 128#32)) (co 1) (si 1))
  have o (h : Fin 8) : FVec F S64x256 .bf16 := sideV (oddV (keyV (x h 0) (s h) (groupV lane a 0#32)) (co 0) (si 0))
    (oddV (keyV (x h 1) (s h) (groupV lane a 128#32)) (co 1) (si 1))
  mulf (addf (addf (addf (pairV (q 0) (e 0) (o 0) (e 1) (o 1)) (pairV (q 1) (e 2) (o 2) (e 3) (o 3))) (pairV (q 2) (e 4) (o 4) (e 5) (o 5)))
    (pairV (q 3) (e 6) (o 6) (e 7) (o 7))) (broadcast S48x256 (Scalar.ofBits .f32 0x3DB504F3#32))

/-- The scores that one trip of the first loop stores: the products where the token is below the length, zero elsewhere. -/
def blkV (v1 : Elt F .i32) (v4 : BitVec 32) (a : BitVec 32) (d : FVec F S48x256 .f32) : FVec F S1x1x48x256 .f32 :=
  k0_pay186 v1 v4 d (Scalar.muli a 256#32)

set_option maxHeartbeats 4000000 in
/-- One trip stores one piece: `blkV` of what it loads. -/
theorem tripL_eq (𝒱 : Variants) (c : Dev nD) (bd : Option 𝒱.V) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole) (v1 : Elt F .i32) (k0_hw1 : k0_chk1 i v1) (v4 : BitVec 32) (v61 : BitVec 32) (k0_h4 : k0_cond4 i v1 = 1#1) (v130 : FVec F S128x128 .f32) (v135 : IVec S128x128 32) (X_arg7 : BufTy.Contents (Elt F) arg7.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin (k0_t1_loop i v1).trips) (acc : Vec F S48x128 .f32) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 k acc
      = [⟨Rect.unit (s := S1x1x48x2048) (k0_off10 i v1 k) S1x1x48x256.size (k0_off10_inb i v1 k0_hw1 k k0_h4),
        blkV v1 v4 (Scf.iv 0#32 1#32 k) (dotsV v135 (Scf.iv 0#32 1#32 k)
        ![cosV (baseAt (View.readAt (Elt F) arg18.view (Rect.unit (s := S64x128) ![0, 0] S64x128.size inb_S64x128_S64x128_0_0).toLoadRect X_arg18) v4 (Scf.iv 0#32 1#32 k)) (baseAt (View.readAt (Elt F) arg19.view (Rect.unit (s := S64x128) ![0, 0] S64x128.size inb_S64x128_S64x128_0_0).toLoadRect X_arg19) v4 (Scf.iv 0#32 1#32 k)) (View.readAt (Elt F) arg16.view (Rect.unit (s := S64x256) ![0, 0] S64x128.size inb_S64x256_S64x128_0_0).toLoadRect X_arg16) (View.readAt (Elt F) arg17.view (Rect.unit (s := S64x256) ![0, 0] S64x128.size inb_S64x256_S64x128_0_0).toLoadRect X_arg17),
          cosV (baseAt (View.readAt (Elt F) arg18.view (Rect.unit (s := S64x128) ![0, 0] S64x128.size inb_S64x128_S64x128_0_0).toLoadRect X_arg18) v4 (Scf.iv 0#32 1#32 k)) (baseAt (View.readAt (Elt F) arg19.view (Rect.unit (s := S64x128) ![0, 0] S64x128.size inb_S64x128_S64x128_0_0).toLoadRect X_arg19) v4 (Scf.iv 0#32 1#32 k)) (View.readAt (Elt F) arg16.view (Rect.unit (s := S64x256) ![0, 128] S64x128.size inb_S64x256_S64x128_0_128).toLoadRect X_arg16) (View.readAt (Elt F) arg17.view (Rect.unit (s := S64x256) ![0, 128] S64x128.size inb_S64x256_S64x128_0_128).toLoadRect X_arg17)]
        ![sinV (baseAt (View.readAt (Elt F) arg18.view (Rect.unit (s := S64x128) ![0, 0] S64x128.size inb_S64x128_S64x128_0_0).toLoadRect X_arg18) v4 (Scf.iv 0#32 1#32 k)) (baseAt (View.readAt (Elt F) arg19.view (Rect.unit (s := S64x128) ![0, 0] S64x128.size inb_S64x128_S64x128_0_0).toLoadRect X_arg19) v4 (Scf.iv 0#32 1#32 k)) (View.readAt (Elt F) arg16.view (Rect.unit (s := S64x256) ![0, 0] S64x128.size inb_S64x256_S64x128_0_0).toLoadRect X_arg16) (View.readAt (Elt F) arg17.view (Rect.unit (s := S64x256) ![0, 0] S64x128.size inb_S64x256_S64x128_0_0).toLoadRect X_arg17),
          sinV (baseAt (View.readAt (Elt F) arg18.view (Rect.unit (s := S64x128) ![0, 0] S64x128.size inb_S64x128_S64x128_0_0).toLoadRect X_arg18) v4 (Scf.iv 0#32 1#32 k)) (baseAt (View.readAt (Elt F) arg19.view (Rect.unit (s := S64x128) ![0, 0] S64x128.size inb_S64x128_S64x128_0_0).toLoadRect X_arg19) v4 (Scf.iv 0#32 1#32 k)) (View.readAt (Elt F) arg16.view (Rect.unit (s := S64x256) ![0, 128] S64x128.size inb_S64x256_S64x128_0_128).toLoadRect X_arg16) (View.readAt (Elt F) arg17.view (Rect.unit (s := S64x256) ![0, 128] S64x128.size inb_S64x256_S64x128_0_128).toLoadRect X_arg17)]
        (![![View.readAt (Elt F) arg7.view (Rect.unit (s := S1x8x64x2048) (k0_off2 i v1 k 0#32) S1x1x64x128.size (k0_off2_inb i v1 k0_hw1 k k0_h4 0)).toLoadRect X_arg7,
          View.readAt (Elt F) arg7.view (Rect.unit (s := S1x8x64x2048) (k0_off2 i v1 k 128#32) S1x1x64x128.size (k0_off2_inb i v1 k0_hw1 k k0_h4 1)).toLoadRect X_arg7],
        ![View.readAt (Elt F) arg7.view (Rect.unit (s := S1x8x64x2048) (k0_off3 i v1 k 0#32) S1x1x64x128.size (k0_off3_inb i v1 k0_hw1 k k0_h4 0)).toLoadRect X_arg7,
          View.readAt (Elt F) arg7.view (Rect.unit (s := S1x8x64x2048) (k0_off3 i v1 k 128#32) S1x1x64x128.size (k0_off3_inb i v1 k0_hw1 k k0_h4 1)).toLoadRect X_arg7],
        ![View.readAt (Elt F) arg7.view (Rect.unit (s := S1x8x64x2048) (k0_off4 i v1 k 0#32) S1x1x64x128.size (k0_off4_inb i v1 k0_hw1 k k0_h4 0)).toLoadRect X_arg7,
          View.readAt (Elt F) arg7.view (Rect.unit (s := S1x8x64x2048) (k0_off4 i v1 k 128#32) S1x1x64x128.size (k0_off4_inb i v1 k0_hw1 k k0_h4 1)).toLoadRect X_arg7],
        ![View.readAt (Elt F) arg7.view (Rect.unit (s := S1x8x64x2048) (k0_off5 i v1 k 0#32) S1x1x64x128.size (k0_off5_inb i v1 k0_hw1 k k0_h4 0)).toLoadRect X_arg7,
          View.readAt (Elt F) arg7.view (Rect.unit (s := S1x8x64x2048) (k0_off5 i v1 k 128#32) S1x1x64x128.size (k0_off5_inb i v1 k0_hw1 k k0_h4 1)).toLoadRect X_arg7],
        ![View.readAt (Elt F) arg7.view (Rect.unit (s := S1x8x64x2048) (k0_off6 i v1 k 0#32) S1x1x64x128.size (k0_off6_inb i v1 k0_hw1 k k0_h4 0)).toLoadRect X_arg7,
          View.readAt (Elt F) arg7.view (Rect.unit (s := S1x8x64x2048) (k0_off6 i v1 k 128#32) S1x1x64x128.size (k0_off6_inb i v1 k0_hw1 k k0_h4 1)).toLoadRect X_arg7],
        ![View.readAt (Elt F) arg7.view (Rect.unit (s := S1x8x64x2048) (k0_off7 i v1 k 0#32) S1x1x64x128.size (k0_off7_inb i v1 k0_hw1 k k0_h4 0)).toLoadRect X_arg7,
          View.readAt (Elt F) arg7.view (Rect.unit (s := S1x8x64x2048) (k0_off7 i v1 k 128#32) S1x1x64x128.size (k0_off7_inb i v1 k0_hw1 k k0_h4 1)).toLoadRect X_arg7],
        ![View.readAt (Elt F) arg7.view (Rect.unit (s := S1x8x64x2048) (k0_off8 i v1 k 0#32) S1x1x64x128.size (k0_off8_inb i v1 k0_hw1 k k0_h4 0)).toLoadRect X_arg7,
          View.readAt (Elt F) arg7.view (Rect.unit (s := S1x8x64x2048) (k0_off8 i v1 k 128#32) S1x1x64x128.size (k0_off8_inb i v1 k0_hw1 k k0_h4 1)).toLoadRect X_arg7],
        ![View.readAt (Elt F) arg7.view (Rect.unit (s := S1x8x64x2048) (k0_off9 i v1 k 0#32) S1x1x64x128.size (k0_off9_inb i v1 k0_hw1 k k0_h4 0)).toLoadRect X_arg7,
          View.readAt (Elt F) arg7.view (Rect.unit (s := S1x8x64x2048) (k0_off9 i v1 k 128#32) S1x1x64x128.size (k0_off9_inb i v1 k0_hw1 k k0_h4 1)).toLoadRect X_arg7]])
        (![View.readAt (Elt F) arg21.view (Rect.unit (s := S8x128x128) ![0, 0, 0] S1x128x128.size inb_S8x128x128_S1x128x128_0_0_0).toLoadRect X_arg21,
        View.readAt (Elt F) arg21.view (Rect.unit (s := S8x128x128) ![1, 0, 0] S1x128x128.size inb_S8x128x128_S1x128x128_1_0_0).toLoadRect X_arg21,
        View.readAt (Elt F) arg21.view (Rect.unit (s := S8x128x128) ![2, 0, 0] S1x128x128.size inb_S8x128x128_S1x128x128_2_0_0).toLoadRect X_arg21,
        View.readAt (Elt F) arg21.view (Rect.unit (s := S8x128x128) ![3, 0, 0] S1x128x128.size inb_S8x128x128_S1x128x128_3_0_0).toLoadRect X_arg21,
        View.readAt (Elt F) arg21.view (Rect.unit (s := S8x128x128) ![4, 0, 0] S1x128x128.size inb_S8x128x128_S1x128x128_4_0_0).toLoadRect X_arg21,
        View.readAt (Elt F) arg21.view (Rect.unit (s := S8x128x128) ![5, 0, 0] S1x128x128.size inb_S8x128x128_S1x128x128_5_0_0).toLoadRect X_arg21,
        View.readAt (Elt F) arg21.view (Rect.unit (s := S8x128x128) ![6, 0, 0] S1x128x128.size inb_S8x128x128_S1x128x128_6_0_0).toLoadRect X_arg21,
        View.readAt (Elt F) arg21.view (Rect.unit (s := S8x128x128) ![7, 0, 0] S1x128x128.size inb_S8x128x128_S1x128x128_7_0_0).toLoadRect X_arg21])
        (![View.readAt (Elt F) arg20.view (Rect.unit (s := S48x1024) ![0, 0] S48x256.size inb_S48x1024_S48x256_0_0).toLoadRect X_arg20,
        View.readAt (Elt F) arg20.view (Rect.unit (s := S48x1024) ![0, 256] S48x256.size inb_S48x1024_S48x256_0_256).toLoadRect X_arg20,
        View.readAt (Elt F) arg20.view (Rect.unit (s := S48x1024) ![0, 512] S48x256.size inb_S48x1024_S48x256_0_512).toLoadRect X_arg20,
        View.readAt (Elt F) arg20.view (Rect.unit (s := S48x1024) ![0, 768] S48x256.size inb_S48x1024_S48x256_0_768).toLoadRect X_arg20]))⟩] := by
  unfold tripL_k0_t1 trip_k0_t1
  rfl

end Cert.KernelIdeal.Hand
-- ==== Proof.Pieces.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec
public import Idealize.ShloMosaic.Lib.Pointwise
public import Idealize.ShloMosaic.Lib.WritesUnit
public import Idealize.ShloMosaic.Lib.VecWindow
public import proofs.«01_k».proof.Proof.Trip
public import proofs.«01_k».proof.Proof.Checks

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-- The codes of head `h` that half `e` of the chunk `k` reads. -/
def chunkX (kc : Vec F S1x8x64x2048 .i8) (k : ℕ) (hk : k < 8) (h : Fin 8) (e : Fin 2) : Vec F S1x1x64x128 .i8 :=
  fun j => kc (ix4 0 h ⟨(j 2).val, (j 2).isLt⟩ ⟨256 * k + 128 * e.val + (j 3).val, by have h3 : (j 3).val < 128 := (j 3).isLt; omega⟩)

/-- Half `e` of a table of 256 lanes. -/
def halfT (x : Vec F S64x256 .f32) (e : Fin 2) : FVec F S64x128 .f32 :=
  fun j => x (ix2 ⟨(j 0).val, (j 0).isLt⟩ ⟨128 * e.val + (j 1).val, by have h1 : (j 1).val < 128 := (j 1).isLt; omega⟩)

/-- The columns of the spread query that belong to the heads `2 p` and `2 p + 1`. -/
def qBlk (y : Vec F S48x1024 .bf16) (p : Fin 4) : Vec F S48x256 .bf16 :=
  fun j => y (ix2 ⟨(j 0).val, (j 0).isLt⟩ ⟨256 * p.val + (j 1).val, by have h1 : (j 1).val < 256 := (j 1).isLt; omega⟩)

/-- The scales of head `h`, transposed and repeated. -/
def ksV (ks : Vec F S1x8x64x128 .f32) (h : Fin 8) : Vec F S1x128x128 .bf16 :=
  k0_pay400 fun j => ks (ix4 0 h ⟨(j 2).val, (j 2).isLt⟩ ⟨(j 3).val, (j 3).isLt⟩)

/-- The number of each lane. -/
def laneV : IVec S128x128 32 := iota .tc S128x128 32 [1] iota_S128x128_d1_w32

/-- The scores of chunk `k` of the block that begins at token `v4`, from the codes, the tables, the base tables, the spread query and the scales. -/
def scoreV (kc : Vec F S1x8x64x2048 .i8) (y16 y17 : Vec F S64x256 .f32) (y18 y19 : Vec F S64x128 .f32) (y20 : Vec F S48x1024 .bf16)
    (s : Fin 8 → Vec F S1x128x128 .bf16) (v1 : Elt F .i32) (v4 : BitVec 32) (k : ℕ) (hk : k < 8) : FVec F S1x1x48x256 .f32 :=
  blkV v1 v4 (Scf.iv 0#32 1#32 k) (dotsV laneV (Scf.iv 0#32 1#32 k)
    (fun e => cosV (baseAt y18 v4 (Scf.iv 0#32 1#32 k)) (baseAt y19 v4 (Scf.iv 0#32 1#32 k)) (halfT y16 e) (halfT y17 e))
    (fun e => sinV (baseAt y18 v4 (Scf.iv 0#32 1#32 k)) (baseAt y19 v4 (Scf.iv 0#32 1#32 k)) (halfT y16 e) (halfT y17 e))
    (chunkX kc k hk) s (qBlk y20))

section Reads

variable {sig : RefSig} {κ : Kind} {sp : Space}

theorem read_codes (v : View sig κ sp S1x8x64x2048 .i8) (f : v.ty.Contents (Elt F)) (k : ℕ) (hk : k < 8) (h : Fin 8) (e : Fin 2) (off : Fin 4 → ℕ) (inb)
    (ho : off = ![0, h.val, 0, (Scalar.addi (pos k) (BitVec.ofNat 32 (128 * e.val))).toNat]) :
    View.readAt (Elt F) v (Rect.unit (s := S1x8x64x2048) off S1x1x64x128.size inb).toLoadRect f = chunkX (View.read (Elt F) v f) k hk h e := by
  have ep := pos_half_eq ⟨k, hk⟩ e
  simp only at ep
  rw [ep] at ho
  subst ho
  funext j
  refine congrArg (View.read (Elt F) v f) (funext fun a => Fin.ext ?_)
  have h0 : (j 0).val < 1 := (j 0).isLt
  have h1 : (j 1).val < 1 := (j 1).isLt
  match a with
  | 0 => show 0 + 1 * (j 0).val = 0; omega
  | 1 => show h.val + 1 * (j 1).val = h.val; omega
  | 2 => show 0 + 1 * (j 2).val = (j 2).val; omega
  | 3 => show 256 * k + 128 * e.val + 1 * (j 3).val = 256 * k + 128 * e.val + (j 3).val; omega

theorem read_half (v : View sig κ sp S64x256 .f32) (f : v.ty.Contents (Elt F)) (e : Fin 2) (o : ℕ) (inb) (ho : o = 128 * e.val) :
    View.readAt (Elt F) v (Rect.unit (s := S64x256) ![0, o] S64x128.size inb).toLoadRect f = halfT (View.read (Elt F) v f) e := by
  subst ho
  funext j
  refine congrArg (View.read (Elt F) v f) (funext fun a => Fin.ext ?_)
  match a with
  | 0 => show 0 + 1 * (j 0).val = (j 0).val; omega
  | 1 => show 128 * e.val + 1 * (j 1).val = 128 * e.val + (j 1).val; omega

theorem read_query (v : View sig κ sp S48x1024 .bf16) (f : v.ty.Contents (Elt F)) (p : Fin 4) (o : ℕ) (inb) (ho : o = 256 * p.val) :
    View.readAt (Elt F) v (Rect.unit (s := S48x1024) ![0, o] S48x256.size inb).toLoadRect f = qBlk (View.read (Elt F) v f) p := by
  subst ho
  funext j
  refine congrArg (View.read (Elt F) v f) (funext fun a => Fin.ext ?_)
  match a with
  | 0 => show 0 + 1 * (j 0).val = (j 0).val; omega
  | 1 => show 256 * p.val + 1 * (j 1).val = 256 * p.val + (j 1).val; omega

theorem read_scales (v : View sig κ sp S1x8x64x128 .f32) (f : v.ty.Contents (Elt F)) (h : Fin 8) (o : ℕ) (inb) (ho : o = h.val) :
    k0_pay400 (View.readAt (Elt F) v (Rect.unit (s := S1x8x64x128) ![0, o, 0, 0] S1x1x64x128.size inb).toLoadRect f) = ksV (View.read (Elt F) v f) h := by
  subst ho
  refine congrArg k0_pay400 (funext fun j => congrArg (View.read (Elt F) v f) (funext fun a => Fin.ext ?_))
  have h0 : (j 0).val < 1 := (j 0).isLt
  have h1 : (j 1).val < 1 := (j 1).isLt
  match a with
  | 0 => show 0 + 1 * (j 0).val = 0; omega
  | 1 => show h.val + 1 * (j 1).val = h.val; omega
  | 2 => show 0 + 1 * (j 2).val = (j 2).val; omega
  | 3 => show 0 + 1 * (j 3).val = (j 3).val; omega

theorem readAt_hit (v : View sig κ sp S8x128x128 .bf16) (f : v.ty.Contents (Elt F)) (o : ℕ) (inb inb') (w : Vec F S1x128x128 .bf16) (L) :
    View.readAt (Elt F) v (Rect.unit (s := S8x128x128) ![o, 0, 0] S1x128x128.size inb).toLoadRect
      (v.writes (Elt F) f (⟨Rect.unit (s := S8x128x128) ![o, 0, 0] S1x128x128.size inb', w⟩ :: L)) = w :=
  funext fun j => View.read_writes_cons_unit_of_mem v f inb' w L _ j rfl fun a => by
    show (![o, 0, 0] : Fin 3 → ℕ) a + 1 * (j a).val = _
    rw [Nat.one_mul]

theorem readAt_miss (v : View sig κ sp S8x128x128 .bf16) (f : v.ty.Contents (Elt F)) (o o' : ℕ) (inb inb') (w : Vec F S1x128x128 .bf16) (L) (h : o' ≠ o) :
    View.readAt (Elt F) v (Rect.unit (s := S8x128x128) ![o, 0, 0] S1x128x128.size inb).toLoadRect
      (v.writes (Elt F) f (⟨Rect.unit (s := S8x128x128) ![o', 0, 0] S1x128x128.size inb', w⟩ :: L))
    = View.readAt (Elt F) v (Rect.unit (s := S8x128x128) ![o, 0, 0] S1x128x128.size inb).toLoadRect (v.writes (Elt F) f L) :=
  funext fun j => View.read_writes_cons_unit_of_not_mem v f inb' w L _ rfl 0 (by
    have h0 : (j 0).val < 1 := (j 0).isLt
    show o + 1 * (j 0).val < o' ∨ o' + 1 ≤ o + 1 * (j 0).val
    omega)

end Reads

theorem off_score (i : grid0.Coords) (v1 : BitVec 32) (k : Fin (k0_t1_loop i v1).trips) : k0_off10 i v1 k = ![0, 0, 0, 256 * k.val] := by
  show ![0, 0, 0, (pos k.val).toNat] = _
  have e := pos_eq ⟨k.val, lt1 k⟩
  simp only at e
  rw [e]

set_option maxHeartbeats 4000000 in
/-- One trip stores the scores of its chunk. -/
theorem tripL_score (𝒱 : Variants) (c : Dev nD) (bd : Option 𝒱.V) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole) (v1 : Elt F .i32) (k0_hw1 : k0_chk1 i v1) (v4 : BitVec 32) (v61 : BitVec 32) (k0_h4 : k0_cond4 i v1 = 1#1) (v130 : FVec F S128x128 .f32) (v135 : IVec S128x128 32) (X_arg7 : BufTy.Contents (Elt F) arg7.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin (k0_t1_loop i v1).trips) (acc : Vec F S48x128 .f32)
    (s : Fin 8 → Vec F S1x128x128 .bf16) (hv : v135 = laneV)
    (hs : ∀ (h : Fin 8) (inb), View.readAt (Elt F) arg21.view (Rect.unit (s := S8x128x128) ![h.val, 0, 0] S1x128x128.size inb).toLoadRect X_arg21 = s h) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 k acc
      = [⟨Rect.unit (s := S1x1x48x2048) (k0_off10 i v1 k) S1x1x48x256.size (k0_off10_inb i v1 k0_hw1 k k0_h4),
        scoreV (View.read (Elt F) arg7.view X_arg7) (View.read (Elt F) arg16.view X_arg16) (View.read (Elt F) arg17.view X_arg17) (View.read (Elt F) arg18.view X_arg18) (View.read (Elt F) arg19.view X_arg19) (View.read (Elt F) arg20.view X_arg20) s v1 v4 k.val (lt1 k)⟩] := by
  subst hv
  refine (tripL_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 laneV X_arg7 X_arg16 X_arg17 X_arg18 X_arg19 X_arg20 X_arg21 k acc).trans ?_
  refine congrArg (fun d => [(⟨Rect.unit (s := S1x1x48x2048) (k0_off10 i v1 k) S1x1x48x256.size (k0_off10_inb i v1 k0_hw1 k k0_h4), blkV v1 v4 (Scf.iv 0#32 1#32 k.val) d⟩ : View.Piece (Elt F) S1x1x48x2048 .f32)]) ?_
  have e18 : View.readAt (Elt F) arg18.view (Rect.unit (s := S64x128) ![0, 0] S64x128.size inb_S64x128_S64x128_0_0).toLoadRect X_arg18 = View.read (Elt F) arg18.view X_arg18 := View.readAt_full arg18.view X_arg18 _
  have e19 : View.readAt (Elt F) arg19.view (Rect.unit (s := S64x128) ![0, 0] S64x128.size inb_S64x128_S64x128_0_0).toLoadRect X_arg19 = View.read (Elt F) arg19.view X_arg19 := View.readAt_full arg19.view X_arg19 _
  rw [e18, e19]
  congr 1
  · funext e
    match e with
    | 0 => exact congrArg₂ (cosV _ _) (read_half arg16.view X_arg16 0 0 _ rfl) (read_half arg17.view X_arg17 0 0 _ rfl)
    | 1 => exact congrArg₂ (cosV _ _) (read_half arg16.view X_arg16 1 128 _ rfl) (read_half arg17.view X_arg17 1 128 _ rfl)
  · funext e
    match e with
    | 0 => exact congrArg₂ (sinV _ _) (read_half arg16.view X_arg16 0 0 _ rfl) (read_half arg17.view X_arg17 0 0 _ rfl)
    | 1 => exact congrArg₂ (sinV _ _) (read_half arg16.view X_arg16 1 128 _ rfl) (read_half arg17.view X_arg17 1 128 _ rfl)
  · funext h
    match h with
    | 0 =>
      funext e
      match e with
      | 0 => exact read_codes arg7.view X_arg7 k.val (lt1 k) 0 0 _ _ rfl
      | 1 => exact read_codes arg7.view X_arg7 k.val (lt1 k) 0 1 _ _ rfl
    | 1 =>
      funext e
      match e with
      | 0 => exact read_codes arg7.view X_arg7 k.val (lt1 k) 1 0 _ _ rfl
      | 1 => exact read_codes arg7.view X_arg7 k.val (lt1 k) 1 1 _ _ rfl
    | 2 =>
      funext e
      match e with
      | 0 => exact read_codes arg7.view X_arg7 k.val (lt1 k) 2 0 _ _ rfl
      | 1 => exact read_codes arg7.view X_arg7 k.val (lt1 k) 2 1 _ _ rfl
    | 3 =>
      funext e
      match e with
      | 0 => exact read_codes arg7.view X_arg7 k.val (lt1 k) 3 0 _ _ rfl
      | 1 => exact read_codes arg7.view X_arg7 k.val (lt1 k) 3 1 _ _ rfl
    | 4 =>
      funext e
      match e with
      | 0 => exact read_codes arg7.view X_arg7 k.val (lt1 k) 4 0 _ _ rfl
      | 1 => exact read_codes arg7.view X_arg7 k.val (lt1 k) 4 1 _ _ rfl
    | 5 =>
      funext e
      match e with
      | 0 => exact read_codes arg7.view X_arg7 k.val (lt1 k) 5 0 _ _ rfl
      | 1 => exact read_codes arg7.view X_arg7 k.val (lt1 k) 5 1 _ _ rfl
    | 6 =>
      funext e
      match e with
      | 0 => exact read_codes arg7.view X_arg7 k.val (lt1 k) 6 0 _ _ rfl
      | 1 => exact read_codes arg7.view X_arg7 k.val (lt1 k) 6 1 _ _ rfl
    | 7 =>
      funext e
      match e with
      | 0 => exact read_codes arg7.view X_arg7 k.val (lt1 k) 7 0 _ _ rfl
      | 1 => exact read_codes arg7.view X_arg7 k.val (lt1 k) 7 1 _ _ rfl
  · funext h
    match h with
    | 0 => exact hs 0 _
    | 1 => exact hs 1 _
    | 2 => exact hs 2 _
    | 3 => exact hs 3 _
    | 4 => exact hs 4 _
    | 5 => exact hs 5 _
    | 6 => exact hs 6 _
    | 7 => exact hs 7 _
  · funext p
    match p with
    | 0 => exact read_query arg20.view X_arg20 0 0 _ rfl
    | 1 => exact read_query arg20.view X_arg20 1 256 _ rfl
    | 2 => exact read_query arg20.view X_arg20 2 512 _ rfl
    | 3 => exact read_query arg20.view X_arg20 3 768 _ rfl

set_option maxHeartbeats 4000000 in
/-- After `m` trips the first `256 m` columns hold the scores of their chunks, the others what they held. -/
theorem st1_read (𝒱 : Variants) (c : Dev nD) (bd : Option 𝒱.V) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole) (v1 : Elt F .i32) (k0_hw1 : k0_chk1 i v1) (v4 : BitVec 32) (v61 : BitVec 32) (k0_h4 : k0_cond4 i v1 = 1#1) (v130 : FVec F S128x128 .f32) (v135 : IVec S128x128 32) (X_arg7 : BufTy.Contents (Elt F) arg7.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (init : Vec F S48x128 .f32)
    (s : Fin 8 → Vec F S1x128x128 .bf16) (hv : v135 = laneV)
    (hs : ∀ (h : Fin 8) (inb), View.readAt (Elt F) arg21.view (Rect.unit (s := S8x128x128) ![h.val, 0, 0] S1x128x128.size inb).toLoadRect X_arg21 = s h)
    (G : BufTy.Contents (Elt F) arg15.view.ty) (r : Fin 48) (m : ℕ) (hm : m ≤ (k0_t1_loop i v1).trips) :
    (∀ (k : ℕ) (hk : k < m) (n : Fin 256), View.read (Elt F) arg15.view (arg15.view.writes (Elt F) G
        (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 init m).2) (ix4 0 0 r ⟨256 * k + n.val, by have := nch_le (stepW i) v1; have := trips1 i v1; omega⟩)
      = scoreV (View.read (Elt F) arg7.view X_arg7) (View.read (Elt F) arg16.view X_arg16) (View.read (Elt F) arg17.view X_arg17) (View.read (Elt F) arg18.view X_arg18) (View.read (Elt F) arg19.view X_arg19) (View.read (Elt F) arg20.view X_arg20) s v1 v4 k (by have := nch_le (stepW i) v1; have := trips1 i v1; omega) (ix4 0 0 r n))
    ∧ ∀ t : Fin 2048, 256 * m ≤ t.val → View.read (Elt F) arg15.view (arg15.view.writes (Elt F) G
        (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 init m).2) (ix4 0 0 r t) = View.read (Elt F) arg15.view G (ix4 0 0 r t) := by
  induction m with
  | zero => exact ⟨fun k hk => absurd hk (Nat.not_lt_zero k), fun t _ => rfl⟩
  | succ m ih =>
    obtain ⟨ih1, ih2⟩ := ih (by omega)
    have hst := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 init ⟨m, hm⟩
    have hL := tripL_score 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 ⟨m, hm⟩ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 init m).1 s hv hs
    have hp := (congrArg Prod.snd hst).trans (congrArg (· ++ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 init m).2) hL)
    simp only at hp
    rw [hp]
    refine ⟨fun k hk n => ?_, fun t ht => ?_⟩
    · by_cases e : k = m
      · subst e
        refine View.read_writes_cons_unit_of_mem arg15.view G _ _ _ _ (ix4 0 0 r n) (off_score i v1 ⟨k, hm⟩) fun a => ?_
        match a with
        | 0 => rfl
        | 1 => rfl
        | 2 => exact (Nat.zero_add _).symm
        | 3 => rfl
      · refine (View.read_writes_cons_unit_of_not_mem arg15.view G _ _ _ _ (off_score i v1 ⟨m, hm⟩) 3 ?_).trans (ih1 k (by omega) n)
        show 256 * k + n.val < 256 * m ∨ 256 * m + 256 ≤ 256 * k + n.val
        omega
    · refine (View.read_writes_cons_unit_of_not_mem arg15.view G _ _ _ _ (off_score i v1 ⟨m, hm⟩) 3 ?_).trans (ih2 t (by omega))
      show t.val < 256 * m ∨ 256 * m + 256 ≤ t.val
      omega

end Cert.KernelIdeal.Hand
-- ==== Proof.ValueDefs.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec
public import Idealize.ShloMosaic.Lib.Pointwise
public import Idealize.ShloMosaic.Lib.WritesUnit
public import Idealize.ShloMosaic.Lib.VecWindow
public import proofs.«01_k».proof.Proof.Pieces

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-! # The running maximum, the running sum and the running products, one chunk after another -/

/-- Chunk `k` of a block of scores, of the scales of the values and of the codes of the values of head `h`. -/
def chunkS (x : Vec F S1x1x48x2048 .f32) (k : ℕ) : Vec F S1x1x48x256 .f32 :=
  fun j => x (ix4 0 0 ⟨(j 2).val, (j 2).isLt⟩ ⟨(256 * k + (j 3).val) % 2048, Nat.mod_lt _ (by decide)⟩)
@[inherit_doc chunkS] def chunkVs (s : Vec F S1x8x2048 .f32) (k : ℕ) : Vec F S1x8x256 .f32 :=
  fun j => s (ix3 0 ⟨(j 1).val, (j 1).isLt⟩ ⟨(256 * k + (j 2).val) % 2048, Nat.mod_lt _ (by decide)⟩)
@[inherit_doc chunkS] def chunkVc (x : Vec F S1x8x64x2048 .i8) (k : ℕ) (h : Fin 8) : Vec F S1x1x64x256 .i8 :=
  fun j => x (ix4 0 h ⟨(j 2).val, (j 2).isLt⟩ ⟨(256 * k + (j 3).val) % 2048, Nat.mod_lt _ (by decide)⟩)

/-- The running maximum of one chunk more: the scores `d` where the token is below the length count. -/
def maxV (v1 : Elt F .i32) (v4 : BitVec 32) (k : ℕ) (a : Vec F S48x128 .f32) (d : FVec F S48x256 .f32) : Vec F S48x128 .f32 :=
  k0_pay410 a (k0_pay187 v1 v4 d (Scalar.muli (Scf.iv 0#32 1#32 k) 256#32)) (k0_pay188 v1 v4 d (Scalar.muli (Scf.iv 0#32 1#32 k) 256#32))

/-- The exponentials of the scores of chunk `k` less the maximum `m`, zero where the token is not below the length. -/
def expV (v1 : Elt F .i32) (v4 : BitVec 32) (k : ℕ) (s : Vec F S1x1x48x256 .f32) (m : Vec F S48x128 .f32) : FVec F S48x256 .f32 :=
  select (cmpi .slt (addi (broadcast S48x256 (Scalar.addi v4 (Scalar.muli (Scf.iv 0#32 1#32 k) 256#32))) (iota .tc S48x256 32 [1] iota_S48x256_d1_w32))
      (broadcast S48x256 v1))
    (exp (subf (shapeCast S48x256 s shapeCasts_S1x1x48x256_S48x256)
      (concatenate S48x256 1 [⟨S48x128, m⟩, ⟨S48x128, m⟩] concatenates_S48x128_S48x128_S48x256_d1)))
    (broadcast S48x256 (Scalar.ofBits .f32 0x00000000#32))

/-- The two halves of a chunk added to the running sum. -/
def sumV (a : Vec F S48x128 .f32) (e : FVec F S48x256 .f32) : Vec F S48x128 .f32 :=
  addf (addf a (extractStridedSlice S48x128 ![0, 0] e slices_S48x256_o0_0_S48x128)) (extractStridedSlice S48x128 ![0, 128] e slices_S48x256_o0_128_S48x128)

/-- The weights of a chunk: the exponentials times the scales of each row's head. -/
def wV (e : FVec F S48x256 .f32) (s : Vec F S1x8x256 .f32) : FVec F S48x256 .bf16 :=
  k0_pay353 e (k0_pay345 s) (k0_pay346 s) (k0_pay347 s) (k0_pay348 s) (k0_pay349 s) (k0_pay350 s) (k0_pay351 s) (k0_pay352 s)

/-- The products of the weights with the decoded values of two heads, added to `a`. -/
def accV (w : FVec F S48x256 .bf16) (x y : Vec F S1x1x64x256 .i8) (a : Vec F S48x256 .f32) : FVec F S48x256 .f32 :=
  k0_pay359 w (k0_pay354 x) (k0_pay356 y) (k0_pay357 y) k0_pay358 a

/-- The columns of the products that belong to the heads `2 p` and `2 p + 1`, and those of one head. -/
def pairCols (y : Vec F S48x1024 .f32) (p : Fin 4) : Vec F S48x256 .f32 :=
  fun j => y (ix2 ⟨(j 0).val, (j 0).isLt⟩ ⟨256 * p.val + (j 1).val, by have h1 : (j 1).val < 256 := (j 1).isLt; omega⟩)
@[inherit_doc pairCols] def headCols (y : Vec F S48x1024 .f32) (h : Fin 8) : Vec F S48x128 .f32 :=
  fun j => y (ix2 ⟨(j 0).val, (j 0).isLt⟩ ⟨128 * h.val + (j 1).val, by have h1 : (j 1).val < 128 := (j 1).isLt; omega⟩)

/-- The running maximum, the running sum and the running products after `k` chunks. -/
def maxN (v1 : Elt F .i32) (v4 : BitVec 32) (D : ℕ → FVec F S48x256 .f32) (a : Vec F S48x128 .f32) : ℕ → Vec F S48x128 .f32
  | 0 => a
  | k + 1 => maxV v1 v4 k (maxN v1 v4 D a k) (D k)
@[inherit_doc maxN] def sumN (v1 : Elt F .i32) (v4 : BitVec 32) (x : Vec F S1x1x48x2048 .f32) (m a : Vec F S48x128 .f32) : ℕ → Vec F S48x128 .f32
  | 0 => a
  | k + 1 => sumV (sumN v1 v4 x m a k) (expV v1 v4 k (chunkS x k) m)
@[inherit_doc maxN] def accN (v1 : Elt F .i32) (v4 : BitVec 32) (x : Vec F S1x1x48x2048 .f32) (m : Vec F S48x128 .f32) (s : Vec F S1x8x2048 .f32)
    (vc : Vec F S1x8x64x2048 .i8) (p : Fin 4) (a : Vec F S48x256 .f32) : ℕ → Vec F S48x256 .f32
  | 0 => a
  | k + 1 => accV (wV (expV v1 v4 k (chunkS x k) m) (chunkVs s k)) (chunkVc vc k ⟨2 * p.val, by omega⟩) (chunkVc vc k ⟨2 * p.val + 1, by omega⟩)
      (accN v1 v4 x m s vc p a k)

/-- What a point does to the running maximum `y22`, the running sum `y23` and the running products `y24`: nothing where its block has no token
    below the length; otherwise the maximum takes in the scores of the block's chunks, the sum and the products are rescaled to the new
    maximum, and the chunks are added one after another. -/
def Moved (i : grid0.Coords) (v1 : Elt F .i32) (x : Vec F S1x1x48x2048 .f32) (vc : Vec F S1x8x64x2048 .i8) (vs : Vec F S1x8x2048 .f32)
    (y22 y23 : Vec F S48x128 .f32) (y24 : Vec F S48x1024 .f32) (z22 z23 : Vec F S48x128 .f32) (z24 : Vec F S48x1024 .f32) : Prop :=
  (nch (stepW i) v1 = 0 ∧ z22 = y22 ∧ z23 = y23 ∧ z24 = y24)
  ∨ ∃ (D : ℕ → FVec F S48x256 .f32) (M : Vec F S48x128 .f32) (w24 : Vec F S48x1024 .f32),
    (∀ (k : ℕ) (hk : k < nch (stepW i) v1) (r : Fin 48) (n : Fin 256), x (ix4 0 0 r ⟨256 * k + n.val, by have := nch_le (stepW i) v1; omega⟩)
      = blkV v1 (Scalar.muli (stepW i) 2048#32) (Scf.iv 0#32 1#32 k) (D k) (ix4 0 0 r n))
    ∧ M = maxN v1 (Scalar.muli (stepW i) 2048#32) D y22 (nch (stepW i) v1)
    ∧ z22 = k0_pay414 M
    ∧ z23 = k0_pay5 (sumN v1 (Scalar.muli (stepW i) 2048#32) x z22 (k0_pay415 M y22 y23) (nch (stepW i) v1))
    ∧ (∀ h, headCols w24 h = k0_pay417 (k0_pay413 M y22) (headCols y24 h))
    ∧ ∀ p, pairCols z24 p = accN v1 (Scalar.muli (stepW i) 2048#32) x z22 vs vc p (pairCols w24 p) (nch (stepW i) v1)

/-- The first result of a batch, from the values of the new token, the maximum, the sum, the products and the score of the new token. -/
def outV (vn : Vec F S1x1x8x128 .bf16) (z22 z23 : Vec F S48x128 .f32) (z24 : Vec F S48x1024 .f32) (z25 : Vec F S48x128 .f32) : FVec F S1x1x48x128 .bf16 :=
  k0_pay6 (k0_pay423 z23) (k0_pay424 k0_pay434 z23 z25 z22 vn)
    (k0_pay429 k0_pay425 k0_pay426 k0_pay427 (headCols z24 0) (headCols z24 1) (headCols z24 2) (headCols z24 3) (headCols z24 4) (headCols z24 5) (headCols z24 6))
    (k0_pay430 k0_pay425 k0_pay426 k0_pay427) (headCols z24 7)

end Cert.KernelIdeal.Hand
-- ==== Proof.ValueLoop.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec
public import Idealize.ShloMosaic.Lib.Pointwise
public import Idealize.ShloMosaic.Lib.WritesUnit
public import Idealize.ShloMosaic.Lib.VecWindow
public import proofs.«01_k».proof.Proof.ValueDefs

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-! # The loop over the values -/

section Reads

variable {sig : RefSig} {κ : Kind} {sp : Space}

theorem read_chunkS (v : View sig κ sp S1x1x48x2048 .f32) (f : v.ty.Contents (Elt F)) (k : ℕ) (hk : k < 8) (off : Fin 4 → ℕ) (inb)
    (ho : off = ![0, 0, 0, 256 * k]) :
    View.readAt (Elt F) v (Rect.unit (s := S1x1x48x2048) off S1x1x48x256.size inb).toLoadRect f = chunkS (View.read (Elt F) v f) k := by
  subst ho
  funext j
  refine congrArg (View.read (Elt F) v f) (funext fun a => Fin.ext ?_)
  have h0 : (j 0).val < 1 := (j 0).isLt
  have h1 : (j 1).val < 1 := (j 1).isLt
  have h3 : (j 3).val < 256 := (j 3).isLt
  match a with
  | 0 => show 0 + 1 * (j 0).val = 0; omega
  | 1 => show 0 + 1 * (j 1).val = 0; omega
  | 2 => show 0 + 1 * (j 2).val = (j 2).val; omega
  | 3 => show 256 * k + 1 * (j 3).val = (256 * k + (j 3).val) % 2048; omega

theorem read_chunkVs (v : View sig κ sp S1x8x2048 .f32) (f : v.ty.Contents (Elt F)) (k : ℕ) (hk : k < 8) (off : Fin 3 → ℕ) (inb)
    (ho : off = ![0, 0, 256 * k]) :
    View.readAt (Elt F) v (Rect.unit (s := S1x8x2048) off S1x8x256.size inb).toLoadRect f = chunkVs (View.read (Elt F) v f) k := by
  subst ho
  funext j
  refine congrArg (View.read (Elt F) v f) (funext fun a => Fin.ext ?_)
  have h0 : (j 0).val < 1 := (j 0).isLt
  have h2 : (j 2).val < 256 := (j 2).isLt
  match a with
  | 0 => show 0 + 1 * (j 0).val = 0; omega
  | 1 => show 0 + 1 * (j 1).val = (j 1).val; omega
  | 2 => show 256 * k + 1 * (j 2).val = (256 * k + (j 2).val) % 2048; omega

theorem read_chunkVc (v : View sig κ sp S1x8x64x2048 .i8) (f : v.ty.Contents (Elt F)) (k : ℕ) (hk : k < 8) (h : Fin 8) (off : Fin 4 → ℕ) (inb)
    (ho : off = ![0, h.val, 0, 256 * k]) :
    View.readAt (Elt F) v (Rect.unit (s := S1x8x64x2048) off S1x1x64x256.size inb).toLoadRect f = chunkVc (View.read (Elt F) v f) k h := by
  subst ho
  funext j
  refine congrArg (View.read (Elt F) v f) (funext fun a => Fin.ext ?_)
  have h0 : (j 0).val < 1 := (j 0).isLt
  have h1 : (j 1).val < 1 := (j 1).isLt
  have h3 : (j 3).val < 256 := (j 3).isLt
  match a with
  | 0 => show 0 + 1 * (j 0).val = 0; omega
  | 1 => show h.val + 1 * (j 1).val = h.val; omega
  | 2 => show 0 + 1 * (j 2).val = (j 2).val; omega
  | 3 => show 256 * k + 1 * (j 3).val = (256 * k + (j 3).val) % 2048; omega

theorem read_pairCols (v : View sig κ sp S48x1024 .f32) (f : v.ty.Contents (Elt F)) (p : Fin 4) (o : ℕ) (inb) (ho : o = 256 * p.val) :
    View.readAt (Elt F) v (Rect.unit (s := S48x1024) ![0, o] S48x256.size inb).toLoadRect f = pairCols (View.read (Elt F) v f) p := by
  subst ho
  funext j
  refine congrArg (View.read (Elt F) v f) (funext fun a => Fin.ext ?_)
  match a with
  | 0 => show 0 + 1 * (j 0).val = (j 0).val; omega
  | 1 => show 256 * p.val + 1 * (j 1).val = 256 * p.val + (j 1).val; omega

theorem read_headCols (v : View sig κ sp S48x1024 .f32) (f : v.ty.Contents (Elt F)) (h : Fin 8) (o : ℕ) (inb) (ho : o = 128 * h.val) :
    View.readAt (Elt F) v (Rect.unit (s := S48x1024) ![0, o] S48x128.size inb).toLoadRect f = headCols (View.read (Elt F) v f) h := by
  subst ho
  funext j
  refine congrArg (View.read (Elt F) v f) (funext fun a => Fin.ext ?_)
  match a with
  | 0 => show 0 + 1 * (j 0).val = (j 0).val; omega
  | 1 => show 128 * h.val + 1 * (j 1).val = 128 * h.val + (j 1).val; omega

/-- What one trip stores: the products of the four pairs of heads. -/
def tripOut (w : FVec F S48x256 .bf16) (c : Fin 8 → Vec F S1x1x64x256 .i8) (s : Fin 4 → Vec F S48x256 .f32) : List (View.Piece (Elt F) S48x1024 .f32) :=
  [⟨Rect.unit (s := S48x1024) ![0, 768] S48x256.size inb_S48x1024_S48x256_0_768, accV w (c 6) (c 7) (s 3)⟩,
   ⟨Rect.unit (s := S48x1024) ![0, 512] S48x256.size inb_S48x1024_S48x256_0_512, accV w (c 4) (c 5) (s 2)⟩,
   ⟨Rect.unit (s := S48x1024) ![0, 256] S48x256.size inb_S48x1024_S48x256_0_256, accV w (c 2) (c 3) (s 1)⟩,
   ⟨Rect.unit (s := S48x1024) ![0, 0] S48x256.size inb_S48x1024_S48x256_0_0, accV w (c 0) (c 1) (s 0)⟩]

/-- What a trip's stores leave in the columns of each pair of heads. -/
theorem pairCols_tripOut (v : View sig κ sp S48x1024 .f32) (f : v.ty.Contents (Elt F)) (w : FVec F S48x256 .bf16) (c : Fin 8 → Vec F S1x1x64x256 .i8)
    (s : Fin 4 → Vec F S48x256 .f32) (L) (p : Fin 4) :
    pairCols (View.read (Elt F) v (v.writes (Elt F) f (tripOut w c s ++ L))) p = accV w (c ⟨2 * p.val, by omega⟩) (c ⟨2 * p.val + 1, by omega⟩) (s p) := by
  funext j
  have hj : (j 1).val < 256 := (j 1).isLt
  have hit (p : Fin 4) (o : ℕ) (inb) (w : FVec F S48x256 .f32) (L) (e : o = 256 * p.val) :
      pairCols (View.read (Elt F) v (v.writes (Elt F) f (⟨Rect.unit (s := S48x1024) ![0, o] S48x256.size inb, w⟩ :: L))) p j = w j := by
    subst e
    refine View.read_writes_cons_unit_of_mem v f inb w L _ j rfl fun a => ?_
    match a with
    | 0 => exact (Nat.zero_add _).symm
    | 1 => rfl
  have miss (p : Fin 4) (o : ℕ) (inb) (w : FVec F S48x256 .f32) (L) (e : o + 256 ≤ 256 * p.val ∨ 256 * p.val + 256 ≤ o) :
      pairCols (View.read (Elt F) v (v.writes (Elt F) f (⟨Rect.unit (s := S48x1024) ![0, o] S48x256.size inb, w⟩ :: L))) p j
        = pairCols (View.read (Elt F) v (v.writes (Elt F) f L)) p j := by
    refine View.read_writes_cons_unit_of_not_mem v f inb w L _ rfl 1 ?_
    show 256 * p.val + (j 1).val < o ∨ o + 256 ≤ 256 * p.val + (j 1).val
    omega
  match p with
  | 3 => exact hit 3 768 _ _ _ rfl
  | 2 => exact (miss 2 768 _ _ _ (by decide)).trans (hit 2 512 _ _ _ rfl)
  | 1 => exact (miss 1 768 _ _ _ (by decide)).trans ((miss 1 512 _ _ _ (by decide)).trans (hit 1 256 _ _ _ rfl))
  | 0 => exact (miss 0 768 _ _ _ (by decide)).trans ((miss 0 512 _ _ _ (by decide)).trans ((miss 0 256 _ _ _ (by decide)).trans (hit 0 0 _ _ _ rfl)))

end Reads

theorem pos3 {i : grid0.Coords} {v1 : BitVec 32} (k : Fin (k0_t3_loop i v1).trips) : (pos k.val).toNat = 256 * k.val := pos_eq ⟨k.val, lt3 k⟩

set_option maxHeartbeats 4000000 in
/-- One trip: its result and what it stores, in terms of what its operands hold. -/
theorem trip3_sum (𝒱 : Variants) (c : Dev nD) (bd : Option 𝒱.V) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole) (v1 : Elt F .i32) (k0_hw1 : k0_chk1 i v1) (v4 : BitVec 32) (k0_h4 : k0_cond4 i v1 = 1#1) (X_arg8 : BufTy.Contents (Elt F) arg8.view.ty) (X_arg10 : BufTy.Contents (Elt F) arg10.view.ty) (X_arg15 : BufTy.Contents (Elt F) arg15.view.ty) (X_arg22 : BufTy.Contents (Elt F) arg22.view.ty) (k : Fin (k0_t3_loop i v1).trips) (acc : Vec F S48x128 .f32) (f_arg24 : BufTy.Contents (Elt F) arg24.view.ty) :
    tripR_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 k0_h4 X_arg8 X_arg10 X_arg15 X_arg22 k acc f_arg24 = sumV acc (expV v1 v4 k.val (chunkS (View.read (Elt F) arg15.view X_arg15) k.val) (View.read (Elt F) arg22.view X_arg22)) := by
  refine Eq.trans (b := sumV acc (expV v1 v4 k.val (View.readAt (Elt F) arg15.view (Rect.unit (s := S1x1x48x2048) (k0_off20 i v1 k) S1x1x48x256.size (k0_off20_inb i v1 k0_hw1 k k0_h4)).toLoadRect X_arg15) (View.readAt (Elt F) arg22.view (Rect.unit (s := S48x128) ![0, 0] S48x128.size inb_S48x128_S48x128_0_0).toLoadRect X_arg22))) (by unfold tripR_k0_t3 trip_k0_t3; rfl) ?_
  refine congrArg (sumV acc) (congrArg₂ (expV v1 v4 k.val) (read_chunkS arg15.view X_arg15 k.val (lt3 k) _ _ ?_) (View.readAt_full arg22.view X_arg22 _))
  show ![0, 0, 0, (pos k.val).toNat] = _
  rw [pos3]

set_option maxHeartbeats 4000000 in
@[inherit_doc trip3_sum] theorem trip3_acc (𝒱 : Variants) (c : Dev nD) (bd : Option 𝒱.V) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole) (v1 : Elt F .i32) (k0_hw1 : k0_chk1 i v1) (v4 : BitVec 32) (k0_h4 : k0_cond4 i v1 = 1#1) (X_arg8 : BufTy.Contents (Elt F) arg8.view.ty) (X_arg10 : BufTy.Contents (Elt F) arg10.view.ty) (X_arg15 : BufTy.Contents (Elt F) arg15.view.ty) (X_arg22 : BufTy.Contents (Elt F) arg22.view.ty) (k : Fin (k0_t3_loop i v1).trips) (acc : Vec F S48x128 .f32) (f_arg24 : BufTy.Contents (Elt F) arg24.view.ty) :
    tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 k0_h4 X_arg8 X_arg10 X_arg15 X_arg22 k acc f_arg24 = tripOut (wV (expV v1 v4 k.val (chunkS (View.read (Elt F) arg15.view X_arg15) k.val) (View.read (Elt F) arg22.view X_arg22)) (chunkVs (View.read (Elt F) arg10.view X_arg10) k.val))
      (chunkVc (View.read (Elt F) arg8.view X_arg8) k.val) (pairCols (View.read (Elt F) arg24.view f_arg24)) := by
  refine Eq.trans (b := tripOut (wV (expV v1 v4 k.val (View.readAt (Elt F) arg15.view (Rect.unit (s := S1x1x48x2048) (k0_off20 i v1 k) S1x1x48x256.size (k0_off20_inb i v1 k0_hw1 k k0_h4)).toLoadRect X_arg15) (View.readAt (Elt F) arg22.view (Rect.unit (s := S48x128) ![0, 0] S48x128.size inb_S48x128_S48x128_0_0).toLoadRect X_arg22)) (View.readAt (Elt F) arg10.view (Rect.unit (s := S1x8x2048) (k0_off21 i v1 k) S1x8x256.size (k0_off21_inb i v1 k0_hw1 k k0_h4)).toLoadRect X_arg10))
    ![View.readAt (Elt F) arg8.view (Rect.unit (s := S1x8x64x2048) (k0_off22 i v1 k) S1x1x64x256.size (k0_off22_inb i v1 k0_hw1 k k0_h4)).toLoadRect X_arg8, View.readAt (Elt F) arg8.view (Rect.unit (s := S1x8x64x2048) (k0_off23 i v1 k) S1x1x64x256.size (k0_off23_inb i v1 k0_hw1 k k0_h4)).toLoadRect X_arg8, View.readAt (Elt F) arg8.view (Rect.unit (s := S1x8x64x2048) (k0_off24 i v1 k) S1x1x64x256.size (k0_off24_inb i v1 k0_hw1 k k0_h4)).toLoadRect X_arg8, View.readAt (Elt F) arg8.view (Rect.unit (s := S1x8x64x2048) (k0_off25 i v1 k) S1x1x64x256.size (k0_off25_inb i v1 k0_hw1 k k0_h4)).toLoadRect X_arg8, View.readAt (Elt F) arg8.view (Rect.unit (s := S1x8x64x2048) (k0_off26 i v1 k) S1x1x64x256.size (k0_off26_inb i v1 k0_hw1 k k0_h4)).toLoadRect X_arg8, View.readAt (Elt F) arg8.view (Rect.unit (s := S1x8x64x2048) (k0_off27 i v1 k) S1x1x64x256.size (k0_off27_inb i v1 k0_hw1 k k0_h4)).toLoadRect X_arg8, View.readAt (Elt F) arg8.view (Rect.unit (s := S1x8x64x2048) (k0_off28 i v1 k) S1x1x64x256.size (k0_off28_inb i v1 k0_hw1 k k0_h4)).toLoadRect X_arg8, View.readAt (Elt F) arg8.view (Rect.unit (s := S1x8x64x2048) (k0_off29 i v1 k) S1x1x64x256.size (k0_off29_inb i v1 k0_hw1 k k0_h4)).toLoadRect X_arg8]
    ![View.readAt (Elt F) arg24.view (Rect.unit (s := S48x1024) ![0, 0] S48x256.size inb_S48x1024_S48x256_0_0).toLoadRect f_arg24, View.readAt (Elt F) arg24.view (Rect.unit (s := S48x1024) ![0, 256] S48x256.size inb_S48x1024_S48x256_0_256).toLoadRect f_arg24, View.readAt (Elt F) arg24.view (Rect.unit (s := S48x1024) ![0, 512] S48x256.size inb_S48x1024_S48x256_0_512).toLoadRect f_arg24, View.readAt (Elt F) arg24.view (Rect.unit (s := S48x1024) ![0, 768] S48x256.size inb_S48x1024_S48x256_0_768).toLoadRect f_arg24]) (by unfold tripL_k0_t3 trip_k0_t3; rfl) ?_
  have e15 := read_chunkS arg15.view X_arg15 k.val (lt3 k) (k0_off20 i v1 k) (k0_off20_inb i v1 k0_hw1 k k0_h4) (by
    show ![0, 0, 0, (pos k.val).toNat] = _
    rw [pos3])
  have e10 := read_chunkVs arg10.view X_arg10 k.val (lt3 k) (k0_off21 i v1 k) (k0_off21_inb i v1 k0_hw1 k k0_h4) (by
    show ![0, 0, (pos k.val).toNat] = _
    rw [pos3])
  have hv (h : Fin 8) (off : Fin 4 → ℕ) (inb) (ho : off = ![0, h.val, 0, (pos k.val).toNat]) :=
    read_chunkVc arg8.view X_arg8 k.val (lt3 k) h off inb (ho.trans (by rw [pos3]))
  refine congr (congrArg₂ tripOut (congrArg₂ wV (congrArg₂ (expV v1 v4 k.val) e15 (View.readAt_full arg22.view X_arg22 _)) e10) (funext fun h => ?_)) (funext fun p => ?_)
  · match h with
    | 0 => exact hv 0 _ _ rfl
    | 1 => exact hv 1 _ _ rfl
    | 2 => exact hv 2 _ _ rfl
    | 3 => exact hv 3 _ _ rfl
    | 4 => exact hv 4 _ _ rfl
    | 5 => exact hv 5 _ _ rfl
    | 6 => exact hv 6 _ _ rfl
    | 7 => exact hv 7 _ _ rfl
  · match p with
    | 0 => exact read_pairCols arg24.view f_arg24 0 0 _ rfl
    | 1 => exact read_pairCols arg24.view f_arg24 1 256 _ rfl
    | 2 => exact read_pairCols arg24.view f_arg24 2 512 _ rfl
    | 3 => exact read_pairCols arg24.view f_arg24 3 768 _ rfl

set_option maxHeartbeats 4000000 in
/-- After `m` trips: the running sum and the products of each pair of heads. -/
theorem st3_read (𝒱 : Variants) (c : Dev nD) (bd : Option 𝒱.V) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole) (v1 : Elt F .i32) (k0_hw1 : k0_chk1 i v1) (v4 : BitVec 32) (k0_h4 : k0_cond4 i v1 = 1#1) (X_arg8 : BufTy.Contents (Elt F) arg8.view.ty) (X_arg10 : BufTy.Contents (Elt F) arg10.view.ty) (X_arg15 : BufTy.Contents (Elt F) arg15.view.ty) (X_arg22 : BufTy.Contents (Elt F) arg22.view.ty)  (G_arg24 : BufTy.Contents (Elt F) arg24.view.ty) (init : Vec F S48x128 .f32) (m : ℕ) (hm : m ≤ (k0_t3_loop i v1).trips) :
    (st_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 k0_h4 X_arg8 X_arg10 X_arg15 X_arg22 G_arg24 init m).1
      = sumN v1 v4 (View.read (Elt F) arg15.view X_arg15) (View.read (Elt F) arg22.view X_arg22) init m
    ∧ ∀ p, pairCols (View.read (Elt F) arg24.view (arg24.view.writes (Elt F) G_arg24 (st_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 k0_h4 X_arg8 X_arg10 X_arg15 X_arg22 G_arg24 init m).2)) p
      = accN v1 v4 (View.read (Elt F) arg15.view X_arg15) (View.read (Elt F) arg22.view X_arg22) (View.read (Elt F) arg10.view X_arg10) (View.read (Elt F) arg8.view X_arg8) p (pairCols (View.read (Elt F) arg24.view G_arg24) p) m := by
  induction m with
  | zero => exact ⟨rfl, fun p => rfl⟩
  | succ m ih =>
    obtain ⟨ih1, ih2⟩ := ih (by omega)
    have hst := st_k0_t3_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 k0_h4 X_arg8 X_arg10 X_arg15 X_arg22 G_arg24 init ⟨m, hm⟩
    simp only at hst
    rw [hst]
    refine ⟨?_, fun p => ?_⟩
    · refine (trip3_sum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 k0_h4 X_arg8 X_arg10 X_arg15 X_arg22 ⟨m, hm⟩ _ _).trans ?_
      rw [ih1]
      rfl
    · have hL := trip3_acc 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 k0_h4 X_arg8 X_arg10 X_arg15 X_arg22 ⟨m, hm⟩ (st_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 k0_h4 X_arg8 X_arg10 X_arg15 X_arg22 G_arg24 init m).1 (arg24.view.writes (Elt F) G_arg24 (st_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 k0_h4 X_arg8 X_arg10 X_arg15 X_arg22 G_arg24 init m).2)
      simp only at hL ⊢
      rw [hL]
      refine (pairCols_tripOut arg24.view G_arg24 _ _ _ _ p).trans ?_
      rw [ih2 p]
      rfl

end Cert.KernelIdeal.Hand
-- ==== Proof.MaxLoop.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec
public import Idealize.ShloMosaic.Lib.Pointwise
public import Idealize.ShloMosaic.Lib.WritesUnit
public import Idealize.ShloMosaic.Lib.VecWindow
public import proofs.«01_k».proof.Proof.ValueDefs

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-! # The running maximum of the loop over the scores -/

set_option maxHeartbeats 4000000 in
/-- One trip takes the scores that it stores into the running maximum. -/
theorem trip1_max (𝒱 : Variants) (c : Dev nD) (bd : Option 𝒱.V) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole) (v1 : Elt F .i32) (k0_hw1 : k0_chk1 i v1) (v4 : BitVec 32) (v61 : BitVec 32) (k0_h4 : k0_cond4 i v1 = 1#1) (v130 : FVec F S128x128 .f32) (v135 : IVec S128x128 32) (X_arg7 : BufTy.Contents (Elt F) arg7.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (k : Fin (k0_t1_loop i v1).trips) :
    ∃ D : FVec F S48x256 .f32, (∀ acc, tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 k acc
      = [⟨Rect.unit (s := S1x1x48x2048) (k0_off10 i v1 k) S1x1x48x256.size (k0_off10_inb i v1 k0_hw1 k k0_h4), blkV v1 v4 (Scf.iv 0#32 1#32 k.val) D⟩])
      ∧ ∀ acc, tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 k acc = maxV v1 v4 k.val acc D :=
  ⟨_, fun acc => by unfold tripL_k0_t1 trip_k0_t1; rfl, fun acc => by unfold tripR_k0_t1 trip_k0_t1; rfl⟩

set_option maxHeartbeats 4000000 in
/-- After `m` trips the carried value is the running maximum of the stored scores. -/
theorem st1_max (𝒱 : Variants) (c : Dev nD) (bd : Option 𝒱.V) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole) (v1 : Elt F .i32) (k0_hw1 : k0_chk1 i v1) (v4 : BitVec 32) (v61 : BitVec 32) (k0_h4 : k0_cond4 i v1 = 1#1) (v130 : FVec F S128x128 .f32) (v135 : IVec S128x128 32) (X_arg7 : BufTy.Contents (Elt F) arg7.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty)  (init : Vec F S48x128 .f32)
    (s : Fin 8 → Vec F S1x128x128 .bf16) (hv : v135 = laneV)
    (hs : ∀ (h : Fin 8) (inb), View.readAt (Elt F) arg21.view (Rect.unit (s := S8x128x128) ![h.val, 0, 0] S1x128x128.size inb).toLoadRect X_arg21 = s h) :
    ∃ D : ℕ → FVec F S48x256 .f32, (∀ k : Fin (k0_t1_loop i v1).trips, blkV v1 v4 (Scf.iv 0#32 1#32 k.val) (D k.val) = scoreV (View.read (Elt F) arg7.view X_arg7) (View.read (Elt F) arg16.view X_arg16) (View.read (Elt F) arg17.view X_arg17) (View.read (Elt F) arg18.view X_arg18) (View.read (Elt F) arg19.view X_arg19) (View.read (Elt F) arg20.view X_arg20) s v1 v4 k.val (lt1 k))
      ∧ ∀ m, m ≤ (k0_t1_loop i v1).trips → (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 init m).1 = maxN v1 v4 D init m := by
  choose D hL hR using trip1_max (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21
  refine ⟨fun k => if h : k < (k0_t1_loop i v1).trips then D ⟨k, h⟩ else broadcast S48x256 (Scalar.ofBits .f32 0x00000000#32), fun k => ?_, fun m hm => ?_⟩
  · have h := (hL k init).symm.trans (tripL_score 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 k init s hv hs)
    beta_reduce
    rw [dif_pos k.isLt]
    exact eq_of_heq (Sigma.mk.inj (List.cons.inj h).1).2
  · induction m with
    | zero => rfl
    | succ m ih =>
      have hst := congrArg Prod.fst (st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 k0_hw1 v4 v61 k0_h4 v130 v135 X_arg7 X_arg16 X_arg17 X_arg18 X_arg19 X_arg20 X_arg21 init ⟨m, hm⟩)
      refine hst.trans ((hR ⟨m, hm⟩ _).trans ?_)
      show maxV v1 v4 m _ _ = maxV v1 v4 m _ _
      beta_reduce
      rw [dif_pos (show m < _ from hm), ← ih (by omega)]

end Cert.KernelIdeal.Hand
-- ==== Proof.BodyV.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Exec
public import proofs.«01_k».proof.Proof.Part99V
public import proofs.«01_k».proof.Proof.ValueLoop
public import proofs.«01_k».proof.Proof.MaxLoop
public import proofs.«01_k».proof.Proof.Pieces

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The block of scores `x`: the chunks that hold a token below the length have their scores, the columns after them are zero. -/
def Scored (i : grid0.Coords) (v1 : Elt F .i32) (kc : Vec F S1x8x64x2048 .i8) (y16 y17 : Vec F S64x256 .f32) (y18 y19 : Vec F S64x128 .f32)
    (y20 : Vec F S48x1024 .bf16) (ks : Vec F S1x8x64x128 .f32) (x : Vec F S1x1x48x2048 .f32) : Prop :=
  ∀ r : Fin 48, (∀ (k : ℕ) (hk : k < nch (stepW i) v1) (n : Fin 256),
      x (ix4 0 0 r ⟨256 * k + n.val, by have := nch_le (stepW i) v1; omega⟩)
        = scoreV kc y16 y17 y18 y19 y20 (ksV ks) v1 (Scalar.muli (stepW i) 2048#32) k (by have := nch_le (stepW i) v1; omega) (ix4 0 0 r n))
    ∧ ∀ t : Fin 2048, 256 * nch (stepW i) v1 ≤ t.val → x (ix4 0 0 r t) = k0_pay1 (ix4 0 0 r t)

theorem cond_facts : ∀ k : Fin 2049,
    (¬ Scalar.cmpi .ne (Scalar.extui (Scalar.cmpi .slt (BitVec.ofNat 32 k.val) 2048#32) : BitVec 32) 0#32 = 1#1 → 2048 ≤ k.val)
    ∧ (¬ Scalar.cmpi .ne (Scalar.extui (Scalar.cmpi .sgt (BitVec.ofNat 32 k.val) 0#32) : BitVec 32) 0#32 = 1#1 → k.val = 0) := by
  decide +kernel

theorem nvalid_ofNat (a w : BitVec 32) : nvalid a w = BitVec.ofNat 32 (nvalid a w).toNat := (BitVec.eq_of_toNat_eq (by rw [BitVec.toNat_ofNat]; exact Nat.mod_eq_of_lt (BitVec.isLt _))).symm

theorem cond3_full (i : grid0.Coords) (v1 : BitVec 32) (h : ¬ k0_cond3 i v1 = 1#1) : nch (stepW i) v1 = 8 := by
  have e : k0_cond3 i v1 = Scalar.cmpi .ne (Scalar.extui (Scalar.cmpi .slt (nvalid (stepW i) v1) 2048#32)) 0#32 := rfl
  have hl := nvalid_le (stepW i) v1
  rw [e, nvalid_ofNat] at h
  have := (cond_facts ⟨(nvalid (stepW i) v1).toNat, by omega⟩).1 h
  simp only at this
  unfold nch
  omega

theorem cond4_none (i : grid0.Coords) (v1 : BitVec 32) (h : ¬ k0_cond4 i v1 = 1#1) : nch (stepW i) v1 = 0 := by
  have e : k0_cond4 i v1 = Scalar.cmpi .ne (Scalar.extui (Scalar.cmpi .sgt (nvalid (stepW i) v1) 0#32)) 0#32 := rfl
  have hl := nvalid_le (stepW i) v1
  rw [e, nvalid_ofNat] at h
  have := (cond_facts ⟨(nvalid (stepW i) v1).toNat, by omega⟩).2 h
  simp only at this
  unfold nch
  omega

theorem zero_fill {sig : RefSig} {κ : Kind} {sp : Space} (v : View sig κ sp S1x1x48x2048 .f32) (f : v.ty.Contents (Elt F)) (i : grid0.Coords) (v1 : BitVec 32)
    (r : Fin 48) (t : Fin 2048) (ht : 256 * nch (stepW i) v1 ≤ t.val) :
    View.read (Elt F) v (if hc : k0_cond3 i v1 = 1#1 then v.writes (Elt F) f [⟨Rect.unit (s := S1x1x48x2048) ![0, 0, 0, 0] S1x1x48x2048.size inb_S1x1x48x2048_S1x1x48x2048_0_0_0_0, k0_pay1⟩] else f)
      (ix4 0 0 r t) = k0_pay1 (ix4 0 0 r t) := by
  by_cases hc : k0_cond3 i v1 = 1#1
  · rw [dif_pos hc, View.read_writes_full]
  · have := cond3_full i v1 hc
    have := t.isLt
    omega

/-- The eight stores of the scales leave the transposed scales of each head. -/
theorem ksV_writes {sig : RefSig} {κ κ' : Kind} {sp sp' : Space} (v : View sig κ sp S8x128x128 .bf16) (f : v.ty.Contents (Elt F)) (v' : View sig κ' sp' S1x8x64x128 .f32)
    (f' : v'.ty.Contents (Elt F)) (h : Fin 8) (inb) :
    View.readAt (Elt F) v (Rect.unit (s := S8x128x128) ![h.val, 0, 0] S1x128x128.size inb).toLoadRect (v.writes (Elt F) f
      [⟨Rect.unit (s := S8x128x128) ![7, 0, 0] S1x128x128.size inb_S8x128x128_S1x128x128_7_0_0, k0_pay409 (k0_pay408 (View.readAt (Elt F) v' (Rect.unit (s := S1x8x64x128) ![0, 7, 0, 0] S1x1x64x128.size inb_S1x8x64x128_S1x1x64x128_0_7_0_0).toLoadRect f'))⟩,
      ⟨Rect.unit (s := S8x128x128) ![6, 0, 0] S1x128x128.size inb_S8x128x128_S1x128x128_6_0_0, k0_pay407 (View.readAt (Elt F) v' (Rect.unit (s := S1x8x64x128) ![0, 6, 0, 0] S1x1x64x128.size inb_S1x8x64x128_S1x1x64x128_0_6_0_0).toLoadRect f')⟩,
      ⟨Rect.unit (s := S8x128x128) ![5, 0, 0] S1x128x128.size inb_S8x128x128_S1x128x128_5_0_0, k0_pay406 (View.readAt (Elt F) v' (Rect.unit (s := S1x8x64x128) ![0, 5, 0, 0] S1x1x64x128.size inb_S1x8x64x128_S1x1x64x128_0_5_0_0).toLoadRect f')⟩,
      ⟨Rect.unit (s := S8x128x128) ![4, 0, 0] S1x128x128.size inb_S8x128x128_S1x128x128_4_0_0, k0_pay405 (View.readAt (Elt F) v' (Rect.unit (s := S1x8x64x128) ![0, 4, 0, 0] S1x1x64x128.size inb_S1x8x64x128_S1x1x64x128_0_4_0_0).toLoadRect f')⟩,
      ⟨Rect.unit (s := S8x128x128) ![3, 0, 0] S1x128x128.size inb_S8x128x128_S1x128x128_3_0_0, k0_pay404 (k0_pay403 (View.readAt (Elt F) v' (Rect.unit (s := S1x8x64x128) ![0, 3, 0, 0] S1x1x64x128.size inb_S1x8x64x128_S1x1x64x128_0_3_0_0).toLoadRect f'))⟩,
      ⟨Rect.unit (s := S8x128x128) ![2, 0, 0] S1x128x128.size inb_S8x128x128_S1x128x128_2_0_0, k0_pay402 (View.readAt (Elt F) v' (Rect.unit (s := S1x8x64x128) ![0, 2, 0, 0] S1x1x64x128.size inb_S1x8x64x128_S1x1x64x128_0_2_0_0).toLoadRect f')⟩,
      ⟨Rect.unit (s := S8x128x128) ![1, 0, 0] S1x128x128.size inb_S8x128x128_S1x128x128_1_0_0, k0_pay401 (View.readAt (Elt F) v' (Rect.unit (s := S1x8x64x128) ![0, 1, 0, 0] S1x1x64x128.size inb_S1x8x64x128_S1x1x64x128_0_1_0_0).toLoadRect f')⟩,
      ⟨Rect.unit (s := S8x128x128) ![0, 0, 0] S1x128x128.size inb_S8x128x128_S1x128x128_0_0_0, k0_pay400 (View.readAt (Elt F) v' (Rect.unit (s := S1x8x64x128) ![0, 0, 0, 0] S1x1x64x128.size inb_S1x8x64x128_S1x1x64x128_0_0_0_0).toLoadRect f')⟩])
    = ksV (View.read (Elt F) v' f') h := by
  match h with
  | 0 => exact (readAt_miss v f 0 7 _ _ _ _ (by decide)).trans ((readAt_miss v f 0 6 _ _ _ _ (by decide)).trans ((readAt_miss v f 0 5 _ _ _ _ (by decide)).trans ((readAt_miss v f 0 4 _ _ _ _ (by decide)).trans ((readAt_miss v f 0 3 _ _ _ _ (by decide)).trans ((readAt_miss v f 0 2 _ _ _ _ (by decide)).trans ((readAt_miss v f 0 1 _ _ _ _ (by decide)).trans ((readAt_hit v f 0 _ _ _ _).trans (read_scales v' f' 0 0 _ rfl))))))))
  | 1 => exact (readAt_miss v f 1 7 _ _ _ _ (by decide)).trans ((readAt_miss v f 1 6 _ _ _ _ (by decide)).trans ((readAt_miss v f 1 5 _ _ _ _ (by decide)).trans ((readAt_miss v f 1 4 _ _ _ _ (by decide)).trans ((readAt_miss v f 1 3 _ _ _ _ (by decide)).trans ((readAt_miss v f 1 2 _ _ _ _ (by decide)).trans ((readAt_hit v f 1 _ _ _ _).trans (read_scales v' f' 1 1 _ rfl)))))))
  | 2 => exact (readAt_miss v f 2 7 _ _ _ _ (by decide)).trans ((readAt_miss v f 2 6 _ _ _ _ (by decide)).trans ((readAt_miss v f 2 5 _ _ _ _ (by decide)).trans ((readAt_miss v f 2 4 _ _ _ _ (by decide)).trans ((readAt_miss v f 2 3 _ _ _ _ (by decide)).trans ((readAt_hit v f 2 _ _ _ _).trans (read_scales v' f' 2 2 _ rfl))))))
  | 3 => exact (readAt_miss v f 3 7 _ _ _ _ (by decide)).trans ((readAt_miss v f 3 6 _ _ _ _ (by decide)).trans ((readAt_miss v f 3 5 _ _ _ _ (by decide)).trans ((readAt_miss v f 3 4 _ _ _ _ (by decide)).trans ((readAt_hit v f 3 _ _ _ _).trans (read_scales v' f' 3 3 _ rfl)))))
  | 4 => exact (readAt_miss v f 4 7 _ _ _ _ (by decide)).trans ((readAt_miss v f 4 6 _ _ _ _ (by decide)).trans ((readAt_miss v f 4 5 _ _ _ _ (by decide)).trans ((readAt_hit v f 4 _ _ _ _).trans (read_scales v' f' 4 4 _ rfl))))
  | 5 => exact (readAt_miss v f 5 7 _ _ _ _ (by decide)).trans ((readAt_miss v f 5 6 _ _ _ _ (by decide)).trans ((readAt_hit v f 5 _ _ _ _).trans (read_scales v' f' 5 5 _ rfl)))
  | 6 => exact (readAt_miss v f 6 7 _ _ _ _ (by decide)).trans ((readAt_hit v f 6 _ _ _ _).trans (read_scales v' f' 6 6 _ rfl))
  | 7 => exact (readAt_hit v f 7 _ _ _ _).trans (read_scales v' f' 7 7 _ rfl)

/-- Eight strips stored over the whole width leave each strip in its columns. -/
theorem headCols_strips {sig : RefSig} {κ : Kind} {sp : Space} (v : View sig κ sp S48x1024 .f32) (f : v.ty.Contents (Elt F)) (w : Fin 8 → FVec F S48x128 .f32) (h : Fin 8) :
    headCols (View.read (Elt F) v (v.writes (Elt F) f
      [⟨Rect.unit (s := S48x1024) ![0, 896] S48x128.size inb_S48x1024_S48x128_0_896, w 7⟩,
      ⟨Rect.unit (s := S48x1024) ![0, 768] S48x128.size inb_S48x1024_S48x128_0_768, w 6⟩,
      ⟨Rect.unit (s := S48x1024) ![0, 640] S48x128.size inb_S48x1024_S48x128_0_640, w 5⟩,
      ⟨Rect.unit (s := S48x1024) ![0, 512] S48x128.size inb_S48x1024_S48x128_0_512, w 4⟩,
      ⟨Rect.unit (s := S48x1024) ![0, 384] S48x128.size inb_S48x1024_S48x128_0_384, w 3⟩,
      ⟨Rect.unit (s := S48x1024) ![0, 256] S48x128.size inb_S48x1024_S48x128_0_256, w 2⟩,
      ⟨Rect.unit (s := S48x1024) ![0, 128] S48x128.size inb_S48x1024_S48x128_0_128, w 1⟩,
      ⟨Rect.unit (s := S48x1024) ![0, 0] S48x128.size inb_S48x1024_S48x128_0_0, w 0⟩])) h = w h := by
  funext j
  have hj : (j 1).val < 128 := (j 1).isLt
  have hit (h : Fin 8) (o : ℕ) (inb) (w : FVec F S48x128 .f32) (L) (e : o = 128 * h.val) :
      headCols (View.read (Elt F) v (v.writes (Elt F) f (⟨Rect.unit (s := S48x1024) ![0, o] S48x128.size inb, w⟩ :: L))) h j = w j := by
    subst e
    refine View.read_writes_cons_unit_of_mem v f inb w L _ j rfl fun a => ?_
    match a with
    | 0 => exact (Nat.zero_add _).symm
    | 1 => rfl
  have miss (h : Fin 8) (o : ℕ) (inb) (w : FVec F S48x128 .f32) (L) (e : 128 * h.val + 128 ≤ o) :
      headCols (View.read (Elt F) v (v.writes (Elt F) f (⟨Rect.unit (s := S48x1024) ![0, o] S48x128.size inb, w⟩ :: L))) h j
        = headCols (View.read (Elt F) v (v.writes (Elt F) f L)) h j := by
    refine View.read_writes_cons_unit_of_not_mem v f inb w L _ rfl 1 ?_
    show 128 * h.val + (j 1).val < o ∨ o + 128 ≤ 128 * h.val + (j 1).val
    omega
  match h with
  | 0 => exact (miss 0 896 _ _ _ (by decide)).trans ((miss 0 768 _ _ _ (by decide)).trans ((miss 0 640 _ _ _ (by decide)).trans ((miss 0 512 _ _ _ (by decide)).trans ((miss 0 384 _ _ _ (by decide)).trans ((miss 0 256 _ _ _ (by decide)).trans ((miss 0 128 _ _ _ (by decide)).trans (hit 0 0 _ _ _ rfl)))))))
  | 1 => exact (miss 1 896 _ _ _ (by decide)).trans ((miss 1 768 _ _ _ (by decide)).trans ((miss 1 640 _ _ _ (by decide)).trans ((miss 1 512 _ _ _ (by decide)).trans ((miss 1 384 _ _ _ (by decide)).trans ((miss 1 256 _ _ _ (by decide)).trans (hit 1 128 _ _ _ rfl))))))
  | 2 => exact (miss 2 896 _ _ _ (by decide)).trans ((miss 2 768 _ _ _ (by decide)).trans ((miss 2 640 _ _ _ (by decide)).trans ((miss 2 512 _ _ _ (by decide)).trans ((miss 2 384 _ _ _ (by decide)).trans (hit 2 256 _ _ _ rfl)))))
  | 3 => exact (miss 3 896 _ _ _ (by decide)).trans ((miss 3 768 _ _ _ (by decide)).trans ((miss 3 640 _ _ _ (by decide)).trans ((miss 3 512 _ _ _ (by decide)).trans (hit 3 384 _ _ _ rfl))))
  | 4 => exact (miss 4 896 _ _ _ (by decide)).trans ((miss 4 768 _ _ _ (by decide)).trans ((miss 4 640 _ _ _ (by decide)).trans (hit 4 512 _ _ _ rfl)))
  | 5 => exact (miss 5 896 _ _ _ (by decide)).trans ((miss 5 768 _ _ _ (by decide)).trans (hit 5 640 _ _ _ rfl))
  | 6 => exact (miss 6 896 _ _ _ (by decide)).trans (hit 6 768 _ _ _ rfl)
  | 7 => exact hit 7 896 _ _ _ rfl

theorem outV_eq {vn : Vec F S1x1x8x128 .bf16} {z22 z23 : Vec F S48x128 .f32} {z24 : Vec F S48x1024 .f32} {z25 : Vec F S48x128 .f32}
    {a23 a25 a22 : Vec F S48x128 .f32} {a6 : Vec F S1x1x8x128 .bf16} {c0 c1 c2 c3 c4 c5 c6 c7 : Vec F S48x128 .f32} (h23 : a23 = z23) (h25 : a25 = z25) (h22 : a22 = z22) (h6 : a6 = vn)
    (h0 : c0 = headCols z24 0) (h1 : c1 = headCols z24 1) (h2 : c2 = headCols z24 2) (h3 : c3 = headCols z24 3) (h4 : c4 = headCols z24 4)
    (h5 : c5 = headCols z24 5) (h6' : c6 = headCols z24 6) (h7 : c7 = headCols z24 7) :
    k0_pay6 (k0_pay423 a23) (k0_pay424 k0_pay434 a23 a25 a22 a6) (k0_pay429 k0_pay425 k0_pay426 k0_pay427 c0 c1 c2 c3 c4 c5 c6) (k0_pay430 k0_pay425 k0_pay426 k0_pay427) c7
      = outV vn z22 z23 z24 z25 := by
  subst h23 h25 h22 h6 h0 h1 h2 h3 h4 h5 h6' h7
  rfl

set_option maxHeartbeats 40000000 in
/-- One grid point: from every operand held, the body runs to its return, the tables and the inputs as they were, the rotated query and the
    tables as `Begun` says, the block of scores as `Scored` says, the rest at some contents. -/
theorem kernelVal (c : Dev nD) (i : grid0.Coords) (arg2 : Memref sig .tc .smem S4 .i32) (harg2 : arg2.IsWhole) (arg3 : Memref sig .tc .smem S4 .i32) (harg3 : arg3.IsWhole) (arg4 : Memref sig .tc .vmem S1x1x48x128 .bf16) (harg4 : arg4.IsWhole) (arg5 : Memref sig .tc .vmem S1x1x8x128 .bf16) (harg5 : arg5.IsWhole) (arg6 : Memref sig .tc .vmem S1x1x8x128 .bf16) (harg6 : arg6.IsWhole) (arg7 : Memref sig .tc .vmem S1x8x64x2048 .i8) (harg7 : arg7.IsWhole) (arg8 : Memref sig .tc .vmem S1x8x64x2048 .i8) (harg8 : arg8.IsWhole) (arg9 : Memref sig .tc .vmem S1x8x64x128 .f32) (harg9 : arg9.IsWhole) (arg10 : Memref sig .tc .vmem S1x8x2048 .f32) (harg10 : arg10.IsWhole) (arg11 : Memref sig .tc .vmem S64x128 .f32) (harg11 : arg11.IsWhole) (arg12 : Memref sig .tc .vmem S8x128 .f32) (harg12 : arg12.IsWhole) (arg13 : Memref sig .tc .vmem S1x1x48x128 .bf16) (harg13 : arg13.IsWhole) (arg14 : Memref sig .tc .vmem S1x1x48x128 .bf16) (harg14 : arg14.IsWhole) (arg15 : Memref sig .tc .vmem S1x1x48x2048 .f32) (harg15 : arg15.IsWhole) (arg16 : Memref sig .tc .vmem S64x256 .f32) (harg16 : arg16.IsWhole) (arg17 : Memref sig .tc .vmem S64x256 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S48x1024 .bf16) (harg20 : arg20.IsWhole) (arg21 : Memref sig .tc .vmem S8x128x128 .bf16) (harg21 : arg21.IsWhole) (arg22 : Memref sig .tc .vmem S48x128 .f32) (harg22 : arg22.IsWhole) (arg23 : Memref sig .tc .vmem S48x128 .f32) (harg23 : arg23.IsWhole) (arg24 : Memref sig .tc .vmem S48x1024 .f32) (harg24 : arg24.IsWhole) (arg25 : Memref sig .tc .vmem S48x128 .f32) (harg25 : arg25.IsWhole)
    (hchk : ∀ v1 : Elt F .i32, k0_chk1 i v1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f13 : BufTy.Contents (Elt F) arg13.view.ty) (f14 : BufTy.Contents (Elt F) arg14.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f22 : BufTy.Contents (Elt F) arg22.view.ty) (f23 : BufTy.Contents (Elt F) arg23.view.ty) (f24 : BufTy.Contents (Elt F) arg24.view.ty) (f25 : BufTy.Contents (Elt F) arg25.view.ty) (v1 v3 : Elt F .i32)
    (hv3 : View.read (Elt F) (arg3.access (Rect.unit (s := S4) (k0_off1 i) S1.size (k0_off1_inb i))) X3 (Shape.Idx.first (numel1_S1.symm ▸ Nat.one_pos)) = v3)
    (hv1 : View.read (Elt F) (arg2.access (Rect.unit (s := S4) (k0_off1 i) S1.size (k0_off1_inb i))) X2 (Shape.Idx.first (numel1_S1.symm ▸ Nat.one_pos)) = v1) :
    (iprop((arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (∃ f, (arg15.view.loc (c : Thread nD τ) ↦[arg15.view.set]{fullShare} f)) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (∃ f, (arg21.view.loc (c : Thread nD τ) ↦[arg21.view.set]{fullShare} f)) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)) : sProp 𝕄)
      ⊢ wp frame (wpE (defs₀ (F := F)) Variants.none c none) Set.univ
          (cc0_int4_rope_gqa_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) (fun _ => iprop(∃ g13 g14 g15 g16 g17 g18 g19 g20 g22 g23 g24 g25, (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (∃ f, (arg21.view.loc (c : Thread nD τ) ↦[arg21.view.set]{fullShare} f)) ∗ (arg22.view.loc (c : Thread nD τ) ↦[arg22.view.set]{fullShare} g22) ∗ (arg23.view.loc (c : Thread nD τ) ↦[arg23.view.set]{fullShare} g23) ∗ (arg24.view.loc (c : Thread nD τ) ↦[arg24.view.set]{fullShare} g24) ∗ (arg25.view.loc (c : Thread nD τ) ↦[arg25.view.set]{fullShare} g25) ∗
            ⌜Begun i (View.read (Elt F) arg11.view X11) (View.read (Elt F) arg12.view X12) (View.read (Elt F) arg4.view X4) v1 v3 (View.read (Elt F) arg14.view f14) (View.read (Elt F) arg16.view f16) (View.read (Elt F) arg17.view f17) (View.read (Elt F) arg18.view f18) (View.read (Elt F) arg19.view f19) (View.read (Elt F) arg20.view f20) (View.read (Elt F) arg14.view g14) (View.read (Elt F) arg16.view g16) (View.read (Elt F) arg17.view g17) (View.read (Elt F) arg18.view g18) (View.read (Elt F) arg19.view g19) (View.read (Elt F) arg20.view g20)
            ∧ Scored i v1 (View.read (Elt F) arg7.view X7) (View.read (Elt F) arg16.view g16) (View.read (Elt F) arg17.view g17) (View.read (Elt F) arg18.view g18) (View.read (Elt F) arg19.view g19) (View.read (Elt F) arg20.view g20) (View.read (Elt F) arg9.view X9) (View.read (Elt F) arg15.view g15)
            ∧ (∃ y22 y23 y24, BegunS i (View.read (Elt F) arg12.view X12) (View.read (Elt F) arg4.view X4) (View.read (Elt F) arg5.view X5) v1 v3 (View.read (Elt F) arg22.view f22) (View.read (Elt F) arg23.view f23) (View.read (Elt F) arg24.view f24) (View.read (Elt F) arg25.view f25) y22 y23 y24 (View.read (Elt F) arg25.view g25)
              ∧ Moved i v1 (View.read (Elt F) arg15.view g15) (View.read (Elt F) arg8.view X8) (View.read (Elt F) arg10.view X10) y22 y23 y24 (View.read (Elt F) arg22.view g22) (View.read (Elt F) arg23.view g23) (View.read (Elt F) arg24.view g24))
            ∧ (k0_cond5 i = 1#1 → (View.read (Elt F) arg13.view g13) = outV (View.read (Elt F) arg6.view X6) (View.read (Elt F) arg22.view g22) (View.read (Elt F) arg23.view g23) (View.read (Elt F) arg24.view g24) (View.read (Elt F) arg25.view g25))⌝)) := by
  have hcut := part99_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hchk X2 X3 X4 X5 X11 X12 f14 f16 f17 f18 f19 f20 f22 f23 f24 f25 v1 v3 hv3.symm hv1.symm
  simp only [cc0_int4_rope_gqa_decode_eq_skeleton]; unfold cc0_int4_rope_gqa_decode_skel
  iintro ⟨H2, H3, H4, H5, H6, H7, H8, H9, H10, H11, H12, H13, H14, ⟨%f15, H15⟩, H16, H17, H18, H19, H20, ⟨%f21, H21⟩, H22, H23, H24, H25⟩
  set_option sl_exec.stopBefore "k0_cond3" in sl_exec
  clear hcut
  cases hk0_part99_0
  by_cases h4 : k0_cond4 i v1 = 1#1
  · sl_exec
    sl_step
    iexists _, _, _, _, _, _, _, _, _, _, _, _
    isplitl [Hk0_part99_2]; · iexact Hk0_part99_2
    isplitl [Hk0_part99_3]; · iexact Hk0_part99_3
    isplitl [Hk0_part99_4]; · iexact Hk0_part99_4
    isplitl [Hk0_part99_5]; · iexact Hk0_part99_5
    isplitl [H6]; · iexact H6
    isplitl [H7]; · iexact H7
    isplitl [H8]; · iexact H8
    isplitl [H9]; · iexact H9
    isplitl [H10]; · iexact H10
    isplitl [Hk0_part99_6]; · iexact Hk0_part99_6
    isplitl [Hk0_part99_7]; · iexact Hk0_part99_7
    isplitl [H13]; · iexact H13
    isplitl [Hk0_part99_8]; · iexact Hk0_part99_8
    isplitl [H15]; · iexact H15
    isplitl [Hk0_part99_9]; · iexact Hk0_part99_9
    isplitl [Hk0_part99_10]; · iexact Hk0_part99_10
    isplitl [Hk0_part99_11]; · iexact Hk0_part99_11
    isplitl [Hk0_part99_12]; · iexact Hk0_part99_12
    isplitl [Hk0_part99_13]; · iexact Hk0_part99_13
    isplitl [H21]; · iexists _; iexact H21
    isplitl [Hk0_part99_14]; · iexact Hk0_part99_14
    isplitl [Hk0_part99_15]; · iexact Hk0_part99_15
    isplitl [Hk0_part99_16]; · iexact Hk0_part99_16
    isplitl [Hk0_part99_17]; · iexact Hk0_part99_17
    ipureintro
    have e2 : Scf.trips (k0_t2_loop i v1).lb (k0_t2_loop i v1).ub (k0_t2_loop i v1).st = 0 := rest_trips (stepW i) v1
    have e1 : Scf.trips (k0_t1_loop i v1).lb (k0_t1_loop i v1).ub (k0_t1_loop i v1).st = nch (stepW i) v1 := trips1 i v1
    have hs : ∀ (h : Fin 8) (inb), View.readAt (Elt F) arg21.view (Rect.unit (s := S8x128x128) ![h.val, 0, 0] S1x128x128.size inb).toLoadRect
        (arg21.view.writes (Elt F) arg21.view.junk (kernelVal.sl.H21_8 arg9 X9)) = ksV (View.read (Elt F) arg9.view X9) h := fun h inb => ksV_writes arg21.view _ arg9.view X9 h inb
    have e3 : Scf.trips (k0_t3_loop i v1).lb (k0_t3_loop i v1).ub (k0_t3_loop i v1).st = nch (stepW i) v1 := trips3 i v1
    have e4 : Scf.trips (k0_t4_loop i v1).lb (k0_t4_loop i v1).ub (k0_t4_loop i v1).st = 0 := rest_trips (stepW i) v1
    obtain ⟨D, hD, hM⟩ := st1_max Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 (hchk v1) (Scalar.muli (stepW i) 2048#32) (kernelVal.sl.v61 (Scalar.subi v1 (Scalar.muli (stepW i) 2048#32)) 0#32) h4 (kernelVal.sl.r_1 arg9 X9) kernelVal.sl.v135 X7 g16k0_part99_1 g17k0_part99_2 g18k0_part99_3 g19k0_part99_4 g20k0_part99_5 (arg21.view.writes (Elt F) arg21.view.junk (kernelVal.sl.H21_8 arg9 X9)) (View.read (Elt F) arg22.view g22k0_part99_6) (ksV (View.read (Elt F) arg9.view X9)) rfl hs
    have k1 (init n) (e : n = nch (stepW i) v1) (ei : init = (View.read (Elt F) arg22.view g22k0_part99_6)) : (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 (hchk v1) (Scalar.muli (stepW i) 2048#32) (kernelVal.sl.v61 (Scalar.subi v1 (Scalar.muli (stepW i) 2048#32)) 0#32) h4 (kernelVal.sl.r_1 arg9 X9) kernelVal.sl.v135 X7 g16k0_part99_1 g17k0_part99_2 g18k0_part99_3 g19k0_part99_4 g20k0_part99_5 (arg21.view.writes (Elt F) arg21.view.junk (kernelVal.sl.H21_8 arg9 X9)) init n).1
        = maxN v1 (Scalar.muli (stepW i) 2048#32) D (View.read (Elt F) arg22.view g22k0_part99_6) (nch (stepW i) v1) := by
      subst e ei
      exact hM _ (trips1 i v1).ge
    have k2 (v141 init n) (e : n = 0) : (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 (hchk v1) (Scalar.muli (stepW i) 2048#32) (kernelVal.sl.v61 (Scalar.subi v1 (Scalar.muli (stepW i) 2048#32)) 0#32) h4 (kernelVal.sl.r_1 arg9 X9) kernelVal.sl.v135 v141 X7 g16k0_part99_1 g17k0_part99_2 g18k0_part99_3 g19k0_part99_4 g20k0_part99_5 (arg21.view.writes (Elt F) arg21.view.junk (kernelVal.sl.H21_8 arg9 X9)) init n).1 = init := by
      subst e
      rfl
    have k3 (X15 X22 G init n) (e : n = nch (stepW i) v1) := st3_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 (hchk v1) (Scalar.muli (stepW i) 2048#32) h4 X8 X10 X15 X22 G init n (e.trans (trips3 i v1).symm).le
    have k4 (v204 X15 X22 G init n) (e : n = 0) : (st_k0_t4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 (hchk v1) (Scalar.muli (stepW i) 2048#32) h4 v204 X8 X10 X15 X22 G init n).1 = init
        ∧ (st_k0_t4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 (hchk v1) (Scalar.muli (stepW i) 2048#32) h4 v204 X8 X10 X15 X22 G init n).2 = [] := by
      subst e
      exact ⟨rfl, rfl⟩
    have hw (G : BufTy.Contents (Elt F) arg24.view.ty) (A B H) (e : A = []) : arg24.view.writes (Elt F) G (A ++ (B ++ H)) = arg24.view.writes (Elt F) (arg24.view.writes (Elt F) G H) B := by
      subst e
      rw [List.nil_append, View.writes_append]
    have h22 := View.readAt_full arg22.view g22k0_part99_6 inb_S48x128_S48x128_0_0
    have key (G X16 X17 X18 X19 X20 init r n) (e : n = nch (stepW i) v1) := st1_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 (hchk v1) (Scalar.muli (stepW i) 2048#32) (kernelVal.sl.v61 (Scalar.subi v1 (Scalar.muli (stepW i) 2048#32)) 0#32) h4 (kernelVal.sl.r_1 arg9 X9) kernelVal.sl.v135 X7 X16 X17 X18 X19 X20
      (arg21.view.writes (Elt F) arg21.view.junk (kernelVal.sl.H21_8 arg9 X9)) init (ksV (View.read (Elt F) arg9.view X9)) rfl hs
      G r n (e.trans (trips1 i v1).symm).le
    have k2' (v141 init n) (e : n = 0) : (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1 (hchk v1) (Scalar.muli (stepW i) 2048#32) (kernelVal.sl.v61 (Scalar.subi v1 (Scalar.muli (stepW i) 2048#32)) 0#32) h4 (kernelVal.sl.r_1 arg9 X9) kernelVal.sl.v135 v141 X7 g16k0_part99_1 g17k0_part99_2 g18k0_part99_3 g19k0_part99_4 g20k0_part99_5 (arg21.view.writes (Elt F) arg21.view.junk (kernelVal.sl.H21_8 arg9 X9)) init n).2 = [] := by
      subst e
      rfl
    have hw' (G : BufTy.Contents (Elt F) arg15.view.ty) (A B) (e : A = []) : arg15.view.writes (Elt F) G (A ++ B) = arg15.view.writes (Elt F) G B := by
      subst e
      rfl
    refine ⟨hk0_part99_1.1, fun r => ?hx, ⟨_, _, _, hk0_part99_1.2, ?hv⟩, fun hc5 => ?ho⟩
    case' hv => refine Or.inr ?_
    refine ⟨D, _, View.read (Elt F) arg24.view (arg24.view.writes (Elt F) arg24.view.junk (kernelVal.sl.Hk0_part99_16_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hchk X7 X9 v1 g16k0_part99_1 g17k0_part99_2 g18k0_part99_3 g19k0_part99_4 g20k0_part99_5 g22k0_part99_6 g24k0_part99_8 h4)), fun k hk r n => ?hd, rfl, ?hm, ?hs, fun h => ?hh, fun p => ?hp⟩
    case hm => exact (View.read_writes_full arg22.view _ _ _ _).trans (congrArg k0_pay414 ((k2 _ _ _ e2).trans (k1 _ _ e1 h22)))
    case hp => exact (congrArg (fun f => pairCols (View.read (Elt F) arg24.view f) p) (hw _ _ _ _ (k4 _ _ _ _ _ _ e4).2)).trans (((k3 _ _ _ _ _ e3).2 p).trans (by rw [e3]))
    case hs =>
      refine (View.read_writes_full arg23.view _ _ _ _).trans (congrArg k0_pay5 ((k4 _ _ _ _ _ _ e4).1.trans ((k3 _ _ _ _ _ e3).1.trans ?_)))
      rw [e3]
      refine congrFun (congrArg (sumN v1 _ _ _) ?_) _
      refine (View.readCov_full arg23.view _ _ _ _).trans ?_
      exact congr (congrArg₂ k0_pay415 ((k2 _ _ _ e2).trans (k1 _ _ e1 h22)) h22) (View.readAt_full arg23.view _ _)
    case hh =>
      refine (headCols_strips arg24.view _ ![_, _, _, _, _, _, _, _] h).trans ?_
      have h24 {a a' b b' : Vec F S48x128 .f32} (ha : a = a') (hb : b = b') (h : Fin 8) (o : ℕ) (inb) (ho : o = 128 * h.val) := congrArg₂ k0_pay417 (congrArg₂ k0_pay413 ha hb) (read_headCols arg24.view g24k0_part99_8 h o inb ho)
      match h with
      | 0 => exact h24 ((k2 _ _ _ e2).trans (k1 _ _ e1 h22)) h22 0 0 _ rfl
      | 1 => exact h24 ((k2 _ _ _ e2).trans (k1 _ _ e1 h22)) h22 1 128 _ rfl
      | 2 => exact h24 ((k2 _ _ _ e2).trans (k1 _ _ e1 h22)) h22 2 256 _ rfl
      | 3 => exact h24 ((k2 _ _ _ e2).trans (k1 _ _ e1 h22)) h22 3 384 _ rfl
      | 4 => exact h24 ((k2 _ _ _ e2).trans (k1 _ _ e1 h22)) h22 4 512 _ rfl
      | 5 => exact h24 ((k2 _ _ _ e2).trans (k1 _ _ e1 h22)) h22 5 640 _ rfl
      | 6 => exact h24 ((k2 _ _ _ e2).trans (k1 _ _ e1 h22)) h22 6 768 _ rfl
      | 7 => exact h24 ((k2 _ _ _ e2).trans (k1 _ _ e1 h22)) h22 7 896 _ rfl
    case ho =>
      rw [dif_pos hc5, View.read_writes_full]
      exact outV_eq (View.readAt_full arg23.view _ _) (View.readAt_full arg25.view _ _) (View.readAt_full arg22.view _ _) (View.readAt_full arg6.view _ _)
        (read_headCols arg24.view _ 0 _ _ rfl) (read_headCols arg24.view _ 1 _ _ rfl) (read_headCols arg24.view _ 2 _ _ rfl) (read_headCols arg24.view _ 3 _ _ rfl)
        (read_headCols arg24.view _ 4 _ _ rfl) (read_headCols arg24.view _ 5 _ _ rfl) (read_headCols arg24.view _ 6 _ _ rfl) (read_headCols arg24.view _ 7 _ _ rfl)
    case hd =>
      refine (congrArg (fun f => View.read (Elt F) arg15.view f (ix4 0 0 r ⟨256 * k + n.val, by have := nch_le (stepW i) v1; omega⟩)) (hw' _ _ _ (k2' _ _ _ e2))).trans ?_
      exact ((key _ _ _ _ _ _ _ r _ e1).1 k (hk.trans_eq e1.symm) n).trans (congrFun (hD ⟨k, hk.trans_eq (trips1 i v1).symm⟩).symm (ix4 0 0 r n))
    case hx =>
      rw [hw' _ _ _ (k2' _ _ _ e2)]
      exact ⟨fun k hk n => (key _ _ _ _ _ _ _ r _ e1).1 k (hk.trans_eq e1.symm) n,
        fun t ht => ((key _ _ _ _ _ _ _ r _ e1).2 t (by rw [e1]; exact ht)).trans (zero_fill arg15.view f15 i v1 r t ht)⟩
  · sl_exec
    sl_step
    iexists _, _, _, _, _, _, _, _, _, _, _, _
    isplitl [Hk0_part99_2]; · iexact Hk0_part99_2
    isplitl [Hk0_part99_3]; · iexact Hk0_part99_3
    isplitl [Hk0_part99_4]; · iexact Hk0_part99_4
    isplitl [Hk0_part99_5]; · iexact Hk0_part99_5
    isplitl [H6]; · iexact H6
    isplitl [H7]; · iexact H7
    isplitl [H8]; · iexact H8
    isplitl [H9]; · iexact H9
    isplitl [H10]; · iexact H10
    isplitl [Hk0_part99_6]; · iexact Hk0_part99_6
    isplitl [Hk0_part99_7]; · iexact Hk0_part99_7
    isplitl [H13]; · iexact H13
    isplitl [Hk0_part99_8]; · iexact Hk0_part99_8
    isplitl [H15]; · iexact H15
    isplitl [Hk0_part99_9]; · iexact Hk0_part99_9
    isplitl [Hk0_part99_10]; · iexact Hk0_part99_10
    isplitl [Hk0_part99_11]; · iexact Hk0_part99_11
    isplitl [Hk0_part99_12]; · iexact Hk0_part99_12
    isplitl [Hk0_part99_13]; · iexact Hk0_part99_13
    isplitl [H21]; · iexists _; iexact H21
    isplitl [Hk0_part99_14]; · iexact Hk0_part99_14
    isplitl [Hk0_part99_15]; · iexact Hk0_part99_15
    isplitl [Hk0_part99_16]; · iexact Hk0_part99_16
    isplitl [Hk0_part99_17]; · iexact Hk0_part99_17
    ipureintro
    have e0 := cond4_none i v1 h4
    refine ⟨hk0_part99_1.1, fun r => ⟨fun k hk => absurd hk (by omega), fun t ht => ?_⟩, ⟨_, _, _, hk0_part99_1.2, .inl ⟨e0, rfl, rfl, rfl⟩⟩, fun hc5 => ?_⟩
    rotate_left
    · have h24 (h : Fin 8) (o : ℕ) (inb) (ho : o = 128 * h.val) := read_headCols arg24.view g24k0_part99_8 h o inb ho
      rw [dif_pos hc5, View.read_writes_full]
      exact outV_eq (View.readAt_full arg23.view _ _) (View.readAt_full arg25.view _ _) (View.readAt_full arg22.view _ _) (View.readAt_full arg6.view _ _)
        (h24 0 0 _ rfl) (h24 1 128 _ rfl) (h24 2 256 _ rfl) (h24 3 384 _ rfl) (h24 4 512 _ rfl) (h24 5 640 _ rfl) (h24 6 768 _ rfl) (h24 7 896 _ rfl)
    exact zero_fill arg15.view f15 i v1 r t ht

end Cert.KernelIdeal.Hand

end
-- ==== Proof.Blocks.lean ====
module

public import proofs.«01_k».proof.Proof.Run
public import proofs.«01_k».proof.Proof.BodyV
public import Idealize.ShloMosaic.Lib.Pipeline.FrameBody
public import Idealize.ShloMosaic.Lib.Pipeline.ArrRel
public import Idealize.ShloMosaic.Lib.Pipeline.ValueKit

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

/-! ## What the kernel reads at a grid point -/

/-- The length and the offset of a batch. -/
def lenB (b : Fin 4) : Elt F .i32 := tbl m 0 (ix1 b)
@[inherit_doc lenB] def offB (b : Fin 4) : Elt F .i32 := tbl m 1 (ix1 b)

/-- The batch and the block of a grid point. -/
def bat (i : grid0.Coords) : Fin 4 := ⟨(i 0).val, (i 0).isLt⟩

/-- The number of the block of the cache that a grid point reads. -/
def blkN (i : grid0.Coords) : ℕ := (blk (stepW i) (lenB m (bat i))).toNat

theorem blkN_lt (i : grid0.Coords) : blkN m i < 16 := blk_lt i _

/-- The query of a batch. -/
def qB (c : Dev nD) (b : Fin 4) : Vec F S1x1x48x128 .bf16 :=
  fun j => V m c main_arg0 (ix4 b 0 ⟨(j 2).val, (j 2).isLt⟩ ⟨(j 3).val, (j 3).isLt⟩)

/-- The codes of the keys that a grid point reads. -/
def kcB (c : Dev nD) (i : grid0.Coords) : Vec F S1x8x64x2048 .i8 :=
  fun j => V m c main_v0 (ix4 (bat i) ⟨(j 1).val, (j 1).isLt⟩ ⟨(j 2).val, (j 2).isLt⟩
    ⟨2048 * blkN m i + (j 3).val, by have h := blkN_lt m i; have h3 : (j 3).val < 2048 := (j 3).isLt; omega⟩)

/-- The scales of the keys that a grid point reads. -/
def ksB (c : Dev nD) (i : grid0.Coords) : Vec F S1x8x64x128 .f32 :=
  fun j => V m c main_arg5 (ix4 (bat i) ⟨(j 1).val, (j 1).isLt⟩
    ⟨64 * blkN m i + (j 2).val, by have h := blkN_lt m i; have h3 : (j 2).val < 64 := (j 2).isLt; omega⟩ ⟨(j 3).val, (j 3).isLt⟩)

/-- The frequencies, by row and by lane. -/
def fsB (c : Dev nD) : Vec F S64x128 .f32 := V m c main_v12
@[inherit_doc fsB] def flB (c : Dev nD) : Vec F S8x128 .f32 := V m c main_v16

/-- The new key and the new value of a batch. -/
def knB (c : Dev nD) (b : Fin 4) : Vec F S1x1x8x128 .bf16 :=
  fun j => V m c main_arg1 (ix4 b 0 ⟨(j 2).val, (j 2).isLt⟩ ⟨(j 3).val, (j 3).isLt⟩)
@[inherit_doc knB] def vnB (c : Dev nD) (b : Fin 4) : Vec F S1x1x8x128 .bf16 :=
  fun j => V m c main_arg2 (ix4 b 0 ⟨(j 2).val, (j 2).isLt⟩ ⟨(j 3).val, (j 3).isLt⟩)

/-- The codes of the values that a grid point reads. -/
def vcB (c : Dev nD) (i : grid0.Coords) : Vec F S1x8x64x2048 .i8 :=
  fun j => V m c main_v1 (ix4 (bat i) ⟨(j 1).val, (j 1).isLt⟩ ⟨(j 2).val, (j 2).isLt⟩
    ⟨2048 * blkN m i + (j 3).val, by have h := blkN_lt m i; have h3 : (j 3).val < 2048 := (j 3).isLt; omega⟩)

/-- The scales of the values that a grid point reads. -/
def vsB (c : Dev nD) (i : grid0.Coords) : Vec F S1x8x2048 .f32 :=
  fun j => V m c main_arg6 (ix3 (bat i) ⟨(j 1).val, (j 1).isLt⟩
    ⟨2048 * blkN m i + (j 2).val, by have h := blkN_lt m i; have h3 : (j 2).val < 2048 := (j 2).isLt; omega⟩)

/-- The scratch arrays hold what the points of batch `b` need: the tables, the base tables and the spread query. -/
def Ready (c : Dev nD) (b : Fin 4) (y16 y17 : Vec F S64x256 .f32) (y18 y19 : Vec F S64x128 .f32) (y20 : Vec F S48x1024 .bf16) : Prop :=
  (y16 = k0_pay432 (fsB m c) ∧ y17 = k0_pay433 (fsB m c)) ∧ y18 = k0_pay8 (offB m b) (fsB m c) ∧ y19 = k0_pay9 (offB m b) (fsB m c)
    ∧ IsQbd (qV (lenB m b) (offB m b) (flB m c) (qB m c b)) y20

/-- The rotated query of a batch. -/
def qrotB (c : Dev nD) (b : Fin 4) : Vec F S1x1x48x128 .bf16 := k0_pay21 (qV (lenB m b) (offB m b) (flB m c) (qB m c b))

/-! ## The proof data: the inputs' staging buffers are left as they were found -/

abbrev N0 : ℕ := (cfg0 (tables m)).N

abbrev Blk (w : Fin (cfg0 (tables m)).W) : Type := ((cfg0 (tables m)).win w).block.Idx → Elt F ((cfg0 (tables m)).win w).elt

/-- The rotated query is written at the first point of its batch and kept at the others. -/
def afterQ (c : Dev nD) (t : Fin (N0 m)) (Y X : Blk m 10) : Prop :=
  (k0_cond2 (grid0.coords t) = 1#1 → X = qrotB m c (bat (grid0.coords t))) ∧ (¬ k0_cond2 (grid0.coords t) = 1#1 → X = Y)

/-- The block of scores that a point leaves. -/
def afterS (c : Dev nD) (t : Fin (N0 m)) (X : Blk m 11) : Prop :=
  ∃ y16 y17 y18 y19 y20, Ready m c (bat (grid0.coords t)) y16 y17 y18 y19 y20
    ∧ Scored (grid0.coords t) (lenB m (bat (grid0.coords t))) (kcB m c (grid0.coords t)) y16 y17 y18 y19 y20 (ksB m c (grid0.coords t)) X

/-- The score of the new token of a batch. -/
def newB (c : Dev nD) (b : Fin 4) : FVec F S48x128 .f32 := newV (lenB m b) (offB m b) (flB m c) (qB m c b) (knB m c b)

/-- What the running maximum, the running sum, the running products and the score of the new token can be after a point: those that the
    points of its batch make one after another, each from the block of scores that it leaves. -/
inductive Reach (m : (ℓ : Loc nD τ sig) → Buf (Elt F) ℓ) (c : Dev nD) :
    Fin grid0.N → Vec F S48x128 .f32 → Vec F S48x128 .f32 → Vec F S48x1024 .f32 → Vec F S48x128 .f32 → Prop
  | first (t : Fin grid0.N) (X : Vec F S1x1x48x2048 .f32) (z22 z23 : Vec F S48x128 .f32) (z24 : Vec F S48x1024 .f32)
      (ht : k0_cond2 (grid0.coords t) = 1#1) (hX : afterS m c t X)
      (hM : Moved (grid0.coords t) (lenB m (bat (grid0.coords t))) X (vcB m c (grid0.coords t)) (vsB m c (grid0.coords t))
        (k0_pay436 (newB m c (bat (grid0.coords t)))) k0_pay437 k0_pay438 z22 z23 z24) :
      Reach m c t z22 z23 z24 (k0_pay435 (newB m c (bat (grid0.coords t))))
  | next (u t : Fin grid0.N) (X : Vec F S1x1x48x2048 .f32) (y22 y23 : Vec F S48x128 .f32) (y24 : Vec F S48x1024 .f32) (y25 z22 z23 : Vec F S48x128 .f32)
      (z24 : Vec F S48x1024 .f32) (hu : u.val + 1 = t.val) (hb : bat (grid0.coords u) = bat (grid0.coords t))
      (ht : ¬ k0_cond2 (grid0.coords t) = 1#1) (hX : afterS m c t X) (hR : Reach m c u y22 y23 y24 y25)
      (hM : Moved (grid0.coords t) (lenB m (bat (grid0.coords t))) X (vcB m c (grid0.coords t)) (vsB m c (grid0.coords t)) y22 y23 y24 z22 z23 z24) :
      Reach m c t z22 z23 z24 y25

/-- The first result is written at the last point of its batch. -/
def afterO (c : Dev nD) (t : Fin (N0 m)) (X : Blk m 9) : Prop :=
  k0_cond5 (grid0.coords t) = 1#1 → ∃ z22 z23 z24 z25, Reach m c t z22 z23 z24 z25 ∧ X = outV (vnB m c (bat (grid0.coords t))) z22 z23 z24 z25

/-- The same four between two points. -/
def reachOk (c : Dev nD) (n : ℕ) (y22 y23 : Vec F S48x128 .f32) (y24 : Vec F S48x1024 .f32) (y25 : Vec F S48x128 .f32) : Prop :=
  ∀ u : Fin grid0.N, u.val + 1 = n → Reach m c u y22 y23 y24 y25

/-- The scratch arrays between two points: after a point they are ready for the points of its batch. -/
def scratchOk (c : Dev nD) (n : ℕ) (y16 y17 : Vec F S64x256 .f32) (y18 y19 : Vec F S64x128 .f32) (y20 : Vec F S48x1024 .bf16) : Prop :=
  ∀ u : Fin grid0.N, u.val + 1 = n → Ready m c (bat (grid0.coords u)) y16 y17 y18 y19 y20

/-- The invariant between two points: the tables as they are, the scratch arrays ready. -/
def invV (c : Dev nD) (n : ℕ) : sProp 𝕄 :=
  iprop(iprop((∃ y16 y17 y18 y19 y20, ⌜scratchOk m c n y16 y17 y18 y19 y20⌝ ∗ owns (c : Thread nD τ) (Memref.whole cc0_scratch0) fullShare y16 ∗ owns (c : Thread nD τ) (Memref.whole cc0_scratch1) fullShare y17 ∗ owns (c : Thread nD τ) (Memref.whole cc0_scratch2) fullShare y18 ∗ owns (c : Thread nD τ) (Memref.whole cc0_scratch3) fullShare y19 ∗ owns (c : Thread nD τ) (Memref.whole cc0_scratch4) fullShare y20)
      ∗ (∃ d, owns (c : Thread nD τ) (Memref.whole cc0_scratch5) fullShare d) ∗ (∃ y22 y23 y24 y25, ⌜reachOk m c n y22 y23 y24 y25⌝ ∗ owns (c : Thread nD τ) (Memref.whole cc0_scratch6) fullShare y22 ∗ owns (c : Thread nD τ) (Memref.whole cc0_scratch7) fullShare y23 ∗ owns (c : Thread nD τ) (Memref.whole cc0_scratch8) fullShare y24 ∗ owns (c : Thread nD τ) (Memref.whole cc0_scratch9) fullShare y25) ∗ (∃ r, prngReg c r))
    ∗ owns (c : Thread nD τ) (Memref.whole main_arg7) fullShare.right (tbl m 0) ∗ owns (c : Thread nD τ) (Memref.whole main_arg8) fullShare.right (tbl m 1))

def rdatV (c : Dev nD) : RDat τ (Elt F) Unit ℕ (UR sig nD τ) ℕ (cfg0 (tables m)) c where
  A w := V m c (Pipeline.arrRef spec0 w)
  after w t Y X := ((spec0 w).isOut = false → X = Y) ∧ (∀ h : w = 10, afterQ m c t (h ▸ Y) (h ▸ X)) ∧ (∀ h : w = 11, afterS m c t (h ▸ X))
    ∧ (∀ h : w = 9, afterO m c t (h ▸ X))
  Φ t := invV m c t.val
  q _ := fullShare
  owed _ := 0

theorem A_eqV (c : Dev nD) (w : Fin (cfg0 (tables m)).W) : (rdatV m c).A w = V m c (Pipeline.arrRef spec0 w) := by dsimp only [rdatV]

/-! ## The blocks that the points find -/

theorem fetched_at (c : Dev nD) (w : Fin (cfg0 (tables m)).W) (t : Fin (N0 m)) (hc : ∀ a, ((cfg0 (tables m)).win w).clip ((cfg0 (tables m)).grid.coords t) a = none)
    (d : Blk m w) (j : ((cfg0 (tables m)).win w).block.Idx) :
    ∃ hj : ∀ a, (j a).val < ((cfg0 (tables m)).win w).xsize ((cfg0 (tables m)).grid.coords t) a, (rdatV m c).fetched w t d j = (rdatV m c).blockOf w t (fun a => ⟨(j a).val, hj a⟩) := by
  have hm : ((cfg0 (tables m)).win w).moved ((cfg0 (tables m)).grid.coords t) j = true :=
    (((cfg0 (tables m)).win w).moved_iff _ j).mpr fun a => by have := (j a).isLt; unfold Pipeline.Window.xsize; rw [hc a]; exact this
  refine ⟨(((cfg0 (tables m)).win w).moved_iff _ j).mp hm, ?_⟩
  unfold RDat.fetched Pipeline.Window.fill
  rw [dif_pos hm]

theorem batN (i : grid0.Coords) : (Scalar.indexCast (BitVec.ofNat 32 (i 0).val) : BitVec 32).toNat = (bat i).val := by
  have h : (i 0).val < 4 := (i 0).isLt
  show (BitVec.ofNat 32 (i 0).val).toNat = (i 0).val
  exact WordArith.toNat_ofNat_of_lt _ (by omega)

/-- The word that the body and the index maps read of the table of lengths. -/
theorem at_len (i : grid0.Coords) (h1) (h2) : (tbl m).at 0 (Rect.unit (s := S4) (k0_off1 i) S1.size h1) h2 = lenB m (bat i) := by
  refine congrArg (tbl m 0) (funext fun (a : Fin 1) => Fin.ext ?_)
  match a with
  | 0 =>
    have e := batN i
    show (Scalar.indexCast (BitVec.ofNat 32 (i 0).val) : BitVec 32).toNat + 1 * 0 = (bat i).val
    omega

/-- Where an index of a block lies in the array: the block's index times the block's size, plus the index. -/
theorem emb_at (w : Fin (cfg0 (tables m)).W) (t : Fin (N0 m)) (y) (a) {n : ℕ} (hn : ((cfg0 (tables m)).win w).index t a = n) :
    ((((cfg0 (tables m)).win w).rect t).emb y a).val = n * ((cfg0 (tables m)).win w).size a + (y a).val := by
  subst hn
  exact Pipeline.Window.rect_emb_val _ t y a

theorem finds0 (c : Dev nD) (t : Fin (N0 m)) (Y : Blk m 0) (h : (rdatV m c).Finds 0 t Y) : Y = qB m c (bat (grid0.coords t)) := by
  obtain ⟨d, rfl⟩ := (rdatV m c).finds_in_eq_fetched 0 rfl (fun _ _ _ => rfl) (fun t Y X h => h.1 rfl) t Y h
  funext j
  obtain ⟨hj, e⟩ := fetched_at m c 0 t (fun _ => rfl) d j
  refine e.trans (congrArg (V m c main_arg0) (funext fun (a : Fin 4) => Fin.ext ?_))
  have ez : ((cfg0 (tables m)).win 0).index t = ![(Scalar.indexCast (BitVec.ofNat 32 (grid0.coords t 0).val) : BitVec 32).toNat, 0, 0, 0] := rfl
  have eb := batN (grid0.coords t)
  match a with
  | 0 => have h0 : (j (0 : Fin 4)).val < 1 := (j (0 : Fin 4)).isLt
         have h := emb_at m 0 t (fun a => ⟨(j a).val, hj a⟩) (0 : Fin 4) (congrFun ez (0 : Fin 4))
         refine h.trans ?_
         show (Scalar.indexCast (BitVec.ofNat 32 (grid0.coords t 0).val) : BitVec 32).toNat * 1 + (j (0 : Fin 4)).val = (bat (grid0.coords t)).val
         omega
  | 1 => have h0 : (j (1 : Fin 4)).val < 1 := (j (1 : Fin 4)).isLt
         refine (emb_at m 0 t (fun a => ⟨(j a).val, hj a⟩) (1 : Fin 4) (congrFun ez (1 : Fin 4))).trans ?_
         show 0 * 1 + (j (1 : Fin 4)).val = 0
         omega
  | 2 => refine (emb_at m 0 t (fun a => ⟨(j a).val, hj a⟩) (2 : Fin 4) (congrFun ez (2 : Fin 4))).trans ?_
         show 0 * 48 + (j (2 : Fin 4)).val = (j (2 : Fin 4)).val
         omega
  | 3 => refine (emb_at m 0 t (fun a => ⟨(j a).val, hj a⟩) (3 : Fin 4) (congrFun ez (3 : Fin 4))).trans ?_
         show 0 * 128 + (j (3 : Fin 4)).val = (j (3 : Fin 4)).val
         omega

theorem finds1 (c : Dev nD) (t : Fin (N0 m)) (Y : Blk m 1) (h : (rdatV m c).Finds 1 t Y) : Y = knB m c (bat (grid0.coords t)) := by
  obtain ⟨d, rfl⟩ := (rdatV m c).finds_in_eq_fetched 1 rfl (fun _ _ _ => rfl) (fun t Y X h => h.1 rfl) t Y h
  funext j
  obtain ⟨hj, e⟩ := fetched_at m c 1 t (fun _ => rfl) d j
  refine e.trans (congrArg (V m c main_arg1) (funext fun (a : Fin 4) => Fin.ext ?_))
  have ez : ((cfg0 (tables m)).win 1).index t = ![(Scalar.indexCast (BitVec.ofNat 32 (grid0.coords t 0).val) : BitVec 32).toNat, 0, 0, 0] := rfl
  have eb := batN (grid0.coords t)
  match a with
  | 0 => have h0 : (j (0 : Fin 4)).val < 1 := (j (0 : Fin 4)).isLt
         have h := emb_at m 1 t (fun a => ⟨(j a).val, hj a⟩) (0 : Fin 4) (congrFun ez (0 : Fin 4))
         refine h.trans ?_
         show (Scalar.indexCast (BitVec.ofNat 32 (grid0.coords t 0).val) : BitVec 32).toNat * 1 + (j (0 : Fin 4)).val = (bat (grid0.coords t)).val
         omega
  | 1 => have h0 : (j (1 : Fin 4)).val < 1 := (j (1 : Fin 4)).isLt
         refine (emb_at m 1 t (fun a => ⟨(j a).val, hj a⟩) (1 : Fin 4) (congrFun ez (1 : Fin 4))).trans ?_
         show 0 * 1 + (j (1 : Fin 4)).val = 0
         omega
  | 2 => refine (emb_at m 1 t (fun a => ⟨(j a).val, hj a⟩) (2 : Fin 4) (congrFun ez (2 : Fin 4))).trans ?_
         show 0 * 8 + (j (2 : Fin 4)).val = (j (2 : Fin 4)).val
         omega
  | 3 => refine (emb_at m 1 t (fun a => ⟨(j a).val, hj a⟩) (3 : Fin 4) (congrFun ez (3 : Fin 4))).trans ?_
         show 0 * 128 + (j (3 : Fin 4)).val = (j (3 : Fin 4)).val
         omega

theorem finds2 (c : Dev nD) (t : Fin (N0 m)) (Y : Blk m 2) (h : (rdatV m c).Finds 2 t Y) : Y = vnB m c (bat (grid0.coords t)) := by
  obtain ⟨d, rfl⟩ := (rdatV m c).finds_in_eq_fetched 2 rfl (fun _ _ _ => rfl) (fun t Y X h => h.1 rfl) t Y h
  funext j
  obtain ⟨hj, e⟩ := fetched_at m c 2 t (fun _ => rfl) d j
  refine e.trans (congrArg (V m c main_arg2) (funext fun (a : Fin 4) => Fin.ext ?_))
  have ez : ((cfg0 (tables m)).win 2).index t = ![(Scalar.indexCast (BitVec.ofNat 32 (grid0.coords t 0).val) : BitVec 32).toNat, 0, 0, 0] := rfl
  have eb := batN (grid0.coords t)
  match a with
  | 0 => have h0 : (j (0 : Fin 4)).val < 1 := (j (0 : Fin 4)).isLt
         have h := emb_at m 2 t (fun a => ⟨(j a).val, hj a⟩) (0 : Fin 4) (congrFun ez (0 : Fin 4))
         refine h.trans ?_
         show (Scalar.indexCast (BitVec.ofNat 32 (grid0.coords t 0).val) : BitVec 32).toNat * 1 + (j (0 : Fin 4)).val = (bat (grid0.coords t)).val
         omega
  | 1 => have h0 : (j (1 : Fin 4)).val < 1 := (j (1 : Fin 4)).isLt
         refine (emb_at m 2 t (fun a => ⟨(j a).val, hj a⟩) (1 : Fin 4) (congrFun ez (1 : Fin 4))).trans ?_
         show 0 * 1 + (j (1 : Fin 4)).val = 0
         omega
  | 2 => refine (emb_at m 2 t (fun a => ⟨(j a).val, hj a⟩) (2 : Fin 4) (congrFun ez (2 : Fin 4))).trans ?_
         show 0 * 8 + (j (2 : Fin 4)).val = (j (2 : Fin 4)).val
         omega
  | 3 => refine (emb_at m 2 t (fun a => ⟨(j a).val, hj a⟩) (3 : Fin 4) (congrFun ez (3 : Fin 4))).trans ?_
         show 0 * 128 + (j (3 : Fin 4)).val = (j (3 : Fin 4)).val
         omega

theorem finds3 (c : Dev nD) (t : Fin (N0 m)) (Y : Blk m 3) (h : (rdatV m c).Finds 3 t Y) : Y = kcB m c (grid0.coords t) := by
  obtain ⟨d, rfl⟩ := (rdatV m c).finds_in_eq_fetched 3 rfl (fun _ _ _ => rfl) (fun t Y X h => h.1 rfl) t Y h
  funext j
  obtain ⟨hj, e⟩ := fetched_at m c 3 t (fun _ => rfl) d j
  refine e.trans (congrArg (V m c main_v0) (funext fun (a : Fin 4) => Fin.ext ?_))
  have ez : ((cfg0 (tables m)).win 3).index t = ![(Scalar.indexCast (BitVec.ofNat 32 (grid0.coords t 0).val) : BitVec 32).toNat, 0, 0, blkN m (grid0.coords t)] := by
    unfold blkN
    rw [← at_len m (grid0.coords t) (k0_off1_inb (grid0.coords t)) numel1_S1]
    rfl
  have eb := batN (grid0.coords t)
  match a with
  | 0 => have h0 : (j (0 : Fin 4)).val < 1 := (j (0 : Fin 4)).isLt
         refine (emb_at m 3 t (fun a => ⟨(j a).val, hj a⟩) (0 : Fin 4) (congrFun ez (0 : Fin 4))).trans ?_
         show (Scalar.indexCast (BitVec.ofNat 32 (grid0.coords t 0).val) : BitVec 32).toNat * 1 + (j (0 : Fin 4)).val = (bat (grid0.coords t)).val
         omega
  | 1 => refine (emb_at m 3 t (fun a => ⟨(j a).val, hj a⟩) (1 : Fin 4) (congrFun ez (1 : Fin 4))).trans ?_
         show 0 * 8 + (j (1 : Fin 4)).val = (j (1 : Fin 4)).val
         omega
  | 2 => refine (emb_at m 3 t (fun a => ⟨(j a).val, hj a⟩) (2 : Fin 4) (congrFun ez (2 : Fin 4))).trans ?_
         show 0 * 64 + (j (2 : Fin 4)).val = (j (2 : Fin 4)).val
         omega
  | 3 => refine (emb_at m 3 t (fun a => ⟨(j a).val, hj a⟩) (3 : Fin 4) (congrFun ez (3 : Fin 4))).trans ?_
         show blkN m (grid0.coords t) * 2048 + (j (3 : Fin 4)).val = 2048 * blkN m (grid0.coords t) + (j (3 : Fin 4)).val
         omega

theorem finds4 (c : Dev nD) (t : Fin (N0 m)) (Y : Blk m 4) (h : (rdatV m c).Finds 4 t Y) : Y = vcB m c (grid0.coords t) := by
  obtain ⟨d, rfl⟩ := (rdatV m c).finds_in_eq_fetched 4 rfl (fun _ _ _ => rfl) (fun t Y X h => h.1 rfl) t Y h
  funext j
  obtain ⟨hj, e⟩ := fetched_at m c 4 t (fun _ => rfl) d j
  refine e.trans (congrArg (V m c main_v1) (funext fun (a : Fin 4) => Fin.ext ?_))
  have ez : ((cfg0 (tables m)).win 4).index t = ![(Scalar.indexCast (BitVec.ofNat 32 (grid0.coords t 0).val) : BitVec 32).toNat, 0, 0, blkN m (grid0.coords t)] := by
    unfold blkN
    rw [← at_len m (grid0.coords t) (k0_off1_inb (grid0.coords t)) numel1_S1]
    rfl
  have eb := batN (grid0.coords t)
  match a with
  | 0 => have h0 : (j (0 : Fin 4)).val < 1 := (j (0 : Fin 4)).isLt
         refine (emb_at m 4 t (fun a => ⟨(j a).val, hj a⟩) (0 : Fin 4) (congrFun ez (0 : Fin 4))).trans ?_
         show (Scalar.indexCast (BitVec.ofNat 32 (grid0.coords t 0).val) : BitVec 32).toNat * 1 + (j (0 : Fin 4)).val = (bat (grid0.coords t)).val
         omega
  | 1 => refine (emb_at m 4 t (fun a => ⟨(j a).val, hj a⟩) (1 : Fin 4) (congrFun ez (1 : Fin 4))).trans ?_
         show 0 * 8 + (j (1 : Fin 4)).val = (j (1 : Fin 4)).val
         omega
  | 2 => refine (emb_at m 4 t (fun a => ⟨(j a).val, hj a⟩) (2 : Fin 4) (congrFun ez (2 : Fin 4))).trans ?_
         show 0 * 64 + (j (2 : Fin 4)).val = (j (2 : Fin 4)).val
         omega
  | 3 => refine (emb_at m 4 t (fun a => ⟨(j a).val, hj a⟩) (3 : Fin 4) (congrFun ez (3 : Fin 4))).trans ?_
         show blkN m (grid0.coords t) * 2048 + (j (3 : Fin 4)).val = 2048 * blkN m (grid0.coords t) + (j (3 : Fin 4)).val
         omega

theorem finds5 (c : Dev nD) (t : Fin (N0 m)) (Y : Blk m 5) (h : (rdatV m c).Finds 5 t Y) : Y = ksB m c (grid0.coords t) := by
  obtain ⟨d, rfl⟩ := (rdatV m c).finds_in_eq_fetched 5 rfl (fun _ _ _ => rfl) (fun t Y X h => h.1 rfl) t Y h
  funext j
  obtain ⟨hj, e⟩ := fetched_at m c 5 t (fun _ => rfl) d j
  refine e.trans (congrArg (V m c main_arg5) (funext fun (a : Fin 4) => Fin.ext ?_))
  have ez : ((cfg0 (tables m)).win 5).index t = ![(Scalar.indexCast (BitVec.ofNat 32 (grid0.coords t 0).val) : BitVec 32).toNat, 0, blkN m (grid0.coords t), 0] := by
    unfold blkN
    rw [← at_len m (grid0.coords t) (k0_off1_inb (grid0.coords t)) numel1_S1]
    rfl
  have eb := batN (grid0.coords t)
  match a with
  | 0 => have h0 : (j (0 : Fin 4)).val < 1 := (j (0 : Fin 4)).isLt
         refine (emb_at m 5 t (fun a => ⟨(j a).val, hj a⟩) (0 : Fin 4) (congrFun ez (0 : Fin 4))).trans ?_
         show (Scalar.indexCast (BitVec.ofNat 32 (grid0.coords t 0).val) : BitVec 32).toNat * 1 + (j (0 : Fin 4)).val = (bat (grid0.coords t)).val
         omega
  | 1 => refine (emb_at m 5 t (fun a => ⟨(j a).val, hj a⟩) (1 : Fin 4) (congrFun ez (1 : Fin 4))).trans ?_
         show 0 * 8 + (j (1 : Fin 4)).val = (j (1 : Fin 4)).val
         omega
  | 2 => refine (emb_at m 5 t (fun a => ⟨(j a).val, hj a⟩) (2 : Fin 4) (congrFun ez (2 : Fin 4))).trans ?_
         show blkN m (grid0.coords t) * 64 + (j (2 : Fin 4)).val = 64 * blkN m (grid0.coords t) + (j (2 : Fin 4)).val
         omega
  | 3 => refine (emb_at m 5 t (fun a => ⟨(j a).val, hj a⟩) (3 : Fin 4) (congrFun ez (3 : Fin 4))).trans ?_
         show 0 * 128 + (j (3 : Fin 4)).val = (j (3 : Fin 4)).val
         omega

theorem finds6 (c : Dev nD) (t : Fin (N0 m)) (Y : Blk m 6) (h : (rdatV m c).Finds 6 t Y) : Y = vsB m c (grid0.coords t) := by
  obtain ⟨d, rfl⟩ := (rdatV m c).finds_in_eq_fetched 6 rfl (fun _ _ _ => rfl) (fun t Y X h => h.1 rfl) t Y h
  funext j
  obtain ⟨hj, e⟩ := fetched_at m c 6 t (fun _ => rfl) d j
  refine e.trans (congrArg (V m c main_arg6) (funext fun (a : Fin 3) => Fin.ext ?_))
  have ez : ((cfg0 (tables m)).win 6).index t = ![(Scalar.indexCast (BitVec.ofNat 32 (grid0.coords t 0).val) : BitVec 32).toNat, 0, blkN m (grid0.coords t)] := by
    unfold blkN
    rw [← at_len m (grid0.coords t) (k0_off1_inb (grid0.coords t)) numel1_S1]
    rfl
  have eb := batN (grid0.coords t)
  match a with
  | 0 => have h0 : (j (0 : Fin 3)).val < 1 := (j (0 : Fin 3)).isLt
         refine (emb_at m 6 t (fun a => ⟨(j a).val, hj a⟩) (0 : Fin 3) (congrFun ez (0 : Fin 3))).trans ?_
         show (Scalar.indexCast (BitVec.ofNat 32 (grid0.coords t 0).val) : BitVec 32).toNat * 1 + (j (0 : Fin 3)).val = (bat (grid0.coords t)).val
         omega
  | 1 => refine (emb_at m 6 t (fun a => ⟨(j a).val, hj a⟩) (1 : Fin 3) (congrFun ez (1 : Fin 3))).trans ?_
         show 0 * 8 + (j (1 : Fin 3)).val = (j (1 : Fin 3)).val
         omega
  | 2 => refine (emb_at m 6 t (fun a => ⟨(j a).val, hj a⟩) (2 : Fin 3) (congrFun ez (2 : Fin 3))).trans ?_
         show blkN m (grid0.coords t) * 2048 + (j (2 : Fin 3)).val = 2048 * blkN m (grid0.coords t) + (j (2 : Fin 3)).val
         omega

theorem finds7 (c : Dev nD) (t : Fin (N0 m)) (Y : Blk m 7) (h : (rdatV m c).Finds 7 t Y) : Y = fsB m c := by
  obtain ⟨d, rfl⟩ := (rdatV m c).finds_in_eq_fetched 7 rfl (fun _ _ _ => rfl) (fun t Y X h => h.1 rfl) t Y h
  funext j
  obtain ⟨hj, e⟩ := fetched_at m c 7 t (fun _ => rfl) d j
  refine e.trans (congrArg (V m c main_v12) (funext fun (a : Fin 2) => Fin.ext ?_))
  match a with
  | 0 => exact ((emb_at m 7 t (fun a => ⟨(j a).val, hj a⟩) (0 : Fin 2) (n := 0) rfl).trans (by rw [Nat.zero_mul, Nat.zero_add])).trans rfl
  | 1 => exact ((emb_at m 7 t (fun a => ⟨(j a).val, hj a⟩) (1 : Fin 2) (n := 0) rfl).trans (by rw [Nat.zero_mul, Nat.zero_add])).trans rfl

theorem finds8 (c : Dev nD) (t : Fin (N0 m)) (Y : Blk m 8) (h : (rdatV m c).Finds 8 t Y) : Y = flB m c := by
  obtain ⟨d, rfl⟩ := (rdatV m c).finds_in_eq_fetched 8 rfl (fun _ _ _ => rfl) (fun t Y X h => h.1 rfl) t Y h
  funext j
  obtain ⟨hj, e⟩ := fetched_at m c 8 t (fun _ => rfl) d j
  refine e.trans (congrArg (V m c main_v16) (funext fun (a : Fin 2) => Fin.ext ?_))
  match a with
  | 0 => exact ((emb_at m 8 t (fun a => ⟨(j a).val, hj a⟩) (0 : Fin 2) (n := 0) rfl).trans (by rw [Nat.zero_mul, Nat.zero_add])).trans rfl
  | 1 => exact ((emb_at m 8 t (fun a => ⟨(j a).val, hj a⟩) (1 : Fin 2) (n := 0) rfl).trans (by rw [Nat.zero_mul, Nat.zero_add])).trans rfl

/-! ## The order of the points -/

theorem prev_point : ∀ t : Fin grid0.N, ¬ k0_cond2 (grid0.coords t) = 1#1 → ∃ u : Fin grid0.N, u.val + 1 = t.val ∧ bat (grid0.coords u) = bat (grid0.coords t) := by
  decide +kernel
theorem not_first : ∀ t : Fin grid0.N, ¬ firstPt (grid0.coords t) = 1#1 → ∃ u : Fin grid0.N, u.val + 1 = t.val := by
  decide +kernel

/-- The words that the body reads of the two tables. -/
theorem read_len (i : grid0.Coords) : View.read (Elt F) ((Memref.whole main_arg7).access (Rect.unit (s := S4) (k0_off1 i) S1.size (k0_off1_inb i))) (tbl m 0)
    (Shape.Idx.first (numel1_S1.symm ▸ Nat.one_pos)) = lenB m (bat i) := at_len m i (k0_off1_inb i) numel1_S1
theorem read_off (i : grid0.Coords) : View.read (Elt F) ((Memref.whole main_arg8).access (Rect.unit (s := S4) (k0_off1 i) S1.size (k0_off1_inb i))) (tbl m 1)
    (Shape.Idx.first (numel1_S1.symm ▸ Nat.one_pos)) = offB m (bat i) := by
  refine congrArg (tbl m 1) (funext fun (a : Fin 1) => Fin.ext ?_)
  match a with
  | 0 =>
    have e := batN i
    show (Scalar.indexCast (BitVec.ofNat 32 (i 0).val) : BitVec 32).toNat + 1 * 0 = (bat i).val
    omega

/-- What the first part of the body leaves makes the scratch arrays ready. -/
theorem ready_next (c : Dev nD) (t : Fin grid0.N) (x14 y14 : Vec F S1x1x48x128 .bf16) (x16 x17 : Vec F S64x256 .f32) (x18 x19 : Vec F S64x128 .f32) (x20 : Vec F S48x1024 .bf16)
    (y16 y17 : Vec F S64x256 .f32) (y18 y19 : Vec F S64x128 .f32) (y20 : Vec F S48x1024 .bf16)
    (hx : scratchOk m c t.val x16 x17 x18 x19 x20)
    (hB : Begun (grid0.coords t) (fsB m c) (flB m c) (qB m c (bat (grid0.coords t))) (lenB m (bat (grid0.coords t))) (offB m (bat (grid0.coords t)))
      x14 x16 x17 x18 x19 x20 y14 y16 y17 y18 y19 y20) : Ready m c (bat (grid0.coords t)) y16 y17 y18 y19 y20 := by
  obtain ⟨h1, h1', h2, h2'⟩ := hB
  have e1 : y16 = k0_pay432 (fsB m c) ∧ y17 = k0_pay433 (fsB m c) := by
    by_cases hf : firstPt (grid0.coords t) = 1#1
    · exact h1 hf
    · obtain ⟨u, hu⟩ := not_first t hf
      have hr := (hx u hu).1
      rw [(h1' hf).1, (h1' hf).2]
      exact hr
  refine ⟨e1, ?_⟩
  by_cases hc : k0_cond2 (grid0.coords t) = 1#1
  · exact ⟨(h2 hc).2.1, (h2 hc).2.2.1, (h2 hc).2.2.2⟩
  · obtain ⟨u, hu, hb⟩ := prev_point t hc
    have hr := (hx u hu).2
    rw [hb] at hr
    rw [(h2' hc).2.1, (h2' hc).2.2.1, (h2' hc).2.2.2]
    exact hr

/-- What a point makes of the four is among what they can be after it. -/
theorem reach_next (c : Dev nD) (t : Fin grid0.N) (X : Vec F S1x1x48x2048 .f32) (x22 x23 : Vec F S48x128 .f32) (x24 : Vec F S48x1024 .f32) (x25 y22 y23 : Vec F S48x128 .f32)
    (y24 : Vec F S48x1024 .f32) (y25 z22 z23 : Vec F S48x128 .f32) (z24 : Vec F S48x1024 .f32) (hx : reachOk m c t.val x22 x23 x24 x25) (hX : afterS m c t X)
    (hB : BegunS (grid0.coords t) (flB m c) (qB m c (bat (grid0.coords t))) (knB m c (bat (grid0.coords t))) (lenB m (bat (grid0.coords t))) (offB m (bat (grid0.coords t)))
      x22 x23 x24 x25 y22 y23 y24 y25)
    (hM : Moved (grid0.coords t) (lenB m (bat (grid0.coords t))) X (vcB m c (grid0.coords t)) (vsB m c (grid0.coords t)) y22 y23 y24 z22 z23 z24) :
    Reach m c t z22 z23 z24 y25 := by
  by_cases hc : k0_cond2 (grid0.coords t) = 1#1
  · obtain ⟨rfl, rfl, rfl, rfl⟩ := hB.1 hc
    exact Reach.first t X _ _ _ hc hX hM
  · obtain ⟨rfl, rfl, rfl, rfl⟩ := hB.2 hc
    obtain ⟨u, hu, hb⟩ := prev_point t hc
    exact Reach.next u t X _ _ _ _ _ _ _ hu hb hc hX (hx u hu) hM

theorem reachOk_next (c : Dev nD) (t : Fin grid0.N) (z22 z23 : Vec F S48x128 .f32) (z24 : Vec F S48x1024 .f32) (z25 : Vec F S48x128 .f32)
    (h : Reach m c t z22 z23 z24 z25) : reachOk m c (t.val + 1) z22 z23 z24 z25 := fun u hu => by
  obtain rfl : u = t := Fin.ext (by omega)
  exact h

theorem scratchOk_next (c : Dev nD) (t : Fin grid0.N) (y16 y17 : Vec F S64x256 .f32) (y18 y19 : Vec F S64x128 .f32) (y20 : Vec F S48x1024 .bf16)
    (h : Ready m c (bat (grid0.coords t)) y16 y17 y18 y19 y20) : scratchOk m c (t.val + 1) y16 y17 y18 y19 y20 := fun u hu => by
  obtain rfl : u = t := Fin.ext (by omega)
  exact h

end Cert.KernelIdeal.Hand

end
-- ==== Proof.RunV.lean ====
module

public import proofs.«01_k».proof.Proof.Blocks

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

set_option maxHeartbeats 4000000 in
/-- The body at every point: the kernel run from what the pipeline hands it. -/
theorem body_obligationV (c : Dev nD) : (rdatV m c).BodyObligation (defs₀ (F := F)) Variants.none () Set.univ := fun t Y hY => by
  have q0 := finds0 m c t (Y 0) (hY 0)
  have q1 := finds1 m c t (Y 1) (hY 1)
  have q2 := finds2 m c t (Y 2) (hY 2)
  have q4 := finds4 m c t (Y 4) (hY 4)
  have q6 := finds6 m c t (Y 6) (hY 6)
  have q3 := finds3 m c t (Y 3) (hY 3)
  have q5 := finds5 m c t (Y 5) (hY 5)
  have q7 := finds7 m c t (Y 7) (hY 7)
  have q8 := finds8 m c t (Y 8) (hY 8)
  rw [bigSep_W0, bigSep_W0, defs₀_row]
  rw [show (rdatV m c).Φ t.succ = invV m c (t.val + 1) from rfl, show (rdatV m c).Φ t.castSucc = invV m c t.val from rfl,
    show (rdatV m c).owesAt () t.succ = (rdatV m c).owesAt () t.castSucc from rfl]
  unfold invV owns
  iintro ⟨⟨⟨⟨%x16, %x17, %x18, %x19, %x20, %hS, ⟨%f16, %e16, H16⟩, ⟨%f17, %e17, H17⟩, ⟨%f18, %e18, H18⟩, ⟨%f19, %e19, H19⟩, ⟨%f20, %e20, H20⟩⟩, ⟨%d21, %f21, -, H21⟩, ⟨%x22, %x23, %x24, %x25, %hK, ⟨%f22, %e22, H22⟩, ⟨%f23, %e23, H23⟩, ⟨%f24, %e24, H24⟩, ⟨%f25, %e25, H25⟩⟩, Hg⟩, ⟨%f2, %e2, H2⟩, ⟨%f3, %e3, H3⟩⟩, HO, ⟨⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩⟩
  have e2' : f2 = tbl m 0 := e2
  have e3' : f3 = tbl m 1 := e3
  subst e2' e3'
  iapply (wp_to (kernelVal c (grid0.coords t) (Memref.whole main_arg7) (Memref.isWhole_whole _) (Memref.whole main_arg8) (Memref.isWhole_whole _) (spec0_0.stage ((cfg0 (tables m)).slots t 0)) (hstage0_0 (((cfg0 (tables m)).slots t 0).cast nbuf0_0)) (spec0_1.stage ((cfg0 (tables m)).slots t 1)) (hstage0_1 (((cfg0 (tables m)).slots t 1).cast nbuf0_1)) (spec0_2.stage ((cfg0 (tables m)).slots t 2)) (hstage0_2 (((cfg0 (tables m)).slots t 2).cast nbuf0_2)) (spec0_3.stage ((cfg0 (tables m)).slots t 3)) (hstage0_3 (((cfg0 (tables m)).slots t 3).cast nbuf0_3)) (spec0_4.stage ((cfg0 (tables m)).slots t 4)) (hstage0_4 (((cfg0 (tables m)).slots t 4).cast nbuf0_4)) (spec0_5.stage ((cfg0 (tables m)).slots t 5)) (hstage0_5 (((cfg0 (tables m)).slots t 5).cast nbuf0_5)) (spec0_6.stage ((cfg0 (tables m)).slots t 6)) (hstage0_6 (((cfg0 (tables m)).slots t 6).cast nbuf0_6)) (spec0_7.stage ((cfg0 (tables m)).slots t 7)) (hstage0_7 (((cfg0 (tables m)).slots t 7).cast nbuf0_7)) (spec0_8.stage ((cfg0 (tables m)).slots t 8)) (hstage0_8 (((cfg0 (tables m)).slots t 8).cast nbuf0_8)) (spec0_9.stage ((cfg0 (tables m)).slots t 9)) (hstage0_9 (((cfg0 (tables m)).slots t 9).cast nbuf0_9)) (spec0_10.stage ((cfg0 (tables m)).slots t 10)) (hstage0_10 (((cfg0 (tables m)).slots t 10).cast nbuf0_10)) (spec0_11.stage ((cfg0 (tables m)).slots t 11)) (hstage0_11 (((cfg0 (tables m)).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (fun v => chk1_all _ v) (tbl m 0) (tbl m 1) f4 f5 f6 f7 f8 f9 f10 f11 f12 f13 f14 f16 f17 f18 f19 f20 f22 f23 f24 f25 (lenB m (bat (grid0.coords t))) (offB m (bat (grid0.coords t))) (read_off m (grid0.coords t)) (read_len m (grid0.coords t))))
  isplitl [H2 H3 H4 H5 H6 H7 H8 H9 H10 H11 H12 H13 H14 H15 H16 H17 H18 H19 H20 H21 H22 H23 H24 H25]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    isplitl [H19]; · iexact H19
    isplitl [H20]; · iexact H20
    isplitl [H21]; · iexists _; iexact H21
    isplitl [H22]; · iexact H22
    isplitl [H23]; · iexact H23
    isplitl [H24]; · iexact H24
    iexact H25
  iintro ⟨%g13, %g14, %g15, %g16, %g17, %g18, %g19, %g20, %g22, %g23, %g24, %g25, H2, H3, H4, H5, H6, H7, H8, H9, H10, H11, H12, H13, H14, H15, H16, H17, H18, H19, H20, ⟨%g21, H21⟩, H22, H23, H24, H25, %hP⟩
  obtain ⟨hB, hSc, ⟨y22, y23, y24, hBS, hM⟩, hO⟩ := hP
  rw [e11, e12, e4, e14, e16, e17, e18, e19, e20, q0, q7, q8] at hB
  rw [e7, e9, q3, q5] at hSc
  rw [e12, e4, e5, e22, e23, e24, e25, q8, q0, q1] at hBS
  rw [e8, e10, q4, q6] at hM
  rw [e6, q2] at hO
  have hR := ready_next m c t _ _ _ _ _ _ _ _ _ _ _ _ hS hB
  have hQ : afterQ m c t (Y 10) (View.read (Elt F) (spec0_10.stage ((cfg0 (tables m)).slots t 10)).view g14) := ⟨fun h => (hB.2.2.1 h).1, fun h => (hB.2.2.2 h).1⟩
  have hSS : afterS m c t (View.read (Elt F) (spec0_11.stage ((cfg0 (tables m)).slots t 11)).view g15) := ⟨_, _, _, _, _, hR, hSc⟩
  have hK' := reach_next m c t _ _ _ _ _ _ _ _ _ _ _ _ hK hSS hBS hM
  have hOO : afterO m c t (View.read (Elt F) (spec0_9.stage ((cfg0 (tables m)).slots t 9)).view g13) := fun h => ⟨_, _, _, _, hK', hO h⟩
  isplitl [H16 H17 H18 H19 H20 H21 H22 H23 H24 H25 Hg H2 H3]
  · isplitr [H2 H3]
    · isplitl [H16 H17 H18 H19 H20]
      · iexists _, _, _, _, _
        isplitr
        · ipureintro; exact scratchOk_next m c t _ _ _ _ _ hR
        isplitl [H16]
        · iexists g16; isplitr; · ipureintro; rfl
          iexact H16
        isplitl [H17]
        · iexists g17; isplitr; · ipureintro; rfl
          iexact H17
        isplitl [H18]
        · iexists g18; isplitr; · ipureintro; rfl
          iexact H18
        isplitl [H19]
        · iexists g19; isplitr; · ipureintro; rfl
          iexact H19
        iexists g20; isplitr; · ipureintro; rfl
        iexact H20
      isplitl [H21]
      · iexists _, g21; isplitr; · ipureintro; rfl
        iexact H21
      isplitl [H22 H23 H24 H25]
      · iexists _, _, _, _
        isplitr
        · ipureintro; exact reachOk_next m c t _ _ _ _ hK'
        isplitl [H22]
        · iexists g22; isplitr; · ipureintro; rfl
          iexact H22
        isplitl [H23]
        · iexists g23; isplitr; · ipureintro; rfl
          iexact H23
        isplitl [H24]
        · iexists g24; isplitr; · ipureintro; rfl
          iexact H24
        iexists g25; isplitr; · ipureintro; rfl
        iexact H25
      iexact Hg
    · isplitl [H2]
      · iexists _; isplitr; · ipureintro; rfl
        iexact H2
      · iexists _; isplitr; · ipureintro; rfl
        iexact H3
  isplitl [HO]; · iexact HO
  isplitl [H4]
  · iexists (Y 0); isplitr; · ipureintro; exact ⟨fun _ => rfl, fun h => absurd (show (0 : Fin 12) = 10 from h) (by decide), fun h => absurd (show (0 : Fin 12) = 11 from h) (by decide), fun h => absurd (show (0 : Fin 12) = 9 from h) (by decide)⟩
    iexists f4; isplitr; · ipureintro; exact e4
    iexact H4
  isplitl [H5]
  · iexists (Y 1); isplitr; · ipureintro; exact ⟨fun _ => rfl, fun h => absurd (show (1 : Fin 12) = 10 from h) (by decide), fun h => absurd (show (1 : Fin 12) = 11 from h) (by decide), fun h => absurd (show (1 : Fin 12) = 9 from h) (by decide)⟩
    iexists f5; isplitr; · ipureintro; exact e5
    iexact H5
  isplitl [H6]
  · iexists (Y 2); isplitr; · ipureintro; exact ⟨fun _ => rfl, fun h => absurd (show (2 : Fin 12) = 10 from h) (by decide), fun h => absurd (show (2 : Fin 12) = 11 from h) (by decide), fun h => absurd (show (2 : Fin 12) = 9 from h) (by decide)⟩
    iexists f6; isplitr; · ipureintro; exact e6
    iexact H6
  isplitl [H7]
  · iexists (Y 3); isplitr; · ipureintro; exact ⟨fun _ => rfl, fun h => absurd (show (3 : Fin 12) = 10 from h) (by decide), fun h => absurd (show (3 : Fin 12) = 11 from h) (by decide), fun h => absurd (show (3 : Fin 12) = 9 from h) (by decide)⟩
    iexists f7; isplitr; · ipureintro; exact e7
    iexact H7
  isplitl [H8]
  · iexists (Y 4); isplitr; · ipureintro; exact ⟨fun _ => rfl, fun h => absurd (show (4 : Fin 12) = 10 from h) (by decide), fun h => absurd (show (4 : Fin 12) = 11 from h) (by decide), fun h => absurd (show (4 : Fin 12) = 9 from h) (by decide)⟩
    iexists f8; isplitr; · ipureintro; exact e8
    iexact H8
  isplitl [H9]
  · iexists (Y 5); isplitr; · ipureintro; exact ⟨fun _ => rfl, fun h => absurd (show (5 : Fin 12) = 10 from h) (by decide), fun h => absurd (show (5 : Fin 12) = 11 from h) (by decide), fun h => absurd (show (5 : Fin 12) = 9 from h) (by decide)⟩
    iexists f9; isplitr; · ipureintro; exact e9
    iexact H9
  isplitl [H10]
  · iexists (Y 6); isplitr; · ipureintro; exact ⟨fun _ => rfl, fun h => absurd (show (6 : Fin 12) = 10 from h) (by decide), fun h => absurd (show (6 : Fin 12) = 11 from h) (by decide), fun h => absurd (show (6 : Fin 12) = 9 from h) (by decide)⟩
    iexists f10; isplitr; · ipureintro; exact e10
    iexact H10
  isplitl [H11]
  · iexists (Y 7); isplitr; · ipureintro; exact ⟨fun _ => rfl, fun h => absurd (show (7 : Fin 12) = 10 from h) (by decide), fun h => absurd (show (7 : Fin 12) = 11 from h) (by decide), fun h => absurd (show (7 : Fin 12) = 9 from h) (by decide)⟩
    iexists f11; isplitr; · ipureintro; exact e11
    iexact H11
  isplitl [H12]
  · iexists (Y 8); isplitr; · ipureintro; exact ⟨fun _ => rfl, fun h => absurd (show (8 : Fin 12) = 10 from h) (by decide), fun h => absurd (show (8 : Fin 12) = 11 from h) (by decide), fun h => absurd (show (8 : Fin 12) = 9 from h) (by decide)⟩
    iexists f12; isplitr; · ipureintro; exact e12
    iexact H12
  isplitl [H13]
  · iexists _; isplitr; rotate_left
    · iexists g13; isplitr; · ipureintro; rfl
      iexact H13
    · ipureintro; exact ⟨fun h => absurd h (by decide), fun h => absurd (show (9 : Fin 12) = 10 from h) (by decide), fun h => absurd (show (9 : Fin 12) = 11 from h) (by decide), fun _ => hOO⟩
  isplitl [H14]
  · iexists _; isplitr; rotate_left
    · iexists g14; isplitr; · ipureintro; rfl
      iexact H14
    · ipureintro; exact ⟨fun h => absurd h (by decide), fun _ => hQ, fun h => absurd (show (10 : Fin 12) = 11 from h) (by decide), fun h => absurd (show (10 : Fin 12) = 9 from h) (by decide)⟩
  iexists _; isplitr; rotate_left
  · iexists g15; isplitr; · ipureintro; rfl
    iexact H15
  · ipureintro; exact ⟨fun h => absurd h (by decide), fun h => absurd (show (11 : Fin 12) = 10 from h) (by decide), fun _ => hSS, fun h => absurd (show (11 : Fin 12) = 9 from h) (by decide)⟩

end Cert.KernelIdeal.Hand

end
-- ==== Proof.RunMainV.lean ====
module

public import proofs.«01_k».proof.Proof.RunV

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

set_option backward.isDefEq.respectTransparency.types false in
/-- From any memory with zero counters every execution terminates, with every array as the relation says and every other buffer as it was. -/
theorem run_mainV :
    θ_run defs (onTc (τ := τ) (main (F := F))) (s₀ m ρ)
      (fun r => RDat.FramePost (cfg0 (tables m)) (rdatV m) (V m) r ∧ r.2.sem = fun _ => 0) :=
  RDat.θ_run_frameP_track (Q' := _) pcfgs (fun _ => tables m) (0 : Fin 1) launch0 defs₀ Variants.none (rdatV m) m ρ main
    (hbody := body_obligationV m) (hshare := fun c => (rdatV m c).share_full fun _ => rfl)
    (howed := fun _ _ => rfl) (V := V m) (hmain := hmain m) (hA := A_eqV m) (hpf := V_pre m)
    (hin := fun c => by
      change inv m c ⊢ invV m c 0
      rw [inv_eq]; unfold invV
      iintro ⟨⟨⟨⟨%d16, H16⟩, ⟨%d17, H17⟩, ⟨%d18, H18⟩, ⟨%d19, H19⟩, ⟨%d20, H20⟩, H21, ⟨%d22, H22⟩, ⟨%d23, H23⟩, ⟨%d24, H24⟩, ⟨%d25, H25⟩⟩, Hg⟩, HT⟩
      isplitr [HT]; rotate_left
      · iexact HT
      isplitl [H16 H17 H18 H19 H20]
      · iexists d16, d17, d18, d19, d20
        isplitr
        · ipureintro; exact fun u hu => absurd hu (by omega)
        isplitl [H16]; · iexact H16
        isplitl [H17]; · iexact H17
        isplitl [H18]; · iexact H18
        isplitl [H19]; · iexact H19
        iexact H20
      isplitl [H21]; · iexact H21
      isplitr [Hg]; rotate_left
      · iexact Hg
      iexists d22, d23, d24, d25
      isplitr
      · ipureintro; exact fun u hu => absurd hu (by omega)
      isplitl [H22]; · iexact H22
      isplitl [H23]; · iexact H23
      isplitl [H24]; · iexact H24
      iexact H25)
    (hout := fun c => by
      change invV m c (N0 m) ⊢ _
      have h : (invV m c (N0 m) : sProp 𝕄) ⊢ inv m c := by
        rw [inv_eq]; unfold invV
        iintro ⟨⟨⟨%y16, %y17, %y18, %y19, %y20, -, H16, H17, H18, H19, H20⟩, H21, ⟨%y22, %y23, %y24, %y25, -, H22, H23, H24, H25⟩, Hg⟩, HT⟩
        isplitr [HT]; rotate_left
        · iexact HT
        isplitr [Hg]; rotate_left
        · iexact Hg
        isplitl [H16]; · iexists _; iexact H16
        isplitl [H17]; · iexists _; iexact H17
        isplitl [H18]; · iexists _; iexact H18
        isplitl [H19]; · iexists _; iexact H19
        isplitl [H20]; · iexists _; iexact H20
        isplitl [H21]; · iexact H21
        isplitl [H22]; · iexists _; iexact H22
        isplitl [H23]; · iexists _; iexact H23
        isplitl [H24]; · iexists _; iexact H24
        iexists _; iexact H25
      refine h.trans ?_
      unfold inv; iintro ⟨H, -⟩; iexact H)

end Cert.KernelIdeal.Hand

end
-- ==== Proof.Arrays.lean ====
module

public import proofs.«01_k».proof.Proof.Blocks

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

/-! ## What the two result arrays hold at the end -/

theorem flush_score : ∀ t : Fin grid0.N, Pipeline.Window.flushOf grid0 true cc0_transform_11 t = true := by decide +kernel
theorem flush_query : ∀ b : Fin 4, ∃ t : Fin grid0.N, Pipeline.Window.flushOf grid0 true cc0_transform_10 t = true ∧ bat (grid0.coords t) = b := by decide +kernel
theorem point_of : ∀ (b : Fin 4) (i : Fin 16), ∃ t : Fin grid0.N, bat (grid0.coords t) = b ∧ (grid0.coords t 1).val = i.val := by decide +kernel
/-- Within a batch the block of rotated queries is not written back. -/
theorem kept_query : ∀ t : Fin grid0.N, ¬ k0_cond2 (grid0.coords t) = 1#1 → ∃ u : Fin grid0.N, u.val + 1 = t.val ∧ bat (grid0.coords u) = bat (grid0.coords t)
    ∧ Pipeline.Window.flushOf grid0 true cc0_transform_10 u = false := by decide +kernel
/-- The first result is written back at the last points of the batches. -/
theorem flush_out : ∀ b : Fin 4, ∃ t : Fin grid0.N, Pipeline.Window.flushOf grid0 true cc0_transform_9 t = true ∧ bat (grid0.coords t) = b := by decide +kernel
theorem flush_last : ∀ t : Fin grid0.N, Pipeline.Window.flushOf grid0 true cc0_transform_9 t = true → (grid0.coords t 1).val = 15 ∧ k0_cond5 (grid0.coords t) = 1#1 := by decide +kernel
theorem index_out (t : Fin (N0 m)) : ((cfg0 (tables m)).win 9).index t = ![(Scalar.indexCast (BitVec.ofNat 32 (grid0.coords t 0).val) : BitVec 32).toNat, 0, 0, 0] := rfl
theorem index_query (t : Fin (N0 m)) : ((cfg0 (tables m)).win 10).index t = ![(Scalar.indexCast (BitVec.ofNat 32 (grid0.coords t 0).val) : BitVec 32).toNat, 0, 0, 0] := rfl
theorem index_score (t : Fin (N0 m)) : ((cfg0 (tables m)).win 11).index t
    = ![(BitVec.ofNat 32 (grid0.coords t 0).val).toNat, 0, 0, (BitVec.ofNat 32 (grid0.coords t 1).val).toNat] := rfl

/-- What a point leaves in the block of rotated queries. -/
theorem leaves_query (c : Dev nD) : ∀ (n : ℕ) (t : Fin (N0 m)) (X : Blk m 10), t.val = n → (rdatV m c).Leaves 10 t X → X = qrotB m c (bat (grid0.coords t))
  | n, t, X, hn, ⟨Y, hF, hA⟩ => by
    have hq : afterQ m c t Y X := hA.2.1 rfl
    by_cases hc : k0_cond2 (grid0.coords t) = 1#1
    · exact hq.1 hc
    · obtain ⟨u, hu, hb, hf⟩ := kept_query t hc
      rw [hq.2 hc, ← hb]
      have hfe : ((cfg0 (tables m)).win 10).fetch t = false := rfl
      have eu : (⟨t.val - 1, Nat.lt_of_le_of_lt (Nat.sub_le _ _) t.isLt⟩ : Fin (N0 m)) = u := Fin.ext (by show t.val - 1 = u.val; omega)
      have h := ((rdatV m c).finds_of_pos hfe (by omega) Y).mp hF
      rw [eu] at h
      rcases h with h | h
      · exact absurd (h.symm.trans hf) (by decide)
      · exact leaves_query c u.val u Y rfl h
termination_by n => n

theorem final_query {r : PUnit × MemSt nD τ sig (Elt F)} (h : RDat.FramePost (cfg0 (tables m)) (rdatV m) (V m) r) (c : Dev nD)
    (b : Fin 4) (a : Fin 48) (d : Fin 128) :
    r.2.mem ((c : Thread nD τ).loc main_v17_1) (ix4 b 0 a d) = qrotB m c b (ix4 0 0 a d) := by
  obtain ⟨after, hL, hA⟩ := RDat.FramePost.exists_exact h c
  have e := hA 10
  rw [show r.2.mem ((c : Thread nD τ).loc main_v17_1) = _ from e]
  obtain ⟨t, hf, hb⟩ := flush_query b
  refine Pipeline.Dat.arrAt_forall_of_flushed ((rdatV m c).withAfter after) 10
    (fun i v => ∀ (b : Fin 4) (a : Fin 48) (d : Fin 128), i = ix4 b 0 a d → v = qrotB m c b (ix4 0 0 a d)) (fun u hu y b a d hi => ?_) _ t _ t.isLt hf ?_ _ _ _ rfl
  · have ex : after 10 u = qrotB m c (bat (grid0.coords u)) := leaves_query m c u.val u _ rfl (hL 10 u hu)
    have hi' : (((cfg0 (tables m)).win 10).rect u).emb y = ix4 b 0 a d := hi
    have y0 : (y (0 : Fin 4)).val < 1 := (y (0 : Fin 4)).isLt
    have y1 : (y (1 : Fin 4)).val < 1 := (y (1 : Fin 4)).isLt
    have v0 : (bat (grid0.coords u)).val * 1 + (y (0 : Fin 4)).val = b.val :=
      (emb_at m 10 u y (0 : Fin 4) ((congrFun (index_query m u) (0 : Fin 4)).trans (batN (grid0.coords u)))).symm.trans (congrArg Fin.val (congrFun hi' (0 : Fin 4)))
    have v2 : 0 * 48 + (y (2 : Fin 4)).val = a.val := (emb_at m 10 u y (2 : Fin 4) (congrFun (index_query m u) (2 : Fin 4))).symm.trans (congrArg Fin.val (congrFun hi' (2 : Fin 4)))
    have v3 : 0 * 128 + (y (3 : Fin 4)).val = d.val := (emb_at m 10 u y (3 : Fin 4) (congrFun (index_query m u) (3 : Fin 4))).symm.trans (congrArg Fin.val (congrFun hi' (3 : Fin 4)))
    have eb : bat (grid0.coords u) = b := Fin.ext (by omega)
    subst eb
    show after 10 u (((cfg0 (tables m)).win 10).xinj ((cfg0 (tables m)).grid.coords u) y) = _
    rw [ex]
    refine congrArg (qrotB m c (bat (grid0.coords u))) (funext fun (k : Fin 4) => Fin.ext ?_)
    match k with
    | 0 => show (y (0 : Fin 4)).val = 0; omega
    | 1 => show (y (1 : Fin 4)).val = 0; omega
    | 2 => show (y (2 : Fin 4)).val = a.val; omega
    | 3 => show (y (3 : Fin 4)).val = d.val; omega
  · have hm : (((cfg0 (tables m)).win 10).blk t).view.emb (ix4 0 0 a d) ∈ (((cfg0 (tables m)).win 10).blk t).view.set := View.emb_mem_set _ _
    refine (congrArg (· ∈ (((cfg0 (tables m)).win 10).blk t).view.set) ?_).mp hm
    refine funext fun (k : Fin 4) => Fin.ext ?_
    match k with
    | 0 => refine (emb_at m 10 t (ix4 0 0 a d) (0 : Fin 4) ((congrFun (index_query m t) (0 : Fin 4)).trans (batN (grid0.coords t)))).trans ?_
           rw [hb]; show b.val * 1 + 0 = b.val; omega
    | 1 => exact (emb_at m 10 t (ix4 0 0 a d) (1 : Fin 4) (congrFun (index_query m t) (1 : Fin 4)))
    | 2 => refine (emb_at m 10 t (ix4 0 0 a d) (2 : Fin 4) (congrFun (index_query m t) (2 : Fin 4))).trans ?_
           show 0 * 48 + a.val = a.val; omega
    | 3 => refine (emb_at m 10 t (ix4 0 0 a d) (3 : Fin 4) (congrFun (index_query m t) (3 : Fin 4))).trans ?_
           show 0 * 128 + d.val = d.val; omega

/-- What the first result holds at the end. -/
theorem final_out {r : PUnit × MemSt nD τ sig (Elt F)} (h : RDat.FramePost (cfg0 (tables m)) (rdatV m) (V m) r) (c : Dev nD)
    (b : Fin 4) (a : Fin 48) (d : Fin 128) :
    ∃ (t : Fin grid0.N) (z22 z23 : Vec F S48x128 .f32) (z24 : Vec F S48x1024 .f32) (z25 : Vec F S48x128 .f32), bat (grid0.coords t) = b ∧ (grid0.coords t 1).val = 15
      ∧ Reach m c t z22 z23 z24 z25 ∧ r.2.mem ((c : Thread nD τ).loc main_v17_0) (ix4 b 0 a d) = outV (vnB m c b) z22 z23 z24 z25 (ix4 0 0 a d) := by
  obtain ⟨after, hL, hA⟩ := RDat.FramePost.exists_exact h c
  have e := hA 9
  rw [show r.2.mem ((c : Thread nD τ).loc main_v17_0) = _ from e]
  obtain ⟨t, hf, hb⟩ := flush_out b
  refine Pipeline.Dat.arrAt_forall_of_flushed ((rdatV m c).withAfter after) 9
    (fun i v => ∀ (b : Fin 4) (a : Fin 48) (d : Fin 128), i = ix4 b 0 a d → ∃ (t : Fin grid0.N) (z22 z23 : Vec F S48x128 .f32) (z24 : Vec F S48x1024 .f32) (z25 : Vec F S48x128 .f32), bat (grid0.coords t) = b ∧ (grid0.coords t 1).val = 15
      ∧ Reach m c t z22 z23 z24 z25 ∧ v = outV (vnB m c b) z22 z23 z24 z25 (ix4 0 0 a d)) (fun u hu y b a d hi => ?_) _ t _ t.isLt hf ?_ _ _ _ rfl
  · obtain ⟨Y, -, hAf⟩ := hL 9 u hu
    obtain ⟨l15, l5⟩ := flush_last u hu
    have hO : afterO m c u (after 9 u) := hAf.2.2.2 rfl
    obtain ⟨z22, z23, z24, z25, hR, ex⟩ := hO l5
    have hi' : (((cfg0 (tables m)).win 9).rect u).emb y = ix4 b 0 a d := hi
    have y0 : (y (0 : Fin 4)).val < 1 := (y (0 : Fin 4)).isLt
    have y1 : (y (1 : Fin 4)).val < 1 := (y (1 : Fin 4)).isLt
    have v0 : (bat (grid0.coords u)).val * 1 + (y (0 : Fin 4)).val = b.val :=
      (emb_at m 9 u y (0 : Fin 4) ((congrFun (index_out m u) (0 : Fin 4)).trans (batN (grid0.coords u)))).symm.trans (congrArg Fin.val (congrFun hi' (0 : Fin 4)))
    have v2 : 0 * 48 + (y (2 : Fin 4)).val = a.val := (emb_at m 9 u y (2 : Fin 4) (congrFun (index_out m u) (2 : Fin 4))).symm.trans (congrArg Fin.val (congrFun hi' (2 : Fin 4)))
    have v3 : 0 * 128 + (y (3 : Fin 4)).val = d.val := (emb_at m 9 u y (3 : Fin 4) (congrFun (index_out m u) (3 : Fin 4))).symm.trans (congrArg Fin.val (congrFun hi' (3 : Fin 4)))
    have eb : bat (grid0.coords u) = b := Fin.ext (by omega)
    subst eb
    refine ⟨u, z22, z23, z24, z25, rfl, l15, hR, ?_⟩
    show after 9 u (((cfg0 (tables m)).win 9).xinj ((cfg0 (tables m)).grid.coords u) y) = _
    rw [ex]
    refine congrArg (outV (vnB m c (bat (grid0.coords u))) z22 z23 z24 z25) (funext fun (k : Fin 4) => Fin.ext ?_)
    match k with
    | 0 => show (y (0 : Fin 4)).val = 0; omega
    | 1 => show (y (1 : Fin 4)).val = 0; omega
    | 2 => show (y (2 : Fin 4)).val = a.val; omega
    | 3 => show (y (3 : Fin 4)).val = d.val; omega
  · have hm : (((cfg0 (tables m)).win 9).blk t).view.emb (ix4 0 0 a d) ∈ (((cfg0 (tables m)).win 9).blk t).view.set := View.emb_mem_set _ _
    refine (congrArg (· ∈ (((cfg0 (tables m)).win 9).blk t).view.set) ?_).mp hm
    refine funext fun (k : Fin 4) => Fin.ext ?_
    match k with
    | 0 => refine (emb_at m 9 t (ix4 0 0 a d) (0 : Fin 4) ((congrFun (index_out m t) (0 : Fin 4)).trans (batN (grid0.coords t)))).trans ?_
           rw [hb]; show b.val * 1 + 0 = b.val; omega
    | 1 => exact (emb_at m 9 t (ix4 0 0 a d) (1 : Fin 4) (congrFun (index_out m t) (1 : Fin 4)))
    | 2 => refine (emb_at m 9 t (ix4 0 0 a d) (2 : Fin 4) (congrFun (index_out m t) (2 : Fin 4))).trans ?_
           show 0 * 48 + a.val = a.val; omega
    | 3 => refine (emb_at m 9 t (ix4 0 0 a d) (3 : Fin 4) (congrFun (index_out m t) (3 : Fin 4))).trans ?_
           show 0 * 128 + d.val = d.val; omega

theorem point_inj : ∀ t u : Fin grid0.N, bat (grid0.coords t) = bat (grid0.coords u) → (grid0.coords t 1).val = (grid0.coords u 1).val → t = u := by decide +kernel

theorem stepN (i : grid0.Coords) : (BitVec.ofNat 32 (i 1).val).toNat = (i 1).val := by
  have h : (i 1).val < 16 := (i 1).isLt
  exact WordArith.toNat_ofNat_of_lt _ (by omega)

/-- What a point leaves in the block of scores. -/
theorem final_score {r : PUnit × MemSt nD τ sig (Elt F)} (h : RDat.FramePost (cfg0 (tables m)) (rdatV m) (V m) r) (c : Dev nD)
    (t : Fin grid0.N) : ∃ X : Vec F S1x1x48x2048 .f32, afterS m c t X ∧ ∀ (a : Fin 48) (n : Fin 2048),
    r.2.mem ((c : Thread nD τ).loc main_v17_2) (ix4 (bat (grid0.coords t)) 0 a ⟨2048 * (grid0.coords t 1).val + n.val, by
      have h1 : (grid0.coords t 1).val < 16 := (grid0.coords t 1).isLt
      omega⟩) = X (ix4 0 0 a n) := by
  obtain ⟨after, hL, hA⟩ := RDat.FramePost.exists_exact h c
  have e := hA 11
  rw [show r.2.mem ((c : Thread nD τ).loc main_v17_2) = _ from e]
  refine ⟨after 11 t, (hL 11 t (flush_score t)).elim fun Y h => h.2.2.2.1 rfl, fun a n => ?_⟩
  refine Pipeline.Dat.arrAt_forall_of_flushed ((rdatV m c).withAfter after) 11
    (fun i v => ∀ (a : Fin 48) (n : Fin 2048), i = ix4 (bat (grid0.coords t)) 0 a ⟨2048 * (grid0.coords t 1).val + n.val, by
      have h1 : (grid0.coords t 1).val < 16 := (grid0.coords t 1).isLt
      omega⟩ → v = after 11 t (ix4 0 0 a n)) (fun u hu y a n hi => ?_) _ t _ t.isLt (flush_score t) ?_ _ _ rfl
  · have hi' : (((cfg0 (tables m)).win 11).rect u).emb y = _ := hi
    have y0 : (y (0 : Fin 4)).val < 1 := (y (0 : Fin 4)).isLt
    have y1 : (y (1 : Fin 4)).val < 1 := (y (1 : Fin 4)).isLt
    have y3 : (y (3 : Fin 4)).val < 2048 := (y (3 : Fin 4)).isLt
    have v0 : (bat (grid0.coords u)).val * 1 + (y (0 : Fin 4)).val = (bat (grid0.coords t)).val :=
      (emb_at m 11 u y (0 : Fin 4) ((congrFun (index_score m u) (0 : Fin 4)).trans (batN (grid0.coords u)))).symm.trans (congrArg Fin.val (congrFun hi' (0 : Fin 4)))
    have v2 : 0 * 48 + (y (2 : Fin 4)).val = a.val := (emb_at m 11 u y (2 : Fin 4) (congrFun (index_score m u) (2 : Fin 4))).symm.trans (congrArg Fin.val (congrFun hi' (2 : Fin 4)))
    have v3 : (grid0.coords u 1).val * 2048 + (y (3 : Fin 4)).val = 2048 * (grid0.coords t 1).val + n.val :=
      (emb_at m 11 u y (3 : Fin 4) ((congrFun (index_score m u) (3 : Fin 4)).trans (stepN (grid0.coords u)))).symm.trans (congrArg Fin.val (congrFun hi' (3 : Fin 4)))
    obtain rfl : u = t := point_inj u t (Fin.ext (by omega)) (by omega)
    show after 11 u (((cfg0 (tables m)).win 11).xinj ((cfg0 (tables m)).grid.coords u) y) = _
    refine congrArg (after 11 u) (funext fun (k : Fin 4) => Fin.ext ?_)
    match k with
    | 0 => show (y (0 : Fin 4)).val = 0; omega
    | 1 => show (y (1 : Fin 4)).val = 0; omega
    | 2 => show (y (2 : Fin 4)).val = a.val; omega
    | 3 => show (y (3 : Fin 4)).val = n.val; omega
  · have hm : (((cfg0 (tables m)).win 11).blk t).view.emb (ix4 0 0 a n) ∈ (((cfg0 (tables m)).win 11).blk t).view.set := View.emb_mem_set _ _
    refine (congrArg (· ∈ (((cfg0 (tables m)).win 11).blk t).view.set) ?_).mp hm
    refine funext fun (k : Fin 4) => Fin.ext ?_
    match k with
    | 0 => refine (emb_at m 11 t (ix4 0 0 a n) (0 : Fin 4) ((congrFun (index_score m t) (0 : Fin 4)).trans (batN (grid0.coords t)))).trans ?_
           show (bat (grid0.coords t)).val * 1 + 0 = (bat (grid0.coords t)).val; omega
    | 1 => exact (emb_at m 11 t (ix4 0 0 a n) (1 : Fin 4) (congrFun (index_score m t) (1 : Fin 4)))
    | 2 => refine (emb_at m 11 t (ix4 0 0 a n) (2 : Fin 4) (congrFun (index_score m t) (2 : Fin 4))).trans ?_
           show 0 * 48 + a.val = a.val; omega
    | 3 => refine (emb_at m 11 t (ix4 0 0 a n) (3 : Fin 4) ((congrFun (index_score m t) (3 : Fin 4)).trans (stepN (grid0.coords t)))).trans ?_
           show (grid0.coords t 1).val * 2048 + n.val = 2048 * (grid0.coords t 1).val + n.val; omega

end Cert.KernelIdeal.Hand

end
-- ==== Proof.RopeMath.lean ====
module

public import Idealize.ShloMosaic.Lib.IdealHost

@[expose] public section

noncomputable section

namespace Cert.Hand

open Idealize.ShloMosaic

/-! ## The rotation's angles, over the extended reals -/

/-- The frequency of the pair `j`. -/
def freq (j : ℕ) : EReal :=
  Ideal.div 1 (Ideal.pow (Ideal.ofBits .f32 1223959552#32)
    (Ideal.div (FloatOps.sitofp (F := Ideal) .f32 (BitVec.ofNat 32 j) * Ideal.ofBits .f32 1073741824#32) (Ideal.ofBits .f32 1124073472#32)))

theorem base_real : Ideal.ofBits .f32 1223959552#32 = ((500000 : ℝ) : EReal) := by
  simp [Ideal.ofBits, Ideal.ieee, -EReal.coe_mul]; norm_num
theorem two_real : Ideal.ofBits .f32 1073741824#32 = ((2 : ℝ) : EReal) := by
  simp [Ideal.ofBits, Ideal.ieee, -EReal.coe_mul]; norm_num
theorem dim_real : Ideal.ofBits .f32 1124073472#32 = ((128 : ℝ) : EReal) := by
  simp [Ideal.ofBits, Ideal.ieee, -EReal.coe_mul]; norm_num

/-- The frequencies are finite. -/
theorem freq_real (j : ℕ) : ∃ f : ℝ, freq j = (f : EReal) := by
  unfold freq
  rw [base_real, two_real, dim_real]
  have h1 : (FloatOps.sitofp (F := Ideal) .f32 (BitVec.ofNat 32 j) : EReal) = (((BitVec.ofNat 32 j).toInt : ℝ) : EReal) := rfl
  rw [h1, ← EReal.coe_mul]
  have hd (x y : ℝ) (hy : y ≠ 0) : Ideal.div (x : EReal) (y : EReal) = ((x * (1 / y) : ℝ) : EReal) := by
    rw [Ideal.div_coe hy, EReal.coe_mul]
  rw [hd _ _ (by norm_num)]
  have hp (x y : ℝ) : Ideal.pow (x : EReal) (y : EReal) = ((Real.rpow x y : ℝ) : EReal) := rfl
  rw [hp]
  exact ⟨_, hd 1 _ (ne_of_gt (Real.rpow_pos_of_pos (by norm_num) _))⟩

/-- The cosine and the sine that pair `j` is rotated by at the position `w`. -/
def cosP (w : BitVec 32) (j : ℕ) : EReal := Ideal.cos (FloatOps.sitofp (F := Ideal) .f32 w * freq j)
@[inherit_doc cosP] def sinP (w : BitVec 32) (j : ℕ) : EReal := Ideal.sin (FloatOps.sitofp (F := Ideal) .f32 w * freq j)

/-- The addition theorems, for positions that add without overflow. -/
theorem cosP_add (a b c : BitVec 32) (h : c.toInt = a.toInt + b.toInt) (j : ℕ) : cosP a j * cosP b j - sinP a j * sinP b j = cosP c j := by
  obtain ⟨f, hf⟩ := freq_real j
  unfold cosP sinP
  rw [hf]
  have e (w : BitVec 32) : (FloatOps.sitofp (F := Ideal) .f32 w : EReal) = ((w.toInt : ℝ) : EReal) := rfl
  rw [e, e, e, ← EReal.coe_mul, ← EReal.coe_mul, ← EReal.coe_mul]
  simp only [Ideal.cos_coe, Ideal.sin_coe]
  rw [← EReal.coe_mul, ← EReal.coe_mul, ← EReal.coe_sub, ← Real.cos_add, h]
  push_cast
  rw [add_mul]

theorem sinP_add (a b c : BitVec 32) (h : c.toInt = a.toInt + b.toInt) (j : ℕ) : sinP a j * cosP b j + cosP a j * sinP b j = sinP c j := by
  obtain ⟨f, hf⟩ := freq_real j
  unfold cosP sinP
  rw [hf]
  have e (w : BitVec 32) : (FloatOps.sitofp (F := Ideal) .f32 w : EReal) = ((w.toInt : ℝ) : EReal) := rfl
  rw [e, e, e, ← EReal.coe_mul, ← EReal.coe_mul, ← EReal.coe_mul]
  simp only [Ideal.cos_coe, Ideal.sin_coe]
  rw [← EReal.coe_mul, ← EReal.coe_mul, ← EReal.coe_add, ← Real.sin_add, h]
  push_cast
  rw [add_mul]

/-- Adjacent pairs, of even entries `e` and odd entries `o`, rotated at the position `w`. -/
def rot (w : BitVec 32) (e o : Fin 64 → EReal) (d : Fin 128) : EReal :=
  if h : d.val % 2 < 1 then e ⟨d.val / 2, by omega⟩ * cosP w (d.val / 2) - o ⟨d.val / 2, by omega⟩ * sinP w (d.val / 2)
  else o ⟨d.val / 2, by omega⟩ * cosP w (d.val / 2) + e ⟨d.val / 2, by omega⟩ * sinP w (d.val / 2)

/-- The low and the high four-bit digit of a code, two's complement. -/
def digLo (c : BitVec 8) : EReal :=
  FloatOps.sitofp (F := Ideal) .f32 (IntOp.subi (IntOp.xori (IntOp.andi (BitVec.setWidth 32 c) 15#32) 8#32) 8#32)
@[inherit_doc digLo] def digHi (c : BitVec 8) : EReal :=
  FloatOps.sitofp (F := Ideal) .f32 (IntOp.subi (IntOp.xori (IntOp.andi (IntOp.shrsi .vector (BitVec.setWidth 32 c) 4#32) 15#32) 8#32) 8#32)

/-- The digits, by the other formula: sixteen less where the digit is at least eight. -/
theorem digLo_eq (c : BitVec 8) : IntOp.subi (IntOp.andi (BitVec.setWidth 32 c) 15#32) (IntOp.muli 16#32 (BitVec.setWidth 32 (IntOp.cmpi .sge (IntOp.andi (BitVec.setWidth 32 c) 15#32) 8#32)))
    = IntOp.subi (IntOp.xori (IntOp.andi (BitVec.setWidth 32 c) 15#32) 8#32) 8#32 := by
  revert c; decide +kernel
theorem digHi_eq (c : BitVec 8) : IntOp.subi (IntOp.andi (IntOp.shrsi .host (BitVec.setWidth 32 c) 4#32) 15#32) (IntOp.muli 16#32 (BitVec.setWidth 32 (IntOp.cmpi .sge (IntOp.andi (IntOp.shrsi .host (BitVec.setWidth 32 c) 4#32) 15#32) 8#32)))
    = IntOp.subi (IntOp.xori (IntOp.andi (IntOp.shrsi .vector (BitVec.setWidth 32 c) 4#32) 15#32) 8#32) 8#32 := by
  revert c; decide +kernel

end Cert.Hand

end
-- ==== Proof.Score.lean ====
module

public import proofs.«01_k».proof.Proof.Pieces
public import proofs.«01_k».proof.Proof.RopeMath
public import Idealize.ShloMosaic.Lib.Pointwise

@[expose] public section

set_option maxRecDepth 16384

noncomputable section

namespace Cert.KernelIdeal.Hand

open Cert.KernelIdeal Cert.KernelIdeal.Gen Cert.Hand
open Idealize.ShloMosaic

set_option maxHeartbeats 4000000

/-! ## The pieces of one trip, entry by entry, over the extended reals -/

theorem fdivS_chunk : ∀ (i : Fin 16) (k : Fin 8), Scalar.addi (fdivS (Scalar.muli (BitVec.ofNat 32 i.val) 2048#32) 256#32) (Scf.iv 0#32 1#32 k.val) = BitVec.ofNat 32 (8 * i.val + k.val) := by
  decide +kernel

/-- The quotient of a lane's number by 32, rounded towards minus infinity, as the body computes it. -/
def laneGroup (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 32#32 0#32)) (Scalar.extui (Scalar.cmpi CmpIPredicate.slt 32#32 0#32))))
      (IntOp.cmpi CmpIPredicate.ne (IntOp.remsi ArithUnit.vector x 32#32) 0#32))
    (IntOp.subi (IntOp.divsi ArithUnit.vector x 32#32) 1#32)
    (IntOp.divsi ArithUnit.vector x 32#32)

theorem group_words : ∀ (k : Fin 8) (e : Fin 2) (n : Fin 128), Scalar.addi (fdivS (Scalar.addi (Scalar.muli (Scf.iv 0#32 1#32 k.val) 256#32) (BitVec.ofNat 32 (128 * e.val))) 32#32) (laneGroup (BitVec.ofNat 32 n.val))
    = BitVec.ofNat 32 (8 * k.val + 4 * e.val + n.val / 32) := by
  decide +kernel

theorem token_words : ∀ (i : Fin 16) (k : Fin 8), Scalar.addi (Scalar.muli (BitVec.ofNat 32 i.val) 2048#32) (Scalar.muli (Scf.iv 0#32 1#32 k.val) 256#32) = BitVec.ofNat 32 (2048 * i.val + 256 * k.val) := by
  decide +kernel

theorem baseAt_apply (x : FVec Ideal S64x128 .f32) (i : Fin 16) (k : Fin 8) (d : Fin 64) (n : Fin 128) :
    baseAt (F := Ideal) x (Scalar.muli (BitVec.ofNat 32 i.val) 2048#32) (Scf.iv 0#32 1#32 k.val) (ix2 d n) = x (ix2 d ⟨8 * i.val + k.val, by omega⟩) := by
  unfold baseAt
  rw [fdivS_chunk]
  pointwise
  refine congrArg (fun l => x (ix2 d l)) (Fin.ext ?_)
  show (BitVec.ofNat 32 (8 * i.val + k.val)).toNat % 128 = 8 * i.val + k.val
  rw [BitVec.toNat_ofNat]
  omega

theorem groupV_apply (k : Fin 8) (e : Fin 2) (d n : Fin 128) :
    groupV laneV (Scf.iv 0#32 1#32 k.val) (BitVec.ofNat 32 (128 * e.val)) (ix2 d n) = BitVec.ofNat 32 (8 * k.val + 4 * e.val + n.val / 32) := by
  rw [← group_words]
  unfold groupV fdivV laneV
  pointwise
  rfl

theorem keyV_low (x : Vec Ideal S1x1x64x128 .i8) (s : Vec Ideal S1x128x128 .bf16) (g : IVec S128x128 32) (d : Fin 64) (n : Fin 128) (w : Fin 128)
    (hg : g (ix2 ⟨2 * d.val, by omega⟩ n) = BitVec.ofNat 32 w.val) :
    keyV (F := Ideal) x s g (ix2 ⟨2 * d.val, by omega⟩ n) = digLo (x (ix4 0 0 d n)) * s (ix3 0 ⟨2 * d.val, by omega⟩ w) := by
  unfold keyV codeV digit
  pointwise
  rw [if_pos (by omega)]
  refine congrArg₂ (· * ·) ?_ ?_
  · refine congrArg (fun j => digLo (x (ix4 0 0 j n))) (Fin.ext ?_)
    show 2 * d.val / 2 = d.val
    omega
  · refine congrArg (fun l => s (ix3 0 _ l)) (Fin.ext ?_)
    show (g _).toNat % 128 = w.val
    rw [hg, BitVec.toNat_ofNat]
    omega

theorem keyV_high (x : Vec Ideal S1x1x64x128 .i8) (s : Vec Ideal S1x128x128 .bf16) (g : IVec S128x128 32) (d : Fin 64) (n : Fin 128) (w : Fin 128)
    (hg : g (ix2 ⟨2 * d.val + 1, by omega⟩ n) = BitVec.ofNat 32 w.val) :
    keyV (F := Ideal) x s g (ix2 ⟨2 * d.val + 1, by omega⟩ n) = digHi (x (ix4 0 0 d n)) * s (ix3 0 ⟨2 * d.val + 1, by omega⟩ w) := by
  unfold keyV codeV digit
  pointwise
  rw [if_neg (by omega)]
  refine congrArg₂ (· * ·) ?_ ?_
  · refine congrArg (fun j => digHi (x (ix4 0 0 j n))) (Fin.ext ?_)
    show (2 * d.val + 1) / 2 = d.val
    omega
  · refine congrArg (fun l => s (ix3 0 _ l)) (Fin.ext ?_)
    show (g _).toNat % 128 = w.val
    rw [hg, BitVec.toNat_ofNat]
    omega

theorem evenV_apply (k : FVec Ideal S128x128 .bf16) (co si : FVec Ideal S64x128 .f32) (d : Fin 64) (n : Fin 128) :
    evenV (F := Ideal) k co si (ix2 d n) = k (ix2 ⟨2 * d.val, by omega⟩ n) * co (ix2 d n) - k (ix2 ⟨2 * d.val + 1, by omega⟩ n) * si (ix2 d n) := by
  unfold evenV
  pointwise

theorem oddV_apply (k : FVec Ideal S128x128 .bf16) (co si : FVec Ideal S64x128 .f32) (d : Fin 64) (n : Fin 128) :
    oddV (F := Ideal) k co si (ix2 d n) = k (ix2 ⟨2 * d.val + 1, by omega⟩ n) * co (ix2 d n) + k (ix2 ⟨2 * d.val, by omega⟩ n) * si (ix2 d n) := by
  unfold oddV
  pointwise

theorem sideV_apply (x : Fin 2 → FVec Ideal S64x128 .bf16) (d : Fin 64) (e : Fin 2) (n : Fin 128) :
    sideV (F := Ideal) (x 0) (x 1) (ix2 d ⟨128 * e.val + n.val, by omega⟩) = x e (ix2 d n) := by
  unfold sideV
  pointwise
  match e with
  | 0 => exact (dif_pos (by show 128 * 0 + n.val < 128; omega)).trans (congrArg (fun l => x 0 (ix2 d l)) (Fin.ext (by show 128 * 0 + n.val = n.val; omega)))
  | 1 => exact (dif_neg (by show ¬ 128 * 1 + n.val < 128; omega)).trans (congrArg (fun l => x 1 (ix2 d l)) (Fin.ext (by show 128 * 1 + n.val - 128 = n.val; omega)))

/-- A sum over 256 columns is the sum of the sums over its four quarters. -/
theorem sum_quarters (f : Fin 256 → EReal) :
    ∑ x, f x = ((∑ j : Fin 64, f ⟨j.val, by omega⟩) + ∑ j : Fin 64, f ⟨64 + j.val, by omega⟩)
      + ((∑ j : Fin 64, f ⟨128 + j.val, by omega⟩) + ∑ j : Fin 64, f ⟨192 + j.val, by omega⟩) := by
  rw [Fin.sum_univ_add (a := 128) (b := 128) f, Fin.sum_univ_add (a := 64) (b := 64), Fin.sum_univ_add (a := 64) (b := 64)]
  rfl

theorem pairV_apply (q : FVec Ideal S48x256 .bf16) (a b c d : FVec Ideal S64x256 .bf16) (r : Fin 48) (n : Fin 256) :
    pairV (F := Ideal) q a b c d (ix2 r n)
      = ((∑ j : Fin 64, q (ix2 r ⟨j.val, by omega⟩) * a (ix2 j n)) + ∑ j : Fin 64, q (ix2 r ⟨64 + j.val, by omega⟩) * b (ix2 j n))
        + ((∑ j : Fin 64, q (ix2 r ⟨128 + j.val, by omega⟩) * c (ix2 j n)) + ∑ j : Fin 64, q (ix2 r ⟨192 + j.val, by omega⟩) * d (ix2 j n)) := by
  unfold pairV
  pointwise
  rw [sum_quarters]
  refine congrArg₂ (· + ·) (congrArg₂ (· + ·) (Finset.sum_congr rfl fun j _ => ?_) (Finset.sum_congr rfl fun j _ => ?_))
    (congrArg₂ (· + ·) (Finset.sum_congr rfl fun j _ => ?_) (Finset.sum_congr rfl fun j _ => ?_))
  · rw [dif_pos (by show j.val < 64; omega)]
  · rw [dif_neg (by show ¬ 64 + j.val < 64; omega), dif_pos (by show 64 + j.val - 64 < 64; omega)]
    exact congrArg (fun l => _ * b (ix2 l n)) (Fin.ext (by show 64 + j.val - 64 = j.val; omega))
  · rw [dif_neg (by show ¬ 128 + j.val < 64; omega), dif_neg (by show ¬ 128 + j.val - 64 < 64; omega), dif_pos (by show 128 + j.val - 64 - 64 < 64; omega)]
    exact congrArg (fun l => _ * c (ix2 l n)) (Fin.ext (by show 128 + j.val - 64 - 64 = j.val; omega))
  · rw [dif_neg (by show ¬ 192 + j.val < 64; omega), dif_neg (by show ¬ 192 + j.val - 64 < 64; omega), dif_neg (by show ¬ 192 + j.val - 64 - 64 < 64; omega)]
    exact congrArg (fun l => _ * d (ix2 l n)) (Fin.ext (by show 192 + j.val - 64 - 64 - 64 = j.val; omega))

theorem blkV_apply (v1 : BitVec 32) (i : Fin 16) (k : Fin 8) (d : FVec Ideal S48x256 .f32) (r : Fin 48) (n : Fin 256) :
    blkV (F := Ideal) v1 (Scalar.muli (BitVec.ofNat 32 i.val) 2048#32) (Scf.iv 0#32 1#32 k.val) d (ix4 0 0 r n)
      = Scalar.select (IntOp.cmpi .slt (BitVec.ofNat 32 (2048 * i.val + 256 * k.val + n.val)) v1) (d (ix2 r n)) (0 : EReal) := by
  unfold blkV
  pointwise [k0_pay186, k0_pay185]
  rw [token_words]
  have e : IntOp.addi (BitVec.ofNat 32 (2048 * i.val + 256 * k.val)) (BitVec.ofNat 32 n.val) = BitVec.ofNat 32 (2048 * i.val + 256 * k.val + n.val) :=
    (BitVec.ofNat_add (2048 * i.val + 256 * k.val) n.val).symm
  rw [e]

theorem ksV_apply (ks : Vec Ideal S1x8x64x128 .f32) (h : Fin 8) (d : Fin 128) (l : Fin 128) (hl : l.val < 64) :
    ksV (F := Ideal) ks h (ix3 0 d l) = ks (ix4 0 h ⟨l.val, hl⟩ d) := by
  unfold ksV
  pointwise [k0_pay400]
  rw [dif_pos hl]

/-! ## The score of one token -/

/-- The scaled codes of the key of head `h` at column `256 k + n`: the low digits and the high digits. -/
def kLow (kc : Vec Ideal S1x8x64x2048 .i8) (ks : Vec Ideal S1x8x64x128 .f32) (h : Fin 8) (k : Fin 8) (n : Fin 256) (j : Fin 64) : EReal :=
  digLo (kc (ix4 0 h j ⟨256 * k.val + n.val, by omega⟩)) * ks (ix4 0 h ⟨8 * k.val + n.val / 32, by omega⟩ ⟨2 * j.val, by omega⟩)
@[inherit_doc kLow] def kHigh (kc : Vec Ideal S1x8x64x2048 .i8) (ks : Vec Ideal S1x8x64x128 .f32) (h : Fin 8) (k : Fin 8) (n : Fin 256) (j : Fin 64) : EReal :=
  digHi (kc (ix4 0 h j ⟨256 * k.val + n.val, by omega⟩)) * ks (ix4 0 h ⟨8 * k.val + n.val / 32, by omega⟩ ⟨2 * j.val + 1, by omega⟩)

section Chunk

variable (kc : Vec Ideal S1x8x64x2048 .i8) (ks : Vec Ideal S1x8x64x128 .f32)

theorem key_low (h k : Fin 8) (e : Fin 2) (n : Fin 128) (j : Fin 64) :
    keyV (F := Ideal) (chunkX kc k.val k.isLt h e) (ksV ks h) (groupV laneV (Scf.iv 0#32 1#32 k.val) (BitVec.ofNat 32 (128 * e.val))) (ix2 ⟨2 * j.val, by omega⟩ n)
      = kLow kc ks h k ⟨128 * e.val + n.val, by omega⟩ j := by
  rw [keyV_low _ _ _ j n ⟨8 * k.val + 4 * e.val + n.val / 32, by omega⟩ (groupV_apply k e _ n), ksV_apply ks h _ _ (by show 8 * k.val + 4 * e.val + n.val / 32 < 64; omega)]
  refine congrArg₂ (· * ·) (congrArg (fun l => digLo (kc (ix4 0 h j l))) (Fin.ext ?_)) (congrArg (fun l => ks (ix4 0 h l _)) (Fin.ext ?_))
  · show 256 * k.val + 128 * e.val + n.val = 256 * k.val + (128 * e.val + n.val)
    omega
  · show 8 * k.val + 4 * e.val + n.val / 32 = 8 * k.val + (128 * e.val + n.val) / 32
    omega

theorem key_high (h k : Fin 8) (e : Fin 2) (n : Fin 128) (j : Fin 64) :
    keyV (F := Ideal) (chunkX kc k.val k.isLt h e) (ksV ks h) (groupV laneV (Scf.iv 0#32 1#32 k.val) (BitVec.ofNat 32 (128 * e.val))) (ix2 ⟨2 * j.val + 1, by omega⟩ n)
      = kHigh kc ks h k ⟨128 * e.val + n.val, by omega⟩ j := by
  rw [keyV_high _ _ _ j n ⟨8 * k.val + 4 * e.val + n.val / 32, by omega⟩ (groupV_apply k e _ n), ksV_apply ks h _ _ (by show 8 * k.val + 4 * e.val + n.val / 32 < 64; omega)]
  refine congrArg₂ (· * ·) (congrArg (fun l => digHi (kc (ix4 0 h j l))) (Fin.ext ?_)) (congrArg (fun l => ks (ix4 0 h l _)) (Fin.ext ?_))
  · show 256 * k.val + 128 * e.val + n.val = 256 * k.val + (128 * e.val + n.val)
    omega
  · show 8 * k.val + 4 * e.val + n.val / 32 = 8 * k.val + (128 * e.val + n.val) / 32
    omega

/-- Lane `n` of 256, as a half and a lane of 128. -/
theorem lane_split (n : Fin 256) : ∃ (e : Fin 2) (l : Fin 128), n = ⟨128 * e.val + l.val, by omega⟩ :=
  ⟨⟨n.val / 128, by omega⟩, ⟨n.val % 128, by omega⟩, Fin.ext (by show n.val = 128 * (n.val / 128) + n.val % 128; omega)⟩

variable (co si : Fin 2 → FVec Ideal S64x128 .f32)

/-- The rotated even and odd entries of the keys of head `h` in the chunk `k`. -/
def evenS (h k : Fin 8) : FVec Ideal S64x256 .bf16 :=
  sideV (evenV (keyV (chunkX kc k.val k.isLt h 0) (ksV ks h) (groupV laneV (Scf.iv 0#32 1#32 k.val) 0#32)) (co 0) (si 0))
    (evenV (keyV (chunkX kc k.val k.isLt h 1) (ksV ks h) (groupV laneV (Scf.iv 0#32 1#32 k.val) 128#32)) (co 1) (si 1))
@[inherit_doc evenS] def oddS (h k : Fin 8) : FVec Ideal S64x256 .bf16 :=
  sideV (oddV (keyV (chunkX kc k.val k.isLt h 0) (ksV ks h) (groupV laneV (Scf.iv 0#32 1#32 k.val) 0#32)) (co 0) (si 0))
    (oddV (keyV (chunkX kc k.val k.isLt h 1) (ksV ks h) (groupV laneV (Scf.iv 0#32 1#32 k.val) 128#32)) (co 1) (si 1))

theorem even_side (h k : Fin 8) (e : Fin 2) (n : Fin 128) (j : Fin 64) :
    evenS kc ks co si h k (ix2 j ⟨128 * e.val + n.val, by omega⟩)
    = kLow kc ks h k ⟨128 * e.val + n.val, by omega⟩ j * co e (ix2 j n) - kHigh kc ks h k ⟨128 * e.val + n.val, by omega⟩ j * si e (ix2 j n) := by
  have h1 := sideV_apply (fun e => evenV (F := Ideal) (keyV (chunkX kc k.val k.isLt h e) (ksV ks h) (groupV laneV (Scf.iv 0#32 1#32 k.val) (BitVec.ofNat 32 (128 * e.val)))) (co e) (si e)) j e n
  refine Eq.trans ?_ (h1.trans ?_)
  · rfl
  · beta_reduce
    rw [evenV_apply, key_low, key_high]

theorem odd_side (h k : Fin 8) (e : Fin 2) (n : Fin 128) (j : Fin 64) :
    oddS kc ks co si h k (ix2 j ⟨128 * e.val + n.val, by omega⟩)
    = kHigh kc ks h k ⟨128 * e.val + n.val, by omega⟩ j * co e (ix2 j n) + kLow kc ks h k ⟨128 * e.val + n.val, by omega⟩ j * si e (ix2 j n) := by
  have h1 := sideV_apply (fun e => oddV (F := Ideal) (keyV (chunkX kc k.val k.isLt h e) (ksV ks h) (groupV laneV (Scf.iv 0#32 1#32 k.val) (BitVec.ofNat 32 (128 * e.val)))) (co e) (si e)) j e n
  refine Eq.trans ?_ (h1.trans ?_)
  · rfl
  · beta_reduce
    rw [oddV_apply, key_low, key_high]

theorem dotsV_apply (k : Fin 8) (q : Fin 4 → Vec Ideal S48x256 .bf16) (r : Fin 48) (n : Fin 256) :
    dotsV (F := Ideal) laneV (Scf.iv 0#32 1#32 k.val) co si (chunkX kc k.val k.isLt) (ksV ks) q (ix2 r n)
      = (pairV (F := Ideal) (q 0) (evenS kc ks co si 0 k) (oddS kc ks co si 0 k) (evenS kc ks co si 1 k) (oddS kc ks co si 1 k) (ix2 r n)
        + pairV (F := Ideal) (q 1) (evenS kc ks co si 2 k) (oddS kc ks co si 2 k) (evenS kc ks co si 3 k) (oddS kc ks co si 3 k) (ix2 r n)
        + pairV (F := Ideal) (q 2) (evenS kc ks co si 4 k) (oddS kc ks co si 4 k) (evenS kc ks co si 5 k) (oddS kc ks co si 5 k) (ix2 r n)
        + pairV (F := Ideal) (q 3) (evenS kc ks co si 6 k) (oddS kc ks co si 6 k) (evenS kc ks co si 7 k) (oddS kc ks co si 7 k) (ix2 r n))
        * Ideal.ofBits .f32 0x3DB504F3#32 := rfl

end Chunk

/-- The product of row `r` of the query `Q` with the rotated key of head `h` at column `256 k + n`, where `co` and `si` are the cosines and the
    sines of the rotation. -/
def dotH (kc : Vec Ideal S1x8x64x2048 .i8) (ks : Vec Ideal S1x8x64x128 .f32) (Q : Fin 128 → EReal) (co si : Fin 64 → EReal) (h k : Fin 8) (n : Fin 256) : EReal :=
  (∑ j : Fin 64, Q ⟨2 * j.val, by omega⟩ * (kLow kc ks h k n j * co j - kHigh kc ks h k n j * si j))
    + ∑ j : Fin 64, Q ⟨2 * j.val + 1, by omega⟩ * (kHigh kc ks h k n j * co j + kLow kc ks h k n j * si j)

/-- A sum with a factor that is there or zero. -/
theorem sum_if (p : Prop) [Decidable p] (f g : Fin 64 → EReal) : (∑ j, (if p then f j else 0) * g j) = if p then ∑ j, f j * g j else 0 := by
  split
  · rfl
  · exact Finset.sum_eq_zero fun j _ => zero_mul _

/-- The head of a row. -/
def headR (r : Fin 48) : Fin 8 := ⟨r.val / 6, by omega⟩

/-- One of the four products covers two heads. -/
theorem pair_heads (y20 : Vec Ideal S48x1024 .bf16) (Q : Fin 48 → Fin 128 → EReal)
    (hq : ∀ (h : Fin 8) (r : Fin 48) (l : Fin 128), y20 (ix2 r ⟨128 * h.val + l.val, by omega⟩) = if r.val / 6 = h.val then Q r ⟨2 * (l.val % 64) + l.val / 64, by omega⟩ else (0 : EReal))
    (p : Fin 4) (g g' : Fin 8) (hg : g.val = 2 * p.val) (hg' : g'.val = 2 * p.val + 1) (E O : Fin 8 → FVec Ideal S64x256 .bf16) (r : Fin 48) (n : Fin 256)
    (S T : Fin 8 → EReal) (hS : S = fun h => ∑ j : Fin 64, Q r ⟨2 * j.val, by omega⟩ * E h (ix2 j n)) (hT : T = fun h => ∑ j : Fin 64, Q r ⟨2 * j.val + 1, by omega⟩ * O h (ix2 j n)) :
    pairV (F := Ideal) (qBlk y20 p) (E g) (O g) (E g') (O g') (ix2 r n)
      = ((if headR r = g then S g else 0) + (if headR r = g then T g else 0)) + ((if headR r = g' then S g' else 0) + (if headR r = g' then T g' else 0)) := by
  have key (h : Fin 8) (s : ℕ) (hs : s < 2) (j : Fin 64) (x : Fin 256) (hx : 256 * p.val + x.val = 128 * h.val + (64 * s + j.val)) :
      qBlk (F := Ideal) y20 p (ix2 r x) = if headR r = h then Q r ⟨2 * j.val + s, by omega⟩ else (0 : EReal) := by
    have e := hq h r ⟨64 * s + j.val, by omega⟩
    have e0 : (⟨256 * p.val + x.val, by omega⟩ : Fin 1024) = ⟨128 * h.val + (64 * s + j.val), by omega⟩ := Fin.ext hx
    have e1 : (⟨2 * ((64 * s + j.val) % 64) + (64 * s + j.val) / 64, by omega⟩ : Fin 128) = ⟨2 * j.val + s, by omega⟩ := Fin.ext (by show 2 * ((64 * s + j.val) % 64) + (64 * s + j.val) / 64 = 2 * j.val + s; omega)
    refine Eq.trans (congrArg (fun l => y20 (ix2 r l)) e0) (e.trans ?_)
    by_cases hh : r.val / 6 = h.val
    · rw [if_pos hh, if_pos (show headR r = h from Fin.ext hh)]
      exact congrArg (Q r) e1
    · rw [if_neg hh, if_neg (show ¬ headR r = h from fun c => hh (congrArg Fin.val c))]
  subst hS hT
  rw [pairV_apply]
  refine congrArg₂ (· + ·) (congrArg₂ (· + ·) ?_ ?_) (congrArg₂ (· + ·) ?_ ?_)
  · exact (Finset.sum_congr rfl fun j _ => congrArg (· * _) (key g 0 (by omega) j _ (by show 256 * p.val + j.val = _; omega))).trans (sum_if _ _ _)
  · exact (Finset.sum_congr rfl fun j _ => congrArg (· * _) (key g 1 (by omega) j _ (by show 256 * p.val + (64 + j.val) = _; omega))).trans (sum_if _ _ _)
  · exact (Finset.sum_congr rfl fun j _ => congrArg (· * _) (key g' 0 (by omega) j _ (by show 256 * p.val + (128 + j.val) = _; omega))).trans (sum_if _ _ _)
  · exact (Finset.sum_congr rfl fun j _ => congrArg (· * _) (key g' 1 (by omega) j _ (by show 256 * p.val + (192 + j.val) = _; omega))).trans (sum_if _ _ _)

/-- Of the eight heads one is the row's. -/
theorem pick_head (S T : Fin 8 → EReal) (g : Fin 8) :
    (((((if g = 0 then S 0 else 0) + (if g = 0 then T 0 else 0)) + ((if g = 1 then S 1 else 0) + (if g = 1 then T 1 else 0)))
      + (((if g = 2 then S 2 else 0) + (if g = 2 then T 2 else 0)) + ((if g = 3 then S 3 else 0) + (if g = 3 then T 3 else 0))))
      + (((if g = 4 then S 4 else 0) + (if g = 4 then T 4 else 0)) + ((if g = 5 then S 5 else 0) + (if g = 5 then T 5 else 0))))
      + (((if g = 6 then S 6 else 0) + (if g = 6 then T 6 else 0)) + ((if g = 7 then S 7 else 0) + (if g = 7 then T 7 else 0)))
    = S g + T g := by
  match g with
  | 0 => simp
  | 1 => simp
  | 2 => simp
  | 3 => simp
  | 4 => simp
  | 5 => simp
  | 6 => simp
  | 7 => simp

/-- The kernel's score of one token: the product of the row with the rotated key of its head, scaled, or zero past the length. -/
theorem scoreV_apply (kc : Vec Ideal S1x8x64x2048 .i8) (y16 y17 : Vec Ideal S64x256 .f32) (y18 y19 : Vec Ideal S64x128 .f32) (y20 : Vec Ideal S48x1024 .bf16)
    (ks : Vec Ideal S1x8x64x128 .f32) (v1 : BitVec 32) (i : Fin 16) (k : Fin 8) (r : Fin 48) (n : Fin 256) (Q : Fin 48 → Fin 128 → EReal) (co si : Fin 64 → EReal)
    (hq : ∀ (h : Fin 8) (r : Fin 48) (l : Fin 128), y20 (ix2 r ⟨128 * h.val + l.val, by omega⟩) = if r.val / 6 = h.val then Q r ⟨2 * (l.val % 64) + l.val / 64, by omega⟩ else (0 : EReal))
    (hco : ∀ j : Fin 64, (y18 (ix2 j ⟨8 * i.val + k.val, by omega⟩) * y16 (ix2 j n) - y19 (ix2 j ⟨8 * i.val + k.val, by omega⟩) * y17 (ix2 j n) : EReal) = co j)
    (hsi : ∀ j : Fin 64, (y19 (ix2 j ⟨8 * i.val + k.val, by omega⟩) * y16 (ix2 j n) + y18 (ix2 j ⟨8 * i.val + k.val, by omega⟩) * y17 (ix2 j n) : EReal) = si j) :
    scoreV (F := Ideal) kc y16 y17 y18 y19 y20 (ksV ks) v1 (Scalar.muli (BitVec.ofNat 32 i.val) 2048#32) k.val k.isLt (ix4 0 0 r n)
      = Scalar.select (IntOp.cmpi .slt (BitVec.ofNat 32 (2048 * i.val + 256 * k.val + n.val)) v1)
          (dotH kc ks (Q r) co si (headR r) k n * Ideal.ofBits .f32 0x3DB504F3#32) (0 : EReal) := by
  unfold scoreV
  rw [blkV_apply]
  refine congrArg (fun x : EReal => Scalar.select _ x (0 : EReal)) ?_
  obtain ⟨e, l, rfl⟩ := lane_split n
  have hc (j : Fin 64) : cosV (F := Ideal) (baseAt y18 (Scalar.muli (BitVec.ofNat 32 i.val) 2048#32) (Scf.iv 0#32 1#32 k.val)) (baseAt y19 (Scalar.muli (BitVec.ofNat 32 i.val) 2048#32) (Scf.iv 0#32 1#32 k.val))
      (halfT y16 e) (halfT y17 e) (ix2 j l) = co j := by
    refine Eq.trans ?_ (hco j)
    rw [← baseAt_apply y18 i k j l, ← baseAt_apply y19 i k j l]
    rfl
  have hs (j : Fin 64) : sinV (F := Ideal) (baseAt y18 (Scalar.muli (BitVec.ofNat 32 i.val) 2048#32) (Scf.iv 0#32 1#32 k.val)) (baseAt y19 (Scalar.muli (BitVec.ofNat 32 i.val) 2048#32) (Scf.iv 0#32 1#32 k.val))
      (halfT y16 e) (halfT y17 e) (ix2 j l) = si j := by
    refine Eq.trans ?_ (hsi j)
    rw [← baseAt_apply y18 i k j l, ← baseAt_apply y19 i k j l]
    rfl
  rw [dotsV_apply]
  refine congrArg (· * Ideal.ofBits .f32 0x3DB504F3#32) ?_
  generalize hC : (fun e => cosV (F := Ideal) (baseAt y18 (Scalar.muli (BitVec.ofNat 32 i.val) 2048#32) (Scf.iv 0#32 1#32 k.val)) (baseAt y19 (Scalar.muli (BitVec.ofNat 32 i.val) 2048#32) (Scf.iv 0#32 1#32 k.val))
      (halfT y16 e) (halfT y17 e)) = C
  generalize hD : (fun e => sinV (F := Ideal) (baseAt y18 (Scalar.muli (BitVec.ofNat 32 i.val) 2048#32) (Scf.iv 0#32 1#32 k.val)) (baseAt y19 (Scalar.muli (BitVec.ofNat 32 i.val) 2048#32) (Scf.iv 0#32 1#32 k.val))
      (halfT y16 e) (halfT y17 e)) = D
  have hc' (j : Fin 64) : C e (ix2 j l) = co j := by rw [← hC]; exact hc j
  have hs' (j : Fin 64) : D e (ix2 j l) = si j := by rw [← hD]; exact hs j
  have ph (p : Fin 4) (g g' : Fin 8) (hg : g.val = 2 * p.val) (hg' : g'.val = 2 * p.val + 1) :=
    pair_heads y20 Q hq p g g' hg hg' (fun h => evenS kc ks C D h k) (fun h => oddS kc ks C D h k) r ⟨128 * e.val + l.val, by omega⟩ _ _ rfl rfl
  rw [ph 0 0 1 rfl rfl, ph 1 2 3 rfl rfl, ph 2 4 5 rfl rfl, ph 3 6 7 rfl rfl]
  refine (pick_head (fun h => ∑ j : Fin 64, Q r ⟨2 * j.val, by omega⟩ * evenS kc ks C D h k (ix2 j ⟨128 * e.val + l.val, by omega⟩))
    (fun h => ∑ j : Fin 64, Q r ⟨2 * j.val + 1, by omega⟩ * oddS kc ks C D h k (ix2 j ⟨128 * e.val + l.val, by omega⟩)) (headR r)).trans ?_
  unfold dotH
  simp only [even_side, odd_side, hc', hs']

end Cert.KernelIdeal.Hand

end
-- ==== Proof.QueryValue.lean ====
module

public import proofs.«01_k».proof.Proof.Blocks
public import proofs.«01_k».proof.Proof.RopeMath
public import Idealize.ShloMosaic.Lib.Pointwise
public import Idealize.ShloMosaic.Lib.Tactic.CleanTypes

@[expose] public section

set_option maxRecDepth 16384

noncomputable section

namespace Cert.KernelIdeal.Hand

open Cert.KernelIdeal Cert.KernelIdeal.Gen Cert.Hand
open Idealize.ShloMosaic Idealize.ShloMosaic.TcCoe
open Idealize.SL.Sem

set_option maxHeartbeats 4000000

variable (m : (ℓ : Loc nD τ sig) → Buf (Elt Ideal) ℓ)

/-! ## The arrays that the host prepares, over the extended reals -/

theorem fsB_apply (c : Dev nD) (r : Fin 64) (d : Fin 128) : fsB m c (ix2 r d) = freq r.val := by
  unfold fsB V hostOps0
  after_results
  pointwise
  rfl

theorem flB_apply (c : Dev nD) (r : Fin 8) (d : Fin 128) : flB m c (ix2 r d) = freq (d.val / 2) := by
  unfold flB V hostOps0
  after_results
  pointwise
  rfl

theorem codes_apply (c : Dev nD) (b : Fin 4) (h : Fin 8) (d : Fin 64) (t : Fin 32768) :
    V m c main_v0 (ix4 b h d t) = m ((c : Thread nD τ).loc main_arg3) (ix4 b h t d) := by
  unfold V hostOps0
  after_results
  pointwise

theorem query_apply (c : Dev nD) (b : Fin 4) (r : Fin 48) (d : Fin 128) :
    qB m c b (ix4 0 0 r d) = m ((c : Thread nD τ).loc main_arg0) (ix4 b 0 r d) := rfl

theorem scales_apply (c : Dev nD) (b : Fin 4) (h : Fin 8) (r : Fin 1024) (d : Fin 128) :
    V m c main_arg5 (ix4 b h r d) = m ((c : Thread nD τ).loc main_arg5) (ix4 b h r d) := rfl

theorem len_apply (c : Dev nD) (b : Fin 4) : lenB m b = m ((c : Thread nD τ).loc main_arg7) (ix1 b) := by
  obtain rfl : c = 0 := Subsingleton.elim c 0
  rfl
theorem off_apply (c : Dev nD) (b : Fin 4) : offB m b = m ((c : Thread nD τ).loc main_arg8) (ix1 b) := by
  obtain rfl : c = 0 := Subsingleton.elim c 0
  rfl

/-! ## The rotated query -/

/-- The remainder of a word by two, rounded towards minus infinity, as the body computes it, is zero. -/
def evenW (x : BitVec 32) : BitVec 1 :=
  IntOp.cmpi CmpIPredicate.eq
    (Scalar.select
      (IntOp.andi
        (IntOp.xori
          (IntOp.cmpi CmpIPredicate.slt
            (IntOp.remsi ArithUnit.vector x (Scalar.select (Scalar.cmpi CmpIPredicate.eq 2#32 0#32) 1#32 2#32)) 0#32)
          (Scalar.cmpi CmpIPredicate.slt 2#32 0#32))
        (IntOp.cmpi CmpIPredicate.ne
          (IntOp.remsi ArithUnit.vector x (Scalar.select (Scalar.cmpi CmpIPredicate.eq 2#32 0#32) 1#32 2#32)) 0#32))
      (IntOp.addi
        (IntOp.remsi ArithUnit.vector x (Scalar.select (Scalar.cmpi CmpIPredicate.eq 2#32 0#32) 1#32 2#32)) 2#32)
      (IntOp.remsi ArithUnit.vector x (Scalar.select (Scalar.cmpi CmpIPredicate.eq 2#32 0#32) 1#32 2#32)))
    0#32

theorem evenW_eq : ∀ d : Fin 128, evenW (BitVec.ofNat 32 d.val) = if d.val % 2 < 1 then 1#1 else 0#1 := by decide +kernel

theorem qrot_words (n o : BitVec 32) (fl : FVec Ideal S8x128 .f32) (q : FVec Ideal S1x1x48x128 .bf16) (r : Fin 48) (d : Fin 128) :
    k0_pay21 (F := Ideal) (qV (F := Ideal) n o fl q) (ix4 0 0 r d)
      = q (ix4 0 0 r d) * Ideal.cos (FloatOps.sitofp (F := Ideal) .f32 (IntOp.addi o n) * fl (ix2 0 d))
        + Scalar.select (evenW (BitVec.ofNat 32 d.val)) (q (ix4 0 0 r ⟨(d.val + 128 - 127) % 128, by omega⟩)) (q (ix4 0 0 r ⟨(d.val + 128 - 1) % 128, by omega⟩))
          * Scalar.select (evenW (BitVec.ofNat 32 d.val)) (0 - Ideal.sin (FloatOps.sitofp (F := Ideal) .f32 (IntOp.addi o n) * fl (ix2 0 d)))
            (Ideal.sin (FloatOps.sitofp (F := Ideal) .f32 (IntOp.addi o n) * fl (ix2 0 d))) := by
  unfold qV
  pointwise [k0_pay21, k0_pay17, k0_pay11, k0_pay12, k0_pay13, k0_pay14, k0_pay15, k0_pay16, k0_pay10]
  rfl

/-- The kernel's rotated query is the rotation of the query at the position of the step. -/
theorem qrotB_value (c : Dev nD) (b : Fin 4) (r : Fin 48) (d : Fin 128) :
    qrotB m c b (ix4 0 0 r d) = rot (IntOp.addi (offB m b) (lenB m b))
      (fun j => m ((c : Thread nD τ).loc main_arg0) (ix4 b 0 r ⟨j.val * 2, by omega⟩))
      (fun j => m ((c : Thread nD τ).loc main_arg0) (ix4 b 0 r ⟨j.val * 2 + 1, by omega⟩)) d := by
  unfold qrotB
  rw [qrot_words, flB_apply, evenW_eq]
  unfold rot
  have s1 (x y : EReal) : Scalar.select 1#1 x y = x := if_pos rfl
  have s0 (x y : EReal) : Scalar.select 0#1 x y = y := if_neg (by decide)
  beta_reduce
  by_cases h : d.val % 2 < 1
  · rw [if_pos h, dif_pos h]
    rw [s1, s1, zero_sub, mul_neg, ← sub_eq_add_neg]
    have e1 : (⟨(d.val + 128 - 127) % 128, by omega⟩ : Fin 128) = ⟨d.val / 2 * 2 + 1, by omega⟩ := Fin.ext (by simp only; omega)
    have e2 : d = ⟨d.val / 2 * 2, by omega⟩ := Fin.ext (by simp only; omega)
    rw [e1, query_apply, query_apply, ← e2]
    rfl
  · rw [if_neg h, dif_neg h, s0, s0]
    have e1 : (⟨(d.val + 128 - 1) % 128, by omega⟩ : Fin 128) = ⟨d.val / 2 * 2, by omega⟩ := Fin.ext (by simp only; omega)
    have e2 : d = ⟨d.val / 2 * 2 + 1, by omega⟩ := Fin.ext (by simp only; omega)
    rw [e1, query_apply, query_apply, ← e2]
    rfl

/-- The rotated query before its last change of shape. -/
theorem qV_apply (n o : BitVec 32) (fl : FVec Ideal S8x128 .f32) (q : FVec Ideal S1x1x48x128 .bf16) (r : Fin 48) (d : Fin 128) :
    qV (F := Ideal) n o fl q (ix2 r d) = k0_pay21 (F := Ideal) (qV (F := Ideal) n o fl q) (ix4 0 0 r d) := by
  pointwise [k0_pay21]

/-! ## The spread query -/

/-- The quotient of a word by six, rounded towards minus infinity, as the body computes it. -/
def headW (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 6#32 0#32)) (Scalar.extui (Scalar.cmpi CmpIPredicate.slt 6#32 0#32))))
      (IntOp.cmpi CmpIPredicate.ne (IntOp.remsi ArithUnit.vector x 6#32) 0#32))
    (IntOp.subi (IntOp.divsi ArithUnit.vector x 6#32) 1#32)
    (IntOp.divsi ArithUnit.vector x 6#32)

theorem headW_eq : ∀ r : Fin 48, headW (BitVec.ofNat 32 r.val) = BitVec.ofNat 32 (r.val / 6) := by decide +kernel

/-- The lane that a lane of the spread query is read from: the even entries first, the odd entries after. -/
def laneW (x : BitVec 32) : BitVec 32 :=
  IntOp.addi
    (IntOp.muli (2#32)
      (Scalar.select
        (IntOp.andi
          (IntOp.xori
            (IntOp.cmpi CmpIPredicate.slt
              (IntOp.remsi ArithUnit.vector x (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne
            (IntOp.remsi ArithUnit.vector x (Scalar.select (Scalar.cmpi CmpIPredicate.eq 64#32 0#32) 1#32 64#32)) 0#32))
        (IntOp.addi
          (IntOp.remsi ArithUnit.vector x (Scalar.select (Scalar.cmpi CmpIPredicate.eq 64#32 0#32) 1#32 64#32))
          (Scalar.select (Scalar.cmpi CmpIPredicate.eq 64#32 0#32) 1#32 64#32))
        (IntOp.remsi ArithUnit.vector x (Scalar.select (Scalar.cmpi CmpIPredicate.eq 64#32 0#32) 1#32 64#32))))
    (Scalar.select
      (IntOp.andi
        (IntOp.cmpi CmpIPredicate.ne
          (IntOp.subi (BitVec.setWidth 32 (IntOp.cmpi CmpIPredicate.sgt x 0#32)) (BitVec.setWidth 32 (IntOp.cmpi CmpIPredicate.slt x 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector x 64#32) 0#32))
      (IntOp.subi (IntOp.divsi ArithUnit.vector x 64#32) 1#32)
      (IntOp.divsi ArithUnit.vector x 64#32))

theorem laneW_eq : ∀ d : Fin 128, (laneW (BitVec.ofNat 32 d.val)).toNat % 128 = 2 * (d.val % 64) + d.val / 64 := by decide +kernel

theorem qbd_words (q : FVec Ideal S48x128 .bf16) (h : Fin 8) (r : Fin 48) (d : Fin 128) :
    qbdV (F := Ideal) q h (ix2 r d) = Scalar.select (IntOp.cmpi CmpIPredicate.eq (headW (BitVec.ofNat 32 r.val)) (BitVec.ofNat 32 h.val))
      (q (ix2 r ⟨(laneW (BitVec.ofNat 32 d.val)).toNat % 128, by omega⟩)) (0 : EReal) := by
  match h with
  | 0 =>
    show k0_pay26 (F := Ideal) k0_pay22 (k0_pay23 q) k0_pay24 (ix2 r d) = _
    pointwise [k0_pay26, k0_pay22, k0_pay23, k0_pay24, k0_pay25]
    rfl
  | 1 =>
    show k0_pay27 (F := Ideal) k0_pay22 (k0_pay23 q) k0_pay24 (ix2 r d) = _
    pointwise [k0_pay27, k0_pay22, k0_pay23, k0_pay24, k0_pay25]
    rfl
  | 2 =>
    show k0_pay28 (F := Ideal) k0_pay22 (k0_pay23 q) k0_pay24 (ix2 r d) = _
    pointwise [k0_pay28, k0_pay22, k0_pay23, k0_pay24, k0_pay25]
    rfl
  | 3 =>
    show k0_pay29 (F := Ideal) k0_pay22 (k0_pay23 q) k0_pay24 (ix2 r d) = _
    pointwise [k0_pay29, k0_pay22, k0_pay23, k0_pay24, k0_pay25]
    rfl
  | 4 =>
    show k0_pay31 (F := Ideal) (k0_pay30 k0_pay22 (k0_pay23 q) k0_pay24) (ix2 r d) = _
    pointwise [k0_pay31, k0_pay30, k0_pay22, k0_pay23, k0_pay24, k0_pay25]
    rfl
  | 5 =>
    show k0_pay32 (F := Ideal) k0_pay22 (k0_pay25 (k0_pay23 q) k0_pay24) (ix2 r d) = _
    pointwise [k0_pay32, k0_pay22, k0_pay23, k0_pay24, k0_pay25]
    rfl
  | 6 =>
    show k0_pay33 (F := Ideal) k0_pay22 (k0_pay25 (k0_pay23 q) k0_pay24) (ix2 r d) = _
    pointwise [k0_pay33, k0_pay22, k0_pay23, k0_pay24, k0_pay25]
    rfl
  | 7 =>
    show k0_pay34 (F := Ideal) k0_pay22 (k0_pay25 (k0_pay23 q) k0_pay24) (ix2 r d) = _
    pointwise [k0_pay34, k0_pay22, k0_pay23, k0_pay24, k0_pay25]
    rfl

/-- The spread query holds each row at its head, the even entries first, the odd entries after, and zeros elsewhere. -/
theorem qbd_apply (q : FVec Ideal S48x128 .bf16) (h : Fin 8) (r : Fin 48) (d : Fin 128) :
    qbdV (F := Ideal) q h (ix2 r d) = if r.val / 6 = h.val then q (ix2 r ⟨2 * (d.val % 64) + d.val / 64, by omega⟩) else (0 : EReal) := by
  have hs : ∀ (r : Fin 48) (h : Fin 8), IntOp.cmpi CmpIPredicate.eq (BitVec.ofNat 32 (r.val / 6)) (BitVec.ofNat 32 h.val) = if r.val / 6 = h.val then 1#1 else 0#1 := by
    decide +kernel
  rw [qbd_words, headW_eq, hs]
  simp only [laneW_eq]
  split
  · rfl
  · rfl

end Cert.KernelIdeal.Hand

end
-- ==== Proof.TokenWords.lean ====
module

public import proofs.«01_k».proof.Proof.Words

@[expose] public section

/-! The words that number the tokens: which block and which chunk hold a token below the length, and the positions of the tokens. -/

namespace Cert.Hand

open Idealize.ShloMosaic

theorem toInt_nat (w : BitVec 32) (n : ℕ) (hn : n < 2 ^ 31) (h : w.toNat = n) : w.toInt = n := by
  rw [BitVec.toInt_eq_toNat_cond, if_pos (by omega), h]

theorem toInt_token (t : ℕ) (ht : t < 2 ^ 31) : (BitVec.ofNat 32 t).toInt = t :=
  toInt_nat _ _ ht (by rw [BitVec.toNat_ofNat]; exact Nat.mod_eq_of_lt (by omega))

/-- The larger of zero and a word that is not negative. -/
theorem maxsi_left (x : BitVec 32) (h : x.toNat < 2 ^ 31) : Scalar.maxsi 0#32 x = x := by
  show (if x.slt 0#32 then 0#32 else x) = x
  have h1 := toInt_nat x _ h rfl
  have h2 : (0#32 : BitVec 32).toInt = 0 := by decide
  rw [BitVec.slt_eq_decide, h1, h2, decide_eq_false (by omega)]
  rfl
theorem maxsi_right (x : BitVec 32) (h : x.toNat < 2 ^ 31) : Scalar.maxsi x 0#32 = x := by
  show (if (0#32 : BitVec 32).slt x then x else 0#32) = x
  have h1 := toInt_nat x _ h rfl
  have h2 : (0#32 : BitVec 32).toInt = 0 := by decide
  rw [BitVec.slt_eq_decide, h1, h2]
  split
  · rfl
  · next h3 =>
    have h4 : ¬ (0 : ℤ) < x.toNat := fun c => h3 (decide_eq_true c)
    exact (BitVec.eq_of_toNat_eq (by show x.toNat = 0; omega)).symm

/-- A token is below the length exactly where the comparison says so. -/
theorem below_iff (t : ℕ) (ht : t < 2 ^ 31) (w : BitVec 32) : IntOp.cmpi .slt (BitVec.ofNat 32 t) w = if (t : ℤ) < w.toInt then 1#1 else 0#1 := by
  show BitVec.ofBool (BitVec.slt (BitVec.ofNat 32 t) w) = _
  rw [BitVec.slt_eq_decide, toInt_token t ht]
  split
  · next h => rw [decide_eq_true h]; rfl
  · next h => rw [decide_eq_false h]; rfl

/-- The positions of the tokens do not wrap. -/
theorem position_toInt (o : BitVec 32) (ho : o.toInt ≤ 2 ^ 31 - 32768) (t : ℕ) (ht : t < 32768) : (IntOp.addi o (BitVec.ofNat 32 t)).toInt = o.toInt + t := by
  show (o + BitVec.ofNat 32 t).toInt = _
  rw [BitVec.toInt_add, toInt_token t (by omega)]
  have := BitVec.le_toInt o
  exact Int.bmod_eq_of_le (by omega) (by omega)

/-- A token below the length is among the valid ones of its block. -/
theorem lt_nvalid (i : ℕ) (hi : i < 16) (s : ℕ) (hs : s < 2048) (w : BitVec 32) (h : ((2048 * i + s : ℕ) : ℤ) < w.toInt) :
    s < (nvalid (BitVec.ofNat 32 i) w).toNat := by
  have hw : w.toInt = w.toNat := by
    rw [BitVec.toInt_eq_toNat_cond]; split
    · rfl
    · have := w.isLt; rw [BitVec.toInt_eq_toNat_cond, if_neg (by assumption)] at h; omega
  have hw2 : w.toNat < 2 ^ 31 := by have := BitVec.toInt_lt (x := w); omega
  have e1 : (Scalar.subi w (Scalar.muli (BitVec.ofNat 32 i) 2048#32)).toNat = w.toNat - 2048 * i := by
    show (w - BitVec.ofNat 32 i * 2048#32).toNat = _
    rw [BitVec.toNat_sub, BitVec.toNat_mul, BitVec.toNat_ofNat]
    show (2 ^ 32 - i % 2 ^ 32 * 2048 % 2 ^ 32 + w.toNat) % 2 ^ 32 = _
    omega
  have e2 : Scalar.maxsi 0#32 (Scalar.subi w (Scalar.muli (BitVec.ofNat 32 i) 2048#32)) = Scalar.subi w (Scalar.muli (BitVec.ofNat 32 i) 2048#32) := by
    exact maxsi_left _ (by omega)
  unfold nvalid
  rw [e2]
  have := WordArith.toNat_minsi_of_lt 2048#32 (Scalar.subi w (Scalar.muli (BitVec.ofNat 32 i) 2048#32)) (by decide) (by omega)
  change _ < (IntOp.minsi _ _).toNat
  have hc : (2048#32 : BitVec 32).toNat = 2048 := by decide
  omega

/-- The block that holds a token below the length is the one that its step reads. -/
theorem blk_of_lt (i : ℕ) (hi : i < 16) (s : ℕ) (hs : s < 2048) (w : BitVec 32) (h : ((2048 * i + s : ℕ) : ℤ) < w.toInt) :
    (blk (BitVec.ofNat 32 i) w).toNat = i := by
  have hw : w.toInt = w.toNat := by
    rw [BitVec.toInt_eq_toNat_cond]; split
    · rfl
    · have := w.isLt; rw [BitVec.toInt_eq_toNat_cond, if_neg (by assumption)] at h; omega
  have hw2 : w.toNat < 2 ^ 31 := by have := BitVec.toInt_lt (x := w); omega
  have e0 : (BitVec.ofNat 32 i).toNat = i := by rw [BitVec.toNat_ofNat]; omega
  have e1 : (Scalar.subi w 1#32).toNat = w.toNat - 1 := by
    show (w - 1#32).toNat = _
    rw [BitVec.toNat_sub]
    show (2 ^ 32 - 1 + w.toNat) % 2 ^ 32 = _
    omega
  have e2 : Scalar.maxsi (Scalar.subi w 1#32) 0#32 = Scalar.subi w 1#32 := by
    exact maxsi_right _ (by omega)
  rw [blk_eq _ _ (by omega), e2, e1, e0]
  omega

end Cert.Hand
-- ==== Proof.ScoreValue.lean ====
module

public import proofs.«01_k».proof.Proof.Arrays
public import proofs.«01_k».proof.Proof.Score
public import proofs.«01_k».proof.Proof.QueryValue
public import proofs.«01_k».proof.Proof.TokenWords

@[expose] public section

set_option maxRecDepth 16384

noncomputable section

namespace Cert.KernelIdeal.Hand

open Cert.KernelIdeal Cert.KernelIdeal.Gen Cert.Hand
open Idealize.ShloMosaic Idealize.ShloMosaic.TcCoe
open Idealize.SL.Sem
open Idealize.ShloMosaic.Pipeline (RDat)

set_option maxHeartbeats 4000000

variable (m : (ℓ : Loc nD τ sig) → Buf (Elt Ideal) ℓ)

/-! ## The tables -/

theorem base_cos (o : BitVec 32) (c : Dev nD) (j : Fin 64) (d : Fin 128) :
    k0_pay8 (F := Ideal) o (fsB m c) (ix2 j d) = cosP (IntOp.addi o (IntOp.muli (256#32) (BitVec.ofNat 32 d.val))) j.val := by
  pointwise [k0_pay8, k0_pay7]
  rw [fsB_apply]
  rfl
theorem base_sin (o : BitVec 32) (c : Dev nD) (j : Fin 64) (d : Fin 128) :
    k0_pay9 (F := Ideal) o (fsB m c) (ix2 j d) = sinP (IntOp.addi o (IntOp.muli (256#32) (BitVec.ofNat 32 d.val))) j.val := by
  pointwise [k0_pay9, k0_pay7]
  rw [fsB_apply]
  rfl
theorem lane_cos (c : Dev nD) (j : Fin 64) (n : Fin 256) : k0_pay432 (F := Ideal) (fsB m c) (ix2 j n) = cosP (BitVec.ofNat 32 n.val) j.val := by
  pointwise [k0_pay432, k0_pay431]
  refine congrArg (fun x : EReal => Ideal.cos (FloatOps.sitofp (F := Ideal) .f32 (BitVec.ofNat 32 n.val) * x)) ?_
  split
  · exact fsB_apply m c _ _
  · exact fsB_apply m c _ _
theorem lane_sin (c : Dev nD) (j : Fin 64) (n : Fin 256) : k0_pay433 (F := Ideal) (fsB m c) (ix2 j n) = sinP (BitVec.ofNat 32 n.val) j.val := by
  pointwise [k0_pay433, k0_pay431]
  refine congrArg (fun x : EReal => Ideal.sin (FloatOps.sitofp (F := Ideal) .f32 (BitVec.ofNat 32 n.val) * x)) ?_
  split
  · exact fsB_apply m c _ _
  · exact fsB_apply m c _ _

/-- The first token of a chunk. -/
theorem chunk_token (i : Fin 16) (k : Fin 8) : IntOp.muli (256#32) (BitVec.ofNat 32 (8 * i.val + k.val)) = BitVec.ofNat 32 (256 * (8 * i.val + k.val)) :=
  (BitVec.ofNat_mul 256 (8 * i.val + k.val)).symm

/-- The angles of a token are the sums of those of its chunk and those of its lane. -/
theorem angles (o : BitVec 32) (ho : o.toInt ≤ 2 ^ 31 - 32768) (i : Fin 16) (k : Fin 8) (n : Fin 256) :
    (IntOp.addi o (BitVec.ofNat 32 (2048 * i.val + 256 * k.val + n.val))).toInt
      = (IntOp.addi o (IntOp.muli (256#32) (BitVec.ofNat 32 (8 * i.val + k.val)))).toInt + (BitVec.ofNat 32 n.val).toInt := by
  rw [chunk_token, position_toInt o ho _ (by omega), position_toInt o ho _ (by omega), toInt_token _ (by omega)]
  push_cast
  omega

/-- A sum over 128 entries is the sum over the even ones and the sum over the odd ones. -/
theorem sum_parity (f : Fin 128 → EReal) : ∑ x, f x = (∑ j : Fin 64, f ⟨2 * j.val, by omega⟩) + ∑ j : Fin 64, f ⟨2 * j.val + 1, by omega⟩ := by
  rw [← (finProdFinEquiv : Fin 64 × Fin 2 ≃ Fin (64 * 2)).sum_comp f, Fintype.sum_prod_type, ← Finset.sum_add_distrib]
  refine Finset.sum_congr rfl fun j _ => ?_
  rw [Fin.sum_univ_two]
  refine congrArg₂ (· + ·) (congrArg f (Fin.ext ?_)) (congrArg f (Fin.ext ?_))
  · show 0 + 2 * j.val = 2 * j.val; omega
  · show 1 + 2 * j.val = 2 * j.val + 1; omega

/-- The rotated pair `j`. -/
theorem rot_even (w : BitVec 32) (e o : Fin 64 → EReal) (j : Fin 64) : rot w e o ⟨2 * j.val, by omega⟩ = e j * cosP w j.val - o j * sinP w j.val := by
  unfold rot
  rw [dif_pos (by show 2 * j.val % 2 < 1; omega)]
  have e1 : (⟨2 * j.val / 2, by omega⟩ : Fin 64) = j := Fin.ext (by show 2 * j.val / 2 = j.val; omega)
  simp only [e1, show 2 * j.val / 2 = j.val by omega]
theorem rot_odd (w : BitVec 32) (e o : Fin 64 → EReal) (j : Fin 64) : rot w e o ⟨2 * j.val + 1, by omega⟩ = o j * cosP w j.val + e j * sinP w j.val := by
  unfold rot
  rw [dif_neg (by show ¬ (2 * j.val + 1) % 2 < 1; omega)]
  have e1 : (⟨(2 * j.val + 1) / 2, by omega⟩ : Fin 64) = j := Fin.ext (by show (2 * j.val + 1) / 2 = j.val; omega)
  simp only [e1, show (2 * j.val + 1) / 2 = j.val by omega]

/-! ## The scores -/

/-- The scaled codes of the key of head `h` at token `t`: the low digits and the high digits. -/
def keyLow (c : Dev nD) (b : Fin 4) (h : Fin 8) (t : Fin 32768) (j : Fin 64) : EReal :=
  digLo (m ((c : Thread nD τ).loc main_arg3) (ix4 b h t j)) * m ((c : Thread nD τ).loc main_arg5) (ix4 b h ⟨t.val / 32, by omega⟩ ⟨2 * j.val, by omega⟩)
@[inherit_doc keyLow] def keyHigh (c : Dev nD) (b : Fin 4) (h : Fin 8) (t : Fin 32768) (j : Fin 64) : EReal :=
  digHi (m ((c : Thread nD τ).loc main_arg3) (ix4 b h t j)) * m ((c : Thread nD τ).loc main_arg5) (ix4 b h ⟨t.val / 32, by omega⟩ ⟨1 + 2 * j.val, by omega⟩)

theorem kLow_block (c : Dev nD) (i : grid0.Coords) (h k : Fin 8) (n : Fin 256) (j : Fin 64) (t : Fin 32768) (ht : t.val = 2048 * blkN m i + 256 * k.val + n.val) :
    kLow (kcB m c i) (ksB m c i) h k n j = keyLow m c (bat i) h t j := by
  refine congrArg₂ (· * ·) (congrArg digLo ((codes_apply m c (bat i) h j ⟨2048 * blkN m i + (256 * k.val + n.val), by have := blkN_lt m i; omega⟩).trans
    (congrArg (fun t => m ((c : Thread nD τ).loc main_arg3) (ix4 (bat i) h t j)) (Fin.ext (by show 2048 * blkN m i + (256 * k.val + n.val) = t.val; omega))))) ?_
  exact (congrArg (fun g => m ((c : Thread nD τ).loc main_arg5) (ix4 (bat i) h g ⟨2 * j.val, by omega⟩))
    (Fin.ext (by show 64 * blkN m i + (8 * k.val + n.val / 32) = t.val / 32; omega) :
      (⟨64 * blkN m i + (8 * k.val + n.val / 32), by have := blkN_lt m i; omega⟩ : Fin 1024) = ⟨t.val / 32, by omega⟩))
theorem kHigh_block (c : Dev nD) (i : grid0.Coords) (h k : Fin 8) (n : Fin 256) (j : Fin 64) (t : Fin 32768) (ht : t.val = 2048 * blkN m i + 256 * k.val + n.val) :
    kHigh (kcB m c i) (ksB m c i) h k n j = keyHigh m c (bat i) h t j := by
  refine congrArg₂ (· * ·) (congrArg digHi ((codes_apply m c (bat i) h j ⟨2048 * blkN m i + (256 * k.val + n.val), by have := blkN_lt m i; omega⟩).trans
    (congrArg (fun t => m ((c : Thread nD τ).loc main_arg3) (ix4 (bat i) h t j)) (Fin.ext (by show 2048 * blkN m i + (256 * k.val + n.val) = t.val; omega))))) ?_
  exact (congrArg₂ (fun g d => m ((c : Thread nD τ).loc main_arg5) (ix4 (bat i) h g d))
    (Fin.ext (by show 64 * blkN m i + (8 * k.val + n.val / 32) = t.val / 32; omega) :
      (⟨64 * blkN m i + (8 * k.val + n.val / 32), by have := blkN_lt m i; omega⟩ : Fin 1024) = ⟨t.val / 32, by omega⟩)
    (Fin.ext (by show 2 * j.val + 1 = 1 + 2 * j.val; omega) : (⟨2 * j.val + 1, by omega⟩ : Fin 128) = ⟨1 + 2 * j.val, by omega⟩))

/-- The score of the row `r` of batch `b` against the token `t`. -/
def scoreAt (c : Dev nD) (b : Fin 4) (r : Fin 48) (t : Fin 32768) : EReal :=
  Scalar.select (IntOp.cmpi .slt (BitVec.ofNat 32 t.val) (lenB m b))
    ((∑ x : Fin 128, qrotB m c b (ix4 0 0 r x) * rot (IntOp.addi (offB m b) (BitVec.ofNat 32 t.val)) (keyLow m c b (headR r) t) (keyHigh m c b (headR r) t) x)
      * Ideal.ofBits .f32 0x3DB504F3#32) (0 : EReal)

theorem scoreAt_past (c : Dev nD) (b : Fin 4) (r : Fin 48) (t : Fin 32768) (h : ¬ (t.val : ℤ) < (lenB m b).toInt) : scoreAt m c b r t = 0 := by
  unfold scoreAt
  rw [below_iff t.val (by omega), if_neg h]
  exact if_neg (by decide)

/-- A row of the rotated query. -/
def qRow (c : Dev nD) (b : Fin 4) (r : Fin 48) (d : Fin 128) : EReal := qrotB m c b (ix4 0 0 r d)

/-- A block of scores holds the scores of its tokens. -/
theorem block_scores (c : Dev nD) (t0 : Fin grid0.N) (X : Vec Ideal S1x1x48x2048 .f32) (hX : afterS m c t0 X)
    (ho : (offB m (bat (grid0.coords t0))).toInt ≤ 2 ^ 31 - 32768) (r : Fin 48) (s : Fin 2048) (t : Fin 32768) (ht : t.val = 2048 * (grid0.coords t0 1).val + s.val) :
    X (ix4 0 0 r s) = scoreAt m c (bat (grid0.coords t0)) r t := by
  obtain ⟨y16, y17, y18, y19, y20, ⟨⟨rfl, rfl⟩, rfl, rfl, hq⟩, hS⟩ := hX
  have hi : (grid0.coords t0 1).val < 16 := (grid0.coords t0 1).isLt
  have hq' (h : Fin 8) (r : Fin 48) (l : Fin 128) : y20 (ix2 r ⟨128 * h.val + l.val, by omega⟩)
      = if r.val / 6 = h.val then qRow m c (bat (grid0.coords t0)) r ⟨2 * (l.val % 64) + l.val / 64, by omega⟩ else (0 : EReal) := by
    rw [hq h r l, qbd_apply, qV_apply]
    rfl
  obtain ⟨h1, h2⟩ := hS r
  by_cases hs : s.val < 256 * nch (stepW (grid0.coords t0)) (lenB m (bat (grid0.coords t0)))
  · have hk8 := nch_le (stepW (grid0.coords t0)) (lenB m (bat (grid0.coords t0)))
    have e1 := h1 (s.val / 256) (by omega) ⟨s.val % 256, by omega⟩
    have e2 : (⟨256 * (s.val / 256) + s.val % 256, by omega⟩ : Fin 2048) = s := Fin.ext (by show 256 * (s.val / 256) + s.val % 256 = s.val; omega)
    have e3 := (congrArg (fun s => X (ix4 0 0 r s)) e2).symm.trans e1
    refine e3.trans ((scoreV_apply _ _ _ _ _ y20 _ _ ⟨(grid0.coords t0 1).val, hi⟩ ⟨s.val / 256, by omega⟩ r ⟨s.val % 256, by omega⟩ (qRow m c (bat (grid0.coords t0))) _ _ hq' (fun _ => rfl) (fun _ => rfl)).trans ?_)
    have e4 : 2048 * (grid0.coords t0 1).val + 256 * (s.val / 256) + s.val % 256 = t.val := by omega
    unfold scoreAt
    simp only [e4]
    rw [below_iff t.val (by omega)]
    by_cases hv : (t.val : ℤ) < (lenB m (bat (grid0.coords t0))).toInt
    · have hb : blkN m (grid0.coords t0) = (grid0.coords t0 1).val := blk_of_lt _ hi s.val s.isLt _ (by rw [← ht]; exact hv)
      have ha := angles (offB m (bat (grid0.coords t0))) ho ⟨(grid0.coords t0 1).val, hi⟩ ⟨s.val / 256, by omega⟩ ⟨s.val % 256, by omega⟩
      simp only [e4] at ha
      refine congrArg (fun x : EReal => Scalar.select _ (x * _) (0 : EReal)) ?_
      unfold dotH
      rw [sum_parity]
      refine congrArg₂ (· + ·) (Finset.sum_congr rfl fun j _ => congrArg₂ (· * ·) rfl ?_) (Finset.sum_congr rfl fun j _ => congrArg₂ (· * ·) rfl ?_)
      · beta_reduce
        rw [base_cos, base_sin, lane_cos, lane_sin, cosP_add _ _ _ ha, sinP_add _ _ _ ha, kLow_block m c _ _ _ _ j t (by show t.val = _ + 256 * (s.val / 256) + s.val % 256; omega),
          kHigh_block m c _ _ _ _ j t (by show t.val = _ + 256 * (s.val / 256) + s.val % 256; omega), rot_even]
      · beta_reduce
        rw [base_cos, base_sin, lane_cos, lane_sin, cosP_add _ _ _ ha, sinP_add _ _ _ ha, kLow_block m c _ _ _ _ j t (by show t.val = _ + 256 * (s.val / 256) + s.val % 256; omega),
          kHigh_block m c _ _ _ _ j t (by show t.val = _ + 256 * (s.val / 256) + s.val % 256; omega), rot_odd]
    · rw [if_neg hv]
      exact (if_neg (by decide)).trans (if_neg (by decide)).symm
  · rw [h2 s (by omega), scoreAt_past]
    · exact Ideal.ofBits_zero .f32
    · intro hv
      have : s.val < (nvalid (stepW (grid0.coords t0)) (lenB m (bat (grid0.coords t0)))).toNat := lt_nvalid (grid0.coords t0 1).val hi s.val s.isLt _ (by rw [← ht]; exact hv)
      unfold nch at hs
      omega

/-- The kernel's scores. -/
theorem final_scores {x : PUnit × MemSt nD τ sig (Elt Ideal)} (hx : RDat.FramePost (cfg0 (tables m)) (rdatV m) (V m) x) (c : Dev nD) (b : Fin 4)
    (ho : (offB m b).toInt ≤ 2 ^ 31 - 32768) (r : Fin 48) (t : Fin 32768) :
    x.2.mem ((c : Thread nD τ).loc main_v17_2) (ix4 b 0 r t) = scoreAt m c b r t := by
  obtain ⟨t0, rfl, h1⟩ := point_of b ⟨t.val / 2048, by omega⟩
  obtain ⟨X, hX, hM⟩ := final_score m hx c t0
  have h1' : (grid0.coords t0 1).val = t.val / 2048 := h1
  have e := hM r ⟨t.val % 2048, by omega⟩
  have et : (⟨2048 * (grid0.coords t0 1).val + t.val % 2048, by omega⟩ : Fin 32768) = t := Fin.ext (by show 2048 * (grid0.coords t0 1).val + t.val % 2048 = t.val; omega)
  refine (congrArg (fun t => x.2.mem ((c : Thread nD τ).loc main_v17_2) (ix4 (bat (grid0.coords t0)) 0 r t)) et).symm.trans (e.trans ?_)
  exact block_scores m c t0 X hX ho r ⟨t.val % 2048, by omega⟩ t (by show t.val = _ + t.val % 2048; omega)

/-- The arguments end as they began. -/
theorem args_keptV {r : PUnit × MemSt nD τ sig (Elt Ideal)} (h : RDat.FramePost (cfg0 (tables m)) (rdatV m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  ⟨(RDat.FramePost.arr_in h c 0 rfl).trans (V_unwritten m c main_arg0 (by decide)),
   (RDat.FramePost.arr_in h c 1 rfl).trans (V_unwritten m c main_arg1 (by decide)),
   (RDat.FramePost.arr_in h c 2 rfl).trans (V_unwritten m c main_arg2 (by decide)),
   ((h c).2 main_arg3 (Pipeline.mem_restRefs_of main_arg3 (by decide) (show ∀ w : Fin 12, (spec0 w).arr.view.ref ≠ main_arg3 from by decide))).trans (V_unwritten m c main_arg3 (by decide)),
   ((h c).2 main_arg4 (Pipeline.mem_restRefs_of main_arg4 (by decide) (show ∀ w : Fin 12, (spec0 w).arr.view.ref ≠ main_arg4 from by decide))).trans (V_unwritten m c main_arg4 (by decide)),
   (RDat.FramePost.arr_in h c 5 rfl).trans (V_unwritten m c main_arg5 (by decide)),
   (RDat.FramePost.arr_in h c 6 rfl).trans (V_unwritten m c main_arg6 (by decide)),
   ((h c).2 main_arg7 (Pipeline.mem_restRefs_of main_arg7 (by decide) (show ∀ w : Fin 12, (spec0 w).arr.view.ref ≠ main_arg7 from by decide))).trans (V_unwritten m c main_arg7 (by decide)),
   ((h c).2 main_arg8 (Pipeline.mem_restRefs_of main_arg8 (by decide) (show ∀ w : Fin 12, (spec0 w).arr.view.ref ≠ main_arg8 from by decide))).trans (V_unwritten m c main_arg8 (by decide))⟩

end Cert.KernelIdeal.Hand

end
-- ==== Proof.ValueRows.lean ====
module

public import proofs.«01_k».proof.Proof.ValueDefs
public import proofs.«01_k».proof.Proof.Score
public import proofs.«01_k».proof.Proof.TokenWords
public import proofs.«01_k».proof.Proof.QueryValue
public import proofs.«01_k».proof.Proof.RopeMath

@[expose] public section

set_option maxRecDepth 16384

noncomputable section

namespace Cert.KernelIdeal.Hand

open Cert.KernelIdeal Cert.KernelIdeal.Gen Cert.Hand
open Idealize.ShloMosaic Idealize.ShloMosaic.TcCoe

set_option maxHeartbeats 4000000

/-! # The pieces of the softmax, entry by entry, over the extended reals -/

theorem neg_inf : Ideal.ofBits .f32 4286578688#32 = ⊥ := by simp [Ideal.ofBits, Ideal.ieee]

/-- A choice by whether a token is below the length. -/
theorem token_select (i : Fin 16) (k : Fin 8) (n : ℕ) (hn : n < 256) (w : BitVec 32) (x y : EReal) :
    Scalar.select (IntOp.cmpi .slt (IntOp.addi (Scalar.addi (Scalar.muli (BitVec.ofNat 32 i.val) 2048#32) (Scalar.muli (Scf.iv 0#32 1#32 k.val) 256#32)) (BitVec.ofNat 32 n)) w) x y
      = if ((2048 * i.val + (256 * k.val + n) : ℕ) : ℤ) < w.toInt then x else y := by
  rw [token_words, show IntOp.addi (BitVec.ofNat 32 (2048 * i.val + 256 * k.val)) (BitVec.ofNat 32 n) = BitVec.ofNat 32 (2048 * i.val + 256 * k.val + n) from
    (BitVec.ofNat_add (2048 * i.val + 256 * k.val) n).symm, below_iff _ (by omega), Nat.add_assoc]
  split
  · exact if_pos rfl
  · exact if_neg (by decide)

theorem maxV_row (v1 : BitVec 32) (i : Fin 16) (k : Fin 8) (a : FVec Ideal S48x128 .f32) (d : FVec Ideal S48x256 .f32) (r : Fin 48) (l : Fin 128) :
    (maxV (F := Ideal) v1 (Scalar.muli (BitVec.ofNat 32 i.val) 2048#32) k.val a d (ix2 r l) : EReal)
      = max (max (a (ix2 r l)) (if ((2048 * i.val + (256 * k.val + l.val) : ℕ) : ℤ) < v1.toInt then d (ix2 r ⟨l.val, by omega⟩) else ⊥))
          (if ((2048 * i.val + (256 * k.val + (128 + l.val)) : ℕ) : ℤ) < v1.toInt then d (ix2 r ⟨128 + l.val, by omega⟩) else ⊥) := by
  unfold maxV
  pointwise [k0_pay410, k0_pay187, k0_pay188, k0_pay185]
  rw [token_select i k l.val (by omega), token_select i k (128 + l.val) (by omega), neg_inf]

theorem expV_row (v1 : BitVec 32) (i : Fin 16) (k : Fin 8) (x : FVec Ideal S1x1x48x256 .f32) (z : FVec Ideal S48x128 .f32) (r : Fin 48) (n : Fin 256) (M : EReal)
    (hz : ∀ l, z (ix2 r l) = M) :
    (expV (F := Ideal) v1 (Scalar.muli (BitVec.ofNat 32 i.val) 2048#32) k.val x z (ix2 r n) : EReal)
      = if ((2048 * i.val + (256 * k.val + n.val) : ℕ) : ℤ) < v1.toInt then Ideal.exp (x (ix4 0 0 r n) - M) else 0 := by
  unfold expV
  pointwise
  rw [token_select i k n.val (by omega)]
  simp only [hz, dite_eq_ite, ite_self]

theorem sumV_row (a : FVec Ideal S48x128 .f32) (e : FVec Ideal S48x256 .f32) (r : Fin 48) (l : Fin 128) :
    (sumV (F := Ideal) a e (ix2 r l) : EReal) = a (ix2 r l) + e (ix2 r ⟨l.val, by omega⟩) + e (ix2 r ⟨128 + l.val, by omega⟩) := by
  unfold sumV
  pointwise

theorem wV_row (e : FVec Ideal S48x256 .f32) (s : FVec Ideal S1x8x256 .f32) (r : Fin 48) (n : Fin 256) :
    (wV (F := Ideal) e s (ix2 r n) : EReal) = e (ix2 r n) * s (ix3 0 (headR r) n) := by
  unfold wV
  pointwise [k0_pay353, k0_pay344, k0_pay345, k0_pay346, k0_pay347, k0_pay348, k0_pay349, k0_pay350, k0_pay351, k0_pay352]
  refine congrArg (fun y : EReal => e (ix2 r n) * y) ?_
  have e (a : Fin 8) (h : a.val = r.val / 6) : s (ix3 0 a n) = s (ix3 0 (headR r) n) := congrArg (fun h => s (ix3 0 h n)) (Fin.ext h)
  split_ifs
  all_goals refine e _ ?_
  all_goals show (_ : ℕ) = _
  all_goals omega

/-- The decoded value of the column `d` of a code: the even columns are the low digits, the odd ones the high digits. -/
def digD (c : BitVec 8) (d : ℕ) : EReal := if d % 2 = 0 then digLo c else digHi c

theorem accV_row (w : FVec Ideal S48x256 .bf16) (x : Fin 2 → IVec S1x1x64x256 8) (a : FVec Ideal S48x256 .f32) (r : Fin 48) (e : Fin 2) (d : Fin 128) :
    (accV (F := Ideal) w (x 0) (x 1) a (ix2 r ⟨128 * e.val + d.val, by omega⟩) : EReal)
      = a (ix2 r ⟨128 * e.val + d.val, by omega⟩) + ∑ n : Fin 256, w (ix2 r n) * digD (x e (ix4 0 0 ⟨d.val / 2, by omega⟩ n)) d.val := by
  unfold accV
  pointwise [k0_pay354, k0_pay355, k0_pay356, k0_pay357, k0_pay358, k0_pay359]
  refine congrArg (fun y : EReal => _ + y) (Finset.sum_congr rfl fun n _ => congrArg (fun y : EReal => w (ix2 r n) * y) ?_)
  unfold digD
  match e with
  | 0 =>
    rw [dif_pos (by show 128 * 0 + d.val < 128; omega)]
    by_cases hd : d.val % 2 = 0
    · rw [if_pos (by show (128 * 0 + d.val) % 2 = 0; omega), if_pos hd]
      exact congrArg (fun j => digLo (x 0 (ix4 0 0 j n))) (Fin.ext (by show (128 * 0 + d.val) / 2 = d.val / 2; omega))
    · rw [if_neg (by show ¬ (128 * 0 + d.val) % 2 = 0; omega), if_neg hd]
      exact congrArg (fun j => digHi (x 0 (ix4 0 0 j n))) (Fin.ext (by show (128 * 0 + d.val) / 2 = d.val / 2; omega))
  | 1 =>
    rw [dif_neg (by show ¬ 128 * 1 + d.val < 128; omega)]
    by_cases hd : d.val % 2 = 0
    · rw [if_pos (by show (128 * 1 + d.val - 128) % 2 = 0; omega), if_pos hd]
      exact congrArg (fun j => digLo (x 1 (ix4 0 0 j n))) (Fin.ext (by show (128 * 1 + d.val - 128) / 2 = d.val / 2; omega))
    · rw [if_neg (by show ¬ (128 * 1 + d.val - 128) % 2 = 0; omega), if_neg hd]
      exact congrArg (fun j => digHi (x 1 (ix4 0 0 j n))) (Fin.ext (by show (128 * 1 + d.val - 128) / 2 = d.val / 2; omega))

/-- The maximum over the lanes, and what is rescaled to it. -/
def rowTop (v : FVec Ideal S48x128 .f32) (r : Fin 48) : EReal := Finset.fold max ⊥ (fun x => (v (ix2 r x) : EReal)) Finset.univ

theorem top_row (v : FVec Ideal S48x128 .f32) (r : Fin 48) (l : Fin 128) : (k0_pay414 (F := Ideal) v (ix2 r l) : EReal) = rowTop v r := by
  unfold rowTop
  rw [← neg_inf]
  pointwise [k0_pay414, k0_pay412, k0_pay411]
theorem factor_row (v y : FVec Ideal S48x128 .f32) (r : Fin 48) (l : Fin 128) : (k0_pay413 (F := Ideal) v y (ix2 r l) : EReal) = Ideal.exp (y (ix2 r l) - rowTop v r) := by
  unfold rowTop
  rw [← neg_inf]
  pointwise [k0_pay413, k0_pay412, k0_pay411]
theorem sum_start_row (v y a : FVec Ideal S48x128 .f32) (r : Fin 48) (l : Fin 128) :
    (k0_pay415 (F := Ideal) v y a (ix2 r l) : EReal) = a (ix2 r l) * Ideal.exp (y (ix2 r l) - rowTop v r) := by
  unfold rowTop
  rw [← neg_inf]
  pointwise [k0_pay415, k0_pay413, k0_pay412, k0_pay411]
theorem acc_start_row (e a : FVec Ideal S48x128 .f32) (r : Fin 48) (l : Fin 128) : (k0_pay417 (F := Ideal) e a (ix2 r l) : EReal) = a (ix2 r l) * e (ix2 r l) := by
  pointwise [k0_pay417]
theorem sum_end_row (a : FVec Ideal S48x128 .f32) (r : Fin 48) (l : Fin 128) : (k0_pay5 (F := Ideal) a (ix2 r l) : EReal) = a (ix2 r l) := by
  pointwise [k0_pay5]
theorem score_row (a : FVec Ideal S48x128 .f32) (r : Fin 48) (l : Fin 128) : (k0_pay435 (F := Ideal) a (ix2 r l) : EReal) = a (ix2 r l) := by
  pointwise [k0_pay435]
theorem top_start_row (a : FVec Ideal S48x128 .f32) (r : Fin 48) (l : Fin 128) : (k0_pay436 (F := Ideal) a (ix2 r l) : EReal) = a (ix2 r l) := by
  pointwise [k0_pay436]
theorem one_row (r : Fin 48) : ∑ l : Fin 128, (k0_pay437 (F := Ideal) (ix2 r l) : EReal) = 1 := by
  have h (l : Fin 128) : (k0_pay437 (F := Ideal) (ix2 r l) : EReal) = if l = 0 then 1 else 0 := by
    have e0 : ∀ l : Fin 128, IntOp.cmpi .eq (BitVec.ofNat 32 l.val) 0#32 = if l = 0 then 1#1 else 0#1 := by decide +kernel
    have e : (k0_pay437 (F := Ideal) (ix2 r l) : EReal) = Scalar.select (IntOp.cmpi .eq (BitVec.ofNat 32 l.val) 0#32) 1 0 := by
      pointwise [k0_pay437]
    rw [e, e0]
    split
    · exact if_pos rfl
    · exact if_neg (by decide)
  simp only [h]
  rw [Finset.sum_ite_eq' Finset.univ (0 : Fin 128) fun _ => (1 : EReal), if_pos (Finset.mem_univ _)]
theorem zero_row (r : Fin 48) (l : Fin 1024) : (k0_pay438 (F := Ideal) (ix2 r l) : EReal) = 0 := by
  pointwise [k0_pay438]

/-! ## The new token's score -/

theorem head_is : ∀ (r : Fin 48) (h : Fin 8), IntOp.cmpi CmpIPredicate.eq (BitVec.ofNat 32 (r.val / 6)) (BitVec.ofNat 32 h.val) = if h = headR r then 1#1 else 0#1 := by
  decide +kernel

/-- A sum over the heads where only the row's own head counts. -/
theorem sum_head (r : Fin 48) (f : Fin 8 → EReal) : (∑ x : Fin 8, Scalar.select (IntOp.cmpi CmpIPredicate.eq (headW (BitVec.ofNat 32 r.val)) (BitVec.ofNat 32 x.val)) (f x) 0) = f (headR r) := by
  rw [headW_eq]
  simp only [head_is]
  refine (Finset.sum_congr rfl fun x _ => ?_).trans ((Finset.sum_ite_eq' Finset.univ (headR r) f).trans (if_pos (Finset.mem_univ _)))
  split
  · exact if_pos rfl
  · exact if_neg (by decide)

theorem knew_words (cn sn : FVec Ideal S1x128 .f32) (kk : FVec Ideal S1x1x8x128 .bf16) (r : Fin 8) (d : Fin 128) :
    (k0_pay20 (F := Ideal) cn sn (k0_pay18 kk) k0_pay19 0#32 (ix2 r d) : EReal)
      = kk (ix4 0 0 r d) * cn (ix2 0 d)
        + Scalar.select (evenW (BitVec.ofNat 32 d.val)) (kk (ix4 0 0 r ⟨(d.val + 128 - 127) % 128, by omega⟩)) (kk (ix4 0 0 r ⟨(d.val + 128 - 1) % 128, by omega⟩))
          * Scalar.select (evenW (BitVec.ofNat 32 d.val)) (0 - sn (ix2 0 d)) (sn (ix2 0 d)) := by
  pointwise [k0_pay20, k0_pay18, k0_pay19]
  rfl

theorem new_words (q : FVec Ideal S48x128 .bf16) (kk : FVec Ideal S8x128 .bf16) (r : Fin 48) (l : Fin 128) :
    (k0_pay35 (F := Ideal) k0_pay434 q kk (ix2 r l) : EReal)
      = (∑ x : Fin 8, Scalar.select (IntOp.cmpi CmpIPredicate.eq (headW (BitVec.ofNat 32 r.val)) (BitVec.ofNat 32 x.val)) (∑ d : Fin 128, q (ix2 r d) * kk (ix2 x d)) 0)
        * Ideal.ofBits .f32 0x3DB504F3#32 := by
  pointwise [k0_pay35, k0_pay434]
  rfl

theorem new_row (q : FVec Ideal S48x128 .bf16) (kk : FVec Ideal S8x128 .bf16) (r : Fin 48) (l : Fin 128) :
    (k0_pay35 (F := Ideal) k0_pay434 q kk (ix2 r l) : EReal) = (∑ d : Fin 128, q (ix2 r d) * kk (ix2 (headR r) d)) * Ideal.ofBits .f32 0x3DB504F3#32 := by
  rw [new_words, sum_head]

/-! ## The first result -/

/-- The choice among eight by a word. -/
def pick (W : BitVec 32) (f : Fin 8 → EReal) : EReal :=
  Scalar.select (IntOp.cmpi CmpIPredicate.eq W 7#32) (f 7) (Scalar.select (IntOp.cmpi CmpIPredicate.eq W 6#32) (f 6)
    (Scalar.select (IntOp.cmpi CmpIPredicate.eq W 5#32) (f 5) (Scalar.select (IntOp.cmpi CmpIPredicate.eq W 4#32) (f 4)
      (Scalar.select (IntOp.cmpi CmpIPredicate.eq W 3#32) (f 3) (Scalar.select (IntOp.cmpi CmpIPredicate.eq W 2#32) (f 2)
        (Scalar.select (IntOp.cmpi CmpIPredicate.eq W 1#32) (f 1) (Scalar.select (IntOp.cmpi CmpIPredicate.eq W 0#32) (f 0) 0)))))))

theorem pick_own (r : Fin 48) (f : Fin 8 → EReal) : pick (headW (BitVec.ofNat 32 r.val)) f = f (headR r) := by
  have hs : ∀ h : Fin 8, IntOp.cmpi CmpIPredicate.eq (headW (BitVec.ofNat 32 r.val)) (BitVec.ofNat 32 h.val) = if h = headR r then 1#1 else 0#1 := by
    rw [headW_eq]; exact head_is r
  have e0 := hs 0
  have e1 := hs 1
  have e2 := hs 2
  have e3 := hs 3
  have e4 := hs 4
  have e5 := hs 5
  have e6 := hs 6
  have e7 := hs 7
  change IntOp.cmpi _ _ 0#32 = _ at e0
  change IntOp.cmpi _ _ 1#32 = _ at e1
  change IntOp.cmpi _ _ 2#32 = _ at e2
  change IntOp.cmpi _ _ 3#32 = _ at e3
  change IntOp.cmpi _ _ 4#32 = _ at e4
  change IntOp.cmpi _ _ 5#32 = _ at e5
  change IntOp.cmpi _ _ 6#32 = _ at e6
  change IntOp.cmpi _ _ 7#32 = _ at e7
  unfold pick
  rw [e0, e1, e2, e3, e4, e5, e6, e7]
  generalize headR r = h
  match h with
  | 0 => rfl
  | 1 => rfl
  | 2 => rfl
  | 3 => rfl
  | 4 => rfl
  | 5 => rfl
  | 6 => rfl
  | 7 => rfl

theorem outV_words (vn : FVec Ideal S1x1x8x128 .bf16) (z22 z23 : FVec Ideal S48x128 .f32) (z24 : FVec Ideal S48x1024 .f32) (z25 : FVec Ideal S48x128 .f32) (r : Fin 48) (d : Fin 128) :
    (outV (F := Ideal) vn z22 z23 z24 z25 (ix4 0 0 r d) : EReal)
      = pick (headW (BitVec.ofNat 32 r.val)) (fun h => headCols (F := Ideal) z24 h (ix2 r d)) * Ideal.div 1 (∑ l : Fin 128, (z23 (ix2 r l) : EReal))
        + ∑ x : Fin 8, Scalar.select (IntOp.cmpi CmpIPredicate.eq (headW (BitVec.ofNat 32 r.val)) (BitVec.ofNat 32 x.val))
          (Ideal.exp (z25 (ix2 r 0) - z22 (ix2 r 0)) * Ideal.div 1 (∑ l : Fin 128, (z23 (ix2 r l) : EReal)) * vn (ix4 0 0 x d)) 0 := by
  unfold outV
  pointwise [k0_pay6, k0_pay423, k0_pay424, k0_pay425, k0_pay426, k0_pay427, k0_pay428, k0_pay429, k0_pay430, k0_pay434]
  rfl

theorem outV_row (vn : FVec Ideal S1x1x8x128 .bf16) (z22 z23 : FVec Ideal S48x128 .f32) (z24 : FVec Ideal S48x1024 .f32) (z25 : FVec Ideal S48x128 .f32) (r : Fin 48) (d : Fin 128) :
    (outV (F := Ideal) vn z22 z23 z24 z25 (ix4 0 0 r d) : EReal)
      = z24 (ix2 r ⟨128 * (headR r).val + d.val, by have := (headR r).isLt; omega⟩) * Ideal.div 1 (∑ l : Fin 128, (z23 (ix2 r l) : EReal))
        + Ideal.exp (z25 (ix2 r 0) - z22 (ix2 r 0)) * Ideal.div 1 (∑ l : Fin 128, (z23 (ix2 r l) : EReal)) * vn (ix4 0 0 (headR r) d) := by
  rw [outV_words, pick_own, sum_head]
  rfl

end Cert.KernelIdeal.Hand

end
-- ==== Proof.Softmax.lean ====
module

public import Idealize.ShloMosaic.Lib.IdealHost

@[expose] public section

noncomputable section

namespace Cert.Hand

open Idealize.ShloMosaic

/-! # The softmax of finite scores, taken in one go and taken block by block -/

/-- The exponential of the score `s` less the maximum `M`. -/
def expE (s M : ℝ) : EReal := ((Real.exp (s - M) : ℝ) : EReal)

theorem exp_sub (s M : ℝ) : Ideal.exp ((s : EReal) - (M : EReal)) = expE s M := by
  rw [← EReal.coe_sub]
  exact Ideal.exp_coe _
theorem expE_nonneg (s M : ℝ) : 0 ≤ expE s M := EReal.coe_nonneg.mpr (Real.exp_pos _).le
theorem expE_ne_top (s M : ℝ) : expE s M ≠ ⊤ := EReal.coe_ne_top _
theorem expE_self (s : ℝ) : expE s s = 1 := by
  unfold expE
  rw [sub_self, Real.exp_zero]
  rfl
theorem expE_mul (s M M' : ℝ) : expE s M * expE M M' = expE s M' := by
  unfold expE
  rw [← EReal.coe_mul, ← Real.exp_add]
  congr 2
  ring

theorem sum_mul_real {ι : Type*} (s : Finset ι) (f : ι → EReal) (a : EReal) (h0 : 0 ≤ a) (ht : a ≠ ⊤) : (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 ht, ih]

/-- The maximum of `s0` and of the scores of the first `n` tokens that are below the length `L`. -/
def topN (L : ℤ) (S : ℕ → ℝ) (s0 : ℝ) : ℕ → ℝ
  | 0 => s0
  | n + 1 => if (n : ℤ) < L then max (topN L S s0 n) (S n) else topN L S s0 n

/-- The weights of the first `n` tokens that are below the length, each times its `f`, summed; the weights are taken at the maximum `M`. -/
def massN (L : ℤ) (S : ℕ → ℝ) (f : ℕ → EReal) (M : ℝ) (n : ℕ) : EReal := ∑ t ∈ Finset.range n, if (t : ℤ) < L then expE (S t) M * f t else 0

variable (L : ℤ) (S : ℕ → ℝ) (s0 : ℝ)

theorem topN_mono (a k : ℕ) : topN L S s0 a ≤ topN L S s0 (a + k) := by
  induction k with
  | zero => exact le_rfl
  | succ k ih =>
    refine ih.trans ?_
    show _ ≤ (if ((a + k : ℕ) : ℤ) < L then max (topN L S s0 (a + k)) (S (a + k)) else topN L S s0 (a + k))
    split
    · exact le_max_left _ _
    · exact le_rfl

theorem le_topN (t n : ℕ) (h : t < n) (ht : (t : ℤ) < L) : S t ≤ topN L S s0 n := by
  obtain ⟨k, rfl⟩ : ∃ k, n = t + 1 + k := ⟨n - (t + 1), by omega⟩
  refine le_trans ?_ (topN_mono L S s0 (t + 1) k)
  show _ ≤ (if (t : ℤ) < L then max (topN L S s0 t) (S t) else topN L S s0 t)
  rw [if_pos ht]
  exact le_max_right _ _

theorem topN_le (B : EReal) (n k : ℕ) (hn : (topN L S s0 n : EReal) ≤ B) (h : ∀ t, n ≤ t → t < n + k → (t : ℤ) < L → (S t : EReal) ≤ B) :
    (topN L S s0 (n + k) : EReal) ≤ B := by
  induction k with
  | zero => exact hn
  | succ k ih =>
    have ih' := ih fun t h1 h2 h3 => h t h1 (by omega) h3
    show ((if ((n + k : ℕ) : ℤ) < L then max (topN L S s0 (n + k)) (S (n + k)) else topN L S s0 (n + k) : ℝ) : EReal) ≤ B
    split
    · next hv =>
      rcases le_total (topN L S s0 (n + k)) (S (n + k)) with hm | hm
      · rw [max_eq_right hm]; exact h (n + k) (by omega) (by omega) hv
      · rw [max_eq_left hm]; exact ih'
    · exact ih'

theorem topN_stop (n k : ℕ) (h : ¬ (n : ℤ) < L) : topN L S s0 (n + k) = topN L S s0 n := by
  induction k with
  | zero => rfl
  | succ k ih =>
    show (if ((n + k : ℕ) : ℤ) < L then max (topN L S s0 (n + k)) (S (n + k)) else topN L S s0 (n + k)) = _
    rw [if_neg (by push_cast; omega), ih]

theorem massN_add (f : ℕ → EReal) (M : ℝ) (n k : ℕ) :
    massN L S f M (n + k) = massN L S f M n + ∑ j ∈ Finset.range k, if ((n + j : ℕ) : ℤ) < L then expE (S (n + j)) M * f (n + j) else 0 :=
  Finset.sum_range_add _ n k

/-- Tokens past the last one below the length add nothing. -/
theorem massN_to (f : ℕ → EReal) (M : ℝ) (n k K : ℕ) (hk : k ≤ K) (h : ∀ j, k ≤ j → j < K → ¬ ((n + j : ℕ) : ℤ) < L) :
    massN L S f M (n + K) = massN L S f M n + ∑ j ∈ Finset.range k, if ((n + j : ℕ) : ℤ) < L then expE (S (n + j)) M * f (n + j) else 0 := by
  obtain ⟨e, rfl⟩ : ∃ e, K = k + e := ⟨K - k, by omega⟩
  rw [massN_add, Finset.sum_range_add, Finset.sum_eq_zero (s := Finset.range e), add_zero]
  intro j hj
  rw [Finset.mem_range] at hj
  exact if_neg (h (k + j) (by omega) (by omega))

theorem mass_rescale (f : ℕ → EReal) (M M' : ℝ) (n : ℕ) : massN L S f M n * expE M M' = massN L S f M' n := by
  unfold massN
  rw [sum_mul_real _ _ _ (expE_nonneg _ _) (expE_ne_top _ _)]
  refine Finset.sum_congr rfl fun t _ => ?_
  split
  · rw [mul_right_comm, expE_mul]
  · exact zero_mul _

theorem mass_one (M : ℝ) (n : ℕ) : ∃ x : ℝ, 0 ≤ x ∧ massN L S (fun _ => 1) M n = (x : EReal) := by
  induction n with
  | zero => exact ⟨0, le_rfl, rfl⟩
  | succ n ih =>
    obtain ⟨x, hx, e⟩ := ih
    have e1 : massN L S (fun _ => 1) M (n + 1) = massN L S (fun _ => 1) M n + if (n : ℤ) < L then expE (S n) M * 1 else 0 := Finset.sum_range_succ _ n
    by_cases h : (n : ℤ) < L
    · refine ⟨x + Real.exp (S n - M), add_nonneg hx (Real.exp_pos _).le, ?_⟩
      rw [e1, if_pos h, mul_one, e, EReal.coe_add]
      rfl
    · exact ⟨x, hx, by rw [e1, if_neg h, add_zero, e]⟩

/-- The softmax in one go: the probabilities times `vs`, summed against `dg`, and the new token's probability times `vn`. -/
theorem softmax_once {N : ℕ} (ms vs dg : Fin N → EReal) (f : ℕ → EReal) (top tot vn : EReal)
    (hms : ∀ t : Fin N, ms t = if (t.val : ℤ) < L then (S t.val : EReal) else ⊥) (hf : ∀ t : Fin N, f t.val = vs t * dg t)
    (h1 : ∀ t, ms t ≤ top) (h2 : (s0 : EReal) ≤ top) (h3 : ∀ B : EReal, (∀ t, ms t ≤ B) → (s0 : EReal) ≤ B → top ≤ B)
    (htot : tot = (∑ t, Ideal.exp (ms t - top)) + Ideal.exp ((s0 : EReal) - top)) :
    (∑ t, (Ideal.div (Ideal.exp (ms t - top)) tot * vs t) * dg t) + Ideal.div (Ideal.exp ((s0 : EReal) - top)) tot * vn
      = massN L S f (topN L S s0 N) N * Ideal.div 1 (expE s0 (topN L S s0 N) + massN L S (fun _ => 1) (topN L S s0 N) N)
        + expE s0 (topN L S s0 N) * Ideal.div 1 (expE s0 (topN L S s0 N) + massN L S (fun _ => 1) (topN L S s0 N) N) * vn := by
  have et : top = (topN L S s0 N : EReal) := by
    refine le_antisymm (h3 _ (fun t => ?_) (EReal.coe_le_coe_iff.mpr ?_)) ?_
    · rw [hms]
      split
      · next h => exact EReal.coe_le_coe_iff.mpr (le_topN L S s0 t.val N t.isLt h)
      · exact bot_le
    · have := topN_mono L S s0 0 N
      rwa [Nat.zero_add] at this
    · have := topN_le L S s0 top 0 N h2 fun t _ ht hv => by
        have e := h1 ⟨t, by omega⟩
        rw [hms, if_pos hv] at e
        exact e
      rwa [Nat.zero_add] at this
  subst et
  generalize hM : topN L S s0 N = M at *
  have ex (t : Fin N) : Ideal.exp (ms t - (M : EReal)) = if (t.val : ℤ) < L then expE (S t.val) M else 0 := by
    rw [hms]
    split
    · exact exp_sub _ _
    · rw [EReal.bot_sub]; rfl
  simp only [ex, exp_sub] at htot ⊢
  obtain ⟨x, hx, e1⟩ := mass_one L S M N
  have e2 : tot = ((Real.exp (s0 - M) + x : ℝ) : EReal) := by
    rw [htot, EReal.coe_add, ← e1, add_comm]
    refine congrArg₂ (· + ·) rfl ?_
    unfold massN
    rw [Finset.sum_range]
    exact Finset.sum_congr rfl fun t _ => by rw [mul_one]
  have hT : (Real.exp (s0 - M) + x : ℝ) ≠ 0 := ne_of_gt (add_pos_of_pos_of_nonneg (Real.exp_pos _) hx)
  have e3 : expE s0 M + massN L S (fun _ => 1) M N = ((Real.exp (s0 - M) + x : ℝ) : EReal) := by rw [e1, EReal.coe_add]; rfl
  have h0 : (0 : EReal) ≤ ((1 / (Real.exp (s0 - M) + x) : ℝ) : EReal) := EReal.coe_nonneg.mpr (div_nonneg zero_le_one (add_nonneg (Real.exp_pos _).le hx))
  rw [e3, e2]
  simp only [Ideal.div_coe hT, one_mul]
  refine congrArg₂ (· + ·) ?_ rfl
  unfold massN
  rw [sum_mul_real _ _ _ h0 (EReal.coe_ne_top _), Finset.sum_range]
  refine Finset.sum_congr rfl fun t _ => ?_
  split
  · rw [hf, mul_right_comm (expE _ _) _ (vs t), mul_right_comm _ _ (dg t), mul_assoc (expE _ _) (vs t)]
  · simp only [zero_mul]

end Cert.Hand

end
-- ==== Proof.RowStep.lean ====
module

public import proofs.«01_k».proof.Proof.ValueRows
public import proofs.«01_k».proof.Proof.Softmax

@[expose] public section

set_option maxRecDepth 16384

noncomputable section

namespace Cert.KernelIdeal.Hand

open Cert.KernelIdeal Cert.KernelIdeal.Gen Cert.Hand
open Idealize.ShloMosaic Idealize.ShloMosaic.TcCoe

set_option maxHeartbeats 4000000

/-! # What a point does to one row of the running maximum, sum and products -/

/-- The row `r` after the first `n` tokens: the maximum in every lane, the sum of the weights over the lanes, and the products with the values. -/
structure RowSt (L : ℤ) (S : ℕ → ℝ) (s0 : ℝ) (f : Fin 128 → ℕ → EReal) (r : Fin 48) (n : ℕ) (z22 z23 : FVec Ideal S48x128 .f32) (z24 : FVec Ideal S48x1024 .f32) : Prop where
  top : ∀ l : Fin 128, (z22 (ix2 r l) : EReal) = (topN L S s0 n : EReal)
  sum : ∑ l : Fin 128, (z23 (ix2 r l) : EReal) = expE s0 (topN L S s0 n) + massN L S (fun _ => 1) (topN L S s0 n) n
  acc : ∀ d : Fin 128, (z24 (ix2 r ⟨128 * (headR r).val + d.val, by have := (headR r).isLt; omega⟩) : EReal) = massN L S (f d) (topN L S s0 n) n

theorem row_start (L : ℤ) (S : ℕ → ℝ) (s0 : ℝ) (f : Fin 128 → ℕ → EReal) (r : Fin 48) (w : FVec Ideal S48x128 .f32) (hw : ∀ l : Fin 128, (w (ix2 r l) : EReal) = (s0 : EReal)) :
    RowSt L S s0 f r 0 (k0_pay436 (F := Ideal) w) (k0_pay437 (F := Ideal)) (k0_pay438 (F := Ideal)) where
  top l := (top_start_row w r l).trans (hw l)
  sum := by
    rw [one_row]
    show (1 : EReal) = expE s0 s0 + massN L S (fun _ => 1) s0 0
    rw [expE_self]
    exact (add_zero _).symm
  acc d := zero_row r _

section Chunks

variable (w : BitVec 32) (i : Fin 16) (S : ℕ → ℝ) (r : Fin 48)

/-- A token's score where it is below the length. -/
def tokV (j : ℕ) : EReal := if ((2048 * i.val + j : ℕ) : ℤ) < w.toInt then (S (2048 * i.val + j) : EReal) else ⊥
/-- A token's weight times `f` where it is below the length. -/
def tokW (f : ℕ → EReal) (M : ℝ) (j : ℕ) : EReal := if ((2048 * i.val + j : ℕ) : ℤ) < w.toInt then expE (S (2048 * i.val + j)) M * f (2048 * i.val + j) else 0

variable (D : ℕ → FVec Ideal S48x256 .f32) (K : ℕ) (hK : K ≤ 8)
  (hD : ∀ k, k < K → ∀ n : Fin 256, ((2048 * i.val + (256 * k + n.val) : ℕ) : ℤ) < w.toInt → (D k (ix2 r n) : EReal) = (S (2048 * i.val + (256 * k + n.val)) : EReal))
include hD hK

theorem maxN_succ (a : FVec Ideal S48x128 .f32) (k : ℕ) (hk : k < K) (l : Fin 128) :
    (maxN (F := Ideal) w (Scalar.muli (BitVec.ofNat 32 i.val) 2048#32) D a (k + 1) (ix2 r l) : EReal)
      = max (max (maxN (F := Ideal) w (Scalar.muli (BitVec.ofNat 32 i.val) 2048#32) D a k (ix2 r l)) (tokV w i S (256 * k + l.val))) (tokV w i S (256 * k + (128 + l.val))) := by
  refine (maxV_row w i ⟨k, by omega⟩ _ (D k) r l).trans ?_
  unfold tokV
  refine congrArg₂ max (congrArg₂ max rfl ?_) ?_
  · split
    · next h => exact hD k hk ⟨l.val, by omega⟩ h
    · rfl
  · split
    · next h => exact hD k hk ⟨128 + l.val, by omega⟩ h
    · rfl

theorem maxN_bounds (a : FVec Ideal S48x128 .f32) (A B : EReal) (hA : ∀ l : Fin 128, (a (ix2 r l) : EReal) = A) (hAB : A ≤ B) (hB : ∀ j, j < 2048 → tokV w i S j ≤ B) (k : ℕ) (hk : k ≤ K) :
    (∀ l : Fin 128, A ≤ maxN (F := Ideal) w (Scalar.muli (BitVec.ofNat 32 i.val) 2048#32) D a k (ix2 r l))
      ∧ (∀ l : Fin 128, (maxN (F := Ideal) w (Scalar.muli (BitVec.ofNat 32 i.val) 2048#32) D a k (ix2 r l) : EReal) ≤ B)
      ∧ ∀ j, j < 256 * k → ∃ l : Fin 128, tokV w i S j ≤ maxN (F := Ideal) w (Scalar.muli (BitVec.ofNat 32 i.val) 2048#32) D a k (ix2 r l) := by
  induction k with
  | zero => exact ⟨fun l => (hA l).ge, fun l => (hA l).le.trans hAB, fun j hj => absurd hj (by omega)⟩
  | succ k ih =>
    obtain ⟨h1, h2, h3⟩ := ih (by omega)
    refine ⟨fun l => ?_, fun l => ?_, fun j hj => ?_⟩
    · rw [maxN_succ w i S r D K hK hD a k hk l]
      exact (h1 l).trans ((le_max_left _ _).trans (le_max_left _ _))
    · rw [maxN_succ w i S r D K hK hD a k hk l]
      exact max_le (max_le (h2 l) (hB _ (by omega))) (hB _ (by omega))
    · by_cases hj' : j < 256 * k
      · obtain ⟨l, hl⟩ := h3 j hj'
        refine ⟨l, ?_⟩
        rw [maxN_succ w i S r D K hK hD a k hk l]
        exact hl.trans ((le_max_left _ _).trans (le_max_left _ _))
      · by_cases hn : j - 256 * k < 128
        · refine ⟨⟨j - 256 * k, hn⟩, ?_⟩
          rw [maxN_succ w i S r D K hK hD a k hk _]
          refine le_trans (le_of_eq (congrArg (tokV w i S) ?_)) ((le_max_right _ _).trans (le_max_left _ _))
          show j = 256 * k + (j - 256 * k)
          omega
        · refine ⟨⟨j - 256 * k - 128, by omega⟩, ?_⟩
          rw [maxN_succ w i S r D K hK hD a k hk _]
          refine le_trans (le_of_eq (congrArg (tokV w i S) ?_)) (le_max_right _ _)
          show j = 256 * k + (128 + (j - 256 * k - 128))
          omega

/-- The maximum over the lanes after the chunks of the block. -/
theorem rowTop_eq (a : FVec Ideal S48x128 .f32) (s0 : ℝ) (hA : ∀ l : Fin 128, (a (ix2 r l) : EReal) = (topN w.toInt S s0 (2048 * i.val) : EReal))
    (hE : ∀ j, 256 * K ≤ j → j < 2048 → ¬ ((2048 * i.val + j : ℕ) : ℤ) < w.toInt) :
    rowTop (maxN (F := Ideal) w (Scalar.muli (BitVec.ofNat 32 i.val) 2048#32) D a K) r = (topN w.toInt S s0 (2048 * i.val + 2048) : EReal) := by
  obtain ⟨h1, h2, h3⟩ := maxN_bounds w i S r D K hK hD a (topN w.toInt S s0 (2048 * i.val) : EReal) (topN w.toInt S s0 (2048 * i.val + 2048) : EReal) hA
    (EReal.coe_le_coe_iff.mpr (topN_mono _ _ _ _ _))
    (fun j hj => by
      unfold tokV
      split
      · next h => exact EReal.coe_le_coe_iff.mpr (le_topN _ _ _ _ _ (by omega) h)
      · exact bot_le) K le_rfl
  unfold rowTop
  refine le_antisymm (Finset.fold_max_le _ |>.mpr ⟨bot_le, fun l _ => h2 l⟩) ?_
  refine topN_le _ _ _ _ _ _ ?_ fun t ht ht' hv => ?_
  · exact Finset.le_fold_max _ |>.mpr (Or.inr ⟨0, Finset.mem_univ _, h1 0⟩)
  · by_cases hj : t - 2048 * i.val < 256 * K
    · obtain ⟨l, hl⟩ := h3 (t - 2048 * i.val) hj
      have e : 2048 * i.val + (t - 2048 * i.val) = t := by omega
      unfold tokV at hl
      rw [e, if_pos hv] at hl
      exact Finset.le_fold_max _ |>.mpr (Or.inr ⟨l, Finset.mem_univ _, hl⟩)
    · refine absurd hv ?_
      have := hE (t - 2048 * i.val) (by omega) (by omega)
      rwa [show 2048 * i.val + (t - 2048 * i.val) = t by omega] at this

end Chunks

section Sums

variable (w : BitVec 32) (i : Fin 16) (S : ℕ → ℝ) (r : Fin 48) (M : ℝ) (K : ℕ) (hK : K ≤ 8) (x : FVec Ideal S1x1x48x2048 .f32) (z : FVec Ideal S48x128 .f32)
  (hx : ∀ s : Fin 2048, ((2048 * i.val + s.val : ℕ) : ℤ) < w.toInt → (x (ix4 0 0 r s) : EReal) = (S (2048 * i.val + s.val) : EReal))
  (hz : ∀ l : Fin 128, (z (ix2 r l) : EReal) = (M : EReal))
include hK hx hz

/-- The weight of one token. -/
theorem weight (k : ℕ) (hk : k < K) (n : Fin 256) :
    (expV (F := Ideal) w (Scalar.muli (BitVec.ofNat 32 i.val) 2048#32) k (chunkS x k) z (ix2 r n) : EReal)
      = if ((2048 * i.val + (256 * k + n.val) : ℕ) : ℤ) < w.toInt then expE (S (2048 * i.val + (256 * k + n.val))) M else 0 := by
  refine (expV_row w i ⟨k, by omega⟩ (chunkS (F := Ideal) x k) z r n (M : EReal) hz).trans ?_
  show (if ((2048 * i.val + (256 * k + n.val) : ℕ) : ℤ) < w.toInt then Ideal.exp (chunkS (F := Ideal) x k (ix4 0 0 r n) - (M : EReal)) else 0) = _
  split
  · next h =>
    refine (congrArg (fun y : EReal => Ideal.exp (y - (M : EReal))) ?_).trans (exp_sub _ _)
    have e : (⟨(256 * k + n.val) % 2048, Nat.mod_lt _ (by decide)⟩ : Fin 2048) = ⟨256 * k + n.val, by omega⟩ := Fin.ext (Nat.mod_eq_of_lt (by omega))
    exact (congrArg (fun s => (x (ix4 0 0 r s) : EReal)) e).trans (hx ⟨256 * k + n.val, by omega⟩ h)
  · rfl

theorem sumN_row (a : FVec Ideal S48x128 .f32) (k : ℕ) (hk : k ≤ K) :
    ∑ l : Fin 128, (sumN (F := Ideal) w (Scalar.muli (BitVec.ofNat 32 i.val) 2048#32) x z a k (ix2 r l) : EReal)
      = (∑ l : Fin 128, (a (ix2 r l) : EReal)) + ∑ j ∈ Finset.range (256 * k), tokW w i S (fun _ => 1) M j := by
  induction k with
  | zero => exact (add_zero _).symm
  | succ k ih =>
    have e1 (l : Fin 128) : (sumN (F := Ideal) w (Scalar.muli (BitVec.ofNat 32 i.val) 2048#32) x z a (k + 1) (ix2 r l) : EReal)
        = sumN (F := Ideal) w (Scalar.muli (BitVec.ofNat 32 i.val) 2048#32) x z a k (ix2 r l) + tokW w i S (fun _ => 1) M (256 * k + l.val) + tokW w i S (fun _ => 1) M (256 * k + (128 + l.val)) := by
      refine (sumV_row _ _ r l).trans (congrArg₂ (· + ·) (congrArg₂ (· + ·) rfl ?_) ?_)
      · refine (weight w i S r M K hK x z hx hz k (by omega) ⟨l.val, by omega⟩).trans ?_
        unfold tokW
        simp only [mul_one]
      · refine (weight w i S r M K hK x z hx hz k (by omega) ⟨128 + l.val, by omega⟩).trans ?_
        unfold tokW
        simp only [mul_one]
    simp only [e1]
    rw [Finset.sum_add_distrib, Finset.sum_add_distrib, ih (by omega), show 256 * (k + 1) = 256 * k + (128 + 128) by omega, Finset.sum_range_add, Finset.sum_range_add _ 128 128,
      Finset.sum_range fun j => tokW w i S (fun _ => 1) M (256 * k + j), Finset.sum_range fun j => tokW w i S (fun _ => 1) M (256 * k + (128 + j))]
    simp only [add_assoc]

theorem accN_row (vs : FVec Ideal S1x8x2048 .f32) (vc : IVec S1x8x64x2048 8) (f : ℕ → EReal) (p : Fin 4) (e : Fin 2) (hpe : (headR r).val = 2 * p.val + e.val) (d : Fin 128)
    (hv : ∀ s : Fin 2048, ((2048 * i.val + s.val : ℕ) : ℤ) < w.toInt → (vs (ix3 0 (headR r) s) : EReal) * digD (vc (ix4 0 (headR r) ⟨d.val / 2, by omega⟩ s)) d.val = f (2048 * i.val + s.val))
    (a : FVec Ideal S48x256 .f32) (k : ℕ) (hk : k ≤ K) :
    (accN (F := Ideal) w (Scalar.muli (BitVec.ofNat 32 i.val) 2048#32) x z vs vc p a k (ix2 r ⟨128 * e.val + d.val, by omega⟩) : EReal)
      = a (ix2 r ⟨128 * e.val + d.val, by omega⟩) + ∑ j ∈ Finset.range (256 * k), tokW w i S f M j := by
  induction k with
  | zero => exact (add_zero _).symm
  | succ k ih =>
    refine (accV_row _ (fun e : Fin 2 => chunkVc (F := Ideal) vc k ⟨2 * p.val + e.val, by omega⟩) _ r e d).trans ?_
    rw [ih (by omega), show 256 * (k + 1) = 256 * k + 256 by omega, Finset.sum_range_add, Finset.sum_range fun j => tokW w i S f M (256 * k + j), add_assoc]
    refine congrArg₂ (· + ·) rfl (congrArg₂ (· + ·) rfl (Finset.sum_congr rfl fun n _ => ?_))
    rw [wV_row, weight w i S r M K hK x z hx hz k (by omega) n]
    unfold tokW
    split
    · next h =>
      rw [mul_assoc]
      refine congrArg (fun y : EReal => _ * y) ?_
      have en : (⟨(256 * k + n.val) % 2048, Nat.mod_lt _ (by decide)⟩ : Fin 2048) = ⟨256 * k + n.val, by omega⟩ := Fin.ext (Nat.mod_eq_of_lt (by omega))
      have eh : (⟨2 * p.val + e.val, by omega⟩ : Fin 8) = headR r := Fin.ext hpe.symm
      refine Eq.trans ?_ (hv ⟨256 * k + n.val, by omega⟩ h)
      refine congrArg₂ (· * ·) (congrArg (fun s => (vs (ix3 0 (headR r) s) : EReal)) en) ?_
      refine congrArg (fun c => digD c d.val) ?_
      show vc (ix4 0 (⟨2 * p.val + e.val, by omega⟩ : Fin 8) ⟨d.val / 2, by omega⟩ (⟨(256 * k + n.val) % 2048, Nat.mod_lt _ (by decide)⟩ : Fin 2048)) = _
      rw [eh, en]
    · rw [zero_mul, zero_mul]

end Sums

/-- A point takes the row past the tokens of its block. -/
theorem row_step (i : grid0.Coords) (w : BitVec 32) (S : ℕ → ℝ) (s0 : ℝ) (f : Fin 128 → ℕ → EReal) (r : Fin 48) (x : FVec Ideal S1x1x48x2048 .f32) (vc : IVec S1x8x64x2048 8)
    (vs : FVec Ideal S1x8x2048 .f32) (y22 y23 : FVec Ideal S48x128 .f32) (y24 : FVec Ideal S48x1024 .f32) (z22 z23 : FVec Ideal S48x128 .f32) (z24 : FVec Ideal S48x1024 .f32)
    (hM : Moved (F := Ideal) i w x vc vs y22 y23 y24 z22 z23 z24) (hy : RowSt w.toInt S s0 f r (2048 * (i 1).val) y22 y23 y24)
    (hx : ∀ s : Fin 2048, ((2048 * (i 1).val + s.val : ℕ) : ℤ) < w.toInt → (x (ix4 0 0 r s) : EReal) = (S (2048 * (i 1).val + s.val) : EReal))
    (hv : ∀ (s : Fin 2048) (d : Fin 128), ((2048 * (i 1).val + s.val : ℕ) : ℤ) < w.toInt →
      (vs (ix3 0 (headR r) s) : EReal) * digD (vc (ix4 0 (headR r) ⟨d.val / 2, by omega⟩ s)) d.val = f d (2048 * (i 1).val + s.val)) :
    RowSt w.toInt S s0 f r (2048 * (i 1).val + 2048) z22 z23 z24 := by
  have hi : (i 1).val < 16 := (i 1).isLt
  have hE : ∀ j, 256 * nch (stepW i) w ≤ j → j < 2048 → ¬ ((2048 * (i 1).val + j : ℕ) : ℤ) < w.toInt := fun j h1 h2 hv => by
    have : j < (nvalid (stepW i) w).toNat := lt_nvalid (i 1).val hi j h2 w hv
    unfold nch at h1
    omega
  rcases hM with ⟨h0, rfl, rfl, rfl⟩ | ⟨D, Mx, w24, hX, rfl, rfl, rfl, h24, hz24⟩
  · have hE' : ∀ j, 0 ≤ j → j < 2048 → ¬ ((2048 * (i 1).val + j : ℕ) : ℤ) < w.toInt := fun j _ => hE j (by omega)
    have et := topN_stop w.toInt S s0 (2048 * (i 1).val) 2048 (hE' 0 le_rfl (by omega))
    have em (f : ℕ → EReal) (M : ℝ) : massN w.toInt S f M (2048 * (i 1).val + 2048) = massN w.toInt S f M (2048 * (i 1).val) :=
      (massN_to w.toInt S f M _ 0 2048 (by omega) hE').trans (add_zero _)
    refine ⟨fun l => ?_, ?_, fun d => ?_⟩
    · rw [et]; exact hy.top l
    · rw [et, em]; exact hy.sum
    · rw [et, em]; exact hy.acc d
  · have hK : nch (stepW i) w ≤ 8 := nch_le (stepW i) w
    have hD : ∀ k, k < nch (stepW i) w → ∀ n : Fin 256, ((2048 * (i 1).val + (256 * k + n.val) : ℕ) : ℤ) < w.toInt → (D k (ix2 r n) : EReal) = (S (2048 * (i 1).val + (256 * k + n.val)) : EReal) := by
      intro k hk n hv
      have e1 := (hX k hk r n).symm.trans (hx ⟨256 * k + n.val, by omega⟩ hv)
      have e2 := (blkV_apply w ⟨(i 1).val, hi⟩ ⟨k, by omega⟩ (D k) r n).symm.trans e1
      rw [below_iff _ (by show 2048 * (i 1).val + 256 * k + n.val < 2 ^ 31; omega), if_pos (by rw [Nat.add_assoc]; exact hv)] at e2
      exact (if_pos rfl).symm.trans e2
    have eT := rowTop_eq w ⟨(i 1).val, hi⟩ S r D (nch (stepW i) w) hK hD y22 s0 hy.top hE
    have hz (l : Fin 128) : (k0_pay414 (F := Ideal) (maxN w (Scalar.muli (stepW i) 2048#32) D y22 (nch (stepW i) w)) (ix2 r l) : EReal) = (topN w.toInt S s0 (2048 * (i 1).val + 2048) : EReal) :=
      (top_row _ r l).trans eT
    refine ⟨hz, ?_, fun d => ?_⟩
    · have e1 := sumN_row w ⟨(i 1).val, hi⟩ S r _ (nch (stepW i) w) hK x _ hx hz (k0_pay415 (F := Ideal) (maxN w (Scalar.muli (stepW i) 2048#32) D y22 (nch (stepW i) w)) y22 y23) _ le_rfl
      refine (Finset.sum_congr rfl fun l _ => sum_end_row _ r l).trans (e1.trans ?_)
      rw [massN_to w.toInt S (fun _ => 1) _ (2048 * (i 1).val) (256 * nch (stepW i) w) 2048 (by omega) hE, ← add_assoc]
      refine congrArg₂ (· + ·) ?_ rfl
      have e2 (l : Fin 128) : (k0_pay415 (F := Ideal) (maxN w (Scalar.muli (stepW i) 2048#32) D y22 (nch (stepW i) w)) y22 y23 (ix2 r l) : EReal)
          = y23 (ix2 r l) * expE (topN w.toInt S s0 (2048 * (i 1).val)) (topN w.toInt S s0 (2048 * (i 1).val + 2048)) := by
        refine (sum_start_row _ y22 y23 r l).trans (congrArg (fun y : EReal => _ * y) ?_)
        refine (congrArg₂ (fun a b : EReal => Ideal.exp (a - b)) (hy.top l) eT).trans (exp_sub _ _)
      rw [Finset.sum_congr rfl fun l _ => e2 l, ← sum_mul_real _ _ _ (expE_nonneg _ _) (expE_ne_top _ _), hy.sum,
        EReal.right_distrib_of_nonneg_of_ne_top (expE_nonneg _ _) (expE_ne_top _ _), expE_mul, mass_rescale]
    · have hh : (headR r).val < 8 := (headR r).isLt
      have e1 := accN_row w ⟨(i 1).val, hi⟩ S r _ (nch (stepW i) w) hK x _ hx hz vs vc (f d) ⟨(headR r).val / 2, by omega⟩ ⟨(headR r).val % 2, by omega⟩ (by show (headR r).val = 2 * ((headR r).val / 2) + (headR r).val % 2; omega) d
        (fun s h => hv s d h) (pairCols w24 ⟨(headR r).val / 2, by omega⟩) _ le_rfl
      have e3 := (congrFun (hz24 ⟨(headR r).val / 2, by omega⟩) (ix2 r ⟨128 * ((headR r).val % 2) + d.val, by omega⟩)).trans e1
      have ei : (⟨256 * ((headR r).val / 2) + (128 * ((headR r).val % 2) + d.val), by omega⟩ : Fin 1024) = ⟨128 * (headR r).val + d.val, by omega⟩ := Fin.ext (by show 256 * ((headR r).val / 2) + (128 * ((headR r).val % 2) + d.val) = 128 * (headR r).val + d.val; omega)
      have e4 : (z24 (ix2 r ⟨128 * (headR r).val + d.val, by omega⟩) : EReal) = pairCols (F := Ideal) z24 ⟨(headR r).val / 2, by omega⟩ (ix2 r ⟨128 * ((headR r).val % 2) + d.val, by omega⟩) :=
        (congrArg (fun q => (z24 (ix2 r q) : EReal)) ei).symm
      have e5 : (pairCols (F := Ideal) w24 ⟨(headR r).val / 2, by omega⟩ (ix2 r ⟨128 * ((headR r).val % 2) + d.val, by omega⟩) : EReal) = headCols (F := Ideal) w24 (headR r) (ix2 r d) :=
        congrArg (fun q => (w24 (ix2 r q) : EReal)) ei
      refine e4.trans (e3.trans ?_)
      rw [massN_to w.toInt S (f d) _ (2048 * (i 1).val) (256 * nch (stepW i) w) 2048 (by omega) hE]
      refine congrArg₂ (· + ·) (e5.trans ?_) rfl
      rw [h24 (headR r), acc_start_row, ← mass_rescale _ _ _ (topN w.toInt S s0 (2048 * (i 1).val)), factor_row]
      refine congrArg₂ (· * ·) (hy.acc d) ?_
      exact (congrArg₂ (fun a b : EReal => Ideal.exp (a - b)) (hy.top d) eT).trans (exp_sub _ _)

end Cert.KernelIdeal.Hand

end
-- ==== Proof.OutValue.lean ====
module

public import proofs.«01_k».proof.Proof.ScoreValue
public import proofs.«01_k».proof.Proof.RowStep

@[expose] public section

set_option maxRecDepth 16384

noncomputable section

namespace Cert.KernelIdeal.Hand

open Cert.KernelIdeal Cert.KernelIdeal.Gen Cert.Hand
open Idealize.ShloMosaic Idealize.ShloMosaic.TcCoe
open Idealize.SL.Sem
open Idealize.ShloMosaic.Pipeline (RDat)

set_option maxHeartbeats 4000000

/-! # The first result -/

/-- A finite value. -/
def IsR (x : EReal) : Prop := ∃ a : ℝ, x = (a : EReal)

theorem IsR.add {x y : EReal} (hx : IsR x) (hy : IsR y) : IsR (x + y) := by
  obtain ⟨a, rfl⟩ := hx
  obtain ⟨b, rfl⟩ := hy
  exact ⟨a + b, (EReal.coe_add a b).symm⟩
theorem IsR.sub {x y : EReal} (hx : IsR x) (hy : IsR y) : IsR (x - y) := by
  obtain ⟨a, rfl⟩ := hx
  obtain ⟨b, rfl⟩ := hy
  exact ⟨a - b, (EReal.coe_sub a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.sum {ι : Type*} (s : Finset ι) (f : ι → EReal) (h : ∀ i ∈ s, IsR (f i)) : IsR (∑ i ∈ s, f i) :=
  Finset.sum_induction f IsR (fun _ _ => IsR.add) ⟨0, rfl⟩ h
theorem IsR.eq {x : EReal} (hx : IsR x) : x = (x.toReal : EReal) := by
  obtain ⟨a, rfl⟩ := hx
  rfl
theorem IsR.eq' {x : EReal} (h1 : x ≠ ⊤) (h2 : x ≠ ⊥) : IsR x := ⟨x.toReal, (EReal.coe_toReal h1 h2).symm⟩
theorem isR_word (n : BitVec 32) : IsR (FloatOps.sitofp (F := Ideal) .f32 n : EReal) := ⟨((n.toInt : ℝ)), rfl⟩
theorem isR_cos (n : BitVec 32) (j : ℕ) : IsR (cosP n j) := by
  obtain ⟨x, hx⟩ := (isR_word n).mul (freq_real j)
  unfold cosP
  rw [hx]
  exact ⟨_, Ideal.cos_coe _⟩
theorem isR_sin (n : BitVec 32) (j : ℕ) : IsR (sinP n j) := by
  obtain ⟨x, hx⟩ := (isR_word n).mul (freq_real j)
  unfold sinP
  rw [hx]
  exact ⟨_, Ideal.sin_coe _⟩
theorem isR_rot (n : BitVec 32) (e o : Fin 64 → EReal) (he : ∀ j, IsR (e j)) (ho : ∀ j, IsR (o j)) (d : Fin 128) : IsR (rot n e o d) := by
  unfold rot
  split
  · exact ((he _).mul (isR_cos _ _)).sub ((ho _).mul (isR_sin _ _))
  · exact ((ho _).mul (isR_cos _ _)).add ((he _).mul (isR_sin _ _))
theorem isR_scale : IsR (Ideal.ofBits .f32 0x3DB504F3#32) := by
  unfold Ideal.ofBits
  exact IsR.eq' (by simp [Ideal.ieee, -EReal.coe_mul]) (by simp [Ideal.ieee, -EReal.coe_mul])

variable (m : (ℓ : Loc nD τ sig) → Buf (Elt Ideal) ℓ)

/-- The query, the new key and the scales of the keys are finite. -/
structure FiniteArgs (c : Dev nD) : Prop where
  query : ∀ (b : Fin 4) (r : Fin 48) (d : Fin 128), IsR (m ((c : Thread nD τ).loc main_arg0) (ix4 b 0 r d))
  key : ∀ (b : Fin 4) (h : Fin 8) (d : Fin 128), IsR (m ((c : Thread nD τ).loc main_arg1) (ix4 b 0 h d))
  scales : ∀ (b : Fin 4) (h : Fin 8) (g : Fin 1024) (d : Fin 128), IsR (m ((c : Thread nD τ).loc main_arg5) (ix4 b h g d))

/-- The product of the row `r` with the rotated key of the token `t`, scaled. -/
def rawAt (c : Dev nD) (b : Fin 4) (r : Fin 48) (t : Fin 32768) : EReal :=
  (∑ x : Fin 128, qrotB m c b (ix4 0 0 r x) * rot (IntOp.addi (offB m b) (BitVec.ofNat 32 t.val)) (keyLow m c b (headR r) t) (keyHigh m c b (headR r) t) x)
    * Ideal.ofBits .f32 0x3DB504F3#32

/-- The even and the odd entries of the new key. -/
def newE (c : Dev nD) (b : Fin 4) (h : Fin 8) (j : Fin 64) : EReal := m ((c : Thread nD τ).loc main_arg1) (ix4 b 0 h ⟨j.val * 2, by omega⟩)
@[inherit_doc newE] def newO (c : Dev nD) (b : Fin 4) (h : Fin 8) (j : Fin 64) : EReal := m ((c : Thread nD τ).loc main_arg1) (ix4 b 0 h ⟨j.val * 2 + 1, by omega⟩)

/-- The product of the row `r` with the rotated new key, scaled. -/
def newAt (c : Dev nD) (b : Fin 4) (r : Fin 48) : EReal :=
  (∑ x : Fin 128, qrotB m c b (ix4 0 0 r x) * rot (IntOp.addi (offB m b) (lenB m b)) (newE m c b (headR r)) (newO m c b (headR r)) x)
    * Ideal.ofBits .f32 0x3DB504F3#32

theorem isR_qrot {c : Dev nD} (hf : FiniteArgs m c) (b : Fin 4) (r : Fin 48) (d : Fin 128) : IsR (qrotB m c b (ix4 0 0 r d)) := by
  rw [qrotB_value]
  exact isR_rot _ _ _ (fun j => hf.query _ _ _) (fun j => hf.query _ _ _) d

theorem isR_raw {c : Dev nD} (hf : FiniteArgs m c) (b : Fin 4) (r : Fin 48) (t : Fin 32768) : IsR (rawAt m c b r t) :=
  (IsR.sum _ _ fun x _ => (isR_qrot m hf b r x).mul (isR_rot _ _ _ (fun j => (isR_word _).mul (hf.scales _ _ _ _)) (fun j => (isR_word _).mul (hf.scales _ _ _ _)) x)).mul isR_scale

theorem isR_new {c : Dev nD} (hf : FiniteArgs m c) (b : Fin 4) (r : Fin 48) : IsR (newAt m c b r) :=
  (IsR.sum _ _ fun x _ => (isR_qrot m hf b r x).mul (isR_rot _ _ _ (fun j => hf.key _ _ _) (fun j => hf.key _ _ _) x)).mul isR_scale

/-! ## The new token's score -/

theorem cos_row (n o : BitVec 32) (fl : FVec Ideal S8x128 .f32) (d : Fin 128) :
    (k0_pay11 (F := Ideal) n o fl (ix2 0 d) : EReal) = Ideal.cos (FloatOps.sitofp (F := Ideal) .f32 (IntOp.addi o n) * fl (ix2 0 d)) := by
  pointwise [k0_pay11, k0_pay10]
  rfl
theorem sin_row (n o : BitVec 32) (fl : FVec Ideal S8x128 .f32) (d : Fin 128) :
    (k0_pay12 (F := Ideal) n o fl (ix2 0 d) : EReal) = Ideal.sin (FloatOps.sitofp (F := Ideal) .f32 (IntOp.addi o n) * fl (ix2 0 d)) := by
  pointwise [k0_pay12, k0_pay10]
  rfl

theorem newkey_apply (c : Dev nD) (b : Fin 4) (h : Fin 8) (d : Fin 128) : knB m c b (ix4 0 0 h d) = m ((c : Thread nD τ).loc main_arg1) (ix4 b 0 h d) := rfl

/-- The new key, rotated. -/
theorem knew_value (c : Dev nD) (b : Fin 4) (h : Fin 8) (d : Fin 128) :
    (k0_pay20 (F := Ideal) (k0_pay11 (lenB m b) (offB m b) (flB m c)) (k0_pay12 (lenB m b) (offB m b) (flB m c)) (k0_pay18 (knB m c b)) k0_pay19 0#32 (ix2 h d) : EReal)
      = rot (IntOp.addi (offB m b) (lenB m b)) (newE m c b h) (newO m c b h) d := by
  rw [knew_words, cos_row, sin_row, flB_apply, evenW_eq]
  unfold rot newE newO
  have s1 (x y : EReal) : Scalar.select 1#1 x y = x := if_pos rfl
  have s0 (x y : EReal) : Scalar.select 0#1 x y = y := if_neg (by decide)
  beta_reduce
  by_cases h2 : d.val % 2 < 1
  · rw [if_pos h2, dif_pos h2]
    rw [s1, s1, zero_sub, mul_neg, ← sub_eq_add_neg]
    have e1 : (⟨(d.val + 128 - 127) % 128, by omega⟩ : Fin 128) = ⟨d.val / 2 * 2 + 1, by omega⟩ := Fin.ext (by simp only; omega)
    have e2 : d = ⟨d.val / 2 * 2, by omega⟩ := Fin.ext (by simp only; omega)
    rw [e1, newkey_apply, newkey_apply, ← e2]
    rfl
  · rw [if_neg h2, dif_neg h2, s0, s0]
    have e1 : (⟨(d.val + 128 - 1) % 128, by omega⟩ : Fin 128) = ⟨d.val / 2 * 2, by omega⟩ := Fin.ext (by simp only; omega)
    have e2 : d = ⟨d.val / 2 * 2 + 1, by omega⟩ := Fin.ext (by simp only; omega)
    rw [e1, newkey_apply, newkey_apply, ← e2]
    rfl

theorem newB_value (c : Dev nD) (b : Fin 4) (r : Fin 48) (l : Fin 128) : (newB m c b (ix2 r l) : EReal) = newAt m c b r := by
  unfold newB newV newAt
  rw [new_row]
  refine congrArg (fun y : EReal => y * _) (Finset.sum_congr rfl fun d _ => congrArg₂ (· * ·) (qV_apply _ _ _ _ r d) (knew_value m c b (headR r) d))

/-! ## The rows through the points of a batch -/

/-- The scores of a row as reals, and the score of the new token. -/
def scoreR (c : Dev nD) (b : Fin 4) (r : Fin 48) (t : ℕ) : ℝ := if h : t < 32768 then (rawAt m c b r ⟨t, h⟩).toReal else 0
@[inherit_doc scoreR] def newR (c : Dev nD) (b : Fin 4) (r : Fin 48) : ℝ := (newAt m c b r).toReal

/-- The scale of a token's value. -/
def vscAt (c : Dev nD) (b : Fin 4) (h : Fin 8) (t : Fin 32768) : EReal := m ((c : Thread nD τ).loc main_arg6) (ix3 b h t)

/-- The decoded and scaled value of a token. -/
def valAt (c : Dev nD) (b : Fin 4) (r : Fin 48) (d : Fin 128) (t : ℕ) : EReal :=
  if h : t < 32768 then vscAt m c b (headR r) ⟨t, h⟩ * digD (m ((c : Thread nD τ).loc main_arg4) (ix4 b (headR r) ⟨t, h⟩ ⟨d.val / 2, by omega⟩)) d.val else 0

theorem value_codes (c : Dev nD) (b : Fin 4) (h : Fin 8) (d : Fin 64) (t : Fin 32768) :
    V m c main_v1 (ix4 b h d t) = m ((c : Thread nD τ).loc main_arg4) (ix4 b h t d) := by
  unfold V hostOps0
  after_results
  pointwise
theorem value_scales (c : Dev nD) (b : Fin 4) (h : Fin 8) (t : Fin 32768) :
    V m c main_arg6 (ix3 b h t) = m ((c : Thread nD τ).loc main_arg6) (ix3 b h t) := rfl

theorem first_point : ∀ t : Fin grid0.N, k0_cond2 (grid0.coords t) = 1#1 → (grid0.coords t 1).val = 0 := by decide +kernel
theorem next_point : ∀ t : Fin grid0.N, ¬ k0_cond2 (grid0.coords t) = 1#1 → ∃ u : Fin grid0.N, u.val + 1 = t.val ∧ (grid0.coords t 1).val = (grid0.coords u 1).val + 1 := by decide +kernel

theorem block_scoreR {c : Dev nD} (hf : FiniteArgs m c) (ho : ∀ b, (offB m b).toInt ≤ 2 ^ 31 - 32768) (t : Fin grid0.N) (X : Vec Ideal S1x1x48x2048 .f32) (hX : afterS m c t X) (r : Fin 48)
    (s : Fin 2048) (hv : ((2048 * (grid0.coords t 1).val + s.val : ℕ) : ℤ) < (lenB m (bat (grid0.coords t))).toInt) :
    (X (ix4 0 0 r s) : EReal) = (scoreR m c (bat (grid0.coords t)) r (2048 * (grid0.coords t 1).val + s.val) : EReal) := by
  have hi : (grid0.coords t 1).val < 16 := (grid0.coords t 1).isLt
  have ht : 2048 * (grid0.coords t 1).val + s.val < 32768 := by omega
  refine (block_scores m c t X hX (ho _) r s ⟨_, ht⟩ rfl).trans ?_
  unfold scoreR
  rw [dif_pos ht, ← (isR_raw m hf _ r _).eq]
  unfold scoreAt rawAt
  rw [below_iff _ (by show 2048 * (grid0.coords t 1).val + s.val < 2 ^ 31; omega), if_pos hv]
  exact if_pos rfl

theorem block_values (c : Dev nD) (i : grid0.Coords) (r : Fin 48) (s : Fin 2048) (d : Fin 128) (hv : ((2048 * (i 1).val + s.val : ℕ) : ℤ) < (lenB m (bat i)).toInt) :
    (vsB m c i (ix3 0 (headR r) s) : EReal) * digD (vcB m c i (ix4 0 (headR r) ⟨d.val / 2, by omega⟩ s)) d.val = valAt m c (bat i) r d (2048 * (i 1).val + s.val) := by
  have hi : (i 1).val < 16 := (i 1).isLt
  have ht : 2048 * (i 1).val + s.val < 32768 := by omega
  have hb : blkN m i = (i 1).val := blk_of_lt _ hi s.val s.isLt _ hv
  have et : (⟨2048 * blkN m i + s.val, by have := blkN_lt m i; omega⟩ : Fin 32768) = ⟨2048 * (i 1).val + s.val, ht⟩ := Fin.ext (by show 2048 * blkN m i + s.val = _; rw [hb])
  unfold valAt
  rw [dif_pos ht]
  refine congrArg₂ (fun (x : EReal) c => x * digD c d.val) ?_ ?_
  · exact congrArg (fun t => m ((c : Thread nD τ).loc main_arg6) (ix3 (bat i) (headR r) t)) et
  · exact (value_codes m c (bat i) (headR r) ⟨d.val / 2, by omega⟩ ⟨2048 * blkN m i + s.val, by have := blkN_lt m i; omega⟩).trans
      (congrArg (fun t => m ((c : Thread nD τ).loc main_arg4) (ix4 (bat i) (headR r) t ⟨d.val / 2, by omega⟩)) et)

/-- After each point a row has taken in the tokens up to the end of the point's block. -/
theorem reach_row {c : Dev nD} (hf : FiniteArgs m c) (ho : ∀ b, (offB m b).toInt ≤ 2 ^ 31 - 32768) (r : Fin 48) {t : Fin grid0.N} {z22 z23 : Vec Ideal S48x128 .f32}
    {z24 : Vec Ideal S48x1024 .f32} {z25 : Vec Ideal S48x128 .f32} (hR : Reach m c t z22 z23 z24 z25) :
    RowSt (lenB m (bat (grid0.coords t))).toInt (scoreR m c (bat (grid0.coords t)) r) (newR m c (bat (grid0.coords t)) r) (valAt m c (bat (grid0.coords t)) r) r
      (2048 * (grid0.coords t 1).val + 2048) z22 z23 z24 ∧ ∀ l : Fin 128, (z25 (ix2 r l) : EReal) = (newR m c (bat (grid0.coords t)) r : EReal) := by
  have hn (b : Fin 4) (l : Fin 128) : (newB m c b (ix2 r l) : EReal) = (newR m c b r : EReal) := (newB_value m c b r l).trans (isR_new m hf b r).eq
  induction hR with
  | first t X z22 z23 z24 ht hX hM =>
    refine ⟨row_step (grid0.coords t) _ _ _ _ r X _ _ _ _ _ _ _ _ hM ?_ (block_scoreR m hf ho t X hX r) (block_values m c (grid0.coords t) r), fun l => (score_row _ r l).trans (hn _ l)⟩
    rw [first_point t ht]
    exact row_start _ _ _ _ r _ (hn _)
  | next u t X y22 y23 y24 y25 z22 z23 z24 hu hb ht hX hR hM ih =>
    rw [hb] at ih
    obtain ⟨u', hu', h1⟩ := next_point t ht
    obtain rfl : u' = u := Fin.ext (by omega)
    refine ⟨row_step (grid0.coords t) _ _ _ _ r X _ _ _ _ _ _ _ _ hM ?_ (block_scoreR m hf ho t X hX r) (block_values m c (grid0.coords t) r), ih.2⟩
    have e : 2048 * (grid0.coords t 1).val = 2048 * (grid0.coords u' 1).val + 2048 := by omega
    rw [e]
    exact ih.1

/-- The kernel's first result: the softmax taken block by block. -/
theorem out_value {x : PUnit × MemSt nD τ sig (Elt Ideal)} (hx : RDat.FramePost (cfg0 (tables m)) (rdatV m) (V m) x) {c : Dev nD} (hf : FiniteArgs m c)
    (ho : ∀ b, (offB m b).toInt ≤ 2 ^ 31 - 32768) (b : Fin 4) (r : Fin 48) (d : Fin 128) (L : ℤ) (S : ℕ → ℝ) (s0 M : ℝ)
    (hL : L = (lenB m b).toInt) (hS : S = scoreR m c b r) (h0 : s0 = newR m c b r) (hM : M = topN L S s0 32768) :
    (x.2.mem ((c : Thread nD τ).loc main_v17_0) (ix4 b 0 r d) : EReal)
      = massN L S (valAt m c b r d) M 32768 * Ideal.div 1 (expE s0 M + massN L S (fun _ => 1) M 32768)
        + expE s0 M * Ideal.div 1 (expE s0 M + massN L S (fun _ => 1) M 32768) * m ((c : Thread nD τ).loc main_arg2) (ix4 b 0 (headR r) d) := by
  obtain ⟨t, z22, z23, z24, z25, rfl, h15, hR, e⟩ := final_out m hx c b r d
  obtain ⟨hrow, h25⟩ := reach_row m hf ho r hR
  rw [h15] at hrow
  subst hL hS h0
  change RowSt _ _ _ _ r 32768 z22 z23 z24 at hrow
  refine e.trans ((outV_row _ z22 z23 z24 z25 r d).trans ?_)
  rw [hrow.acc d, hrow.sum, h25 0, hrow.top 0, exp_sub, ← hM]
  rfl

end Cert.KernelIdeal.Hand

end
-- ==== Proof.RefValue.lean ====
module

public import proofs.«01_k».proof.Proof.Gen.ReferenceIdeal.Run
public import Idealize.ShloMosaic.Lib.Pointwise
public import Idealize.ShloMosaic.Lib.Tactic.CleanTypes
public import proofs.«01_k».proof.Proof.RopeMath

@[expose] public section

set_option maxRecDepth 16384

noncomputable section

namespace Cert.ReferenceIdeal.Hand

open Cert.Hand
open Cert.ReferenceIdeal Cert.ReferenceIdeal.Gen Cert.ReferenceIdeal.Value
open Idealize.ShloMosaic Idealize.SL.Sem Idealize.ShloMosaic.TcCoe

set_option maxHeartbeats 4000000

/-- The maximum, along the last axis, from negative infinity, and of one more value: its bounds are the common bounds. -/
theorem host_max_le {n0 n1 n2 n3 : ℕ} (x : FVec Ideal (⟨4, ![n0, n1, n2, n3]⟩ : Shape) .f32) (y : FVec Ideal (⟨3, ![n0, n1, n2]⟩ : Shape) .f32) (init : FVec Ideal (⟨0, ![]⟩ : Shape) .f32)
    (h' : (⟨4, ![n0, n1, n2, n3]⟩ : Shape).ReducesTo [3] (⟨3, ![n0, n1, n2]⟩ : Shape)) (h : (⟨4, ![n0, n1, n2, n3]⟩ : Shape).Reduces [3] (⟨3, ![n0, n1, n2]⟩ : Shape))
    (hu : 0 < (⟨0, ![]⟩ : Shape).numel) (hi : init (Shape.Idx.first hu) = (⊥ : EReal)) (b : Fin n0) (g : Fin n1) (u : Fin n2) (B : EReal) :
    @LE.le EReal _ (maximumf (F := Ideal) (φ := .f32) (Host.reduce (FloatOps.maximumf (F := Ideal) (φ := .f32)) x init h' hu) y (ix3 b g u)) B
      ↔ (∀ t : Fin n3, @LE.le EReal _ (x (ix4 b g u t)) B) ∧ @LE.le EReal _ (y (ix3 b g u)) B := by
  have hl (k : Fin n3) : h.lift (ix3 b g u) k = ix4 b g u k := by
    funext (c : Fin 4)
    match c with
    | 0 => rfl
    | 1 => rfl
    | 2 => rfl
    | 3 => rfl
  have hr : @LE.le EReal _ (Host.reduce (FloatOps.maximumf (F := Ideal) (φ := .f32)) x init h' hu (ix3 b g u)) B ↔ ∀ t : Fin n3, @LE.le EReal _ (x (ix4 b g u t)) B := by
    rw [Host.reduce_eq_fold_single (FloatOps.maximumf (F := Ideal) (φ := .f32)) x init h' h hu (ix3 b g u)]
    refine (Finset.fold_max_le (β := EReal) (f := fun k => (x (h.lift (ix3 b g u) k))) (b := (init (Shape.Idx.first hu))) (s := (Finset.univ : Finset (Fin n3))) B).trans ?_
    rw [hi]
    simp only [bot_le, true_and]
    exact ⟨fun e t => (le_of_eq (α := EReal) (congrArg x (hl t)).symm).trans (e t (Finset.mem_univ _)), fun e k _ => (le_of_eq (α := EReal) (congrArg x (hl k))).trans (e k)⟩
  exact (max_le_iff (α := EReal)).trans (and_congr hr Iff.rfl)

theorem low_end : (Ideal.ofBits .f32 0xFF800000#32 : EReal) = ⊥ := by simp [Ideal.ofBits, Ideal.ieee]

variable (V0 : Valuation τ sig (Elt Ideal))

/-- The even and the odd entries of a query row. -/
def qE (b : Fin 4) (r : Fin 48) (j : Fin 64) : EReal := V0 (Proc.devRef .tc main_arg0) (ix4 b 0 r ⟨j.val * 2, by omega⟩)
@[inherit_doc qE] def qO (b : Fin 4) (r : Fin 48) (j : Fin 64) : EReal := V0 (Proc.devRef .tc main_arg0) (ix4 b 0 r ⟨j.val * 2 + 1, by omega⟩)

/-- The even and the odd entries of the new key. -/
def nE (b : Fin 4) (h : Fin 8) (j : Fin 64) : EReal := V0 (Proc.devRef .tc main_arg1) (ix4 b 0 h ⟨j.val * 2, by omega⟩)
@[inherit_doc nE] def nO (b : Fin 4) (h : Fin 8) (j : Fin 64) : EReal := V0 (Proc.devRef .tc main_arg1) (ix4 b 0 h ⟨j.val * 2 + 1, by omega⟩)

/-- The scale of an entry of a key of the cache. -/
def kS (b : Fin 4) (h : Fin 8) (t : Fin 32768) (d : Fin 128) : EReal := V0 (Proc.devRef .tc main_arg5) (ix4 b h ⟨t.val / 32, by omega⟩ d)

/-- The even and the odd entries of a key of the cache. -/
def kE (b : Fin 4) (h : Fin 8) (t : Fin 32768) (j : Fin 64) : EReal := digLo (V0 (Proc.devRef .tc main_arg3) (ix4 b h t j)) * kS V0 b h t ⟨2 * j.val, by omega⟩
@[inherit_doc kE] def kO (b : Fin 4) (h : Fin 8) (t : Fin 32768) (j : Fin 64) : EReal := digHi (V0 (Proc.devRef .tc main_arg3) (ix4 b h t j)) * kS V0 b h t ⟨1 + 2 * j.val, by omega⟩

/-- The length and the offset of a batch. -/
def lenR (b : Fin 4) : BitVec 32 := V0 (Proc.devRef .tc main_arg7) (ix1 b)
@[inherit_doc lenR] def offR (b : Fin 4) : BitVec 32 := V0 (Proc.devRef .tc main_arg8) (ix1 b)

/-! The entries of the values that the reference passes through: the rotated query, the products with the keys, the product with the new key, the masked
  products, the maximum, the exponentials, the exponential of the new product, their total, the weights. -/

def qR (b : Fin 4) (r : Fin 48) (d : Fin 128) : EReal := res_main_v40 V0 (ix4 b 0 r d)
def rawR (b : Fin 4) (g : Fin 8) (u : Fin 6) (t : Fin 32768) : EReal := res_main_v115 V0 (ix4 b g u t)
def newR (b : Fin 4) (g : Fin 8) (u : Fin 6) : EReal := res_main_v148 V0 (ix3 b g u)
def maskR (b : Fin 4) (g : Fin 8) (u : Fin 6) (t : Fin 32768) : EReal := res_main_v149 V0 (ix4 b g u t)
def topR (b : Fin 4) (g : Fin 8) (u : Fin 6) : EReal := res_main_v151 V0 (ix3 b g u)
def expR (b : Fin 4) (g : Fin 8) (u : Fin 6) (t : Fin 32768) : EReal := res_main_v155 V0 (ix4 b g u t)
def expN (b : Fin 4) (g : Fin 8) (u : Fin 6) : EReal := res_main_v157 V0 (ix3 b g u)
def totR (b : Fin 4) (g : Fin 8) (u : Fin 6) : EReal := res_main_v159 V0 (ix3 b g u)
def wR (b : Fin 4) (g : Fin 8) (u : Fin 6) (t : Fin 32768) : EReal := res_main_v167 V0 (ix4 b g u t)

/-- The reference's rotated query. -/
theorem qrot_ref (b : Fin 4) (r : Fin 48) (d : Fin 128) :
    qR V0 b r d = rot (IntOp.addi (offR V0 b) (lenR V0 b)) (qE V0 b r) (qO V0 b r) d := by
  unfold qR
  unfold res_main_v40 res_main_v23 res_main_v25 res_main_v21 res_main_v18 res_main_v19 res_main_v15
  clean_types
  pointwise
  rfl

/-- The reference's products with the keys of the cache, scaled. -/
theorem raw_ref (b : Fin 4) (g : Fin 8) (u : Fin 6) (t : Fin 32768) :
    rawR V0 b g u t = ((∑ x : Fin 128, (qR V0 b ⟨g.val * 6 + u.val, by omega⟩ x)
        * rot (IntOp.addi (offR V0 b) (BitVec.ofNat 32 t.val)) (kE V0 b g t) (kO V0 b g t) x) * Ideal.ofBits .f32 0x3DB504F3#32) := by
  unfold rawR qR
  unfold res_main_v115 res_main_v81 res_main_v95 res_main_v64 res_main_v65 res_main_v61 res_main_v69 res_main_v71 res_main_v85 res_main_v66 res_main_v41
  generalize hA : res_main_v40 V0 = A
  clean_types
  pointwise
  simp only [digLo_eq, digHi_eq]
  rfl

/-- The reference's product with the new key, scaled. -/
theorem new_ref (b : Fin 4) (g : Fin 8) (u : Fin 6) :
    newR V0 b g u = ((∑ x : Fin 128, (qR V0 b ⟨g.val * 6 + u.val, by omega⟩ x)
        * rot (IntOp.addi (offR V0 b) (lenR V0 b)) (nE V0 b g) (nO V0 b g) x) * Ideal.ofBits .f32 0x3DB504F3#32) := by
  unfold newR qR
  unfold res_main_v148 res_main_v127 res_main_v129 res_main_v125 res_main_v18 res_main_v19 res_main_v15
  generalize hA : res_main_v40 V0 = A
  clean_types
  pointwise
  rfl

/-- The products below the length, and negative infinity past it. -/
theorem masked_ref (b : Fin 4) (g : Fin 8) (u : Fin 6) (t : Fin 32768) :
    maskR V0 b g u t = Scalar.select (IntOp.cmpi .slt (BitVec.ofNat 32 t.val) (lenR V0 b)) (rawR V0 b g u t) ⊥ := by
  unfold maskR rawR
  unfold res_main_v149 res_main_v121 res_main_v41
  generalize hA : res_main_v115 V0 = A
  clean_types
  pointwise
  exact congrArg₂ (Scalar.select _) rfl low_end

/-- The reference's scores. -/
def scoresR : FVec Ideal S4x1x48x32768 .f32 :=
  shapeCast S4x1x48x32768 (select (broadcastInDim S4x8x6x32768 ![0, 1, 2, 3] bcast_S4x1x1x32768_S4x8x6x32768_0_1_2_3 (res_main_v121 V0)) (res_main_v115 V0)
    (broadcastInDim S4x8x6x32768 ![] bcast_S_S4x8x6x32768 (id (constant S_ .f32 0x00000000#32)))) shapeCasts_S4x8x6x32768_S4x1x48x32768

theorem scores_ref (b : Fin 4) (r : Fin 48) (t : Fin 32768) :
    scoresR V0 (ix4 b 0 r t) = Scalar.select (IntOp.cmpi .slt (BitVec.ofNat 32 t.val) (lenR V0 b)) (rawR V0 b ⟨r.val / 6, by omega⟩ ⟨r.val % 6, by omega⟩ t) 0 := by
  unfold rawR
  unfold scoresR res_main_v121 res_main_v41
  generalize hA : res_main_v115 V0 = A
  clean_types
  pointwise
  exact congrArg₂ (Scalar.select _) rfl (Ideal.ofBits_zero (φ := .f32))

theorem last_axis : S4x8x6x32768.Reduces [3] S4x8x6 := by decide

/-- The reference's maximum is the least bound of the masked products and the product with the new key. -/
theorem top_ref (b : Fin 4) (g : Fin 8) (u : Fin 6) (B : EReal) :
    topR V0 b g u ≤ B ↔ (∀ t : Fin 32768, maskR V0 b g u t ≤ B) ∧ newR V0 b g u ≤ B := by
  unfold topR maskR newR res_main_v151
  generalize res_main_v149 V0 = A
  generalize res_main_v148 V0 = C
  exact host_max_le A C (constant S_ .f32 0xFF800000#32) reducesTo_S4x8x6x32768_S4x8x6_d3 last_axis h_S_ low_end b g u B

/-- The reference's exponentials. -/
theorem exp_ref (b : Fin 4) (g : Fin 8) (u : Fin 6) (t : Fin 32768) :
    expR V0 b g u t = Ideal.exp ((maskR V0 b g u t) - (topR V0 b g u)) := by
  unfold expR maskR topR
  unfold res_main_v155
  generalize res_main_v149 V0 = A
  generalize res_main_v151 V0 = B
  pointwise
theorem exp_new_ref (b : Fin 4) (g : Fin 8) (u : Fin 6) :
    expN V0 b g u = Ideal.exp ((newR V0 b g u) - (topR V0 b g u)) := by
  unfold expN newR topR
  unfold res_main_v157
  generalize res_main_v148 V0 = A
  generalize res_main_v151 V0 = B
  pointwise
theorem total_ref (b : Fin 4) (g : Fin 8) (u : Fin 6) :
    totR V0 b g u = ((∑ t : Fin 32768, (expR V0 b g u t)) + (expN V0 b g u)) := by
  unfold totR expR expN
  unfold res_main_v159
  generalize res_main_v155 V0 = A
  generalize res_main_v157 V0 = B
  pointwise

/-- The scale of a token's value, and an entry of the new value. -/
def vS (b : Fin 4) (g : Fin 8) (t : Fin 32768) : EReal := V0 (Proc.devRef .tc main_arg6) (ix3 b g t)
@[inherit_doc vS] def vN (b : Fin 4) (g : Fin 8) (d : Fin 128) : EReal := V0 (Proc.devRef .tc main_arg2) (ix4 b 0 g d)

theorem weight_ref (b : Fin 4) (g : Fin 8) (u : Fin 6) (t : Fin 32768) :
    wR V0 b g u t = Ideal.div (expR V0 b g u t) (totR V0 b g u) * vS V0 b g t := by
  unfold wR expR totR
  unfold res_main_v167 vS
  generalize res_main_v155 V0 = A
  generalize res_main_v159 V0 = B
  pointwise

/-- The reference's output. -/
def outR : FVec Ideal S4x1x48x128 .bf16 :=
  truncf .bf16 (shapeCast S4x1x48x128 (addf (shapeCast S4x8x6x128 (concatenate S4x8x6x64x2 4 [⟨S4x8x6x64x1, (broadcastInDim S4x8x6x64x1 ![0, 1, 2, 3] bcast_S4x8x6x64_S4x8x6x64x1_0_1_2_3 (Host.dotGeneral (φ₁ := .bf16) dot_S4x8x6x32768_S4x8x32768x64_S4x8x6x64_3_2_2_3_01_01 none (res_main_v167 V0) (sitofp .bf16 (subi (res_main_v170 V0) (muli (broadcastInDim S4x8x32768x64 ![] bcast_S_S4x8x32768x64 (constantI S_ 32 16#32)) (extui 32 (cmpi .sge (res_main_v170 V0) (broadcastInDim S4x8x32768x64 ![] bcast_S_S4x8x32768x64 (constantI S_ 32 8#32))) natLt_1_32))))))⟩, ⟨S4x8x6x64x1, (broadcastInDim S4x8x6x64x1 ![0, 1, 2, 3] bcast_S4x8x6x64_S4x8x6x64x1_0_1_2_3 (Host.dotGeneral (φ₁ := .bf16) dot_S4x8x6x32768_S4x8x32768x64_S4x8x6x64_3_2_2_3_01_01 none (res_main_v167 V0) (sitofp .bf16 (subi (res_main_v182 V0) (muli (broadcastInDim S4x8x32768x64 ![] bcast_S_S4x8x32768x64 (constantI S_ 32 16#32)) (extui 32 (cmpi .sge (res_main_v182 V0) (broadcastInDim S4x8x32768x64 ![] bcast_S_S4x8x32768x64 (constantI S_ 32 8#32))) natLt_1_32))))))⟩] concatenates_S4x8x6x64x1_S4x8x6x64x1_S4x8x6x64x2_d4) shapeCasts_S4x8x6x64x2_S4x8x6x128) (mulf (broadcastInDim S4x8x6x128 ![0, 1, 2, 3] bcast_S4x8x6x1_S4x8x6x128_0_1_2_3 (broadcastInDim S4x8x6x1 ![0, 1, 2] bcast_S4x8x6_S4x8x6x1_0_1_2 (extf .f32 (truncf .bf16 (Host.divf (res_main_v157 V0) (res_main_v159 V0)) bitsLt_bf16_f32) bitsLt_bf16_f32))) (broadcastInDim S4x8x6x128 ![0, 1, 2, 3] bcast_S4x8x1x128_S4x8x6x128_0_1_2_3 (shapeCast _ (extf .f32 (V0 (Proc.devRef .tc main_arg2)) bitsLt_bf16_f32) shapeCasts_S4x1x8x128_S4x8x1x128)))) shapeCasts_S4x8x6x128_S4x1x48x128) bitsLt_bf16_f32

theorem out_ref (b : Fin 4) (r : Fin 48) (d : Fin 128) :
    outR V0 (ix4 b 0 r d) = ((if h : d.val % 2 < 1 then
          ∑ t : Fin 32768, (wR V0 b ⟨r.val / 6, by omega⟩ ⟨r.val % 6, by omega⟩ t) * digLo (V0 (Proc.devRef .tc main_arg4) (ix4 b ⟨r.val / 6, by omega⟩ t ⟨d.val / 2, by omega⟩))
        else ∑ t : Fin 32768, (wR V0 b ⟨r.val / 6, by omega⟩ ⟨r.val % 6, by omega⟩ t) * digHi (V0 (Proc.devRef .tc main_arg4) (ix4 b ⟨r.val / 6, by omega⟩ t ⟨d.val / 2, by omega⟩)))
      + Ideal.div (expN V0 b ⟨r.val / 6, by omega⟩ ⟨r.val % 6, by omega⟩) (totR V0 b ⟨r.val / 6, by omega⟩ ⟨r.val % 6, by omega⟩) * vN V0 b ⟨r.val / 6, by omega⟩ d) := by
  unfold wR expN totR
  unfold outR
  clean_types
  generalize res_main_v167 V0 = A
  generalize res_main_v159 V0 = B
  generalize res_main_v157 V0 = C
  unfold res_main_v170 res_main_v182 res_main_v168
  pointwise
  simp only [digLo_eq, digHi_eq]
  rfl

end Cert.ReferenceIdeal.Hand

end
-- ==== Proof.Agree.lean ====
module

public import proofs.«01_k».proof.Proof.OutValue
public import proofs.«01_k».proof.Proof.RefValue

@[expose] public section

set_option maxRecDepth 16384

noncomputable section

namespace Cert.Agree

open Cert.Hand
open Idealize.ShloMosaic Idealize.ShloMosaic.TcCoe Idealize.ShloMosaic.StableHlo
open Idealize.SL.Sem
open Idealize.ShloMosaic.Pipeline (RDat)

set_option maxHeartbeats 4000000

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments. -/
structure SameArgs : Prop where
  query : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  newKey : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  newValue : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  codes : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  valueCodes : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  scales : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  valueScales : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  lengths : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  offsets : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

open Cert.ReferenceIdeal.Hand (qR qE qO nE nO kS kE kO lenR offR rawR maskR topR expR expN totR wR vS vN scoresR outR)
open Cert.KernelIdeal.Hand (lenB offB qrotB keyLow keyHigh headR rawAt newAt newE newO scoreAt scoreR valAt vscAt digD FiniteArgs)

/-- The reference's arguments on the device. -/
abbrev at' : Valuation Cert.ReferenceIdeal.τ Cert.ReferenceIdeal.sig (Elt Ideal) := launchContents m' c

variable {m m' c}

theorem len_eq (h : SameArgs m m' c) (b : Fin 4) : lenR (at' m' c) b = lenB m b := by
  rw [Cert.KernelIdeal.Hand.len_apply m c b, ← h.lengths]; rfl
theorem off_eq (h : SameArgs m m' c) (b : Fin 4) : offR (at' m' c) b = offB m b := by
  rw [Cert.KernelIdeal.Hand.off_apply m c b, ← h.offsets]; rfl

/-- The rotated query. -/
theorem rot_eq (h : SameArgs m m' c) (b : Fin 4) (r : Fin 48) (d : Fin 128) : qR (at' m' c) b r d = qrotB m c b (ix4 0 0 r d) := by
  rw [Cert.ReferenceIdeal.Hand.qrot_ref, Cert.KernelIdeal.Hand.qrotB_value, len_eq h, off_eq h]
  have e1 : qE (at' m' c) b r = fun j => m ((c.tc : Thread Cert.KernelIdeal.nD Cert.KernelIdeal.τ).loc Cert.KernelIdeal.main_arg0) (ix4 b 0 r ⟨j.val * 2, by omega⟩) := by
    rw [← h.query]; rfl
  have e2 : qO (at' m' c) b r = fun j => m ((c.tc : Thread Cert.KernelIdeal.nD Cert.KernelIdeal.τ).loc Cert.KernelIdeal.main_arg0) (ix4 b 0 r ⟨j.val * 2 + 1, by omega⟩) := by
    rw [← h.query]; rfl
  rw [e1, e2]

theorem newE_eq (h : SameArgs m m' c) (b : Fin 4) (g : Fin 8) : nE (at' m' c) b g = newE m c b g := by
  unfold newE
  rw [← h.newKey]; rfl
theorem newO_eq (h : SameArgs m m' c) (b : Fin 4) (g : Fin 8) : nO (at' m' c) b g = newO m c b g := by
  unfold newO
  rw [← h.newKey]; rfl

theorem keyLow_eq (h : SameArgs m m' c) (b : Fin 4) (g : Fin 8) (t : Fin 32768) : kE (at' m' c) b g t = keyLow m c b g t := by
  funext j
  unfold keyLow
  rw [← h.codes, ← h.scales]; rfl
theorem keyHigh_eq (h : SameArgs m m' c) (b : Fin 4) (g : Fin 8) (t : Fin 32768) : kO (at' m' c) b g t = keyHigh m c b g t := by
  funext j
  unfold keyHigh
  rw [← h.codes, ← h.scales]; rfl

theorem vS_eq (h : SameArgs m m' c) (b : Fin 4) (g : Fin 8) (t : Fin 32768) : vS (at' m' c) b g t = vscAt m c b g t := by
  unfold vscAt
  rw [← h.valueScales]; rfl
theorem vN_eq (h : SameArgs m m' c) (b : Fin 4) (g : Fin 8) (d : Fin 128) :
    vN (at' m' c) b g d = m ((c.tc : Thread Cert.KernelIdeal.nD Cert.KernelIdeal.τ).loc Cert.KernelIdeal.main_arg2) (ix4 b 0 g d) := by
  rw [← h.newValue]; rfl

/-- An index whose second entry can only be zero. -/
theorem index_eq {n0 n2 n3 : ℕ} (i : (⟨4, ![n0, 1, n2, n3]⟩ : Shape).Idx) : i = ix4 (i (0 : Fin 4)) (0 : Fin 1) (i (2 : Fin 4)) (i (3 : Fin 4)) := by
  funext (a : Fin 4)
  match a with
  | 0 => rfl
  | 1 => exact Subsingleton.elim (α := Fin 1) _ _
  | 2 => rfl
  | 3 => rfl

/-- A row of the query is a head's group and a place in it. -/
theorem row_eq (r : Fin 48) : (⟨r.val / 6 * 6 + r.val % 6, by omega⟩ : Fin 48) = r := Fin.ext (by show r.val / 6 * 6 + r.val % 6 = r.val; omega)

/-- The products with the keys of the cache. -/
theorem raw_eq (h : SameArgs m m' c) (b : Fin 4) (r : Fin 48) (t : Fin 32768) :
    rawR (at' m' c) b (headR r) ⟨r.val % 6, by omega⟩ t = rawAt m c b r t := by
  rw [Cert.ReferenceIdeal.Hand.raw_ref, keyLow_eq h, keyHigh_eq h, off_eq h]
  unfold rawAt
  refine congrArg (fun y : EReal => y * _) (Finset.sum_congr rfl fun x _ => congrArg (fun y : EReal => y * _) ?_)
  exact (congrArg (fun r => qR (at' m' c) b r x) (row_eq r)).trans (rot_eq h b r x)

/-- The product with the new key. -/
theorem new_eq (h : SameArgs m m' c) (b : Fin 4) (r : Fin 48) :
    Cert.ReferenceIdeal.Hand.newR (at' m' c) b (headR r) ⟨r.val % 6, by omega⟩ = newAt m c b r := by
  rw [Cert.ReferenceIdeal.Hand.new_ref, newE_eq h, newO_eq h, off_eq h, len_eq h]
  unfold newAt
  refine congrArg (fun y : EReal => y * _) (Finset.sum_congr rfl fun x _ => congrArg (fun y : EReal => y * _) ?_)
  exact (congrArg (fun r => qR (at' m' c) b r x) (row_eq r)).trans (rot_eq h b r x)

/-- The reference's score is the kernel's. -/
theorem score_eq (h : SameArgs m m' c) (b : Fin 4) (r : Fin 48) (t : Fin 32768) : scoresR (at' m' c) (ix4 b 0 r t) = scoreAt m c b r t := by
  refine (Cert.ReferenceIdeal.Hand.scores_ref (at' m' c) b r t).trans ?_
  rw [len_eq h]
  unfold scoreAt
  exact congrArg (fun y => Scalar.select _ y (0 : EReal)) (raw_eq h b r t)

/-- The masked products are the row's scores below the length, and negative infinity past it. -/
theorem masked_eq (h : SameArgs m m' c) (hf : FiniteArgs m c) (b : Fin 4) (r : Fin 48) (t : Fin 32768) :
    maskR (at' m' c) b (headR r) ⟨r.val % 6, by omega⟩ t = if (t.val : ℤ) < (lenB m b).toInt then (scoreR m c b r t.val : EReal) else ⊥ := by
  rw [Cert.ReferenceIdeal.Hand.masked_ref, raw_eq h, len_eq h, Cert.Hand.below_iff _ (by have := t.isLt; omega)]
  split
  · unfold scoreR
    rw [dif_pos t.isLt, ← (Cert.KernelIdeal.Hand.isR_raw m hf b r _).eq]
    exact if_pos rfl
  · exact if_neg (by decide)

/-- The reference's output is the softmax that the kernel takes block by block. -/
theorem softmax_eq (h : SameArgs m m' c) (hf : FiniteArgs m c) (b : Fin 4) (r : Fin 48) (d : Fin 128) (L : ℤ) (S : ℕ → ℝ) (s0 M : ℝ)
    (hL : L = (lenB m b).toInt) (hS : S = scoreR m c b r) (h0 : s0 = Cert.KernelIdeal.Hand.newR m c b r) (hM : M = topN L S s0 32768) :
    outR (at' m' c) (ix4 b 0 r d) = massN L S (valAt m c b r d) M 32768 * Ideal.div 1 (expE s0 M + massN L S (fun _ => 1) M 32768)
        + expE s0 M * Ideal.div 1 (expE s0 M + massN L S (fun _ => 1) M 32768) * vN (at' m' c) b (headR r) d := by
  have hn : Cert.ReferenceIdeal.Hand.newR (at' m' c) b (headR r) ⟨r.val % 6, by omega⟩ = (s0 : EReal) := by
    rw [new_eq h, h0]
    exact (Cert.KernelIdeal.Hand.isR_new m hf b r).eq
  have ht := Cert.ReferenceIdeal.Hand.top_ref (at' m' c) b (headR r) ⟨r.val % 6, by omega⟩
  rw [hn] at ht
  obtain ⟨h1, h2⟩ := (ht _).1 le_rfl
  have key := softmax_once L S s0 (maskR (at' m' c) b (headR r) ⟨r.val % 6, by omega⟩) (vS (at' m' c) b (headR r))
    (fun t => digD (m ((c.tc : Thread Cert.KernelIdeal.nD Cert.KernelIdeal.τ).loc Cert.KernelIdeal.main_arg4) (ix4 b (headR r) t ⟨d.val / 2, by omega⟩)) d.val)
    (valAt m c b r d) (topR (at' m' c) b (headR r) ⟨r.val % 6, by omega⟩) (totR (at' m' c) b (headR r) ⟨r.val % 6, by omega⟩) (vN (at' m' c) b (headR r) d)
    (fun t => by rw [masked_eq h hf, hL, hS])
    (fun t => by
      unfold valAt
      rw [dif_pos t.isLt]
      rw [← vS_eq h])
    h1 h2 (fun B hb hb' => (ht B).2 ⟨hb, hb'⟩)
    (by
      rw [Cert.ReferenceIdeal.Hand.total_ref, Cert.ReferenceIdeal.Hand.exp_new_ref, hn]
      simp only [Cert.ReferenceIdeal.Hand.exp_ref])
  rw [← hM] at key
  refine Eq.trans ?_ key
  refine (Cert.ReferenceIdeal.Hand.out_ref (at' m' c) b r d).trans ?_
  refine congrArg₂ (fun x y : EReal => x + y) ?_ ?_
  · have hw (t : Fin 32768) : wR (at' m' c) b (headR r) ⟨r.val % 6, by omega⟩ t = Ideal.div (Ideal.exp (maskR (at' m' c) b (headR r) ⟨r.val % 6, by omega⟩ t - topR (at' m' c) b (headR r) ⟨r.val % 6, by omega⟩))
        (totR (at' m' c) b (headR r) ⟨r.val % 6, by omega⟩) * vS (at' m' c) b (headR r) t := by
      rw [Cert.ReferenceIdeal.Hand.weight_ref, Cert.ReferenceIdeal.Hand.exp_ref]
    by_cases hd : d.val % 2 < 1
    · rw [dif_pos hd]
      refine Finset.sum_congr rfl fun t _ => congrArg₂ (fun x y : EReal => x * y) (hw t) ?_
      unfold digD
      rw [if_pos (by omega), ← h.valueCodes]; rfl
    · rw [dif_neg hd]
      refine Finset.sum_congr rfl fun t _ => congrArg₂ (fun x y : EReal => x * y) (hw t) ?_
      unfold digD
      rw [if_neg (by omega), ← h.valueCodes]; rfl
  · have e := Cert.ReferenceIdeal.Hand.exp_new_ref (at' m' c) b (headR r) ⟨r.val % 6, by omega⟩
    rw [hn] at e
    exact congrArg (fun y : EReal => Ideal.div y (totR (at' m' c) b (headR r) ⟨r.val % 6, by omega⟩) * vN (at' m' c) b (headR r) d) e

variable {x : PUnit.{1} × MemSt Cert.KernelIdeal.nD Cert.KernelIdeal.τ Cert.KernelIdeal.sig (Elt Ideal)}
  (hx : RDat.FramePost (Cert.KernelIdeal.cfg0 (Cert.KernelIdeal.Hand.tables m)) (Cert.KernelIdeal.Hand.rdatV m) (Cert.KernelIdeal.Hand.V m) x)
include hx

/-- An entry of the kernel's output is the reference's. -/
theorem out_entry (h : SameArgs m m' c) (hf : FiniteArgs m c) (ho : ∀ b, (offB m b).toInt ≤ 2 ^ 31 - 32768) (b : Fin 4) (r : Fin 48) (d : Fin 128) :
    x.2.mem ((c.tc : Thread Cert.KernelIdeal.nD Cert.KernelIdeal.τ).loc Cert.KernelIdeal.main_v17_0) (ix4 b 0 r d) = outR (at' m' c) (ix4 b 0 r d) := by
  have e := softmax_eq h hf b r d _ _ _ _ rfl rfl rfl rfl
  rw [vN_eq h] at e
  exact (Cert.KernelIdeal.Hand.out_value m hx hf ho b r d _ _ _ _ rfl rfl rfl rfl).trans e.symm

/-- The kernel's output is the reference's. -/
theorem out (h : SameArgs m m' c) (hf : FiniteArgs m c) (ho : ∀ b, (offB m b).toInt ≤ 2 ^ 31 - 32768) :
    x.2.mem ((c.tc : Thread Cert.KernelIdeal.nD Cert.KernelIdeal.τ).loc Cert.KernelIdeal.main_v17_0) = outR (at' m' c) := by
  funext i
  rw [index_eq i]
  exact out_entry hx h hf ho _ _ _

/-- The kernel's rotated query is the reference's. -/
theorem query (h : SameArgs m m' c) :
    x.2.mem ((c.tc : Thread Cert.KernelIdeal.nD Cert.KernelIdeal.τ).loc Cert.KernelIdeal.main_v17_1) = Cert.ReferenceIdeal.Value.res_main_v40 (at' m' c) := by
  funext i
  rw [index_eq i]
  exact (Cert.KernelIdeal.Hand.final_query m hx c _ _ _).trans (rot_eq h _ _ _).symm

/-- The kernel's scores are the reference's. -/
theorem scores (h : SameArgs m m' c) (ho : ∀ b, (offB m b).toInt ≤ 2 ^ 31 - 32768) :
    x.2.mem ((c.tc : Thread Cert.KernelIdeal.nD Cert.KernelIdeal.τ).loc Cert.KernelIdeal.main_v17_2) = scoresR (at' m' c) := by
  funext i
  rw [index_eq i]
  exact (Cert.KernelIdeal.Hand.final_scores m hx c _ (ho _) _ _).trans (score_eq h _ _ _).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Run
public import proofs.«01_k».proof.Proof.KRun
public import proofs.«01_k».proof.Proof.RunMainV
public import proofs.«01_k».proof.Proof.Agree
public import Idealize.ShloMosaic.Lib.Bf16Pair
public import Idealize.ShloMosaic.Lib.ReduceAll
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The kernel as it is compiled runs from any memory to its end, the arguments kept and the counters at zero. -/
theorem frameP : @quiescent_Kernel Cert.Kernel.Gen.facts := fun m g _ =>
  (θ_run Cert.Kernel.defs _ _).mono (fun _ h => ⟨fun c => Cert.Kernel.Hand.args_kept m h.1 c, h.2⟩) (Cert.Kernel.Hand.run_main (F := Bits) m g)

/-- The same of the kernel over the extended reals. -/
theorem framePI : @quiescent_KernelIdeal Cert.KernelIdeal.Gen.facts := fun m g _ =>
  (θ_run Cert.KernelIdeal.defs _ _).mono (fun _ h => ⟨fun c => Cert.KernelIdeal.Hand.args_kept m h.1 c, h.2⟩) (Cert.KernelIdeal.Hand.run_main (F := Ideal) m g)

/-- Each rewriting that leads from the one to the other is the rule that it names. -/
theorem preserves : preserves_Kernel_KernelIdeal :=
  ⟨IdealRules.bf16_pair.statement _ _, IdealRules.bf16_pack.statement _, IdealRules.bf16_pair.statement _ _, IdealRules.bf16_pack.statement _⟩

/-- The facts which the precondition's operations take. -/
theorem preFacts : Cert.Pre_inputs_fit.Facts where
  bcast_S_S4 := by decide +kernel
  bcast_S_S4x1x48x128 := by decide +kernel
  reducesTo_S4x1x48x128_S_d0_1_2_3 := by decide +kernel
  h_S_ := by decide +kernel
  bcast_S_S4x1x8x128 := by decide +kernel
  reducesTo_S4x1x8x128_S_d0_1_2_3 := by decide +kernel
  bcast_S_S4x8x1024x128 := by decide +kernel
  reducesTo_S4x8x1024x128_S_d0_1_2_3 := by decide +kernel

/-- The reference runs from any memory to its end, the arguments kept; it has no counters. -/
theorem frameRI : @quiescent_ReferenceIdeal Cert.ReferenceIdeal.Gen.facts := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- A value whose magnitude is below infinity is finite. -/
theorem finite_of {x w : EReal} (hw : w = ⊤) (h : BitVec.ofBool (decide (max x (-x) < w)) = 1#1) : Cert.KernelIdeal.Hand.IsR x := by
  have h1 : max x (-x) < w := by
    by_contra hn
    rw [decide_eq_false hn] at h
    exact absurd h (by decide)
  rw [hw] at h1
  obtain ⟨h2, h3⟩ := max_lt_iff.1 h1
  refine Cert.KernelIdeal.Hand.IsR.eq' h2.ne fun e => ?_
  rw [e] at h3
  exact absurd h3 (by simp)

theorem top16 : (Ideal.ofBits .bf16 0x7F80#16 : EReal) = ⊤ := by simp [Ideal.ofBits, Ideal.ieee]
theorem top32 : (Ideal.ofBits .f32 0x7F800000#32 : EReal) = ⊤ := by simp [Ideal.ofBits, Ideal.ieee]

instance : Subsingleton Cert.Pre_inputs_fit.S_.Idx := ⟨fun _ _ => funext fun a => a.elim0⟩

/-- The precondition bounds every offset, and the query, the new key and the scales of the keys are finite. -/
theorem pre_holds (m : (ℓ : Loc Cert.KernelIdeal.nD Cert.KernelIdeal.τ Cert.KernelIdeal.sig) → Buf (Elt Ideal) ℓ)
    (h : @Pre_KernelIdeal_inputs_fit preFacts m) (c : Dev Cert.KernelIdeal.nD) :
    (∀ b : Fin 4, (m ((c.tc : Thread Cert.KernelIdeal.nD Cert.KernelIdeal.τ).loc Cert.KernelIdeal.main_arg8) (ix1 b) : BitVec 32).toInt ≤ 2 ^ 31 - 32768)
      ∧ Cert.KernelIdeal.Hand.FiniteArgs m c := by
  have h1 (b : Fin 4) : IntOp.andi _ _ = 1#1 := congrFun (h c) (ix1 b)
  have h2 : IntOp.andi _ _ = 1#1 := (IntOp.andi_eq_one.1 (h1 0)).2
  obtain ⟨h3, hk⟩ := IntOp.andi_eq_one.1 h2
  obtain ⟨hq, hn⟩ := IntOp.andi_eq_one.1 (show IntOp.andi _ _ = 1#1 from h3)
  refine ⟨fun b => ?_, ⟨fun b r d => ?_, fun b g d => ?_, fun b g t d => ?_⟩⟩
  · have h4 : BitVec.ofBool ((m ((c.tc : Thread Cert.KernelIdeal.nD Cert.KernelIdeal.τ).loc Cert.KernelIdeal.main_arg8) (ix1 b) : BitVec 32).sle 2147450880#32) = 1#1 :=
      (IntOp.andi_eq_one.1 (h1 b)).1
    have h5 : (m ((c.tc : Thread Cert.KernelIdeal.nD Cert.KernelIdeal.τ).loc Cert.KernelIdeal.main_arg8) (ix1 b) : BitVec 32).sle 2147450880#32 = true := by
      revert h4
      cases BitVec.sle _ _ <;> simp
    rw [BitVec.sle_eq_decide, decide_eq_true_eq] at h5
    exact h5.trans (by decide)
  · exact finite_of top16 (Host.reduce_andi_all _ _ _ _ _ hq (ix4 b 0 r d))
  · exact finite_of top16 (Host.reduce_andi_all _ _ _ _ _ hn (ix4 b 0 g d))
  · exact finite_of top32 (Host.reduce_andi_all _ _ _ _ _ hk (ix4 b g t d))

/-- The kernel and the reference end with the same outputs, the same rotated queries and the same scores. -/
theorem algebraic : @algebraic_KernelIdeal_ReferenceIdeal_pre_inputs_fit Cert.KernelIdeal.Gen.facts Cert.ReferenceIdeal.Gen.facts preFacts := by
  intro m g m' g' hpre hargs
  refine ⟨fun c => Cert.ReferenceIdeal.Hand.outR (Cert.Agree.at' m' c), fun c => Cert.ReferenceIdeal.Value.res_main_v40 (Cert.Agree.at' m' c),
    fun c => Cert.ReferenceIdeal.Hand.scoresR (Cert.Agree.at' m' c), ?_, ?_⟩
  · refine (θ_run Cert.KernelIdeal.defs _ _).mono (fun x hx c => ?_) (Cert.KernelIdeal.Hand.run_mainV (F := Ideal) m g)
    obtain ⟨a0, a1, a2, a3, a4, a5, a6, a7, a8⟩ := hargs c
    have hs : Cert.Agree.SameArgs m m' c := ⟨a0, a1, a2, a3, a4, a5, a6, a7, a8⟩
    have ho (b : Fin 4) : (Cert.KernelIdeal.Hand.offB m b).toInt ≤ 2 ^ 31 - 32768 := by
      rw [Cert.KernelIdeal.Hand.off_apply m c b]
      exact (pre_holds m hpre c).1 b
    exact ⟨Cert.Agree.out hx.1 hs (pre_holds m hpre c).2 ho, Cert.Agree.query hx.1 hs, Cert.Agree.scores hx.1 hs ho, Cert.KernelIdeal.Hand.args_keptV m hx.1 c⟩
  · exact Cert.ReferenceIdeal.Value.run (F := Ideal) m' g'

theorem claim : Cert.Claim :=
  ⟨Cert.Kernel.Gen.facts, Cert.KernelIdeal.Gen.facts, Cert.ReferenceIdeal.Gen.facts, preFacts, frameP, framePI, fun m g _ => framePI m g trivial,
    frameRI, fun m g _ => frameRI m g trivial, preserves, algebraic⟩

end Cert.Proof

end
